-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_all_finite4 [hPre_all_finite4 : Cert.Pre_all_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_all_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_all_finite4 [hPre_all_finite4 : Cert.Pre_all_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_all_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_all_finite4 [hKernel4Ideal : Cert.Kernel4Ideal.Facts] [hPre_all_finite4 : Cert.Pre_all_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_all_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_all_finite4 [hReference4Ideal : Cert.Reference4Ideal.Facts] [hPre_all_finite4 : Cert.Pre_all_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_all_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_v90) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_all_finite4 [hKernel4Ideal : Cert.Kernel4Ideal.Facts] [hReference4Ideal : Cert.Reference4Ideal.Facts] [hPre_all_finite4 : Cert.Pre_all_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_all_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)) (v3 : (c : Dev Cert.Kernel4Ideal.nD) → Buf (Elt Ideal) ((c.tc : Thread Cert.Kernel4Ideal.nD Cert.Kernel4Ideal.τ).loc Cert.Kernel4Ideal.main_v6_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_v6_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_v64) = v1 c
          ∧ r.2.mem ((c.tc : Thread Cert.Reference4Ideal.nD Cert.Reference4Ideal.τ).loc Cert.Reference4Ideal.main_v66) = v2 c
          ∧ r.2.mem ((c.tc : Thread Cert.Reference4Ideal.nD Cert.Reference4Ideal.τ).loc Cert.Reference4Ideal.main_v70) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v30_0)) (v1 : (c : Dev Cert.Kernel8Ideal.nD) → Buf (Elt Ideal) ((c.tc : Thread Cert.Kernel8Ideal.nD Cert.Kernel8Ideal.τ).loc Cert.Kernel8Ideal.main_v30_1)) (v2 : (c : Dev Cert.Kernel8Ideal.nD) → Buf (Elt Ideal) ((c.tc : Thread Cert.Kernel8Ideal.nD Cert.Kernel8Ideal.τ).loc Cert.Kernel8Ideal.main_v30_2)) (v3 : (c : Dev Cert.Kernel8Ideal.nD) → Buf (Elt Ideal) ((c.tc : Thread Cert.Kernel8Ideal.nD Cert.Kernel8Ideal.τ).loc Cert.Kernel8Ideal.main_v30_3)) (v4 : (c : Dev Cert.Kernel8Ideal.nD) → Buf (Elt Ideal) ((c.tc : Thread Cert.Kernel8Ideal.nD Cert.Kernel8Ideal.τ).loc Cert.Kernel8Ideal.main_v30_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v30_0) = v0 c
          ∧ r.2.mem ((c.tc : Thread Cert.Kernel8Ideal.nD Cert.Kernel8Ideal.τ).loc Cert.Kernel8Ideal.main_v30_1) = v1 c
          ∧ r.2.mem ((c.tc : Thread Cert.Kernel8Ideal.nD Cert.Kernel8Ideal.τ).loc Cert.Kernel8Ideal.main_v30_2) = v2 c
          ∧ r.2.mem ((c.tc : Thread Cert.Kernel8Ideal.nD Cert.Kernel8Ideal.τ).loc Cert.Kernel8Ideal.main_v30_3) = v3 c
          ∧ r.2.mem ((c.tc : Thread Cert.Kernel8Ideal.nD Cert.Kernel8Ideal.τ).loc Cert.Kernel8Ideal.main_v30_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_v51) = v1 c
          ∧ r.2.mem ((c.tc : Thread Cert.Reference8Ideal.nD Cert.Reference8Ideal.τ).loc Cert.Reference8Ideal.main_v52) = v2 c
          ∧ r.2.mem ((c.tc : Thread Cert.Reference8Ideal.nD Cert.Reference8Ideal.τ).loc Cert.Reference8Ideal.main_v53) = v3 c
          ∧ r.2.mem ((c.tc : Thread Cert.Reference8Ideal.nD Cert.Reference8Ideal.τ).loc Cert.Reference8Ideal.main_v54) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v64) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel32 : Cert.Kernel32.Facts) (hKernel32Ideal : Cert.Kernel32Ideal.Facts) (hReference32Ideal : Cert.Reference32Ideal.Facts) (hPre_all_finite : Cert.Pre_all_finite.Facts) (hPre_all_finite4 : Cert.Pre_all_finite4.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_all_finite4 (hKernel4Ideal := hKernel4Ideal) (hPre_all_finite4 := hPre_all_finite4)
    ∧ quiescent_Reference4Ideal (hReference4Ideal := hReference4Ideal)
    ∧ quiescent_Reference4Ideal_pre_all_finite4 (hReference4Ideal := hReference4Ideal) (hPre_all_finite4 := hPre_all_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_all_finite4 (hKernel4Ideal := hKernel4Ideal) (hReference4Ideal := hReference4Ideal) (hPre_all_finite4 := hPre_all_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel32_Kernel32Ideal
    ∧ algebraic_Kernel32Ideal_Reference32Ideal (hKernel32Ideal := hKernel32Ideal) (hReference32Ideal := hReference32Ideal)
-- ==== Pre_all_finite.lean ====
abbrev S4096x1024 : Shape := ⟨2, ![4096, 1024]⟩
abbrev S1024x3072 : Shape := ⟨2, ![1024, 3072]⟩
abbrev S3072x1024 : Shape := ⟨2, ![3072, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S4096x1024 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024x3072 .f32) (main_arg2 : FVec F S1024x3072 .f32) (main_arg3 : FVec F S3072x1024 .f32) (main_arg4 : FVec F S1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_v13 main_v16
-- ==== Pre_all_finite4.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1024x1024 .f32) (main_arg3 : FVec F S1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S4096x1024 : Shape := ⟨2, ![4096, 1024]⟩
abbrev S1024x3072 : Shape := ⟨2, ![1024, 3072]⟩
abbrev S3072x1024 : Shape := ⟨2, ![3072, 1024]⟩
abbrev S1024 : Shape := ⟨1, ![1024]⟩
abbrev S4096x3072 : Shape := ⟨2, ![4096, 3072]⟩
abbrev S_ : Shape := ⟨0, ![]⟩
abbrev S8x128 : Shape := ⟨2, ![8, 128]⟩
abbrev S1x1024 : Shape := ⟨2, ![1, 1024]⟩
abbrev S8x1024 : Shape := ⟨2, ![8, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S256x1024 : Shape := ⟨2, ![256, 1024]⟩

abbrev nBuf : Space → Nat
  | .hbm => 37
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S1024x3072, .f32⟩
  | .hbm, ⟨3, _⟩ => ⟨S3072x1024, .f32⟩
  | .hbm, ⟨4, _⟩ => ⟨S1024, .f32⟩
  | .hbm, ⟨5, _⟩ => ⟨S4096x1024, .f32⟩
  | .hbm, ⟨6, _⟩ => ⟨S4096x3072, .f32⟩
  | .hbm, ⟨7, _⟩ => ⟨S4096x3072, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x1024, .f32⟩
  | .hbm, ⟨22, _⟩ => ⟨S4096x1024, .f32⟩
  | .hbm, ⟨23, _⟩ => ⟨S4096x3072, .bf16⟩
  | .hbm, ⟨24, _⟩ => ⟨S4096x3072, .bf16⟩
  | .hbm, ⟨25, _⟩ => ⟨S_, .f32⟩
  | .hbm, ⟨26, _⟩ => ⟨S8x128, .f32⟩
  | .hbm, ⟨27, _⟩ => ⟨S1024x3072, .bf16⟩
  | .hbm, ⟨28, _⟩ => ⟨S1024x3072, .bf16⟩
  | .hbm, ⟨29, _⟩ => ⟨S3072x1024, .bf16⟩
  | .hbm, ⟨30, _⟩ => ⟨S1x1024, .f32⟩
  | .hbm, ⟨31, _⟩ => ⟨S4096x1024, .f32⟩
  | .hbm, ⟨32, _⟩ => ⟨S4096x3072, .bf16⟩
  | .hbm, ⟨33, _⟩ => ⟨S4096x3072, .bf16⟩
  | .hbm, ⟨34, _⟩ => ⟨S4096x3072, .bf16⟩
  | .hbm, ⟨35, _⟩ => ⟨S4096x1024, .bf16⟩
  | .hbm, ⟨36, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S8x1024, .f32⟩
  | .local _ .vmem, ⟨26, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v15_4 : Ref sig .tc := ⟨.hbm, 35, rfl⟩
abbrev main_v15_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![8, 3], ![false, false]⟩

def k0_cond3 (i : grid0.Coords) : BitVec 1 :=
  let arg1 : BitVec 32 := BitVec.ofNat 32 (i 1).val
  let c2_i32 : BitVec 32 := 2#32
  let v90 : BitVec 1 := Scalar.cmpi .eq arg1 c2_i32
  let v91 : BitVec 32 := Scalar.extui v90
  let c0_i32_55 : BitVec 32 := 0#32
  let v92 : BitVec 1 := Scalar.cmpi .ne v91 c0_i32_55
  v92

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ReferenceIdeal.lean ====
abbrev S4096x1024 : Shape := ⟨2, ![4096, 1024]⟩
abbrev S1024x3072 : Shape := ⟨2, ![1024, 3072]⟩
abbrev S3072x1024 : Shape := ⟨2, ![3072, 1024]⟩
abbrev S1024 : Shape := ⟨1, ![1024]⟩
abbrev S_ : Shape := ⟨0, ![]⟩
abbrev S4096x3072 : Shape := ⟨2, ![4096, 3072]⟩
abbrev S4096 : Shape := ⟨1, ![4096]⟩
abbrev S4096x1 : Shape := ⟨2, ![4096, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 138
  | .vmem => 0
  | .smem => 0
  | _ => 0

abbrev hbmTy0_0 (i : Nat) : BufTy := match i % 128 with
  | 0 => ⟨S4096x1024, .f32⟩
  | 1 => ⟨S1024x3072, .f32⟩
  | 2 => ⟨S1024x3072, .f32⟩
  | 3 => ⟨S3072x1024, .f32⟩
  | 4 => ⟨S1024, .f32⟩
  | 5 => ⟨S4096x1024, .f32⟩
  | 6 => ⟨S_, .f32⟩
  | 7 => ⟨S4096x3072, .f32⟩
  | 8 => ⟨S_, .f32⟩
  | 9 => ⟨S4096x1024, .f32⟩
  | 10 => ⟨S_, .f32⟩
  | 11 => ⟨S1024, .f32⟩
  | 12 => ⟨S4096x3072, .f32⟩
  | 13 => ⟨S4096x3072, .f32⟩
  | 14 => ⟨S4096x3072, .f32⟩
  | 15 => ⟨S4096x3072, .f32⟩
  | 16 => ⟨S4096x3072, .f32⟩
  | 17 => ⟨S4096x3072, .f32⟩
  | 18 => ⟨S_, .f32⟩
  | 19 => ⟨S4096x3072, .f32⟩
  | 20 => ⟨S4096x3072, .f32⟩
  | 21 => ⟨S_, .f32⟩
  | 22 => ⟨S4096x3072, .f32⟩
  | 23 => ⟨S4096x3072, .f32⟩
  | 24 => ⟨S_, .f32⟩
  | 25 => ⟨S4096x3072, .f32⟩
  | 26 => ⟨S4096x3072, .f32⟩
  | 27 => ⟨S4096x3072, .f32⟩
  | 28 => ⟨S4096x3072, .f32⟩
  | 29 => ⟨S4096x3072, .f32⟩
  | 30 => ⟨S_, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S4096x1024, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S1x1024, .f32⟩
  | 62 => ⟨S4096x1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S_, .f32⟩
  | 69 => ⟨S1024, .f32⟩
  | 70 => ⟨S1x1024, .f32⟩
  | 71 => ⟨S_, .f32⟩
  | 72 => ⟨S1024, .f32⟩
  | 73 => ⟨S4096x1024, .f32⟩
  | 74 => ⟨S_, .f32⟩
  | 75 => ⟨S1024, .f32⟩
  | 76 => ⟨S1x1024, .f32⟩
  | 77 => ⟨S4096x1024, .f32⟩
  | 78 => ⟨S4096x1024, .f32⟩
  | 79 => ⟨S_, .f32⟩
  | 80 => ⟨S1024, .f32⟩
  | 81 => ⟨S4096x1024, .f32⟩
  | 82 => ⟨S_, .f32⟩
  | 83 => ⟨S4096, .f32⟩
  | 84 => ⟨S4096x1, .f32⟩
  | 85 => ⟨S4096x1024, .f32⟩
  | 86 => ⟨S4096x1024, .f32⟩
  | 87 => ⟨S4096x1, .f32⟩
  | 88 => ⟨S_, .f32⟩
  | 89 => ⟨S4096x1, .f32⟩
  | 90 => ⟨S4096x1, .f32⟩
  | 91 => ⟨S_, .f32⟩
  | 92 => ⟨S4096, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096, .f32⟩
  | 107 => ⟨S4096x1024, .f32⟩
  | 108 => ⟨S4096x1024, .f32⟩
  | 109 => ⟨S1024x3072, .f32⟩
  | 110 => ⟨S3072x1024, .f32⟩
  | 111 => ⟨S4096x3072, .f32⟩
  | 112 => ⟨S_, .f32⟩
  | 113 => ⟨S4096x1024, .f32⟩
  | 114 => ⟨S4096x1024, .f32⟩
  | 115 => ⟨S4096x3072, .f32⟩
  | 116 => ⟨S4096x3072, .f32⟩
  | 117 => ⟨S4096x3072, .f32⟩
  | 118 => ⟨S4096x3072, .f32⟩
  | 119 => ⟨S4096x3072, .f32⟩
  | 120 => ⟨S4096x3072, .f32⟩
  | 121 => ⟨S3072x1024, .f32⟩
  | 122 => ⟨S1024x3072, .f32⟩
  | 123 => ⟨S4096x1024, .f32⟩
  | 124 => ⟨S4096x1024, .f32⟩
  | 125 => ⟨S3072x1024, .f32⟩
  | 126 => ⟨S1024x3072, .f32⟩
  | 127 => ⟨S4096x1024, .f32⟩
  | _ => ⟨S4096x1024, .f32⟩

abbrev hbmTy0_1 (i : Nat) : BufTy := match i % 128 with
  | 0 => ⟨S4096x1024, .f32⟩
  | 1 => ⟨S1x1024, .f32⟩
  | 2 => ⟨S1x1024, .f32⟩
  | 3 => ⟨S_, .f32⟩
  | 4 => ⟨S6x1024, .f32⟩
  | 5 => ⟨S8x1024, .f32⟩
  | 6 => ⟨S4096x3072, .bf16⟩
  | 7 => ⟨S4096x3072, .bf16⟩
  | 8 => ⟨S4096x3072, .bf16⟩
  | 9 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v7_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v7_1 : Ref sig .tc := ⟨.hbm, 27, rfl⟩
abbrev main_v7_0 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_cst_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_8 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_v49 : Ref sig .tc := ⟨.hbm, 81, rfl⟩
abbrev main_cst_13 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_14 : Ref sig .tc := ⟨.hbm, 88, rfl⟩
abbrev main_v55 : Ref sig .tc := ⟨.hbm, 89, rfl⟩
abbrev main_v56 : Ref sig .tc := ⟨.hbm, 90, rfl⟩
abbrev main_cst_15 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_16 : Ref sig .tc := ⟨.hbm, 99, rfl⟩
abbrev main_v64 : Ref sig .tc := ⟨.hbm, 100, rfl⟩
abbrev main_v65 : Ref sig .tc := ⟨.hbm, 101, rfl⟩
abbrev main_cst_17 : Ref sig .tc := ⟨.hbm, 102, rfl⟩
abbrev main_v66 : Ref sig .tc := ⟨.hbm, 103, rfl⟩
abbrev main_v67 : Ref sig .tc := ⟨.hbm, 104, rfl⟩
abbrev main_cst_18 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_20 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩

abbrev nD : Nat := 1
abbrev τ : Topo := Topo.v7x

variable {F : FTy → Type} [FloatOps F]
-- ==== Kernel2.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x3072, .bf16⟩
  | .hbm, ⟨3, _⟩ => ⟨S1024x3072, .bf16⟩
  | .hbm, ⟨4, _⟩ => ⟨S1024x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.select v0 arg1 c2_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.select v0 arg1 c2_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4096x1024 : Shape := ⟨2, ![4096, 1024]⟩
abbrev S4096x3072 : Shape := ⟨2, ![4096, 3072]⟩
abbrev S1024x4096 : Shape := ⟨2, ![1024, 4096]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x3072, .bf16⟩
  | .hbm, ⟨3, _⟩ => ⟨S4096x1024, .f32⟩
  | .hbm, ⟨4, _⟩ => ⟨S1024x4096, .f32⟩
  | .hbm, ⟨5, _⟩ => ⟨S4096x3072, .f32⟩
  | .hbm, ⟨6, _⟩ => ⟨S1024x3072, .f32⟩
  | .hbm, ⟨7, _⟩ => ⟨S1024x3072, .bf16⟩
  | .hbm, ⟨8, _⟩ => ⟨S4096x3072, .f32⟩
  | .hbm, ⟨9, _⟩ => ⟨S1024x3072, .f32⟩
  | .hbm, ⟨10, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x3072 : Shape := ⟨2, ![4096, 3072]⟩
abbrev S4096x1024 : Shape := ⟨2, ![4096, 1024]⟩
abbrev S3072x1024 : Shape := ⟨2, ![3072, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4096x3072 : Shape := ⟨2, ![4096, 3072]⟩
abbrev S4096x1024 : Shape := ⟨2, ![4096, 1024]⟩
abbrev S3072x4096 : Shape := ⟨2, ![3072, 4096]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x3072, .f32⟩
  | .hbm, ⟨3, _⟩ => ⟨S3072x4096, .f32⟩
  | .hbm, ⟨4, _⟩ => ⟨S4096x1024, .f32⟩
  | .hbm, ⟨5, _⟩ => ⟨S3072x1024, .f32⟩
  | .hbm, ⟨6, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024x1024, .bf16⟩
  | .hbm, ⟨11, _⟩ => ⟨S1x1024, .f32⟩
  | .hbm, ⟨12, _⟩ => ⟨S4096x1024, .bf16⟩
  | .hbm, ⟨13, _⟩ => ⟨S4096x1024, .f32⟩
  | .hbm, ⟨14, _⟩ => ⟨S4096x1024, .f32⟩
  | .hbm, ⟨15, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096x1024, .f32⟩
  | .hbm, ⟨91, _⟩ => ⟨S4096x1024, .f32⟩
  | .hbm, ⟨92, _⟩ => ⟨S1x1024, .f32⟩
  | .hbm, ⟨93, _⟩ => ⟨S1x1024, .f32⟩
  | .hbm, ⟨94, _⟩ => ⟨S_, .f32⟩
  | .hbm, ⟨95, _⟩ => ⟨S6x1024, .f32⟩
  | .hbm, ⟨96, _⟩ => ⟨S8x1024, .f32⟩
  | .hbm, ⟨97, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S4096x3072 : Shape := ⟨2, ![4096, 3072]⟩
abbrev S1024x4096 : Shape := ⟨2, ![1024, 4096]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S1024x4096, .f32⟩
  | .hbm, ⟨4, _⟩ => ⟨S4096x3072, .f32⟩
  | .hbm, ⟨5, _⟩ => ⟨S1024x3072, .f32⟩
  | .hbm, ⟨6, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S4096x3072 : Shape := ⟨2, ![4096, 3072]⟩
abbrev S1024x3072 : Shape := ⟨2, ![1024, 3072]⟩
abbrev S512x1024 : Shape := ⟨2, ![512, 1024]⟩
abbrev S512x3072 : Shape := ⟨2, ![512, 3072]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .bf16⟩
  | .hbm, ⟨2, _⟩ => ⟨S1024x3072, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S1024x3072, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4096x1024 : Shape := ⟨2, ![4096, 1024]⟩
abbrev S4096x3072 : Shape := ⟨2, ![4096, 3072]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .bf16⟩
  | .hbm, ⟨2, _⟩ => ⟨S1024x3072, .bf16⟩
  | .hbm, ⟨3, _⟩ => ⟨S4096x3072, .f32⟩
  | .hbm, ⟨4, _⟩ => ⟨S1024x3072, .f32⟩
  | .hbm, ⟨5, _⟩ => ⟨S3072x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S1024x3072 : Shape := ⟨2, ![1024, 3072]⟩
abbrev S3072x1024 : Shape := ⟨2, ![3072, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S512x1024 : Shape := ⟨2, ![512, 1024]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩

abbrev nBuf : Space → Nat
  | .hbm => 48
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S1024x3072, .f32⟩
  | .hbm, ⟨3, _⟩ => ⟨S3072x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S1024x3072, .bf16⟩
  | .hbm, ⟨37, _⟩ => ⟨S1024x3072, .bf16⟩
  | .hbm, ⟨38, _⟩ => ⟨S3072x1024, .bf16⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | .hbm, ⟨46, _⟩ => ⟨S4096x3072, .bf16⟩
  | .hbm, ⟨47, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_v30_3 : Ref sig .tc := ⟨.hbm, 46, rfl⟩
abbrev main_v30_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v51 : BitVec 1 := Scalar.cmpi .eq arg1 c2_i32
  let v52 : BitVec 32 := Scalar.extui v51
  let c0_i32_36 : BitVec 32 := 0#32
  let v53 : BitVec 1 := Scalar.cmpi .ne v52 c0_i32_36
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference8Ideal.lean ====
abbrev S4096x1024 : Shape := ⟨2, ![4096, 1024]⟩
abbrev S1024x3072 : Shape := ⟨2, ![1024, 3072]⟩
abbrev S3072x1024 : Shape := ⟨2, ![3072, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S1024x3072, .f32⟩
  | .hbm, ⟨3, _⟩ => ⟨S3072x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x3072, .f32⟩
  | .hbm, ⟨36, _⟩ => ⟨S4096x3072, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x3072, .f32⟩
  | .hbm, ⟨41, _⟩ => ⟨S4096x3072, .f32⟩
  | .hbm, ⟨42, _⟩ => ⟨S_, .f32⟩
  | .hbm, ⟨43, _⟩ => ⟨S4096x3072, .f32⟩
  | .hbm, ⟨44, _⟩ => ⟨S4096x3072, .f32⟩
  | .hbm, ⟨45, _⟩ => ⟨S_, .f32⟩
  | .hbm, ⟨46, _⟩ => ⟨S4096x3072, .f32⟩
  | .hbm, ⟨47, _⟩ => ⟨S4096x3072, .f32⟩
  | .hbm, ⟨48, _⟩ => ⟨S4096x3072, .f32⟩
  | .hbm, ⟨49, _⟩ => ⟨S4096x3072, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .bf16⟩
  | .hbm, ⟨80, _⟩ => ⟨S4096x3072, .bf16⟩
  | .hbm, ⟨81, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]
-- ==== Kernel9.lean ====
abbrev S4096x1024 : Shape := ⟨2, ![4096, 1024]⟩
abbrev S1024x3072 : Shape := ⟨2, ![1024, 3072]⟩
abbrev S_ : Shape := ⟨0, ![]⟩
abbrev S8x128 : Shape := ⟨2, ![8, 128]⟩
abbrev S4096x3072 : Shape := ⟨2, ![4096, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S_, .f32⟩
  | .hbm, ⟨3, _⟩ => ⟨S8x128, .f32⟩
  | .hbm, ⟨4, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x384 : Shape := ⟨2, ![4096, 384]⟩
abbrev S4096x256 : Shape := ⟨2, ![4096, 256]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S8x128 : Shape := ⟨2, ![8, 128]⟩
abbrev S1x1024 : Shape := ⟨2, ![1, 1024]⟩
abbrev S512x384 : Shape := ⟨2, ![512, 384]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S4096x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S8x128, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S4096x1024, .bf16⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S4096x384 : Shape := ⟨2, ![4096, 384]⟩
abbrev S4096x256 : Shape := ⟨2, ![4096, 256]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S4096x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x1024, .bf16⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel11.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference11Ideal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel12.lean ====
abbrev S4096x384 : Shape := ⟨2, ![4096, 384]⟩
abbrev S512x384 : Shape := ⟨2, ![512, 384]⟩

abbrev nBuf : Space → Nat
  | .hbm => 7
  | .vmem => 14
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x384, .f32⟩
  | .hbm, ⟨3, _⟩ => ⟨S4096x384, .f32⟩
  | .hbm, ⟨4, _⟩ => ⟨S4096x384, .f32⟩
  | .hbm, ⟨5, _⟩ => ⟨S4096x384, .f32⟩
  | .hbm, ⟨6, _⟩ => ⟨S4096x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S4096x384 : Shape := ⟨2, ![4096, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x384, .f32⟩
  | .hbm, ⟨3, _⟩ => ⟨S4096x384, .f32⟩
  | .hbm, ⟨4, _⟩ => ⟨S_, .f32⟩
  | .hbm, ⟨5, _⟩ => ⟨S4096x384, .f32⟩
  | .hbm, ⟨6, _⟩ => ⟨S4096x384, .f32⟩
  | .hbm, ⟨7, _⟩ => ⟨S_, .f32⟩
  | .hbm, ⟨8, _⟩ => ⟨S4096x384, .f32⟩
  | .hbm, ⟨9, _⟩ => ⟨S4096x384, .f32⟩
  | .hbm, ⟨10, _⟩ => ⟨S4096x384, .f32⟩
  | .hbm, ⟨11, _⟩ => ⟨S_, .f32⟩
  | .hbm, ⟨12, _⟩ => ⟨S4096x384, .f32⟩
  | .hbm, ⟨13, _⟩ => ⟨S4096x384, .f32⟩
  | .hbm, ⟨14, _⟩ => ⟨S4096x384, .f32⟩
  | .hbm, ⟨15, _⟩ => ⟨S_, .f32⟩
  | .hbm, ⟨16, _⟩ => ⟨S4096x384, .f32⟩
  | .hbm, ⟨17, _⟩ => ⟨S4096x384, .f32⟩
  | .hbm, ⟨18, _⟩ => ⟨S4096x384, .f32⟩
  | .hbm, ⟨19, _⟩ => ⟨S_, .f32⟩
  | .hbm, ⟨20, _⟩ => ⟨S4096x384, .f32⟩
  | .hbm, ⟨21, _⟩ => ⟨S4096x384, .f32⟩
  | .hbm, ⟨22, _⟩ => ⟨S_, .f32⟩
  | .hbm, ⟨23, _⟩ => ⟨S4096x384, .f32⟩
  | .hbm, ⟨24, _⟩ => ⟨S4096x384, .f32⟩
  | .hbm, ⟨25, _⟩ => ⟨S4096x384, .f32⟩
  | .hbm, ⟨26, _⟩ => ⟨S_, .f32⟩
  | .hbm, ⟨27, _⟩ => ⟨S4096x384, .f32⟩
  | .hbm, ⟨28, _⟩ => ⟨S4096x384, .f32⟩
  | .hbm, ⟨29, _⟩ => ⟨S4096x384, .f32⟩
  | .hbm, ⟨30, _⟩ => ⟨S_, .f32⟩
  | .hbm, ⟨31, _⟩ => ⟨S4096x384, .f32⟩
  | .hbm, ⟨32, _⟩ => ⟨S4096x384, .f32⟩
  | .hbm, ⟨33, _⟩ => ⟨S4096x384, .f32⟩
  | .hbm, ⟨34, _⟩ => ⟨S_, .f32⟩
  | .hbm, ⟨35, _⟩ => ⟨S4096x384, .f32⟩
  | .hbm, ⟨36, _⟩ => ⟨S4096x384, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S16x48 : Shape := ⟨2, ![16, 48]⟩

abbrev nBuf : Space → Nat
  | .hbm => 7
  | .vmem => 7
  | .smem => 0
  | _ => 0

abbrev bufTy : (tb : Table) → Fin (tcTables nBuf tb) → BufTy
  | .hbm, ⟨0, _⟩ => ⟨S16x48, .f32⟩
  | .hbm, ⟨1, _⟩ => ⟨S16x48, .f32⟩
  | .hbm, ⟨2, _⟩ => ⟨S16x48, .f32⟩
  | .hbm, ⟨3, _⟩ => ⟨S16x48, .f32⟩
  | .hbm, ⟨4, _⟩ => ⟨S16x48, .f32⟩
  | .hbm, ⟨5, _⟩ => ⟨S16x48, .f32⟩
  | .hbm, ⟨6, _⟩ => ⟨S16x48, .f32⟩
  | .local _ .vmem, ⟨0, _⟩ => ⟨S16x48, .f32⟩
  | .local _ .vmem, ⟨1, _⟩ => ⟨S16x48, .f32⟩
  | .local _ .vmem, ⟨2, _⟩ => ⟨S16x48, .f32⟩
  | .local _ .vmem, ⟨3, _⟩ => ⟨S16x48, .f32⟩
  | .local _ .vmem, ⟨4, _⟩ => ⟨S16x48, .f32⟩
  | .local _ .vmem, ⟨5, _⟩ => ⟨S16x48, .f32⟩
  | .local _ .vmem, ⟨6, _⟩ => ⟨S16x48, .f32⟩
  | _, _ => ⟨S16x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel15Ideal.lean ====
abbrev S16x48 : Shape := ⟨2, ![16, 48]⟩

abbrev nBuf : Space → Nat
  | .hbm => 7
  | .vmem => 7
  | .smem => 0
  | _ => 0

abbrev bufTy : (tb : Table) → Fin (tcTables nBuf tb) → BufTy
  | .hbm, ⟨0, _⟩ => ⟨S16x48, .f32⟩
  | .hbm, ⟨1, _⟩ => ⟨S16x48, .f32⟩
  | .hbm, ⟨2, _⟩ => ⟨S16x48, .f32⟩
  | .hbm, ⟨3, _⟩ => ⟨S16x48, .f32⟩
  | .hbm, ⟨4, _⟩ => ⟨S16x48, .f32⟩
  | .hbm, ⟨5, _⟩ => ⟨S16x48, .f32⟩
  | .hbm, ⟨6, _⟩ => ⟨S16x48, .f32⟩
  | .local _ .vmem, ⟨0, _⟩ => ⟨S16x48, .f32⟩
  | .local _ .vmem, ⟨1, _⟩ => ⟨S16x48, .f32⟩
  | .local _ .vmem, ⟨2, _⟩ => ⟨S16x48, .f32⟩
  | .local _ .vmem, ⟨3, _⟩ => ⟨S16x48, .f32⟩
  | .local _ .vmem, ⟨4, _⟩ => ⟨S16x48, .f32⟩
  | .local _ .vmem, ⟨5, _⟩ => ⟨S16x48, .f32⟩
  | .local _ .vmem, ⟨6, _⟩ => ⟨S16x48, .f32⟩
  | _, _ => ⟨S16x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S16x48 : Shape := ⟨2, ![16, 48]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x48, .f32⟩
  | .hbm, ⟨1, _⟩ => ⟨S16x48, .f32⟩
  | .hbm, ⟨2, _⟩ => ⟨S16x48, .f32⟩
  | .hbm, ⟨3, _⟩ => ⟨S16x48, .f32⟩
  | .hbm, ⟨4, _⟩ => ⟨S_, .f32⟩
  | .hbm, ⟨5, _⟩ => ⟨S16x48, .f32⟩
  | .hbm, ⟨6, _⟩ => ⟨S16x48, .f32⟩
  | .hbm, ⟨7, _⟩ => ⟨S_, .f32⟩
  | .hbm, ⟨8, _⟩ => ⟨S16x48, .f32⟩
  | .hbm, ⟨9, _⟩ => ⟨S16x48, .f32⟩
  | .hbm, ⟨10, _⟩ => ⟨S16x48, .f32⟩
  | .hbm, ⟨11, _⟩ => ⟨S_, .f32⟩
  | .hbm, ⟨12, _⟩ => ⟨S16x48, .f32⟩
  | .hbm, ⟨13, _⟩ => ⟨S16x48, .f32⟩
  | .hbm, ⟨14, _⟩ => ⟨S16x48, .f32⟩
  | .hbm, ⟨15, _⟩ => ⟨S_, .f32⟩
  | .hbm, ⟨16, _⟩ => ⟨S16x48, .f32⟩
  | .hbm, ⟨17, _⟩ => ⟨S16x48, .f32⟩
  | .hbm, ⟨18, _⟩ => ⟨S16x48, .f32⟩
  | .hbm, ⟨19, _⟩ => ⟨S_, .f32⟩
  | .hbm, ⟨20, _⟩ => ⟨S16x48, .f32⟩
  | .hbm, ⟨21, _⟩ => ⟨S16x48, .f32⟩
  | .hbm, ⟨22, _⟩ => ⟨S_, .f32⟩
  | .hbm, ⟨23, _⟩ => ⟨S16x48, .f32⟩
  | .hbm, ⟨24, _⟩ => ⟨S16x48, .f32⟩
  | .hbm, ⟨25, _⟩ => ⟨S16x48, .f32⟩
  | .hbm, ⟨26, _⟩ => ⟨S_, .f32⟩
  | .hbm, ⟨27, _⟩ => ⟨S16x48, .f32⟩
  | .hbm, ⟨28, _⟩ => ⟨S16x48, .f32⟩
  | .hbm, ⟨29, _⟩ => ⟨S16x48, .f32⟩
  | .hbm, ⟨30, _⟩ => ⟨S_, .f32⟩
  | .hbm, ⟨31, _⟩ => ⟨S16x48, .f32⟩
  | .hbm, ⟨32, _⟩ => ⟨S16x48, .f32⟩
  | .hbm, ⟨33, _⟩ => ⟨S16x48, .f32⟩
  | .hbm, ⟨34, _⟩ => ⟨S_, .f32⟩
  | .hbm, ⟨35, _⟩ => ⟨S16x48, .f32⟩
  | .hbm, ⟨36, _⟩ => ⟨S16x48, .f32⟩
  | _, _ => ⟨S16x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel16Ideal.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S3072x64 : Shape := ⟨2, ![3072, 64]⟩

abbrev nBuf : Space → Nat
  | .hbm => 7
  | .vmem => 7
  | .smem => 0
  | _ => 0

abbrev bufTy : (tb : Table) → Fin (tcTables nBuf tb) → BufTy
  | .hbm, ⟨0, _⟩ => ⟨S3072x64, .f32⟩
  | .hbm, ⟨1, _⟩ => ⟨S3072x64, .f32⟩
  | .hbm, ⟨2, _⟩ => ⟨S3072x64, .f32⟩
  | .hbm, ⟨3, _⟩ => ⟨S3072x64, .f32⟩
  | .hbm, ⟨4, _⟩ => ⟨S3072x64, .f32⟩
  | .hbm, ⟨5, _⟩ => ⟨S3072x64, .f32⟩
  | .hbm, ⟨6, _⟩ => ⟨S3072x64, .f32⟩
  | .local _ .vmem, ⟨0, _⟩ => ⟨S3072x64, .f32⟩
  | .local _ .vmem, ⟨1, _⟩ => ⟨S3072x64, .f32⟩
  | .local _ .vmem, ⟨2, _⟩ => ⟨S3072x64, .f32⟩
  | .local _ .vmem, ⟨3, _⟩ => ⟨S3072x64, .f32⟩
  | .local _ .vmem, ⟨4, _⟩ => ⟨S3072x64, .f32⟩
  | .local _ .vmem, ⟨5, _⟩ => ⟨S3072x64, .f32⟩
  | .local _ .vmem, ⟨6, _⟩ => ⟨S3072x64, .f32⟩
  | _, _ => ⟨S3072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3072x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3072x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3072x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3072x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3072x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3072x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3072x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel17Ideal.lean ====
abbrev S3072x64 : Shape := ⟨2, ![3072, 64]⟩

abbrev nBuf : Space → Nat
  | .hbm => 7
  | .vmem => 7
  | .smem => 0
  | _ => 0

abbrev bufTy : (tb : Table) → Fin (tcTables nBuf tb) → BufTy
  | .hbm, ⟨0, _⟩ => ⟨S3072x64, .f32⟩
  | .hbm, ⟨1, _⟩ => ⟨S3072x64, .f32⟩
  | .hbm, ⟨2, _⟩ => ⟨S3072x64, .f32⟩
  | .hbm, ⟨3, _⟩ => ⟨S3072x64, .f32⟩
  | .hbm, ⟨4, _⟩ => ⟨S3072x64, .f32⟩
  | .hbm, ⟨5, _⟩ => ⟨S3072x64, .f32⟩
  | .hbm, ⟨6, _⟩ => ⟨S3072x64, .f32⟩
  | .local _ .vmem, ⟨0, _⟩ => ⟨S3072x64, .f32⟩
  | .local _ .vmem, ⟨1, _⟩ => ⟨S3072x64, .f32⟩
  | .local _ .vmem, ⟨2, _⟩ => ⟨S3072x64, .f32⟩
  | .local _ .vmem, ⟨3, _⟩ => ⟨S3072x64, .f32⟩
  | .local _ .vmem, ⟨4, _⟩ => ⟨S3072x64, .f32⟩
  | .local _ .vmem, ⟨5, _⟩ => ⟨S3072x64, .f32⟩
  | .local _ .vmem, ⟨6, _⟩ => ⟨S3072x64, .f32⟩
  | _, _ => ⟨S3072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3072x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3072x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3072x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3072x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3072x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3072x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3072x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S3072x64 : Shape := ⟨2, ![3072, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3072x64, .f32⟩
  | .hbm, ⟨1, _⟩ => ⟨S3072x64, .f32⟩
  | .hbm, ⟨2, _⟩ => ⟨S3072x64, .f32⟩
  | .hbm, ⟨3, _⟩ => ⟨S3072x64, .f32⟩
  | .hbm, ⟨4, _⟩ => ⟨S_, .f32⟩
  | .hbm, ⟨5, _⟩ => ⟨S3072x64, .f32⟩
  | .hbm, ⟨6, _⟩ => ⟨S3072x64, .f32⟩
  | .hbm, ⟨7, _⟩ => ⟨S_, .f32⟩
  | .hbm, ⟨8, _⟩ => ⟨S3072x64, .f32⟩
  | .hbm, ⟨9, _⟩ => ⟨S3072x64, .f32⟩
  | .hbm, ⟨10, _⟩ => ⟨S3072x64, .f32⟩
  | .hbm, ⟨11, _⟩ => ⟨S_, .f32⟩
  | .hbm, ⟨12, _⟩ => ⟨S3072x64, .f32⟩
  | .hbm, ⟨13, _⟩ => ⟨S3072x64, .f32⟩
  | .hbm, ⟨14, _⟩ => ⟨S3072x64, .f32⟩
  | .hbm, ⟨15, _⟩ => ⟨S_, .f32⟩
  | .hbm, ⟨16, _⟩ => ⟨S3072x64, .f32⟩
  | .hbm, ⟨17, _⟩ => ⟨S3072x64, .f32⟩
  | .hbm, ⟨18, _⟩ => ⟨S3072x64, .f32⟩
  | .hbm, ⟨19, _⟩ => ⟨S_, .f32⟩
  | .hbm, ⟨20, _⟩ => ⟨S3072x64, .f32⟩
  | .hbm, ⟨21, _⟩ => ⟨S3072x64, .f32⟩
  | .hbm, ⟨22, _⟩ => ⟨S_, .f32⟩
  | .hbm, ⟨23, _⟩ => ⟨S3072x64, .f32⟩
  | .hbm, ⟨24, _⟩ => ⟨S3072x64, .f32⟩
  | .hbm, ⟨25, _⟩ => ⟨S3072x64, .f32⟩
  | .hbm, ⟨26, _⟩ => ⟨S_, .f32⟩
  | .hbm, ⟨27, _⟩ => ⟨S3072x64, .f32⟩
  | .hbm, ⟨28, _⟩ => ⟨S3072x64, .f32⟩
  | .hbm, ⟨29, _⟩ => ⟨S3072x64, .f32⟩
  | .hbm, ⟨30, _⟩ => ⟨S_, .f32⟩
  | .hbm, ⟨31, _⟩ => ⟨S3072x64, .f32⟩
  | .hbm, ⟨32, _⟩ => ⟨S3072x64, .f32⟩
  | .hbm, ⟨33, _⟩ => ⟨S3072x64, .f32⟩
  | .hbm, ⟨34, _⟩ => ⟨S_, .f32⟩
  | .hbm, ⟨35, _⟩ => ⟨S3072x64, .f32⟩
  | .hbm, ⟨36, _⟩ => ⟨S3072x64, .f32⟩
  | _, _ => ⟨S3072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S8x48 : Shape := ⟨2, ![8, 48]⟩

abbrev nBuf : Space → Nat
  | .hbm => 7
  | .vmem => 7
  | .smem => 0
  | _ => 0

abbrev bufTy : (tb : Table) → Fin (tcTables nBuf tb) → BufTy
  | .hbm, ⟨0, _⟩ => ⟨S8x48, .f32⟩
  | .hbm, ⟨1, _⟩ => ⟨S8x48, .f32⟩
  | .hbm, ⟨2, _⟩ => ⟨S8x48, .f32⟩
  | .hbm, ⟨3, _⟩ => ⟨S8x48, .f32⟩
  | .hbm, ⟨4, _⟩ => ⟨S8x48, .f32⟩
  | .hbm, ⟨5, _⟩ => ⟨S8x48, .f32⟩
  | .hbm, ⟨6, _⟩ => ⟨S8x48, .f32⟩
  | .local _ .vmem, ⟨0, _⟩ => ⟨S8x48, .f32⟩
  | .local _ .vmem, ⟨1, _⟩ => ⟨S8x48, .f32⟩
  | .local _ .vmem, ⟨2, _⟩ => ⟨S8x48, .f32⟩
  | .local _ .vmem, ⟨3, _⟩ => ⟨S8x48, .f32⟩
  | .local _ .vmem, ⟨4, _⟩ => ⟨S8x48, .f32⟩
  | .local _ .vmem, ⟨5, _⟩ => ⟨S8x48, .f32⟩
  | .local _ .vmem, ⟨6, _⟩ => ⟨S8x48, .f32⟩
  | _, _ => ⟨S8x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel18Ideal.lean ====
abbrev S8x48 : Shape := ⟨2, ![8, 48]⟩

abbrev nBuf : Space → Nat
  | .hbm => 7
  | .vmem => 7
  | .smem => 0
  | _ => 0

abbrev bufTy : (tb : Table) → Fin (tcTables nBuf tb) → BufTy
  | .hbm, ⟨0, _⟩ => ⟨S8x48, .f32⟩
  | .hbm, ⟨1, _⟩ => ⟨S8x48, .f32⟩
  | .hbm, ⟨2, _⟩ => ⟨S8x48, .f32⟩
  | .hbm, ⟨3, _⟩ => ⟨S8x48, .f32⟩
  | .hbm, ⟨4, _⟩ => ⟨S8x48, .f32⟩
  | .hbm, ⟨5, _⟩ => ⟨S8x48, .f32⟩
  | .hbm, ⟨6, _⟩ => ⟨S8x48, .f32⟩
  | .local _ .vmem, ⟨0, _⟩ => ⟨S8x48, .f32⟩
  | .local _ .vmem, ⟨1, _⟩ => ⟨S8x48, .f32⟩
  | .local _ .vmem, ⟨2, _⟩ => ⟨S8x48, .f32⟩
  | .local _ .vmem, ⟨3, _⟩ => ⟨S8x48, .f32⟩
  | .local _ .vmem, ⟨4, _⟩ => ⟨S8x48, .f32⟩
  | .local _ .vmem, ⟨5, _⟩ => ⟨S8x48, .f32⟩
  | .local _ .vmem, ⟨6, _⟩ => ⟨S8x48, .f32⟩
  | _, _ => ⟨S8x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S8x48 : Shape := ⟨2, ![8, 48]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x48, .f32⟩
  | .hbm, ⟨1, _⟩ => ⟨S8x48, .f32⟩
  | .hbm, ⟨2, _⟩ => ⟨S8x48, .f32⟩
  | .hbm, ⟨3, _⟩ => ⟨S8x48, .f32⟩
  | .hbm, ⟨4, _⟩ => ⟨S_, .f32⟩
  | .hbm, ⟨5, _⟩ => ⟨S8x48, .f32⟩
  | .hbm, ⟨6, _⟩ => ⟨S8x48, .f32⟩
  | .hbm, ⟨7, _⟩ => ⟨S_, .f32⟩
  | .hbm, ⟨8, _⟩ => ⟨S8x48, .f32⟩
  | .hbm, ⟨9, _⟩ => ⟨S8x48, .f32⟩
  | .hbm, ⟨10, _⟩ => ⟨S8x48, .f32⟩
  | .hbm, ⟨11, _⟩ => ⟨S_, .f32⟩
  | .hbm, ⟨12, _⟩ => ⟨S8x48, .f32⟩
  | .hbm, ⟨13, _⟩ => ⟨S8x48, .f32⟩
  | .hbm, ⟨14, _⟩ => ⟨S8x48, .f32⟩
  | .hbm, ⟨15, _⟩ => ⟨S_, .f32⟩
  | .hbm, ⟨16, _⟩ => ⟨S8x48, .f32⟩
  | .hbm, ⟨17, _⟩ => ⟨S8x48, .f32⟩
  | .hbm, ⟨18, _⟩ => ⟨S8x48, .f32⟩
  | .hbm, ⟨19, _⟩ => ⟨S_, .f32⟩
  | .hbm, ⟨20, _⟩ => ⟨S8x48, .f32⟩
  | .hbm, ⟨21, _⟩ => ⟨S8x48, .f32⟩
  | .hbm, ⟨22, _⟩ => ⟨S_, .f32⟩
  | .hbm, ⟨23, _⟩ => ⟨S8x48, .f32⟩
  | .hbm, ⟨24, _⟩ => ⟨S8x48, .f32⟩
  | .hbm, ⟨25, _⟩ => ⟨S8x48, .f32⟩
  | .hbm, ⟨26, _⟩ => ⟨S_, .f32⟩
  | .hbm, ⟨27, _⟩ => ⟨S8x48, .f32⟩
  | .hbm, ⟨28, _⟩ => ⟨S8x48, .f32⟩
  | .hbm, ⟨29, _⟩ => ⟨S8x48, .f32⟩
  | .hbm, ⟨30, _⟩ => ⟨S_, .f32⟩
  | .hbm, ⟨31, _⟩ => ⟨S8x48, .f32⟩
  | .hbm, ⟨32, _⟩ => ⟨S8x48, .f32⟩
  | .hbm, ⟨33, _⟩ => ⟨S8x48, .f32⟩
  | .hbm, ⟨34, _⟩ => ⟨S_, .f32⟩
  | .hbm, ⟨35, _⟩ => ⟨S8x48, .f32⟩
  | .hbm, ⟨36, _⟩ => ⟨S8x48, .f32⟩
  | _, _ => ⟨S8x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S240x31 : Shape := ⟨2, ![240, 31]⟩

abbrev nBuf : Space → Nat
  | .hbm => 7
  | .vmem => 7
  | .smem => 0
  | _ => 0

abbrev bufTy : (tb : Table) → Fin (tcTables nBuf tb) → BufTy
  | .hbm, ⟨0, _⟩ => ⟨S240x31, .f32⟩
  | .hbm, ⟨1, _⟩ => ⟨S240x31, .f32⟩
  | .hbm, ⟨2, _⟩ => ⟨S240x31, .f32⟩
  | .hbm, ⟨3, _⟩ => ⟨S240x31, .f32⟩
  | .hbm, ⟨4, _⟩ => ⟨S240x31, .f32⟩
  | .hbm, ⟨5, _⟩ => ⟨S240x31, .f32⟩
  | .hbm, ⟨6, _⟩ => ⟨S240x31, .f32⟩
  | .local _ .vmem, ⟨0, _⟩ => ⟨S240x31, .f32⟩
  | .local _ .vmem, ⟨1, _⟩ => ⟨S240x31, .f32⟩
  | .local _ .vmem, ⟨2, _⟩ => ⟨S240x31, .f32⟩
  | .local _ .vmem, ⟨3, _⟩ => ⟨S240x31, .f32⟩
  | .local _ .vmem, ⟨4, _⟩ => ⟨S240x31, .f32⟩
  | .local _ .vmem, ⟨5, _⟩ => ⟨S240x31, .f32⟩
  | .local _ .vmem, ⟨6, _⟩ => ⟨S240x31, .f32⟩
  | _, _ => ⟨S240x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S240x31 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S240x31 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S240x31 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S240x31 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S240x31 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S240x31 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S240x31 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel19Ideal.lean ====
abbrev S240x31 : Shape := ⟨2, ![240, 31]⟩

abbrev nBuf : Space → Nat
  | .hbm => 7
  | .vmem => 7
  | .smem => 0
  | _ => 0

abbrev bufTy : (tb : Table) → Fin (tcTables nBuf tb) → BufTy
  | .hbm, ⟨0, _⟩ => ⟨S240x31, .f32⟩
  | .hbm, ⟨1, _⟩ => ⟨S240x31, .f32⟩
  | .hbm, ⟨2, _⟩ => ⟨S240x31, .f32⟩
  | .hbm, ⟨3, _⟩ => ⟨S240x31, .f32⟩
  | .hbm, ⟨4, _⟩ => ⟨S240x31, .f32⟩
  | .hbm, ⟨5, _⟩ => ⟨S240x31, .f32⟩
  | .hbm, ⟨6, _⟩ => ⟨S240x31, .f32⟩
  | .local _ .vmem, ⟨0, _⟩ => ⟨S240x31, .f32⟩
  | .local _ .vmem, ⟨1, _⟩ => ⟨S240x31, .f32⟩
  | .local _ .vmem, ⟨2, _⟩ => ⟨S240x31, .f32⟩
  | .local _ .vmem, ⟨3, _⟩ => ⟨S240x31, .f32⟩
  | .local _ .vmem, ⟨4, _⟩ => ⟨S240x31, .f32⟩
  | .local _ .vmem, ⟨5, _⟩ => ⟨S240x31, .f32⟩
  | .local _ .vmem, ⟨6, _⟩ => ⟨S240x31, .f32⟩
  | _, _ => ⟨S240x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S240x31 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S240x31 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S240x31 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S240x31 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S240x31 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S240x31 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S240x31 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S240x31 : Shape := ⟨2, ![240, 31]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S240x31, .f32⟩
  | .hbm, ⟨1, _⟩ => ⟨S240x31, .f32⟩
  | .hbm, ⟨2, _⟩ => ⟨S240x31, .f32⟩
  | .hbm, ⟨3, _⟩ => ⟨S240x31, .f32⟩
  | .hbm, ⟨4, _⟩ => ⟨S_, .f32⟩
  | .hbm, ⟨5, _⟩ => ⟨S240x31, .f32⟩
  | .hbm, ⟨6, _⟩ => ⟨S240x31, .f32⟩
  | .hbm, ⟨7, _⟩ => ⟨S_, .f32⟩
  | .hbm, ⟨8, _⟩ => ⟨S240x31, .f32⟩
  | .hbm, ⟨9, _⟩ => ⟨S240x31, .f32⟩
  | .hbm, ⟨10, _⟩ => ⟨S240x31, .f32⟩
  | .hbm, ⟨11, _⟩ => ⟨S_, .f32⟩
  | .hbm, ⟨12, _⟩ => ⟨S240x31, .f32⟩
  | .hbm, ⟨13, _⟩ => ⟨S240x31, .f32⟩
  | .hbm, ⟨14, _⟩ => ⟨S240x31, .f32⟩
  | .hbm, ⟨15, _⟩ => ⟨S_, .f32⟩
  | .hbm, ⟨16, _⟩ => ⟨S240x31, .f32⟩
  | .hbm, ⟨17, _⟩ => ⟨S240x31, .f32⟩
  | .hbm, ⟨18, _⟩ => ⟨S240x31, .f32⟩
  | .hbm, ⟨19, _⟩ => ⟨S_, .f32⟩
  | .hbm, ⟨20, _⟩ => ⟨S240x31, .f32⟩
  | .hbm, ⟨21, _⟩ => ⟨S240x31, .f32⟩
  | .hbm, ⟨22, _⟩ => ⟨S_, .f32⟩
  | .hbm, ⟨23, _⟩ => ⟨S240x31, .f32⟩
  | .hbm, ⟨24, _⟩ => ⟨S240x31, .f32⟩
  | .hbm, ⟨25, _⟩ => ⟨S240x31, .f32⟩
  | .hbm, ⟨26, _⟩ => ⟨S_, .f32⟩
  | .hbm, ⟨27, _⟩ => ⟨S240x31, .f32⟩
  | .hbm, ⟨28, _⟩ => ⟨S240x31, .f32⟩
  | .hbm, ⟨29, _⟩ => ⟨S240x31, .f32⟩
  | .hbm, ⟨30, _⟩ => ⟨S_, .f32⟩
  | .hbm, ⟨31, _⟩ => ⟨S240x31, .f32⟩
  | .hbm, ⟨32, _⟩ => ⟨S240x31, .f32⟩
  | .hbm, ⟨33, _⟩ => ⟨S240x31, .f32⟩
  | .hbm, ⟨34, _⟩ => ⟨S_, .f32⟩
  | .hbm, ⟨35, _⟩ => ⟨S240x31, .f32⟩
  | .hbm, ⟨36, _⟩ => ⟨S240x31, .f32⟩
  | _, _ => ⟨S240x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S8x1024x384 : Shape := ⟨3, ![8, 1024, 384]⟩
abbrev S4x1024x384 : Shape := ⟨3, ![4, 1024, 384]⟩
abbrev S8x512x384 : Shape := ⟨3, ![8, 512, 384]⟩
abbrev S1x512x384 : Shape := ⟨3, ![1, 512, 384]⟩
abbrev S512x384 : Shape := ⟨2, ![512, 384]⟩

abbrev nBuf : Space → Nat
  | .hbm => 3
  | .vmem => 4
  | .smem => 0
  | _ => 0

abbrev bufTy : (tb : Table) → Fin (tcTables nBuf tb) → BufTy
  | .hbm, ⟨0, _⟩ => ⟨S8x1024x384, .bf16⟩
  | .hbm, ⟨1, _⟩ => ⟨S4x1024x384, .f32⟩
  | .hbm, ⟨2, _⟩ => ⟨S4x1024x384, .f32⟩
  | .local _ .vmem, ⟨0, _⟩ => ⟨S8x512x384, .bf16⟩
  | .local _ .vmem, ⟨1, _⟩ => ⟨S8x512x384, .bf16⟩
  | .local _ .vmem, ⟨2, _⟩ => ⟨S1x512x384, .f32⟩
  | .local _ .vmem, ⟨3, _⟩ => ⟨S1x512x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference22Ideal.lean ====
abbrev S8x1024x384 : Shape := ⟨3, ![8, 1024, 384]⟩
abbrev S4x1024x384 : Shape := ⟨3, ![4, 1024, 384]⟩
abbrev S_ : Shape := ⟨0, ![]⟩
abbrev S1024x384 : Shape := ⟨2, ![1024, 384]⟩
abbrev S1x1024x384 : Shape := ⟨3, ![1, 1024, 384]⟩
abbrev S3x1024x384 : Shape := ⟨3, ![3, 1024, 384]⟩

abbrev nBuf : Space → Nat
  | .hbm => 8
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S4x1024x384, .f32⟩
  | .hbm, ⟨2, _⟩ => ⟨S8x1024x384, .f32⟩
  | .hbm, ⟨3, _⟩ => ⟨S_, .f32⟩
  | .hbm, ⟨4, _⟩ => ⟨S1024x384, .f32⟩
  | .hbm, ⟨5, _⟩ => ⟨S1x1024x384, .f32⟩
  | .hbm, ⟨6, _⟩ => ⟨S3x1024x384, .f32⟩
  | .hbm, ⟨7, _⟩ => ⟨S4x1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S8x1024x384 : Shape := ⟨3, ![8, 1024, 384]⟩
abbrev S4x352x1024 : Shape := ⟨3, ![4, 352, 1024]⟩
abbrev S8x512x384 : Shape := ⟨3, ![8, 512, 384]⟩
abbrev S1x352x512 : Shape := ⟨3, ![1, 352, 512]⟩
abbrev S1x512x384 : Shape := ⟨3, ![1, 512, 384]⟩
abbrev S512x384 : Shape := ⟨2, ![512, 384]⟩
abbrev S384x512 : Shape := ⟨2, ![384, 512]⟩
abbrev S352x512 : Shape := ⟨2, ![352, 512]⟩

abbrev nBuf : Space → Nat
  | .hbm => 3
  | .vmem => 4
  | .smem => 0
  | _ => 0

abbrev bufTy : (tb : Table) → Fin (tcTables nBuf tb) → BufTy
  | .hbm, ⟨0, _⟩ => ⟨S8x1024x384, .bf16⟩
  | .hbm, ⟨1, _⟩ => ⟨S4x352x1024, .f32⟩
  | .hbm, ⟨2, _⟩ => ⟨S4x352x1024, .f32⟩
  | .local _ .vmem, ⟨0, _⟩ => ⟨S8x512x384, .bf16⟩
  | .local _ .vmem, ⟨1, _⟩ => ⟨S8x512x384, .bf16⟩
  | .local _ .vmem, ⟨2, _⟩ => ⟨S1x352x512, .f32⟩
  | .local _ .vmem, ⟨3, _⟩ => ⟨S1x352x512, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference23Ideal.lean ====
abbrev S8x1024x384 : Shape := ⟨3, ![8, 1024, 384]⟩
abbrev S4x352x1024 : Shape := ⟨3, ![4, 352, 1024]⟩
abbrev S8x1024x352 : Shape := ⟨3, ![8, 1024, 352]⟩
abbrev S_ : Shape := ⟨0, ![]⟩
abbrev S1024x352 : Shape := ⟨2, ![1024, 352]⟩
abbrev S352x1024 : Shape := ⟨2, ![352, 1024]⟩
abbrev S1x352x1024 : Shape := ⟨3, ![1, 352, 1024]⟩
abbrev S3x352x1024 : Shape := ⟨3, ![3, 352, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S4x352x1024, .f32⟩
  | .hbm, ⟨2, _⟩ => ⟨S8x1024x352, .bf16⟩
  | .hbm, ⟨3, _⟩ => ⟨S8x1024x352, .f32⟩
  | .hbm, ⟨4, _⟩ => ⟨S_, .f32⟩
  | .hbm, ⟨5, _⟩ => ⟨S1024x352, .f32⟩
  | .hbm, ⟨6, _⟩ => ⟨S352x1024, .f32⟩
  | .hbm, ⟨7, _⟩ => ⟨S1x352x1024, .f32⟩
  | .hbm, ⟨8, _⟩ => ⟨S3x352x1024, .f32⟩
  | .hbm, ⟨9, _⟩ => ⟨S4x352x1024, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S8x384x1024 : Shape := ⟨3, ![8, 384, 1024]⟩
abbrev S4x352x1024 : Shape := ⟨3, ![4, 352, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 3
  | .vmem => 2
  | .smem => 0
  | _ => 0

abbrev bufTy : (tb : Table) → Fin (tcTables nBuf tb) → BufTy
  | .hbm, ⟨0, _⟩ => ⟨S8x384x1024, .bf16⟩
  | .hbm, ⟨1, _⟩ => ⟨S4x352x1024, .f32⟩
  | .hbm, ⟨2, _⟩ => ⟨S4x352x1024, .f32⟩
  | .local _ .vmem, ⟨0, _⟩ => ⟨S8x352x1024, .bf16⟩
  | .local _ .vmem, ⟨1, _⟩ => ⟨S1x352x1024, .f32⟩
  | _, _ => ⟨S8x384x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference24Ideal.lean ====
abbrev S8x384x1024 : Shape := ⟨3, ![8, 384, 1024]⟩
abbrev S4x352x1024 : Shape := ⟨3, ![4, 352, 1024]⟩
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩
abbrev S3x352x1024 : Shape := ⟨3, ![3, 352, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S4x352x1024, .f32⟩
  | .hbm, ⟨2, _⟩ => ⟨S8x352x1024, .bf16⟩
  | .hbm, ⟨3, _⟩ => ⟨S8x352x1024, .f32⟩
  | .hbm, ⟨4, _⟩ => ⟨S_, .f32⟩
  | .hbm, ⟨5, _⟩ => ⟨S352x1024, .f32⟩
  | .hbm, ⟨6, _⟩ => ⟨S1x352x1024, .f32⟩
  | .hbm, ⟨7, _⟩ => ⟨S3x352x1024, .f32⟩
  | .hbm, ⟨8, _⟩ => ⟨S4x352x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel25.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 3
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .local _ .vmem, ⟨0, _⟩ => ⟨S8x128x1024, .bf16⟩
  | .local _ .vmem, ⟨1, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference25Ideal.lean ====
abbrev S8x128x1024 : Shape := ⟨3, ![8, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩
abbrev S3x128x1024 : Shape := ⟨3, ![3, 128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S8x128x1024, .f32⟩
  | .hbm, ⟨3, _⟩ => ⟨S_, .f32⟩
  | .hbm, ⟨4, _⟩ => ⟨S128x1024, .f32⟩
  | .hbm, ⟨5, _⟩ => ⟨S1x128x1024, .f32⟩
  | .hbm, ⟨6, _⟩ => ⟨S3x128x1024, .f32⟩
  | .hbm, ⟨7, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S8x16x128 : Shape := ⟨3, ![8, 16, 128]⟩
abbrev S4x16x128 : Shape := ⟨3, ![4, 16, 128]⟩
abbrev S1x16x128 : Shape := ⟨3, ![1, 16, 128]⟩
abbrev S16x128 : Shape := ⟨2, ![16, 128]⟩

abbrev nBuf : Space → Nat
  | .hbm => 3
  | .vmem => 2
  | .smem => 0
  | _ => 0

abbrev bufTy : (tb : Table) → Fin (tcTables nBuf tb) → BufTy
  | .hbm, ⟨0, _⟩ => ⟨S8x16x128, .f32⟩
  | .hbm, ⟨1, _⟩ => ⟨S4x16x128, .f32⟩
  | .hbm, ⟨2, _⟩ => ⟨S4x16x128, .f32⟩
  | .local _ .vmem, ⟨0, _⟩ => ⟨S8x16x128, .f32⟩
  | .local _ .vmem, ⟨1, _⟩ => ⟨S1x16x128, .f32⟩
  | _, _ => ⟨S8x16x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel26Ideal.lean ====
abbrev S8x16x128 : Shape := ⟨3, ![8, 16, 128]⟩
abbrev S4x16x128 : Shape := ⟨3, ![4, 16, 128]⟩
abbrev S1x16x128 : Shape := ⟨3, ![1, 16, 128]⟩
abbrev S16x128 : Shape := ⟨2, ![16, 128]⟩

abbrev nBuf : Space → Nat
  | .hbm => 3
  | .vmem => 2
  | .smem => 0
  | _ => 0

abbrev bufTy : (tb : Table) → Fin (tcTables nBuf tb) → BufTy
  | .hbm, ⟨0, _⟩ => ⟨S8x16x128, .f32⟩
  | .hbm, ⟨1, _⟩ => ⟨S4x16x128, .f32⟩
  | .hbm, ⟨2, _⟩ => ⟨S4x16x128, .f32⟩
  | .local _ .vmem, ⟨0, _⟩ => ⟨S8x16x128, .f32⟩
  | .local _ .vmem, ⟨1, _⟩ => ⟨S1x16x128, .f32⟩
  | _, _ => ⟨S8x16x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference26Ideal.lean ====
abbrev S8x16x128 : Shape := ⟨3, ![8, 16, 128]⟩
abbrev S4x16x128 : Shape := ⟨3, ![4, 16, 128]⟩
abbrev S_ : Shape := ⟨0, ![]⟩
abbrev S16x128 : Shape := ⟨2, ![16, 128]⟩
abbrev S1x16x128 : Shape := ⟨3, ![1, 16, 128]⟩
abbrev S3x16x128 : Shape := ⟨3, ![3, 16, 128]⟩

abbrev nBuf : Space → Nat
  | .hbm => 7
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S4x16x128, .f32⟩
  | .hbm, ⟨2, _⟩ => ⟨S_, .f32⟩
  | .hbm, ⟨3, _⟩ => ⟨S16x128, .f32⟩
  | .hbm, ⟨4, _⟩ => ⟨S1x16x128, .f32⟩
  | .hbm, ⟨5, _⟩ => ⟨S3x16x128, .f32⟩
  | .hbm, ⟨6, _⟩ => ⟨S4x16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel27.lean ====
abbrev S8x824x128 : Shape := ⟨3, ![8, 824, 128]⟩
abbrev S4x824x128 : Shape := ⟨3, ![4, 824, 128]⟩
abbrev S1x824x128 : Shape := ⟨3, ![1, 824, 128]⟩
abbrev S824x128 : Shape := ⟨2, ![824, 128]⟩

abbrev nBuf : Space → Nat
  | .hbm => 3
  | .vmem => 2
  | .smem => 0
  | _ => 0

abbrev bufTy : (tb : Table) → Fin (tcTables nBuf tb) → BufTy
  | .hbm, ⟨0, _⟩ => ⟨S8x824x128, .f32⟩
  | .hbm, ⟨1, _⟩ => ⟨S4x824x128, .f32⟩
  | .hbm, ⟨2, _⟩ => ⟨S4x824x128, .f32⟩
  | .local _ .vmem, ⟨0, _⟩ => ⟨S8x824x128, .f32⟩
  | .local _ .vmem, ⟨1, _⟩ => ⟨S1x824x128, .f32⟩
  | _, _ => ⟨S8x824x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x824x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x824x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference27Ideal.lean ====
abbrev S8x824x128 : Shape := ⟨3, ![8, 824, 128]⟩
abbrev S4x824x128 : Shape := ⟨3, ![4, 824, 128]⟩
abbrev S_ : Shape := ⟨0, ![]⟩
abbrev S824x128 : Shape := ⟨2, ![824, 128]⟩
abbrev S1x824x128 : Shape := ⟨3, ![1, 824, 128]⟩
abbrev S3x824x128 : Shape := ⟨3, ![3, 824, 128]⟩

abbrev nBuf : Space → Nat
  | .hbm => 7
  | .vmem => 0
  | .smem => 0
  | _ => 0

abbrev bufTy : (tb : Table) → Fin (tcTables nBuf tb) → BufTy
  | .hbm, ⟨0, _⟩ => ⟨S8x824x128, .f32⟩
  | .hbm, ⟨1, _⟩ => ⟨S4x824x128, .f32⟩
  | .hbm, ⟨2, _⟩ => ⟨S_, .f32⟩
  | .hbm, ⟨3, _⟩ => ⟨S824x128, .f32⟩
  | .hbm, ⟨4, _⟩ => ⟨S1x824x128, .f32⟩
  | .hbm, ⟨5, _⟩ => ⟨S3x824x128, .f32⟩
  | .hbm, ⟨6, _⟩ => ⟨S4x824x128, .f32⟩
  | _, _ => ⟨S8x824x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel32.lean ====
abbrev S4096x3072 : Shape := ⟨2, ![4096, 3072]⟩
abbrev S2x2x5x5x128x128 : Shape := ⟨6, ![2, 2, 5, 5, 128, 128]⟩
abbrev S4096x256 : Shape := ⟨2, ![4096, 256]⟩
abbrev S4096x128 : Shape := ⟨2, ![4096, 128]⟩
abbrev S1x2x5x5x128x128 : Shape := ⟨6, ![1, 2, 5, 5, 128, 128]⟩
abbrev S128x128 : Shape := ⟨2, ![128, 128]⟩
abbrev S640x128 : Shape := ⟨2, ![640, 128]⟩
abbrev S128x640 : Shape := ⟨2, ![128, 640]⟩
abbrev S1x1x1x1x128x128 : Shape := ⟨6, ![1, 1, 1, 1, 128, 128]⟩
abbrev S128 : Shape := ⟨1, ![128]⟩
abbrev S128x1 : Shape := ⟨2, ![128, 1]⟩

abbrev nBuf : Space → Nat
  | .hbm => 3
  | .vmem => 9
  | .smem => 0
  | _ => 0

abbrev bufTy : (tb : Table) → Fin (tcTables nBuf tb) → BufTy
  | .hbm, ⟨0, _⟩ => ⟨S4096x3072, .f32⟩
  | .hbm, ⟨1, _⟩ => ⟨S2x2x5x5x128x128, .f32⟩
  | .hbm, ⟨2, _⟩ => ⟨S4096x256, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x2x5x5x128x128, .f32⟩
  | .local _ .vmem, ⟨7, _⟩ => ⟨S1x2x5x5x128x128, .f32⟩
  | .local _ .vmem, ⟨8, _⟩ => ⟨S4096x128, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c4_i32 : BitVec 32 := 4#32
  let v7 : BitVec 32 := Scalar.addi c0_i32 c4_i32
  let c1_i32 : BitVec 32 := 1#32
  ⟨c0_i32, v7, c1_i32⟩
def k0_mult1 (k0_t1 : Fin k0_t1_loop.trips) : BitVec 32 :=
  let c54_i32 : BitVec 32 := 54#32
  let c0_i32_3 : BitVec 32 := 0#32
  let c2_i32 : BitVec 32 := 2#32
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let c0_i32_1 : BitVec 32 := 0#32
  let v9 : BitVec 32 := Scalar.addi v8 c0_i32_1
  let v10 : BitVec 32 := Scalar.muli c2_i32 v9
  let c4_i32_2 : BitVec 32 := 4#32
  let v11 : BitVec 32 := Scalar.subi v10 c4_i32_2
  let v12 : BitVec 32 := Scalar.maxsi c0_i32_3 v11
  let v13 : BitVec 32 := Scalar.minsi c54_i32 v12
  let c64_i32_4 : BitVec 32 := 64#32
  let v14 : BitVec 32 := Scalar.muli v13 c64_i32_4
  v14
def k0_mult2 (k0_t1 : Fin k0_t1_loop.trips) : BitVec 32 :=
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let c0_i32_1 : BitVec 32 := 0#32
  let v9 : BitVec 32 := Scalar.addi v8 c0_i32_1
  let c128_i32 : BitVec 32 := 128#32
  let v24 : BitVec 32 := Scalar.muli v9 c128_i32
  v24
def k0_mult3 (k0_t1 : Fin k0_t1_loop.trips) : BitVec 32 :=
  let c54_i32_16 : BitVec 32 := 54#32
  let c0_i32_15 : BitVec 32 := 0#32
  let c2_i32_13 : BitVec 32 := 2#32
  let c8_i32_11 : BitVec 32 := 8#32
  let c0_i32 : BitVec 32 := 0#32
  let c1_i32 : BitVec 32 := 1#32
  let arg6 : BitVec 32 := Scf.iv c0_i32 c1_i32 k0_t1
  let v26 : BitVec 32 := Scalar.muli c8_i32_11 arg6
  let c1_i32_12 : BitVec 32 := 1#32
  let v27 : BitVec 32 := Scalar.addi v26 c1_i32_12
  let v28 : BitVec 32 := Scalar.muli c2_i32_13 v27
  let c4_i32_14 : BitVec 32 := 4#32
  let v29 : BitVec 32 := Scalar.subi v28 c4_i32_14
  let v30 : BitVec 32 := Scalar.maxsi c0_i32_15 v29
  let v31 : BitVec 32 := Scalar.minsi c54_i32_16 v30
  let c64_i32_17 : BitVec 32 := 64#32
  let v32 : BitVec 32 := Scalar.muli v31 c64_i32_17
  v32
def k0_mult4 (k0_t1 : Fin k0_t1_loop.trips) : BitVec 32 :=
  let c8_i32_11 : BitVec 32 := 8#32
  let c0_i32 : BitVec 32 := 0#32
  let c1_i32 : BitVec 32 := 1#32
  let arg6 : BitVec 32 := Scf.iv c0_i32 c1_i32 k0_t1
  let v26 : BitVec 32 := Scalar.muli c8_i32_11 arg6
  let c1_i32_12 : BitVec 32 := 1#32
  let v27 : BitVec 32 := Scalar.addi v26 c1_i32_12
  let c128_i32_27 : BitVec 32 := 128#32
  let v42 : BitVec 32 := Scalar.muli v27 c128_i32_27
  v42
def k0_mult5 (k0_t1 : Fin k0_t1_loop.trips) : BitVec 32 :=
  let c54_i32_33 : BitVec 32 := 54#32
  let c0_i32_32 : BitVec 32 := 0#32
  let c2_i32_30 : BitVec 32 := 2#32
  let c8_i32_28 : BitVec 32 := 8#32
  let c0_i32 : BitVec 32 := 0#32
  let c1_i32 : BitVec 32 := 1#32
  let arg6 : BitVec 32 := Scf.iv c0_i32 c1_i32 k0_t1
  let v44 : BitVec 32 := Scalar.muli c8_i32_28 arg6
  let c2_i32_29 : BitVec 32 := 2#32
  let v45 : BitVec 32 := Scalar.addi v44 c2_i32_29
  let v46 : BitVec 32 := Scalar.muli c2_i32_30 v45
  let c4_i32_31 : BitVec 32 := 4#32
  let v47 : BitVec 32 := Scalar.subi v46 c4_i32_31
  let v48 : BitVec 32 := Scalar.maxsi c0_i32_32 v47
  let v49 : BitVec 32 := Scalar.minsi c54_i32_33 v48
  let c64_i32_34 : BitVec 32 := 64#32
  let v50 : BitVec 32 := Scalar.muli v49 c64_i32_34
  v50
def k0_mult6 (k0_t1 : Fin k0_t1_loop.trips) : BitVec 32 :=
  let c8_i32_28 : BitVec 32 := 8#32
  let c0_i32 : BitVec 32 := 0#32
  let c1_i32 : BitVec 32 := 1#32
  let arg6 : BitVec 32 := Scf.iv c0_i32 c1_i32 k0_t1
  let v44 : BitVec 32 := Scalar.muli c8_i32_28 arg6
  let c2_i32_29 : BitVec 32 := 2#32
  let v45 : BitVec 32 := Scalar.addi v44 c2_i32_29
  let c128_i32_44 : BitVec 32 := 128#32
  let v60 : BitVec 32 := Scalar.muli v45 c128_i32_44
  v60
def k0_mult7 (k0_t1 : Fin k0_t1_loop.trips) : BitVec 32 :=
  let c54_i32_50 : BitVec 32 := 54#32
  let c0_i32_49 : BitVec 32 := 0#32
  let c2_i32_47 : BitVec 32 := 2#32
  let c8_i32_45 : BitVec 32 := 8#32
  let c0_i32 : BitVec 32 := 0#32
  let c1_i32 : BitVec 32 := 1#32
  let arg6 : BitVec 32 := Scf.iv c0_i32 c1_i32 k0_t1
  let v62 : BitVec 32 := Scalar.muli c8_i32_45 arg6
  let c3_i32_46 : BitVec 32 := 3#32
  let v63 : BitVec 32 := Scalar.addi v62 c3_i32_46
  let v64 : BitVec 32 := Scalar.muli c2_i32_47 v63
  let c4_i32_48 : BitVec 32 := 4#32
  let v65 : BitVec 32 := Scalar.subi v64 c4_i32_48
  let v66 : BitVec 32 := Scalar.maxsi c0_i32_49 v65
  let v67 : BitVec 32 := Scalar.minsi c54_i32_50 v66
  let c64_i32_51 : BitVec 32 := 64#32
  let v68 : BitVec 32 := Scalar.muli v67 c64_i32_51
  v68
def k0_mult8 (k0_t1 : Fin k0_t1_loop.trips) : BitVec 32 :=
  let c8_i32_45 : BitVec 32 := 8#32
  let c0_i32 : BitVec 32 := 0#32
  let c1_i32 : BitVec 32 := 1#32
  let arg6 : BitVec 32 := Scf.iv c0_i32 c1_i32 k0_t1
  let v62 : BitVec 32 := Scalar.muli c8_i32_45 arg6
  let c3_i32_46 : BitVec 32 := 3#32
  let v63 : BitVec 32 := Scalar.addi v62 c3_i32_46
  let c128_i32_61 : BitVec 32 := 128#32
  let v78 : BitVec 32 := Scalar.muli v63 c128_i32_61
  v78
def k0_mult9 (k0_t1 : Fin k0_t1_loop.trips) : BitVec 32 :=
  let c54_i32_67 : BitVec 32 := 54#32
  let c0_i32_66 : BitVec 32 := 0#32
  let c2_i32_64 : BitVec 32 := 2#32
  let c8_i32_62 : BitVec 32 := 8#32
  let c0_i32 : BitVec 32 := 0#32
  let c1_i32 : BitVec 32 := 1#32
  let arg6 : BitVec 32 := Scf.iv c0_i32 c1_i32 k0_t1
  let v80 : BitVec 32 := Scalar.muli c8_i32_62 arg6
  let c4_i32_63 : BitVec 32 := 4#32
  let v81 : BitVec 32 := Scalar.addi v80 c4_i32_63
  let v82 : BitVec 32 := Scalar.muli c2_i32_64 v81
  let c4_i32_65 : BitVec 32 := 4#32
  let v83 : BitVec 32 := Scalar.subi v82 c4_i32_65
  let v84 : BitVec 32 := Scalar.maxsi c0_i32_66 v83
  let v85 : BitVec 32 := Scalar.minsi c54_i32_67 v84
  let c64_i32_68 : BitVec 32 := 64#32
  let v86 : BitVec 32 := Scalar.muli v85 c64_i32_68
  v86
def k0_mult10 (k0_t1 : Fin k0_t1_loop.trips) : BitVec 32 :=
  let c8_i32_62 : BitVec 32 := 8#32
  let c0_i32 : BitVec 32 := 0#32
  let c1_i32 : BitVec 32 := 1#32
  let arg6 : BitVec 32 := Scf.iv c0_i32 c1_i32 k0_t1
  let v80 : BitVec 32 := Scalar.muli c8_i32_62 arg6
  let c4_i32_63 : BitVec 32 := 4#32
  let v81 : BitVec 32 := Scalar.addi v80 c4_i32_63
  let c128_i32_78 : BitVec 32 := 128#32
  let v96 : BitVec 32 := Scalar.muli v81 c128_i32_78
  v96
def k0_mult11 (k0_t1 : Fin k0_t1_loop.trips) : BitVec 32 :=
  let c54_i32_83 : BitVec 32 := 54#32
  let c0_i32_82 : BitVec 32 := 0#32
  let c2_i32_80 : BitVec 32 := 2#32
  let c8_i32_79 : BitVec 32 := 8#32
  let c0_i32 : BitVec 32 := 0#32
  let c1_i32 : BitVec 32 := 1#32
  let arg6 : BitVec 32 := Scf.iv c0_i32 c1_i32 k0_t1
  let v98 : BitVec 32 := Scalar.muli c8_i32_79 arg6
  let c5_i32 : BitVec 32 := 5#32
  let v99 : BitVec 32 := Scalar.addi v98 c5_i32
  let v100 : BitVec 32 := Scalar.muli c2_i32_80 v99
  let c4_i32_81 : BitVec 32 := 4#32
  let v101 : BitVec 32 := Scalar.subi v100 c4_i32_81
  let v102 : BitVec 32 := Scalar.maxsi c0_i32_82 v101
  let v103 : BitVec 32 := Scalar.minsi c54_i32_83 v102
  let c64_i32_84 : BitVec 32 := 64#32
  let v104 : BitVec 32 := Scalar.muli v103 c64_i32_84
  v104
def k0_mult12 (k0_t1 : Fin k0_t1_loop.trips) : BitVec 32 :=
  let c8_i32_79 : BitVec 32 := 8#32
  let c0_i32 : BitVec 32 := 0#32
  let c1_i32 : BitVec 32 := 1#32
  let arg6 : BitVec 32 := Scf.iv c0_i32 c1_i32 k0_t1
  let v98 : BitVec 32 := Scalar.muli c8_i32_79 arg6
  let c5_i32 : BitVec 32 := 5#32
  let v99 : BitVec 32 := Scalar.addi v98 c5_i32
  let c128_i32_94 : BitVec 32 := 128#32
  let v114 : BitVec 32 := Scalar.muli v99 c128_i32_94
  v114
def k0_mult13 (k0_t1 : Fin k0_t1_loop.trips) : BitVec 32 :=
  let c54_i32_99 : BitVec 32 := 54#32
  let c0_i32_98 : BitVec 32 := 0#32
  let c2_i32_96 : BitVec 32 := 2#32
  let c8_i32_95 : BitVec 32 := 8#32
  let c0_i32 : BitVec 32 := 0#32
  let c1_i32 : BitVec 32 := 1#32
  let arg6 : BitVec 32 := Scf.iv c0_i32 c1_i32 k0_t1
  let v116 : BitVec 32 := Scalar.muli c8_i32_95 arg6
  let c6_i32 : BitVec 32 := 6#32
  let v117 : BitVec 32 := Scalar.addi v116 c6_i32
  let v118 : BitVec 32 := Scalar.muli c2_i32_96 v117
  let c4_i32_97 : BitVec 32 := 4#32
  let v119 : BitVec 32 := Scalar.subi v118 c4_i32_97
  let v120 : BitVec 32 := Scalar.maxsi c0_i32_98 v119
  let v121 : BitVec 32 := Scalar.minsi c54_i32_99 v120
  let c64_i32_100 : BitVec 32 := 64#32
  let v122 : BitVec 32 := Scalar.muli v121 c64_i32_100
  v122
def k0_mult14 (k0_t1 : Fin k0_t1_loop.trips) : BitVec 32 :=
  let c8_i32_95 : BitVec 32 := 8#32
  let c0_i32 : BitVec 32 := 0#32
  let c1_i32 : BitVec 32 := 1#32
  let arg6 : BitVec 32 := Scf.iv c0_i32 c1_i32 k0_t1
  let v116 : BitVec 32 := Scalar.muli c8_i32_95 arg6
  let c6_i32 : BitVec 32 := 6#32
  let v117 : BitVec 32 := Scalar.addi v116 c6_i32
  let c128_i32_110 : BitVec 32 := 128#32
  let v132 : BitVec 32 := Scalar.muli v117 c128_i32_110
  v132
def k0_mult15 (k0_t1 : Fin k0_t1_loop.trips) : BitVec 32 :=
  let c54_i32_115 : BitVec 32 := 54#32
  let c0_i32_114 : BitVec 32 := 0#32
  let c2_i32_112 : BitVec 32 := 2#32
  let c8_i32_111 : BitVec 32 := 8#32
  let c0_i32 : BitVec 32 := 0#32
  let c1_i32 : BitVec 32 := 1#32
  let arg6 : BitVec 32 := Scf.iv c0_i32 c1_i32 k0_t1
  let v134 : BitVec 32 := Scalar.muli c8_i32_111 arg6
  let c7_i32 : BitVec 32 := 7#32
  let v135 : BitVec 32 := Scalar.addi v134 c7_i32
  let v136 : BitVec 32 := Scalar.muli c2_i32_112 v135
  let c4_i32_113 : BitVec 32 := 4#32
  let v137 : BitVec 32 := Scalar.subi v136 c4_i32_113
  let v138 : BitVec 32 := Scalar.maxsi c0_i32_114 v137
  let v139 : BitVec 32 := Scalar.minsi c54_i32_115 v138
  let c64_i32_116 : BitVec 32 := 64#32
  let v140 : BitVec 32 := Scalar.muli v139 c64_i32_116
  v140
def k0_mult16 (k0_t1 : Fin k0_t1_loop.trips) : BitVec 32 :=
  let c8_i32_111 : BitVec 32 := 8#32
  let c0_i32 : BitVec 32 := 0#32
  let c1_i32 : BitVec 32 := 1#32
  let arg6 : BitVec 32 := Scf.iv c0_i32 c1_i32 k0_t1
  let v134 : BitVec 32 := Scalar.muli c8_i32_111 arg6
  let c7_i32 : BitVec 32 := 7#32
  let v135 : BitVec 32 := Scalar.addi v134 c7_i32
  let c128_i32_126 : BitVec 32 := 128#32
  let v150 : BitVec 32 := Scalar.muli v135 c128_i32_126
  v150
def k0_off1 (k0_t1 : Fin k0_t1_loop.trips) (c0_i32_1 : BitVec 32) : Fin 2 → Nat :=
  let c54_i32 : BitVec 32 := 54#32
  let c0_i32_3 : BitVec 32 := 0#32
  let c2_i32 : BitVec 32 := 2#32
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let v9 : BitVec 32 := Scalar.addi v8 c0_i32_1
  let v10 : BitVec 32 := Scalar.muli c2_i32 v9
  let c4_i32_2 : BitVec 32 := 4#32
  let v11 : BitVec 32 := Scalar.subi v10 c4_i32_2
  let v12 : BitVec 32 := Scalar.maxsi c0_i32_3 v11
  let v13 : BitVec 32 := Scalar.minsi c54_i32 v12
  let c64_i32_4 : BitVec 32 := 64#32
  let v14 : BitVec 32 := Scalar.muli v13 c64_i32_4
  let v15 : BitVec 32 := v14
  let v152 : Index := Scalar.indexCast v15
  let c0 : Index := 0#32
  ![v152.toNat, 0]
def k0_off2 (k0_t1 : Fin k0_t1_loop.trips) (c0_i32_1 : BitVec 32) : Fin 2 → Nat :=
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let v9 : BitVec 32 := Scalar.addi v8 c0_i32_1
  let c128_i32 : BitVec 32 := 128#32
  let v24 : BitVec 32 := Scalar.muli v9 c128_i32
  let v25 : BitVec 32 := v24
  let v200 : Index := Scalar.indexCast v25
  let c0_142 : Index := 0#32
  ![v200.toNat, 0]
def k0_off3 (k0_t1 : Fin k0_t1_loop.trips) (c0_i32_1 : BitVec 32) : Fin 6 → Nat :=
  let c0_175 : Index := 0#32
  let c0_176 : Index := 0#32
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let v9 : BitVec 32 := Scalar.addi v8 c0_i32_1
  let c0_i32_5 : BitVec 32 := 0#32
  let v16 : BitVec 1 := Scalar.cmpi .eq v9 c0_i32_5
  let c0_i32_10 : BitVec 32 := 0#32
  let c1_i32_6 : BitVec 32 := 1#32
  let v17 : BitVec 1 := Scalar.cmpi .eq v9 c1_i32_6
  let c1_i32_9 : BitVec 32 := 1#32
  let c30_i32 : BitVec 32 := 30#32
  let v18 : BitVec 1 := Scalar.cmpi .eq v9 c30_i32
  let c3_i32 : BitVec 32 := 3#32
  let c31_i32 : BitVec 32 := 31#32
  let v19 : BitVec 1 := Scalar.cmpi .eq v9 c31_i32
  let c4_i32_7 : BitVec 32 := 4#32
  let c2_i32_8 : BitVec 32 := 2#32
  let v20 : BitVec 32 := Scalar.select v19 c4_i32_7 c2_i32_8
  let v21 : BitVec 32 := Scalar.select v18 c3_i32 v20
  let v22 : BitVec 32 := Scalar.select v17 c1_i32_9 v21
  let v23 : BitVec 32 := Scalar.select v16 c0_i32_10 v22
  let v282 : Index := Scalar.indexCast v23
  let c0_177 : Index := 0#32
  let c0_178 : Index := 0#32
  let c0_179 : Index := 0#32
  ![0, 0, v282.toNat, 0, 0, 0]
def k0_off4 (k0_t1 : Fin k0_t1_loop.trips) (c0_i32_1 : BitVec 32) : Fin 6 → Nat :=
  let c0_180 : Index := 0#32
  let c0_181 : Index := 0#32
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let v9 : BitVec 32 := Scalar.addi v8 c0_i32_1
  let c0_i32_5 : BitVec 32 := 0#32
  let v16 : BitVec 1 := Scalar.cmpi .eq v9 c0_i32_5
  let c0_i32_10 : BitVec 32 := 0#32
  let c1_i32_6 : BitVec 32 := 1#32
  let v17 : BitVec 1 := Scalar.cmpi .eq v9 c1_i32_6
  let c1_i32_9 : BitVec 32 := 1#32
  let c30_i32 : BitVec 32 := 30#32
  let v18 : BitVec 1 := Scalar.cmpi .eq v9 c30_i32
  let c3_i32 : BitVec 32 := 3#32
  let c31_i32 : BitVec 32 := 31#32
  let v19 : BitVec 1 := Scalar.cmpi .eq v9 c31_i32
  let c4_i32_7 : BitVec 32 := 4#32
  let c2_i32_8 : BitVec 32 := 2#32
  let v20 : BitVec 32 := Scalar.select v19 c4_i32_7 c2_i32_8
  let v21 : BitVec 32 := Scalar.select v18 c3_i32 v20
  let v22 : BitVec 32 := Scalar.select v17 c1_i32_9 v21
  let v23 : BitVec 32 := Scalar.select v16 c0_i32_10 v22
  let v285 : Index := Scalar.indexCast v23
  let c1 : Index := 1#32
  let c0_182 : Index := 0#32
  let c0_183 : Index := 0#32
  ![0, 0, v285.toNat, 1, 0, 0]
def k0_off5 (k0_t1 : Fin k0_t1_loop.trips) (c0_i32_1 : BitVec 32) : Fin 6 → Nat :=
  let c0_184 : Index := 0#32
  let c0_185 : Index := 0#32
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let v9 : BitVec 32 := Scalar.addi v8 c0_i32_1
  let c0_i32_5 : BitVec 32 := 0#32
  let v16 : BitVec 1 := Scalar.cmpi .eq v9 c0_i32_5
  let c0_i32_10 : BitVec 32 := 0#32
  let c1_i32_6 : BitVec 32 := 1#32
  let v17 : BitVec 1 := Scalar.cmpi .eq v9 c1_i32_6
  let c1_i32_9 : BitVec 32 := 1#32
  let c30_i32 : BitVec 32 := 30#32
  let v18 : BitVec 1 := Scalar.cmpi .eq v9 c30_i32
  let c3_i32 : BitVec 32 := 3#32
  let c31_i32 : BitVec 32 := 31#32
  let v19 : BitVec 1 := Scalar.cmpi .eq v9 c31_i32
  let c4_i32_7 : BitVec 32 := 4#32
  let c2_i32_8 : BitVec 32 := 2#32
  let v20 : BitVec 32 := Scalar.select v19 c4_i32_7 c2_i32_8
  let v21 : BitVec 32 := Scalar.select v18 c3_i32 v20
  let v22 : BitVec 32 := Scalar.select v17 c1_i32_9 v21
  let v23 : BitVec 32 := Scalar.select v16 c0_i32_10 v22
  let v288 : Index := Scalar.indexCast v23
  let c2 : Index := 2#32
  let c0_186 : Index := 0#32
  let c0_187 : Index := 0#32
  ![0, 0, v288.toNat, 2, 0, 0]
def k0_off6 (k0_t1 : Fin k0_t1_loop.trips) (c0_i32_1 : BitVec 32) : Fin 6 → Nat :=
  let c0_188 : Index := 0#32
  let c0_189 : Index := 0#32
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let v9 : BitVec 32 := Scalar.addi v8 c0_i32_1
  let c0_i32_5 : BitVec 32 := 0#32
  let v16 : BitVec 1 := Scalar.cmpi .eq v9 c0_i32_5
  let c0_i32_10 : BitVec 32 := 0#32
  let c1_i32_6 : BitVec 32 := 1#32
  let v17 : BitVec 1 := Scalar.cmpi .eq v9 c1_i32_6
  let c1_i32_9 : BitVec 32 := 1#32
  let c30_i32 : BitVec 32 := 30#32
  let v18 : BitVec 1 := Scalar.cmpi .eq v9 c30_i32
  let c3_i32 : BitVec 32 := 3#32
  let c31_i32 : BitVec 32 := 31#32
  let v19 : BitVec 1 := Scalar.cmpi .eq v9 c31_i32
  let c4_i32_7 : BitVec 32 := 4#32
  let c2_i32_8 : BitVec 32 := 2#32
  let v20 : BitVec 32 := Scalar.select v19 c4_i32_7 c2_i32_8
  let v21 : BitVec 32 := Scalar.select v18 c3_i32 v20
  let v22 : BitVec 32 := Scalar.select v17 c1_i32_9 v21
  let v23 : BitVec 32 := Scalar.select v16 c0_i32_10 v22
  let v291 : Index := Scalar.indexCast v23
  let c3 : Index := 3#32
  let c0_190 : Index := 0#32
  let c0_191 : Index := 0#32
  ![0, 0, v291.toNat, 3, 0, 0]
def k0_off7 (k0_t1 : Fin k0_t1_loop.trips) (c0_i32_1 : BitVec 32) : Fin 6 → Nat :=
  let c0_192 : Index := 0#32
  let c0_193 : Index := 0#32
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let v9 : BitVec 32 := Scalar.addi v8 c0_i32_1
  let c0_i32_5 : BitVec 32 := 0#32
  let v16 : BitVec 1 := Scalar.cmpi .eq v9 c0_i32_5
  let c0_i32_10 : BitVec 32 := 0#32
  let c1_i32_6 : BitVec 32 := 1#32
  let v17 : BitVec 1 := Scalar.cmpi .eq v9 c1_i32_6
  let c1_i32_9 : BitVec 32 := 1#32
  let c30_i32 : BitVec 32 := 30#32
  let v18 : BitVec 1 := Scalar.cmpi .eq v9 c30_i32
  let c3_i32 : BitVec 32 := 3#32
  let c31_i32 : BitVec 32 := 31#32
  let v19 : BitVec 1 := Scalar.cmpi .eq v9 c31_i32
  let c4_i32_7 : BitVec 32 := 4#32
  let c2_i32_8 : BitVec 32 := 2#32
  let v20 : BitVec 32 := Scalar.select v19 c4_i32_7 c2_i32_8
  let v21 : BitVec 32 := Scalar.select v18 c3_i32 v20
  let v22 : BitVec 32 := Scalar.select v17 c1_i32_9 v21
  let v23 : BitVec 32 := Scalar.select v16 c0_i32_10 v22
  let v294 : Index := Scalar.indexCast v23
  let c4 : Index := 4#32
  let c0_194 : Index := 0#32
  let c0_195 : Index := 0#32
  ![0, 0, v294.toNat, 4, 0, 0]
def k0_off8 (k0_t1 : Fin k0_t1_loop.trips) (c0_i32_1 : BitVec 32) : Fin 6 → Nat :=
  let c0_197 : Index := 0#32
  let c1_198 : Index := 1#32
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let v9 : BitVec 32 := Scalar.addi v8 c0_i32_1
  let c0_i32_5 : BitVec 32 := 0#32
  let v16 : BitVec 1 := Scalar.cmpi .eq v9 c0_i32_5
  let c0_i32_10 : BitVec 32 := 0#32
  let c1_i32_6 : BitVec 32 := 1#32
  let v17 : BitVec 1 := Scalar.cmpi .eq v9 c1_i32_6
  let c1_i32_9 : BitVec 32 := 1#32
  let c30_i32 : BitVec 32 := 30#32
  let v18 : BitVec 1 := Scalar.cmpi .eq v9 c30_i32
  let c3_i32 : BitVec 32 := 3#32
  let c31_i32 : BitVec 32 := 31#32
  let v19 : BitVec 1 := Scalar.cmpi .eq v9 c31_i32
  let c4_i32_7 : BitVec 32 := 4#32
  let c2_i32_8 : BitVec 32 := 2#32
  let v20 : BitVec 32 := Scalar.select v19 c4_i32_7 c2_i32_8
  let v21 : BitVec 32 := Scalar.select v18 c3_i32 v20
  let v22 : BitVec 32 := Scalar.select v17 c1_i32_9 v21
  let v23 : BitVec 32 := Scalar.select v16 c0_i32_10 v22
  let v301 : Index := Scalar.indexCast v23
  let c0_199 : Index := 0#32
  let c0_200 : Index := 0#32
  let c0_201 : Index := 0#32
  ![0, 1, v301.toNat, 0, 0, 0]
def k0_off9 (k0_t1 : Fin k0_t1_loop.trips) (c0_i32_1 : BitVec 32) : Fin 6 → Nat :=
  let c0_202 : Index := 0#32
  let c1_203 : Index := 1#32
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let v9 : BitVec 32 := Scalar.addi v8 c0_i32_1
  let c0_i32_5 : BitVec 32 := 0#32
  let v16 : BitVec 1 := Scalar.cmpi .eq v9 c0_i32_5
  let c0_i32_10 : BitVec 32 := 0#32
  let c1_i32_6 : BitVec 32 := 1#32
  let v17 : BitVec 1 := Scalar.cmpi .eq v9 c1_i32_6
  let c1_i32_9 : BitVec 32 := 1#32
  let c30_i32 : BitVec 32 := 30#32
  let v18 : BitVec 1 := Scalar.cmpi .eq v9 c30_i32
  let c3_i32 : BitVec 32 := 3#32
  let c31_i32 : BitVec 32 := 31#32
  let v19 : BitVec 1 := Scalar.cmpi .eq v9 c31_i32
  let c4_i32_7 : BitVec 32 := 4#32
  let c2_i32_8 : BitVec 32 := 2#32
  let v20 : BitVec 32 := Scalar.select v19 c4_i32_7 c2_i32_8
  let v21 : BitVec 32 := Scalar.select v18 c3_i32 v20
  let v22 : BitVec 32 := Scalar.select v17 c1_i32_9 v21
  let v23 : BitVec 32 := Scalar.select v16 c0_i32_10 v22
  let v304 : Index := Scalar.indexCast v23
  let c1_204 : Index := 1#32
  let c0_205 : Index := 0#32
  let c0_206 : Index := 0#32
  ![0, 1, v304.toNat, 1, 0, 0]
def k0_off10 (k0_t1 : Fin k0_t1_loop.trips) (c0_i32_1 : BitVec 32) : Fin 6 → Nat :=
  let c0_207 : Index := 0#32
  let c1_208 : Index := 1#32
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let v9 : BitVec 32 := Scalar.addi v8 c0_i32_1
  let c0_i32_5 : BitVec 32 := 0#32
  let v16 : BitVec 1 := Scalar.cmpi .eq v9 c0_i32_5
  let c0_i32_10 : BitVec 32 := 0#32
  let c1_i32_6 : BitVec 32 := 1#32
  let v17 : BitVec 1 := Scalar.cmpi .eq v9 c1_i32_6
  let c1_i32_9 : BitVec 32 := 1#32
  let c30_i32 : BitVec 32 := 30#32
  let v18 : BitVec 1 := Scalar.cmpi .eq v9 c30_i32
  let c3_i32 : BitVec 32 := 3#32
  let c31_i32 : BitVec 32 := 31#32
  let v19 : BitVec 1 := Scalar.cmpi .eq v9 c31_i32
  let c4_i32_7 : BitVec 32 := 4#32
  let c2_i32_8 : BitVec 32 := 2#32
  let v20 : BitVec 32 := Scalar.select v19 c4_i32_7 c2_i32_8
  let v21 : BitVec 32 := Scalar.select v18 c3_i32 v20
  let v22 : BitVec 32 := Scalar.select v17 c1_i32_9 v21
  let v23 : BitVec 32 := Scalar.select v16 c0_i32_10 v22
  let v307 : Index := Scalar.indexCast v23
  let c2_209 : Index := 2#32
  let c0_210 : Index := 0#32
  let c0_211 : Index := 0#32
  ![0, 1, v307.toNat, 2, 0, 0]
def k0_off11 (k0_t1 : Fin k0_t1_loop.trips) (c0_i32_1 : BitVec 32) : Fin 6 → Nat :=
  let c0_212 : Index := 0#32
  let c1_213 : Index := 1#32
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let v9 : BitVec 32 := Scalar.addi v8 c0_i32_1
  let c0_i32_5 : BitVec 32 := 0#32
  let v16 : BitVec 1 := Scalar.cmpi .eq v9 c0_i32_5
  let c0_i32_10 : BitVec 32 := 0#32
  let c1_i32_6 : BitVec 32 := 1#32
  let v17 : BitVec 1 := Scalar.cmpi .eq v9 c1_i32_6
  let c1_i32_9 : BitVec 32 := 1#32
  let c30_i32 : BitVec 32 := 30#32
  let v18 : BitVec 1 := Scalar.cmpi .eq v9 c30_i32
  let c3_i32 : BitVec 32 := 3#32
  let c31_i32 : BitVec 32 := 31#32
  let v19 : BitVec 1 := Scalar.cmpi .eq v9 c31_i32
  let c4_i32_7 : BitVec 32 := 4#32
  let c2_i32_8 : BitVec 32 := 2#32
  let v20 : BitVec 32 := Scalar.select v19 c4_i32_7 c2_i32_8
  let v21 : BitVec 32 := Scalar.select v18 c3_i32 v20
  let v22 : BitVec 32 := Scalar.select v17 c1_i32_9 v21
  let v23 : BitVec 32 := Scalar.select v16 c0_i32_10 v22
  let v310 : Index := Scalar.indexCast v23
  let c3_214 : Index := 3#32
  let c0_215 : Index := 0#32
  let c0_216 : Index := 0#32
  ![0, 1, v310.toNat, 3, 0, 0]
def k0_off12 (k0_t1 : Fin k0_t1_loop.trips) (c0_i32_1 : BitVec 32) : Fin 6 → Nat :=
  let c0_217 : Index := 0#32
  let c1_218 : Index := 1#32
  let c8_i32 : BitVec 32 := 8#32
  let c0_i32 : BitVec 32 := 0#32
  let c1_i32 : BitVec 32 := 1#32
  let arg6 : BitVec 32 := Scf.iv c0_i32 c1_i32 k0_t1
  let v8 : BitVec 32 := Scalar.muli c8_i32 arg6
  let v9 : BitVec 32 := Scalar.addi v8 c0_i32_1
  let c0_i32_5 : BitVec 32 := 0#32
  let v16 : BitVec 1 := Scalar.cmpi .eq v9 c0_i32_5
  let c0_i32_10 : BitVec 32 := 0#32
  let c1_i32_6 : BitVec 32 := 1#32
  let v17 : BitVec 1 := Scalar.cmpi .eq v9 c1_i32_6
  let c1_i32_9 : BitVec 32 := 1#32
  let c30_i32 : BitVec 32 := 30#32
  let v18 : BitVec 1 := Scalar.cmpi .eq v9 c30_i32
  let c3_i32 : BitVec 32 := 3#32
  let c31_i32 : BitVec 32 := 31#32
  let v19 : BitVec 1 := Scalar.cmpi .eq v9 c31_i32
  let c4_i32_7 : BitVec 32 := 4#32
  let c2_i32_8 : BitVec 32 := 2#32
  let v20 : BitVec 32 := Scalar.select v19 c4_i32_7 c2_i32_8
  let v21 : BitVec 32 := Scalar.select v18 c3_i32 v20
  let v22 : BitVec 32 := Scalar.select v17 c1_i32_9 v21
  let v23 : BitVec 32 := Scalar.select v16 c0_i32_10 v22
  let v313 : Index := Scalar.indexCast v23
  let c4_219 : Index := 4#32
  let c0_220 : Index := 0#32
  let c0_221 : Index := 0#32
  ![0, 1, v313.toNat, 4, 0, 0]
def cc0_transform_0 (i : grid0.Coords) : Fin 2 → Nat :=
  let arg0 : BitVec 32 := BitVec.ofNat 32 (i 0).val
  let c18_i32 : BitVec 32 := 18#32
  let v0 : BitVec 32 := Scalar.addi arg0 c18_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_3 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x5x5x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference32Ideal.lean ====
abbrev S4096x3072 : Shape := ⟨2, ![4096, 3072]⟩
abbrev S2x2x5x5x128x128 : Shape := ⟨6, ![2, 2, 5, 5, 128, 128]⟩
abbrev S4096x256 : Shape := ⟨2, ![4096, 256]⟩
abbrev S4096x4x64 : Shape := ⟨3, ![4096, 4, 64]⟩
abbrev S4x4096x64 : Shape := ⟨3, ![4, 4096, 64]⟩
abbrev S32 : Shape := ⟨1, ![32]⟩
abbrev S_ : Shape := ⟨0, ![]⟩
abbrev S32x1 : Shape := ⟨2, ![32, 1]⟩
abbrev S640 : Shape := ⟨1, ![640]⟩
abbrev S1x640 : Shape := ⟨2, ![1, 640]⟩
abbrev S32x640 : Shape := ⟨2, ![32, 640]⟩
abbrev S4x5x5x128x128 : Shape := ⟨5, ![4, 5, 5, 128, 128]⟩
abbrev S4x32x5x128x128 : Shape := ⟨5, ![4, 32, 5, 128, 128]⟩
abbrev S4x32x128x5x128 : Shape := ⟨5, ![4, 32, 128, 5, 128]⟩
abbrev S4x32x128x640 : Shape := ⟨4, ![4, 32, 128, 640]⟩
abbrev S4x32x128x64 : Shape := ⟨4, ![4, 32, 128, 64]⟩
abbrev S32x640x1 : Shape := ⟨3, ![32, 640, 1]⟩
abbrev S4x32x640x64 : Shape := ⟨4, ![4, 32, 640, 64]⟩
abbrev S4x32x128 : Shape := ⟨3, ![4, 32, 128]⟩
abbrev S4x32x128x1 : Shape := ⟨4, ![4, 32, 128, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S2x2x5x5x128x128, .f32⟩
  | .hbm, ⟨2, _⟩ => ⟨S4096x256, .f32⟩
  | .hbm, ⟨3, _⟩ => ⟨S4096x4x64, .f32⟩
  | .hbm, ⟨4, _⟩ => ⟨S4x4096x64, .f32⟩
  | .hbm, ⟨5, _⟩ => ⟨S4096x256, .f32⟩
  | .hbm, ⟨6, _⟩ => ⟨S4096x4x64, .f32⟩
  | .hbm, ⟨7, _⟩ => ⟨S4x4096x64, .f32⟩
  | .hbm, ⟨8, _⟩ => ⟨S4096x256, .f32⟩
  | .hbm, ⟨9, _⟩ => ⟨S4096x4x64, .f32⟩
  | .hbm, ⟨10, _⟩ => ⟨S4x4096x64, .f32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32x1, .i32⟩
  | .hbm, ⟨25, _⟩ => ⟨S_, .i32⟩
  | .hbm, ⟨26, _⟩ => ⟨S32x1, .i32⟩
  | .hbm, ⟨27, _⟩ => ⟨S32x1, .i32⟩
  | .hbm, ⟨28, _⟩ => ⟨S640, .i32⟩
  | .hbm, ⟨29, _⟩ => ⟨S1x640, .i32⟩
  | .hbm, ⟨30, _⟩ => ⟨S32x640, .i32⟩
  | .hbm, ⟨31, _⟩ => ⟨S32x640, .i32⟩
  | .hbm, ⟨32, _⟩ => ⟨S32x640, .i32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S_, .i32⟩
  | .hbm, ⟨37, _⟩ => ⟨S32, .i32⟩
  | .hbm, ⟨38, _⟩ => ⟨S32, .i1⟩
  | .hbm, ⟨39, _⟩ => ⟨S_, .i32⟩
  | .hbm, ⟨40, _⟩ => ⟨S32, .i32⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32, .i32⟩
  | .hbm, ⟨45, _⟩ => ⟨S32, .i32⟩
  | .hbm, ⟨46, _⟩ => ⟨S4x5x5x128x128, .f32⟩
  | .hbm, ⟨47, _⟩ => ⟨S32x1, .i32⟩
  | .hbm, ⟨48, _⟩ => ⟨S4x32x5x128x128, .f32⟩
  | .hbm, ⟨49, _⟩ => ⟨S4x32x128x5x128, .f32⟩
  | .hbm, ⟨50, _⟩ => ⟨S4x32x128x640, .f32⟩
  | .hbm, ⟨51, _⟩ => ⟨S4x32x128x64, .f32⟩
  | .hbm, ⟨52, _⟩ => ⟨S32x640x1, .i32⟩
  | .hbm, ⟨53, _⟩ => ⟨S4x32x640x64, .f32⟩
  | .hbm, ⟨54, _⟩ => ⟨S4x32x128x640, .f32⟩
  | .hbm, ⟨55, _⟩ => ⟨S_, .f32⟩
  | .hbm, ⟨56, _⟩ => ⟨S4x32x128x640, .f32⟩
  | .hbm, ⟨57, _⟩ => ⟨S4x32x128x640, .f32⟩
  | .hbm, ⟨58, _⟩ => ⟨S4x32x128x640, .f32⟩
  | .hbm, ⟨59, _⟩ => ⟨S_, .f32⟩
  | .hbm, ⟨60, _⟩ => ⟨S4x32x128, .f32⟩
  | .hbm, ⟨61, _⟩ => ⟨S_, .f32⟩
  | .hbm, ⟨62, _⟩ => ⟨S4x32x128, .f32⟩
  | .hbm, ⟨63, _⟩ => ⟨S4x32x128, .f32⟩
  | .hbm, ⟨64, _⟩ => ⟨S4x32x128x1, .f32⟩
  | .hbm, ⟨65, _⟩ => ⟨S4x32x128x640, .f32⟩
  | .hbm, ⟨66, _⟩ => ⟨S4x32x128x640, .f32⟩
  | .hbm, ⟨67, _⟩ => ⟨S4x32x128x640, .f32⟩
  | .hbm, ⟨68, _⟩ => ⟨S_, .f32⟩
  | .hbm, ⟨69, _⟩ => ⟨S4x32x128, .f32⟩
  | .hbm, ⟨70, _⟩ => ⟨S4x32x128x1, .f32⟩
  | .hbm, ⟨71, _⟩ => ⟨S4x32x128x640, .f32⟩
  | .hbm, ⟨72, _⟩ => ⟨S4x32x128x640, .f32⟩
  | .hbm, ⟨73, _⟩ => ⟨S32x640x1, .i32⟩
  | .hbm, ⟨74, _⟩ => ⟨S4x32x640x64, .f32⟩
  | .hbm, ⟨75, _⟩ => ⟨S4x32x128x64, .f32⟩
  | .hbm, ⟨76, _⟩ => ⟨S4x4096x64, .f32⟩
  | .hbm, ⟨77, _⟩ => ⟨S4096x4x64, .f32⟩
  | .hbm, ⟨78, _⟩ => ⟨S4096x256, .f32⟩
  | .hbm, ⟨79, _⟩ => ⟨S4096x256, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_4 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_v28 : Ref sig .tc := ⟨.hbm, 37, rfl⟩
abbrev main_v29 : Ref sig .tc := ⟨.hbm, 38, rfl⟩
abbrev main_c_6 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== Proof.Pieces.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.Tactic
public import Idealize.ShloMosaic.Lib.WordCmp

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body computes, as functions of blocks -/

/-- The upper 256 rows of a block of 512. -/
abbrev rTop : Rect S512x1024 := Rect.unit (s := S512x1024) ![0, 0] S256x1024.size inb_S512x1024_S256x1024_0_0
/-- The lower 256 rows. -/
abbrev rBot : Rect S512x1024 := Rect.unit (s := S512x1024) ![256, 0] S256x1024.size inb_S512x1024_S256x1024_256_0
/-- The first and the second row of the block of parameter gradients. -/
abbrev rRow0 : Rect S8x1024 := Rect.unit (s := S8x1024) ![0, 0] S1x1024.size inb_S8x1024_S1x1024_0_0
abbrev rRow1 : Rect S8x1024 := Rect.unit (s := S8x1024) ![1, 0] S1x1024.size inb_S8x1024_S1x1024_1_0

/-- A block's upper half, its lower half, and the block two halves make. -/
def lo {e : EltTy} (x : Vec F S512x1024 e) : Vec F S256x1024 e := View.ld x rTop
def hi {e : EltTy} (x : Vec F S512x1024 e) : Vec F S256x1024 e := View.ld x rBot
def join {e : EltTy} (a b : Vec F S256x1024 e) : Vec F S512x1024 e :=
  View.canon (Val := Elt F) [⟨rBot, b⟩, ⟨rTop, a⟩]

/-- The blocks the body reads at one point. -/
structure Ins (F : FTy → Type) where
  x0 : Vec F S512x1024 .f32
  x1 : Vec F S512x1024 .f32
  x2 : Vec F S512x1024 .bf16
  x3 : Vec F S512x1024 .bf16
  x4 : Vec F S1024x1024 .bf16
  x5 : Vec F S1024x1024 .bf16
  x6 : Vec F S1024x1024 .bf16
  x7 : Vec F S1x1024 .f32

/-- The gradient of the norm's argument, rounded; the accumulator's first value; the rows of parameter gradients. -/
def dzbOf (X : Ins F) : Vec F S512x1024 .bf16 := k0_pay8 X.x0 X.x1 X.x7
def accInit (X : Ins F) : Vec F S512x1024 .f32 := k0_pay10 (k0_pay6 X.x0 X.x1 X.x7)
def dlnOf (X : Ins F) (L : Vec F S8x1024 .f32) : Vec F S8x1024 .f32 :=
  View.canon (Val := Elt F) [⟨rRow1, k0_pay12 X.x0 (View.ld L rRow1)⟩, ⟨rRow0, k0_pay11 (k0_pay7 X.x0 X.x1) (View.ld L rRow0)⟩,
    ⟨Rect.unit (s := S8x1024) ![0, 0] S8x1024.size inb_S8x1024_S8x1024_0_0, L⟩]
/-- The hidden activation; the gradients of the two projections from the block `D`; the accumulator one step on. -/
def hidOf (X : Ins F) : Vec F S512x1024 .bf16 := join (k0_pay19 (lo X.x2) (lo X.x3)) (k0_pay29 (hi X.x2) (hi X.x3))
def dupTop (X : Ins F) (D : Vec F S512x1024 .bf16) : Vec F S256x1024 .bf16 := k0_pay20 (lo D) X.x6 (lo X.x2)
def dupBot (X : Ins F) (D : Vec F S512x1024 .bf16) : Vec F S256x1024 .bf16 := k0_pay30 (k0_pay14 (hi D) X.x6) (hi X.x2)
def dupOf (X : Ins F) (D : Vec F S512x1024 .bf16) : Vec F S512x1024 .bf16 := join (dupTop X D) (dupBot X D)
def dgpOf (X : Ins F) (D : Vec F S512x1024 .bf16) : Vec F S512x1024 .bf16 :=
  join (k0_pay23 (k0_pay15 (lo X.x2)) (k0_pay17 (lo X.x2)) (k0_pay21 (lo D) X.x6 (lo X.x3)) k0_pay22)
    (k0_pay1 (k0_pay25 (hi X.x2)) (k0_pay27 (hi X.x2)) (k0_pay31 (k0_pay14 (hi D) X.x6) (hi X.x3)))
def accOf (X : Ins F) (D : Vec F S512x1024 .bf16) (A : Vec F S512x1024 .f32) : Vec F S512x1024 .f32 :=
  join (k0_pay24 (k0_pay15 (lo X.x2)) (k0_pay17 (lo X.x2)) (dupTop X D) (k0_pay21 (lo D) X.x6 (lo X.x3)) k0_pay22 (lo A) X.x4 X.x5)
    (k0_pay2 (k0_pay25 (hi X.x2)) (k0_pay27 (hi X.x2)) (dupBot X D) (k0_pay31 (k0_pay14 (hi D) X.x6) (hi X.x3)) (hi A) X.x4 X.x5)

/-! ## The body, run -/

/-- The buffers the body is given. -/
structure Mems where
  a2 : Memref sig .tc .vmem S512x1024 .f32
  h2 : a2.IsWhole
  a3 : Memref sig .tc .vmem S512x1024 .f32
  h3 : a3.IsWhole
  a4 : Memref sig .tc .vmem S512x1024 .bf16
  h4 : a4.IsWhole
  a5 : Memref sig .tc .vmem S512x1024 .bf16
  h5 : a5.IsWhole
  a6 : Memref sig .tc .vmem S1024x1024 .bf16
  h6 : a6.IsWhole
  a7 : Memref sig .tc .vmem S1024x1024 .bf16
  h7 : a7.IsWhole
  a8 : Memref sig .tc .vmem S1024x1024 .bf16
  h8 : a8.IsWhole
  a9 : Memref sig .tc .vmem S1x1024 .f32
  h9 : a9.IsWhole
  a11 : Memref sig .tc .vmem S512x1024 .f32
  h11 : a11.IsWhole
  a12 : Memref sig .tc .vmem S512x1024 .bf16
  h12 : a12.IsWhole
  a13 : Memref sig .tc .vmem S512x1024 .bf16
  h13 : a13.IsWhole
  a14 : Memref sig .tc .vmem S512x1024 .bf16
  h14 : a14.IsWhole
  a15 : Memref sig .tc .vmem S512x1024 .bf16
  h15 : a15.IsWhole
  a16 : Memref sig .tc .vmem S8x1024 .f32
  h16 : a16.IsWhole
  a17 : Memref sig .tc .vmem S512x1024 .f32
  h17 : a17.IsWhole

/-- The body on them. -/
abbrev bodyOn (i : grid0.Coords) (M : Mems) :=
  cc0_ffn_bwd (F := F) i M.a2 M.h2 M.a3 M.h3 M.a4 M.h4 M.a5 M.h5 M.a6 M.h6 M.a7 M.h7 M.a8 M.h8 M.a9 M.h9 (Memref.whole main_v10) (Memref.isWhole_whole _) M.a11 M.h11 M.a12 M.h12 M.a13 M.h13 M.a14 M.h14 M.a15 M.h15 M.a16 M.h16 M.a17 M.h17

/-- The inputs' buffers at their blocks. -/
def insOwn (c : Dev nD) (M : Mems) (X : Ins F) : sProp 𝕄 :=
  iprop(owns (c : Thread nD τ) M.a2 fullShare X.x0 ∗ owns (c : Thread nD τ) M.a3 fullShare X.x1 ∗ owns (c : Thread nD τ) M.a4 fullShare X.x2 ∗ owns (c : Thread nD τ) M.a5 fullShare X.x3 ∗ owns (c : Thread nD τ) M.a6 fullShare X.x4 ∗ owns (c : Thread nD τ) M.a7 fullShare X.x5 ∗ owns (c : Thread nD τ) M.a8 fullShare X.x6 ∗ owns (c : Thread nD τ) M.a9 fullShare X.x7)

/-- What the body leaves: `x8` in the buffer of the first result, `D` the gradient of the norm's argument, `L` the
    parameter gradients, `A` the accumulator as the point's products found it. -/
def outsOwn (c : Dev nD) (M : Mems) (X : Ins F) (x8 : Vec F S512x1024 .f32) (D : Vec F S512x1024 .bf16) (L : Vec F S8x1024 .f32)
    (A : Vec F S512x1024 .f32) : sProp 𝕄 :=
  iprop(insOwn c M X ∗ owns (c : Thread nD τ) M.a11 fullShare x8 ∗ owns (c : Thread nD τ) M.a12 fullShare (dgpOf X D)
    ∗ owns (c : Thread nD τ) M.a13 fullShare (dupOf X D) ∗ owns (c : Thread nD τ) M.a14 fullShare (hidOf X)
    ∗ owns (c : Thread nD τ) M.a15 fullShare D ∗ owns (c : Thread nD τ) M.a16 fullShare L
    ∗ owns (c : Thread nD τ) M.a17 fullShare (accOf X D A))

theorem canon_off {S : Shape} {e : EltTy} (r : Rect S) (w : r.shape.Idx → Elt F e) (L : List (View.Piece (Elt F) S e)) {y : S.Idx}
    (h : y ∉ r.set) : View.canon (Val := Elt F) (⟨r, w⟩ :: L) y = View.canon L y :=
  View.canon_cons_of_not_mem ⟨r, w⟩ L h

theorem mem_whole {S : Shape} {off : Fin S.rank → Nat} (hz : ∀ a, off a = 0) (inb : ∀ a, off a + S.size a ≤ S.size a) (y : S.Idx) :
    y ∈ (Rect.unit (s := S) off S.size inb).set := by
  rw [Rect.mem_set_unit]; intro a; rw [hz a]; exact ⟨Nat.zero_le _, by rw [Nat.zero_add]; exact (y a).isLt⟩

theorem mem_top_or_bot (y : S512x1024.Idx) : y ∈ rTop.set ∨ y ∈ rBot.set := by
  have h1 := (y 1).isLt
  have h0 := (y 0).isLt
  by_cases h : (y 0).val < 256
  · left; rw [Rect.mem_set_unit]
    refine Fin.forall_fin_two.mpr ⟨⟨Nat.zero_le _, ?_⟩, ⟨Nat.zero_le _, ?_⟩⟩
    · show (y 0).val < 0 + 256
      omega
    · show (y 1).val < 0 + 1024
      have : (y 1).val < 1024 := h1
      omega
  · right; rw [Rect.mem_set_unit]
    refine Fin.forall_fin_two.mpr ⟨⟨?_, ?_⟩, ⟨Nat.zero_le _, ?_⟩⟩
    · show 256 ≤ (y 0).val
      omega
    · show (y 0).val < 256 + 256
      exact h0
    · show (y 1).val < 0 + 1024
      have : (y 1).val < 1024 := h1
      omega

theorem canon_halves {e : EltTy} (a b : Vec F S256x1024 e) (L : List (View.Piece (Elt F) S512x1024 e)) :
    View.canon (Val := Elt F) (⟨rBot, b⟩ :: ⟨rTop, a⟩ :: L) = join a b := by
  funext y
  unfold join
  by_cases h : y ∈ rBot.set
  · obtain ⟨x, rfl⟩ : ∃ x, rBot.emb x = y := rBot.exists_idx_of_mem h
    rw [View.canon_cons_emb, View.canon_cons_emb]
  · have h' : y ∈ rTop.set := (mem_top_or_bot y).resolve_right h
    rw [canon_off _ _ _ h, canon_off _ _ _ h]
    obtain ⟨x, rfl⟩ : ∃ x, rTop.emb x = y := rTop.exists_idx_of_mem h'
    rw [View.canon_cons_emb, View.canon_cons_emb]

/-- Two halves stored, the lower one last, leave the block they make. -/
theorem read_halves {e : EltTy} (v : View sig .tc .vmem S512x1024 e) (f : v.ty.Contents (Elt F)) (a b : Vec F S256x1024 e)
    (L : List (View.Piece (Elt F) S512x1024 e)) :
    v.read (Elt F) (v.writes (Elt F) f (⟨rBot, b⟩ :: ⟨rTop, a⟩ :: L)) = join a b := by
  rw [View.read_writes_eq_canon _ _ _ fun y => ?_, canon_halves]
  rcases mem_top_or_bot y with h | h
  · exact ⟨⟨rTop, a⟩, by simp, h⟩
  · exact ⟨⟨rBot, b⟩, by simp, h⟩

/-- Rows loaded after a store of the whole block are its rows. -/
theorem readCov_whole {S : Shape} {e : EltTy} {sg : RefSig} (v : View sg .tc .vmem S e) {off : Fin S.rank → Nat} (hz : ∀ a, off a = 0)
    (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon_ld _ _ _ fun y => ⟨⟨Rect.unit off S.size inb, w⟩, List.mem_singleton.mpr rfl, mem_whole hz inb y⟩, View.canon_unit_zero (funext hz)]

theorem hz2 (a : Fin 2) : (![0, 0] : Fin 2 → Nat) a = 0 := by fin_cases a <;> rfl
theorem hz2' : (![0, 0] : Fin 2 → Nat) = fun _ => 0 := funext hz2

theorem ldW {e : EltTy} (x : Vec F S1024x1024 e) (inb) : View.ld x (Rect.unit (s := S1024x1024) ![0, 0] S1024x1024.size inb) = x :=
  View.ld_unit_zero hz2' inb x
theorem ldW' {e : EltTy} (x : Vec F S1024x1024 e) (inb) : View.ld x (Rect.unit (s := S1024x1024) ![0, 0] ![1024, 1024] inb) = x :=
  View.ld_unit_zero hz2' inb x
theorem ldB {e : EltTy} (x : Vec F S512x1024 e) (inb) : View.ld x (Rect.unit (s := S512x1024) ![0, 0] S512x1024.size inb) = x :=
  View.ld_unit_zero hz2' inb x
theorem ldB' {e : EltTy} (x : Vec F S512x1024 e) (inb) : View.ld x (Rect.unit (s := S512x1024) ![0, 0] ![512, 1024] inb) = x :=
  View.ld_unit_zero hz2' inb x
theorem ldG {e : EltTy} (x : Vec F S1x1024 e) (inb) : View.ld x (Rect.unit (s := S1x1024) ![0, 0] S1x1024.size inb) = x :=
  View.ld_unit_zero hz2' inb x
theorem ldG' {e : EltTy} (x : Vec F S1x1024 e) (inb) : View.ld x (Rect.unit (s := S1x1024) ![0, 0] ![1, 1024] inb) = x :=
  View.ld_unit_zero hz2' inb x

theorem readCov_block {e : EltTy} (v : View sig .tc .vmem S512x1024 e) (inb) (w : Vec F S512x1024 e) (r : Rect S512x1024) :
    v.readCov [(⟨Rect.unit (s := S512x1024) ![0, 0] ![512, 1024] inb, w⟩ : View.Piece (Elt F) S512x1024 e)] r.toLoadRect = View.ld w r :=
  readCov_whole v hz2 inb w r
theorem readCov_block' {e : EltTy} (v : View sig .tc .vmem S512x1024 e) (inb) (w : Vec F S512x1024 e) (r : Rect S512x1024) :
    v.readCov [(⟨Rect.unit (s := S512x1024) ![0, 0] S512x1024.size inb, w⟩ : View.Piece (Elt F) S512x1024 e)] r.toLoadRect = View.ld w r :=
  readCov_whole v hz2 inb w r

theorem bot_not_mem_top (x : rBot.shape.Idx) : rBot.emb x ∉ rTop.set := by
  rw [Rect.mem_set_unit]; intro h
  have h0 : ((rBot.emb x) 0).val < 0 + 256 := (h 0).2
  have : ((rBot.emb x) 0).val = 256 + 1 * (x 0).val := rfl
  omega

/-- The lower rows loaded after a store of the whole block and a store of its upper half. -/
theorem readCov_bot {e : EltTy} (v : View sig .tc .vmem S512x1024 e) (inb inb' inb'') (a : Vec F S256x1024 e) (w : Vec F S512x1024 e) :
    v.readCov [(⟨Rect.unit (s := S512x1024) ![0, 0] ![256, 1024] inb, a⟩ : View.Piece (Elt F) S512x1024 e),
        ⟨Rect.unit (s := S512x1024) ![0, 0] ![512, 1024] inb', w⟩]
      (Rect.unit (s := S512x1024) ![256, 0] ![256, 1024] inb'').toLoadRect = View.ld w rBot := by
  have key : v.readCov [(⟨rTop, a⟩ : View.Piece (Elt F) S512x1024 e), ⟨Rect.unit (s := S512x1024) ![0, 0] S512x1024.size inb', w⟩]
      rBot.toLoadRect = View.ld w rBot := by
    rw [View.readCov_eq_canon_ld _ _ _ fun y => ⟨⟨Rect.unit (s := S512x1024) ![0, 0] S512x1024.size inb', w⟩, by simp, mem_whole hz2 inb' y⟩]
    funext x
    show View.canon _ (rBot.emb x) = w (rBot.emb x)
    rw [canon_off _ _ _ (bot_not_mem_top x), View.canon_unit_zero hz2']
  exact key

theorem row1_not_mem_row0 (x : rRow1.shape.Idx) : rRow1.emb x ∉ rRow0.set := by
  rw [Rect.mem_set_unit]; intro h
  have h0 : ((rRow1.emb x) 0).val < 0 + 1 := (h 0).2
  have : ((rRow1.emb x) 0).val = 1 + 1 * (x 0).val := rfl
  omega

/-- The second row loaded after a store of the whole block and a store of its first row. -/
theorem readCov_row1 {e : EltTy} {sg : RefSig} (v : View sg .tc .vmem S8x1024 e) (inb inb' inb'') (a : Vec F S1x1024 e) (w : Vec F S8x1024 e) :
    v.readCov [(⟨Rect.unit (s := S8x1024) ![0, 0] ![1, 1024] inb, a⟩ : View.Piece (Elt F) S8x1024 e),
        ⟨Rect.unit (s := S8x1024) ![0, 0] ![8, 1024] inb', w⟩]
      (Rect.unit (s := S8x1024) ![1, 0] ![1, 1024] inb'').toLoadRect = View.ld w rRow1 := by
  have key : v.readCov [(⟨rRow0, a⟩ : View.Piece (Elt F) S8x1024 e), ⟨Rect.unit (s := S8x1024) ![0, 0] S8x1024.size inb', w⟩]
      rRow1.toLoadRect = View.ld w rRow1 := by
    rw [View.readCov_eq_canon_ld _ _ _ fun y => ⟨⟨Rect.unit (s := S8x1024) ![0, 0] S8x1024.size inb', w⟩, by simp, mem_whole hz2 inb' y⟩]
    funext x
    show View.canon _ (rRow1.emb x) = w (rRow1.emb x)
    rw [canon_off _ _ _ (row1_not_mem_row0 x), View.canon_unit_zero hz2']
  exact key

theorem readCov_rows {e : EltTy} {sg : RefSig} (v : View sg .tc .vmem S8x1024 e) (inb) (w : Vec F S8x1024 e) (r : Rect S8x1024) :
    v.readCov [(⟨Rect.unit (s := S8x1024) ![0, 0] ![8, 1024] inb, w⟩ : View.Piece (Elt F) S8x1024 e)] r.toLoadRect = View.ld w r :=
  readCov_whole v hz2 inb w r

/-- The block of two halves, loaded whole. -/
theorem readCov_halves {e : EltTy} (v : View sig .tc .vmem S512x1024 e) (inb) (a b : Vec F S256x1024 e) :
    v.readCov [(⟨rBot, b⟩ : View.Piece (Elt F) S512x1024 e), ⟨rTop, a⟩]
      (Rect.unit (s := S512x1024) ![0, 0] S512x1024.size inb).toLoadRect = join a b := by
  rw [View.readCov_eq_canon_ld _ _ _ fun y => ?_, canon_halves, View.ld_unit_zero hz2']
  rcases mem_top_or_bot y with h | h
  · exact ⟨⟨rTop, a⟩, by simp, h⟩
  · exact ⟨⟨rBot, b⟩, by simp, h⟩

theorem read_cons {S : Shape} {e : EltTy} {sg : RefSig} (v : View sg .tc .vmem S e) (f : v.ty.Contents (Elt F)) (p : View.Piece (Elt F) S e)
    (L : List (View.Piece (Elt F) S e)) (y : S.Idx) :
    v.read (Elt F) (v.writes (Elt F) f (p :: L)) y = p.1.overlay (v.read (Elt F) (v.writes (Elt F) f L)) p.2 y := by
  obtain ⟨r, w⟩ := p
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

theorem overlay_congr {S : Shape} {e : EltTy} (r : Rect S) (w : r.shape.Idx → Elt F e) (g g' : S.Idx → Elt F e) (h : g = g') (y : S.Idx) :
    r.overlay g w y = r.overlay g' w y := by rw [h]

/-- Its first two rows stored into a block that held `base`. -/
theorem read_two_rows {e : EltTy} {sg : RefSig} (v : View sg .tc .vmem S8x1024 e) (f : v.ty.Contents (Elt F)) (a b : Vec F S1x1024 e)
    (L : List (View.Piece (Elt F) S8x1024 e)) (inb) (base : Vec F S8x1024 e) (h : v.read (Elt F) (v.writes (Elt F) f L) = base) :
    v.read (Elt F) (v.writes (Elt F) f (⟨rRow1, b⟩ :: ⟨rRow0, a⟩ :: L)) =
      View.canon (Val := Elt F) [⟨rRow1, b⟩, ⟨rRow0, a⟩, ⟨Rect.unit (s := S8x1024) ![0, 0] S8x1024.size inb, base⟩] := by
  have hb : View.canon (Val := Elt F) [⟨Rect.unit (s := S8x1024) ![0, 0] S8x1024.size inb, base⟩] = base := View.canon_unit_zero hz2' inb base
  funext y
  refine (read_cons v f ⟨rRow1, b⟩ _ y).trans ?_
  refine overlay_congr rRow1 b _ _ ?_ y
  funext z
  refine (read_cons v f ⟨rRow0, a⟩ _ z).trans ?_
  exact overlay_congr rRow0 a _ _ (h.trans hb.symm) z

/-- One store of the whole block leaves it. -/
theorem read_block {S : Shape} {e : EltTy} (v : View sig .tc .vmem S e) (f : v.ty.Contents (Elt F)) {off : Fin S.rank → Nat} (hz : ∀ a, off a = 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ fun y => ⟨⟨Rect.unit off S.size inb, w⟩, List.mem_singleton.mpr rfl, mem_whole hz inb y⟩, View.canon_unit_zero (funext hz)]

end Cert.KernelIdeal.Ffn

end
-- ==== Proof.RunA.lean ====
module

public import proofs.«01_k».proof.Proof.Pieces
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.Tactic
public import Idealize.ShloMosaic.Lib.WordCmp

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
theorem runA (c : Dev nD) (i : grid0.Coords) (M : Mems) (hc0 : k0_cond1 i = 1#1) (hc1 : k0_cond2 i = 1#1) (hc2 : ¬ k0_cond3 i = 1#1) (X : Ins F) (x8 : Vec F S512x1024 .f32) (E : Set ℕ) (K : PUnit → sProp 𝕄) :
    iprop(insOwn c M X ∗ owns (c : Thread nD τ) M.a11 fullShare x8 ∗ (∃ d, owns (c : Thread nD τ) M.a12 fullShare d) ∗ (∃ d, owns (c : Thread nD τ) M.a13 fullShare d) ∗ (∃ d, owns (c : Thread nD τ) M.a14 fullShare d) ∗ (∃ d, owns (c : Thread nD τ) M.a15 fullShare d) ∗ (∃ d, owns (c : Thread nD τ) M.a16 fullShare d) ∗ (∃ d, owns (c : Thread nD τ) M.a17 fullShare d) ∗ (outsOwn c M X x8 (dzbOf X) (dlnOf X k0_pay9) (accInit X) -∗ K ⟨⟩))
      ⊢ wp frame (wpE (defs₀ (F := F)) Variants.none c none) E (bodyOn i M) K := by
  obtain ⟨a2, h2, a3, h3, a4, h4, a5, h5, a6, h6, a7, h7, a8, h8, a9, h9, a11, h11, a12, h12, a13, h13, a14, h14, a15, h15, a16, h16, a17, h17⟩ := M
  obtain ⟨x0, x1, x2, x3, x4, x5, x6, x7⟩ := X
  simp only [bodyOn, cc0_ffn_bwd_eq_skeleton]; unfold cc0_ffn_bwd_skel
  simp only [k0_part1_eq_skeleton, k0_part2_eq_skeleton, k0_part3_eq_skeleton]
  unfold outsOwn insOwn owns; dsimp only
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h11.eq_unread hf11
  sl_exec (disch := first | sl_exact hc0 | sl_exact hc1 | sl_exact hc2)
  sl_step
  iapply Hk
  isplitl [H2 H3 H4 H5 H6 H7 H8 H9]
  · isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    iexists _; isplitr; · ipureintro; exact h9.read_unread _
    iexact H9
  isplitl [H11]
  · iexists _; isplitr
    swap; · iexact H11
    ipureintro
    exact h11.read_unread _
  isplitl [H12]
  · iexists _; isplitr
    swap; · iexact H12
    ipureintro
    refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1]; rfl
  isplitl [H13]
  · iexists _; isplitr
    swap; · iexact H13
    ipureintro
    refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1]; rfl
  isplitl [H14]
  · iexists _; isplitr
    swap; · iexact H14
    ipureintro
    refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1]; rfl
  isplitl [H15]
  · iexists _; isplitr
    swap; · iexact H15
    ipureintro
    refine (read_block _ _ hz2 _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1]; rfl
  isplitl [H16]
  · iexists _; isplitr
    swap; · iexact H16
    ipureintro
    sl_unfold_words; refine (read_two_rows (F := F) a16.view _ _ _ _ inb_S8x1024_S8x1024_0_0 k0_pay9 (read_block _ _ hz2 _ _)).trans ?_; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1]; rfl
  iexists _; isplitr
  swap; · iexact H17
  ipureintro
  refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1]; rfl

end Cert.KernelIdeal.Ffn

end
-- ==== Proof.RunD.lean ====
module

public import proofs.«01_k».proof.Proof.RunA
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.Tactic
public import Idealize.ShloMosaic.Lib.WordCmp

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
theorem runD (c : Dev nD) (i : grid0.Coords) (M : Mems) (hc0 : ¬ k0_cond1 i = 1#1) (hc1 : k0_cond2 i = 1#1) (hc2 : ¬ k0_cond3 i = 1#1) (X : Ins F) (x8 : Vec F S512x1024 .f32) (L : Vec F S8x1024 .f32) (E : Set ℕ) (K : PUnit → sProp 𝕄) :
    iprop(insOwn c M X ∗ owns (c : Thread nD τ) M.a11 fullShare x8 ∗ (∃ d, owns (c : Thread nD τ) M.a12 fullShare d) ∗ (∃ d, owns (c : Thread nD τ) M.a13 fullShare d) ∗ (∃ d, owns (c : Thread nD τ) M.a14 fullShare d) ∗ (∃ d, owns (c : Thread nD τ) M.a15 fullShare d) ∗ owns (c : Thread nD τ) M.a16 fullShare L ∗ (∃ d, owns (c : Thread nD τ) M.a17 fullShare d) ∗ (outsOwn c M X x8 (dzbOf X) (dlnOf X L) (accInit X) -∗ K ⟨⟩))
      ⊢ wp frame (wpE (defs₀ (F := F)) Variants.none c none) E (bodyOn i M) K := by
  obtain ⟨a2, h2, a3, h3, a4, h4, a5, h5, a6, h6, a7, h7, a8, h8, a9, h9, a11, h11, a12, h12, a13, h13, a14, h14, a15, h15, a16, h16, a17, h17⟩ := M
  obtain ⟨x0, x1, x2, x3, x4, x5, x6, x7⟩ := X
  simp only [bodyOn, cc0_ffn_bwd_eq_skeleton]; unfold cc0_ffn_bwd_skel
  simp only [k0_part1_eq_skeleton, k0_part2_eq_skeleton, k0_part3_eq_skeleton]
  unfold outsOwn insOwn owns; dsimp only
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%d17, %f17, -, H17⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h11.eq_unread hf11; obtain rfl := h16.eq_unread hf16
  sl_exec (disch := first | sl_exact hc0 | sl_exact hc1 | sl_exact hc2)
  sl_step
  iapply Hk
  isplitl [H2 H3 H4 H5 H6 H7 H8 H9]
  · isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    iexists _; isplitr; · ipureintro; exact h9.read_unread _
    iexact H9
  isplitl [H11]
  · iexists _; isplitr
    swap; · iexact H11
    ipureintro
    exact h11.read_unread _
  isplitl [H12]
  · iexists _; isplitr
    swap; · iexact H12
    ipureintro
    refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h16.read_unread]; rfl
  isplitl [H13]
  · iexists _; isplitr
    swap; · iexact H13
    ipureintro
    refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h16.read_unread]; rfl
  isplitl [H14]
  · iexists _; isplitr
    swap; · iexact H14
    ipureintro
    refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h16.read_unread]; rfl
  isplitl [H15]
  · iexists _; isplitr
    swap; · iexact H15
    ipureintro
    refine (read_block _ _ hz2 _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h16.read_unread]; rfl
  isplitl [H16]
  · iexists _; isplitr
    swap; · iexact H16
    ipureintro
    refine (read_two_rows (F := F) a16.view _ _ _ [] inb_S8x1024_S8x1024_0_0 L (h16.read_unread _)).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h16.read_unread]; rfl
  iexists _; isplitr
  swap; · iexact H17
  ipureintro
  refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h16.read_unread]; rfl

end Cert.KernelIdeal.Ffn

end
-- ==== Proof.RunB.lean ====
module

public import proofs.«01_k».proof.Proof.RunD
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.Tactic
public import Idealize.ShloMosaic.Lib.WordCmp

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
theorem runB (c : Dev nD) (i : grid0.Coords) (M : Mems) (hc0 : ¬ k0_cond1 i = 1#1) (hc1 : ¬ k0_cond2 i = 1#1) (hc2 : ¬ k0_cond3 i = 1#1) (X : Ins F) (x8 : Vec F S512x1024 .f32) (D : Vec F S512x1024 .bf16) (L : Vec F S8x1024 .f32) (A : Vec F S512x1024 .f32) (E : Set ℕ) (K : PUnit → sProp 𝕄) :
    iprop(insOwn c M X ∗ owns (c : Thread nD τ) M.a11 fullShare x8 ∗ (∃ d, owns (c : Thread nD τ) M.a12 fullShare d) ∗ (∃ d, owns (c : Thread nD τ) M.a13 fullShare d) ∗ (∃ d, owns (c : Thread nD τ) M.a14 fullShare d) ∗ owns (c : Thread nD τ) M.a15 fullShare D ∗ owns (c : Thread nD τ) M.a16 fullShare L ∗ owns (c : Thread nD τ) M.a17 fullShare A ∗ (outsOwn c M X x8 D L A -∗ K ⟨⟩))
      ⊢ wp frame (wpE (defs₀ (F := F)) Variants.none c none) E (bodyOn i M) K := by
  obtain ⟨a2, h2, a3, h3, a4, h4, a5, h5, a6, h6, a7, h7, a8, h8, a9, h9, a11, h11, a12, h12, a13, h13, a14, h14, a15, h15, a16, h16, a17, h17⟩ := M
  obtain ⟨x0, x1, x2, x3, x4, x5, x6, x7⟩ := X
  simp only [bodyOn, cc0_ffn_bwd_eq_skeleton]; unfold cc0_ffn_bwd_skel
  simp only [k0_part1_eq_skeleton, k0_part2_eq_skeleton, k0_part3_eq_skeleton]
  unfold outsOwn insOwn owns; dsimp only
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%f17, %hf17, H17⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h11.eq_unread hf11; obtain rfl := h15.eq_unread hf15; obtain rfl := h16.eq_unread hf16; obtain rfl := h17.eq_unread hf17
  sl_exec (disch := first | sl_exact hc0 | sl_exact hc1 | sl_exact hc2)
  sl_step
  iapply Hk
  isplitl [H2 H3 H4 H5 H6 H7 H8 H9]
  · isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    iexists _; isplitr; · ipureintro; exact h9.read_unread _
    iexact H9
  isplitl [H11]
  · iexists _; isplitr
    swap; · iexact H11
    ipureintro
    exact h11.read_unread _
  isplitl [H12]
  · iexists _; isplitr
    swap; · iexact H12
    ipureintro
    refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h15.read_unread, h16.read_unread, h17.read_unread]; rfl
  isplitl [H13]
  · iexists _; isplitr
    swap; · iexact H13
    ipureintro
    refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h15.read_unread, h16.read_unread, h17.read_unread]; rfl
  isplitl [H14]
  · iexists _; isplitr
    swap; · iexact H14
    ipureintro
    refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h15.read_unread, h16.read_unread, h17.read_unread]; rfl
  isplitl [H15]
  · iexists _; isplitr
    swap; · iexact H15
    ipureintro
    exact h15.read_unread _
  isplitl [H16]
  · iexists _; isplitr
    swap; · iexact H16
    ipureintro
    exact h16.read_unread _
  iexists _; isplitr
  swap; · iexact H17
  ipureintro
  refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h15.read_unread, h16.read_unread, h17.read_unread]; rfl

end Cert.KernelIdeal.Ffn

end
-- ==== Proof.RunC.lean ====
module

public import proofs.«01_k».proof.Proof.RunB
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.Tactic
public import Idealize.ShloMosaic.Lib.WordCmp

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
theorem runC (c : Dev nD) (i : grid0.Coords) (M : Mems) (hc0 : ¬ k0_cond1 i = 1#1) (hc1 : ¬ k0_cond2 i = 1#1) (hc2 : k0_cond3 i = 1#1) (X : Ins F) (D : Vec F S512x1024 .bf16) (L : Vec F S8x1024 .f32) (A : Vec F S512x1024 .f32) (E : Set ℕ) (K : PUnit → sProp 𝕄) :
    iprop(insOwn c M X ∗ (∃ d, owns (c : Thread nD τ) M.a11 fullShare d) ∗ (∃ d, owns (c : Thread nD τ) M.a12 fullShare d) ∗ (∃ d, owns (c : Thread nD τ) M.a13 fullShare d) ∗ (∃ d, owns (c : Thread nD τ) M.a14 fullShare d) ∗ owns (c : Thread nD τ) M.a15 fullShare D ∗ owns (c : Thread nD τ) M.a16 fullShare L ∗ owns (c : Thread nD τ) M.a17 fullShare A ∗ (outsOwn c M X (accOf X D A) D L A -∗ K ⟨⟩))
      ⊢ wp frame (wpE (defs₀ (F := F)) Variants.none c none) E (bodyOn i M) K := by
  obtain ⟨a2, h2, a3, h3, a4, h4, a5, h5, a6, h6, a7, h7, a8, h8, a9, h9, a11, h11, a12, h12, a13, h13, a14, h14, a15, h15, a16, h16, a17, h17⟩ := M
  obtain ⟨x0, x1, x2, x3, x4, x5, x6, x7⟩ := X
  simp only [bodyOn, cc0_ffn_bwd_eq_skeleton]; unfold cc0_ffn_bwd_skel
  simp only [k0_part1_eq_skeleton, k0_part2_eq_skeleton, k0_part3_eq_skeleton]
  unfold outsOwn insOwn owns; dsimp only
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%f17, %hf17, H17⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h15.eq_unread hf15; obtain rfl := h16.eq_unread hf16; obtain rfl := h17.eq_unread hf17
  sl_exec (disch := first | sl_exact hc0 | sl_exact hc1 | sl_exact hc2)
  sl_step
  iapply Hk
  isplitl [H2 H3 H4 H5 H6 H7 H8 H9]
  · isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    iexists _; isplitr; · ipureintro; exact h9.read_unread _
    iexact H9
  isplitl [H11]
  · iexists _; isplitr
    swap; · iexact H11
    ipureintro
    refine (read_block (F := F) a11.view _ hz2 _ _).trans ?_; sl_unfold_words; refine (readCov_halves (F := F) a17.view _ _ _).trans ?_; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h15.read_unread, h16.read_unread, h17.read_unread]; rfl
  isplitl [H12]
  · iexists _; isplitr
    swap; · iexact H12
    ipureintro
    refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h15.read_unread, h16.read_unread, h17.read_unread]; rfl
  isplitl [H13]
  · iexists _; isplitr
    swap; · iexact H13
    ipureintro
    refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h15.read_unread, h16.read_unread, h17.read_unread]; rfl
  isplitl [H14]
  · iexists _; isplitr
    swap; · iexact H14
    ipureintro
    refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h15.read_unread, h16.read_unread, h17.read_unread]; rfl
  isplitl [H15]
  · iexists _; isplitr
    swap; · iexact H15
    ipureintro
    exact h15.read_unread _
  isplitl [H16]
  · iexists _; isplitr
    swap; · iexact H16
    ipureintro
    exact h16.read_unread _
  iexists _; isplitr
  swap; · iexact H17
  ipureintro
  refine (read_halves _ _ _ _ _).trans ?_; sl_unfold_words; simp only [View.readAt_eq_ld, h2.read_unread, h3.read_unread, h4.read_unread, h5.read_unread, h6.read_unread, h7.read_unread, h8.read_unread, h9.read_unread, ldW, ldW', ldB, ldB', ldG, ldG', readCov_block, readCov_block', readCov_bot, readCov_rows, readCov_row1, h15.read_unread, h16.read_unread, h17.read_unread]; rfl

end Cert.KernelIdeal.Ffn

end
-- ==== Proof.Data.lean ====
module

public import proofs.«01_k».proof.Proof.RunC
public import proofs.«01_k».proof.Proof.Gen.KernelIdeal.Frame
public import Idealize.ShloMosaic.Lib.Pipeline.TableIdle
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.Tactic
public import Idealize.ShloMosaic.Lib.WordCmp

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is -/

theorem cond1_iff (t : Fin cfg0.N) : k0_cond1 (grid0.coords t) = 1#1 ↔ t.val % 24 = 0 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [k0_cond1, e0, e1]
  word_cmp

theorem cond2_iff (t : Fin cfg0.N) : k0_cond2 (grid0.coords t) = 1#1 ↔ t.val % 3 = 0 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [k0_cond2, e0, e1]
  word_cmp

theorem cond3_iff (t : Fin cfg0.N) : k0_cond3 (grid0.coords t) = 1#1 ↔ t.val % 3 = 2 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [k0_cond3, e0, e1]
  word_cmp

/-- Where the body stores nothing into an output. -/
theorem idle8 : ∀ t : Fin cfg0.N, cfg0.idle 8 (grid0.coords t) = !(t.val % 3 == 2) := by decide +kernel
theorem idle12 : ∀ t : Fin cfg0.N, cfg0.idle 12 (grid0.coords t) = !(t.val % 3 == 0) := by decide +kernel
theorem idle13 : ∀ t : Fin cfg0.N, cfg0.idle 13 (grid0.coords t) = !(t.val % 3 == 0) := by decide +kernel
theorem lastTab12 : ∀ t : Fin cfg0.N, ((t.val + 1) % 3 == 0) = ((cfg0.win 12).flush t || (cfg0.idle 12 (cfg0.grid.coords t) && (t.val % 3 == 0))) := by decide +kernel
theorem lastTab13 : ∀ t : Fin cfg0.N, ((t.val + 1) % 24 == 0) = ((cfg0.win 13).flush t || (cfg0.idle 13 (cfg0.grid.coords t) && (t.val % 24 == 0))) := by decide +kernel
theorem fresh12 (n : ℕ) (h : n ≤ cfg0.N) : cfg0.fresh 12 n = (n % 3 == 0) := cfg0.fresh_tab 12 (fun n => n % 3 == 0) rfl lastTab12 n h
theorem fresh13 (n : ℕ) (h : n ≤ cfg0.N) : cfg0.fresh 13 n = (n % 24 == 0) := cfg0.fresh_tab 13 (fun n => n % 24 == 0) rfl lastTab13 n h

/-! ## The buffers and blocks of a point, and what the body leaves there -/

abbrev scratchM : Memref sig .tc .vmem S512x1024 .f32 := Memref.whole cc0_scratch0
abbrev mems (t : Fin cfg0.N) : Mems :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), scratchM, Memref.isWhole_whole _⟩
/-- The blocks point `t` reads. -/
def insAt (c : Dev nD) (t : Fin cfg0.N) : Ins F :=
  ⟨iblk m c 0 t, iblk m c 1 t, iblk m c 2 t, iblk m c 3 t, iblk m c 4 t, iblk m c 5 t, iblk m c 6 t, iblk m c 7 t⟩

theorem restInv_eq (c : Dev nD) :
    (Pipeline.ΦA spec0 c : sProp 𝕄) = iprop(iprop((∃ d, owns (c : Thread nD τ) scratchM fullShare d)) ∗ (∃ r, prngReg c r)) := by
  unfold Pipeline.ΦA; rw [scopedRest0_eq]; simp only [scratchM, owns_whole]; try rfl

/-- What is carried from point to point: the gradient of the norm's argument, the parameter gradients, the accumulator. -/
structure St (F : FTy → Type) where
  dzb : Vec F S512x1024 .bf16
  dln : Vec F S8x1024 .f32
  acc : Vec F S512x1024 .f32

/-- At a row tile's first step, and at a later one. -/
def stFirst (X : Ins F) (L : Vec F S8x1024 .f32) : St F := ⟨dzbOf X, dlnOf X L, accOf X (dzbOf X) (accInit X)⟩
def stNext (X : Ins F) (s : St F) : St F := ⟨s.dzb, s.dln, accOf X s.dzb s.acc⟩

def stAt (c : Dev nD) : (n : ℕ) → n < cfg0.N → St F
  | 0, h => stFirst (insAt m c ⟨0, h⟩) k0_pay9
  | n + 1, h => if (n + 1) % 3 = 0 then stFirst (insAt m c ⟨n + 1, h⟩) (stAt c n (Nat.lt_of_succ_lt h)).dln
      else stNext (insAt m c ⟨n + 1, h⟩) (stAt c n (Nat.lt_of_succ_lt h))

abbrev prev (c : Dev nD) (t : Fin cfg0.N) : St F := stAt m c (t.val - 1) (Nat.lt_of_le_of_lt (Nat.sub_le _ _) t.isLt)

theorem stAt_A (c : Dev nD) (t : Fin cfg0.N) (h : t.val = 0) : stAt m c t.val t.isLt = stFirst (insAt m c t) k0_pay9 := by
  obtain ⟨n, hn⟩ := t; dsimp only at h; subst h; rfl
theorem stAt_D (c : Dev nD) (t : Fin cfg0.N) (h : t.val ≠ 0) (h1 : t.val % 3 = 0) :
    stAt m c t.val t.isLt = stFirst (insAt m c t) (prev m c t).dln := by
  obtain ⟨n, hn⟩ := t
  cases n with
  | zero => exact absurd rfl h
  | succ n => exact if_pos h1
theorem stAt_BC (c : Dev nD) (t : Fin cfg0.N) (h1 : ¬ t.val % 3 = 0) : stAt m c t.val t.isLt = stNext (insAt m c t) (prev m c t) := by
  obtain ⟨n, hn⟩ := t
  cases n with
  | zero => exact absurd rfl h1
  | succ n => exact if_neg h1

theorem stNext_dzb (X : Ins F) (s : St F) : (stNext X s).dzb = s.dzb := by rw [stNext]
theorem stNext_dln (X : Ins F) (s : St F) : (stNext X s).dln = s.dln := by rw [stNext]
theorem stNext_acc (X : Ins F) (s : St F) : accOf X (stNext X s).dzb s.acc = (stNext X s).acc := by rw [stNext]
theorem stFirst_dzb (X : Ins F) (L : Vec F S8x1024 .f32) : (stFirst X L).dzb = dzbOf X := by rw [stFirst]
theorem stFirst_dln (X : Ins F) (L : Vec F S8x1024 .f32) : (stFirst X L).dln = dlnOf X L := by rw [stFirst]
theorem stFirst_acc (X : Ins F) (L : Vec F S8x1024 .f32) : accOf X (stFirst X L).dzb (accInit X) = (stFirst X L).acc := by rw [stFirst]

attribute [local irreducible] stAt dzbOf dlnOf hidOf dupOf dgpOf accOf accInit

/-! ## The pipeline's proof data -/

/-- The invariant before point `n`: the accumulator at what the point before left. -/
def inv (c : Dev nD) : (n : ℕ) → n ≤ cfg0.N → sProp 𝕄
  | 0, _ => Pipeline.ΦA spec0 c
  | n + 1, hn => iprop(owns (c : Thread nD τ) scratchM fullShare (stAt m c n hn).acc ∗ (∃ r, prngReg c r))

theorem inv_zero (c : Dev nD) (n : ℕ) (h : n ≤ cfg0.N) (hz : n = 0) : inv m c n h = Pipeline.ΦA spec0 c := by subst hz; rfl
theorem inv_pos (c : Dev nD) (n : ℕ) (h : n ≤ cfg0.N) (hz : n ≠ 0) :
    inv m c n h = iprop(owns (c : Thread nD τ) scratchM fullShare (stAt m c (n - 1) (by omega)).acc ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c t.val t.isLt).acc
    | ⟨9, _⟩ => dgpOf (insAt m c t) (stAt m c t.val t.isLt).dzb
    | ⟨10, _⟩ => dupOf (insAt m c t) (stAt m c t.val t.isLt).dzb
    | ⟨11, _⟩ => hidOf (insAt m c t)
    | ⟨12, _⟩ => (stAt m c t.val t.isLt).dzb
    | ⟨13, _⟩ => (stAt m c t.val t.isLt).dln
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (stAt m c t.val t.isLt).acc := by dsimp only [dats]
theorem after_9 (c : Dev nD) (t : Fin cfg0.N) : (dats m 0 c).after 9 t = dgpOf (insAt m c t) (stAt m c t.val t.isLt).dzb := by dsimp only [dats]
theorem after_10 (c : Dev nD) (t : Fin cfg0.N) : (dats m 0 c).after 10 t = dupOf (insAt m c t) (stAt m c t.val t.isLt).dzb := by dsimp only [dats]
theorem after_11 (c : Dev nD) (t : Fin cfg0.N) : (dats m 0 c).after 11 t = hidOf (insAt m c t) := by dsimp only [dats]
theorem after_12 (c : Dev nD) (t : Fin cfg0.N) : (dats m 0 c).after 12 t = (stAt m c t.val t.isLt).dzb := by dsimp only [dats]
theorem after_13 (c : Dev nD) (t : Fin cfg0.N) : (dats m 0 c).after 13 t = (stAt m c t.val t.isLt).dln := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Inside a row tile the gradient's buffer holds what the tile's first step left; -/
theorem before_12 (c : Dev nD) (t : Fin cfg0.N) (h : ¬ t.val % 3 = 0) (d) : (dats m 0 c).before 12 t d = (prev m c t).dzb := by
  rw [(dats m 0 c).before_out_traj 12 rfl (fun _ _ => rfl) (fun t _ hi _ => ?_) t.val t rfl d, fresh12 _ (Nat.le_of_lt t.isLt),
    if_neg (by simpa using h), after_12]
  rw [after_12, after_12]
  have h1 : ¬ t.val % 3 = 0 := by have := (idle12 t).symm.trans hi; simpa using this
  rw [stAt_BC m c t h1, stNext_dzb]
/-- the parameter gradients', after the first point, what the point before left. -/
theorem before_13 (c : Dev nD) (t : Fin cfg0.N) (h : ¬ t.val = 0) (d) : (dats m 0 c).before 13 t d = (prev m c t).dln := by
  have hN : t.val < 24 := lt_of_lt_of_eq t.isLt (show cfg0.N = 24 from N_0)
  have h24 : ¬ t.val % 24 = 0 := by omega
  rw [(dats m 0 c).before_out_traj 13 rfl (fun _ _ => rfl) (fun t _ hi _ => ?_) t.val t rfl d, fresh13 _ (Nat.le_of_lt t.isLt),
    if_neg (by simpa using h24), after_13]
  rw [after_13, after_13]
  have h1 : ¬ t.val % 3 = 0 := by have := (idle13 t).symm.trans hi; simpa using this
  rw [stAt_BC m c t h1, stNext_dln]

/-! ## What the body returns -/

/-- A buffer at what the data say the body leaves is returned, stored into there or not. -/
theorem leaves_of (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t) ⊢ (dats m 0 c).leavesExact w t := by
  by_cases hi : cfg0.idle w (cfg0.grid.coords t) = true
  · by_cases hf : (cfg0.win w).flush t = true
    · unfold Dat.leavesExact; rw [hi, hf]
    · rw [(dats m 0 c).leavesExact_idle w t hi (Bool.eq_false_iff.mpr hf)]
      iintro H; iexists (dats m 0 c).after w t; rw [h hi]; iexact H
  · unfold Dat.leavesExact; rw [Bool.eq_false_iff.mpr hi]

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

theorem leaves_12 (c : Dev nD) (t : Fin cfg0.N) :
    owns (c : Thread nD τ) (mems t).a15 fullShare (stAt m c t.val t.isLt).dzb ⊢ (dats m 0 c).leavesExact 12 t :=
  leaves_of m c 12 t fun hi d => by
    have h1 : ¬ t.val % 3 = 0 := by have := (idle12 t).symm.trans hi; simpa using this
    rw [before_12 m c t h1, after_12, stAt_BC m c t h1, stNext_dzb]
theorem leaves_13 (c : Dev nD) (t : Fin cfg0.N) :
    owns (c : Thread nD τ) (mems t).a16 fullShare (stAt m c t.val t.isLt).dln ⊢ (dats m 0 c).leavesExact 13 t :=
  leaves_of m c 13 t fun hi d => by
    have h1 : ¬ t.val % 3 = 0 := by have := (idle13 t).symm.trans hi; simpa using this
    rw [before_13 m c t (by omega), after_13, stAt_BC m c t h1, stNext_dln]

def bodyPre (c : Dev nD) (t : Fin cfg0.N) : sProp 𝕄 :=
  iprop((dats m 0 c).Φ t.castSucc ∗ (dats m 0 c).owesAt () t.castSucc
    ∗ (∃ d, owns (c : Thread nD τ) (mems t).a2 fullShare ((dats m 0 c).before 0 t d))
    ∗ (∃ d, owns (c : Thread nD τ) (mems t).a3 fullShare ((dats m 0 c).before 1 t d))
    ∗ (∃ d, owns (c : Thread nD τ) (mems t).a4 fullShare ((dats m 0 c).before 2 t d))
    ∗ (∃ d, owns (c : Thread nD τ) (mems t).a5 fullShare ((dats m 0 c).before 3 t d))
    ∗ (∃ d, owns (c : Thread nD τ) (mems t).a6 fullShare ((dats m 0 c).before 4 t d))
    ∗ (∃ d, owns (c : Thread nD τ) (mems t).a7 fullShare ((dats m 0 c).before 5 t d))
    ∗ (∃ d, owns (c : Thread nD τ) (mems t).a8 fullShare ((dats m 0 c).before 6 t d))
    ∗ (∃ d, owns (c : Thread nD τ) (mems t).a9 fullShare ((dats m 0 c).before 7 t d))
    ∗ (∃ d, owns (c : Thread nD τ) (mems t).a11 fullShare ((dats m 0 c).before 8 t d))
    ∗ (∃ d, owns (c : Thread nD τ) (mems t).a12 fullShare ((dats m 0 c).before 9 t d))
    ∗ (∃ d, owns (c : Thread nD τ) (mems t).a13 fullShare ((dats m 0 c).before 10 t d))
    ∗ (∃ d, owns (c : Thread nD τ) (mems t).a14 fullShare ((dats m 0 c).before 11 t d))
    ∗ (∃ d, owns (c : Thread nD τ) (mems t).a15 fullShare ((dats m 0 c).before 12 t d))
    ∗ (∃ d, owns (c : Thread nD τ) (mems t).a16 fullShare ((dats m 0 c).before 13 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- The buffers as the body leaves them are what it is to return. -/
theorem post_of (c : Dev nD) (t : Fin cfg0.N) (x8 : Vec F S512x1024 .f32) (A : Vec F S512x1024 .f32)
    (hA : accOf (insAt m c t) (stAt m c t.val t.isLt).dzb A = (stAt m c t.val t.isLt).acc)
    (h8 : owns (c : Thread nD τ) (mems t).a11 fullShare x8 ⊢ (dats m 0 c).leavesExact 8 t) :
    iprop((∃ r, prngReg c r) ∗ (dats m 0 c).owesAt () t.castSucc
      ∗ outsOwn c (mems t) (insAt m c t) x8 (stAt m c t.val t.isLt).dzb (stAt m c t.val t.isLt).dln A) ⊢ bodyPost m c t := by
  unfold bodyPost outsOwn insOwn
  rw [show (dats m 0 c).owesAt () t.succ = (dats m 0 c).owesAt () t.castSucc from rfl]
  rw [show (dats m 0 c).Φ t.succ = iprop(owns (c : Thread nD τ) scratchM fullShare (stAt m c t.val t.isLt).acc ∗ (∃ r, prngReg c r)) from rfl]
  rw [hA]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 9 t rfl, after_9]
  rw [leaves_live m c 10 t rfl, after_10]
  rw [leaves_live m c 11 t rfl, after_11]
  iintro ⟨Hg, Ho, ⟨H0, H1, H2, H3, H4, H5, H6, H7⟩, H8, H9, H10, H11, H12, H13, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply h8; iexact H8
  isplitl [H9]; · iexact H9
  isplitl [H10]; · iexact H10
  isplitl [H11]; · iexact H11
  isplitl [H12]; · iapply (leaves_12 m c t); iexact H12
  iapply (leaves_13 m c t); iexact H13

end Cert.KernelIdeal.Ffn

end
-- ==== Proof.SoundA.lean ====
module

public import proofs.«01_k».proof.Proof.Data
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.Tactic
public import Idealize.ShloMosaic.Lib.WordCmp

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
attribute [local irreducible] stAt dzbOf dlnOf hidOf dupOf dgpOf accOf accInit stFirst stNext

set_option maxHeartbeats 2000000 in
theorem soundA (c : Dev nD) (t : Fin cfg0.N) (h0 : t.val % 24 = 0) (h1 : t.val % 3 = 0) (h2 : ¬ t.val % 3 = 2) :
    bodyPre m c t ⊢ wp frame (wpE (defs₀ (F := F)) Variants.none c none) Set.univ (bodyOn (grid0.coords t) (mems t)) (fun _ => bodyPost m c t) := by
  have hN : t.val < 24 := lt_of_lt_of_eq t.isLt (show cfg0.N = 24 from N_0)
  unfold bodyPre
  simp only [before_0, before_1, before_2, before_3, before_4, before_5, before_6, before_7]
  rw [inv_castSucc, inv_zero m c _ _ (by omega), restInv_eq]
  have hst := stAt_A m c t (by omega)
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runA c (grid0.coords t) (mems t) ((cond1_iff t).mpr h0) ((cond2_iff t).mpr h1) (fun h => h2 ((cond3_iff t).mp h)) (insAt m c t) _ Set.univ _)
  isplitl [H0 H1 H2 H3 H4 H5 H6 H7]
  · unfold insOwn
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [HS]; · iexact HS
  iintro HO
  iapply (post_of m c t ((dats m 0 c).before 8 t d8) (accInit (insAt m c t)) (by rw [hst, stFirst_acc]) (by rw [(dats m 0 c).leavesExact_idle 8 t ((idle8 t).trans (by simp [h2])) (Bool.eq_false_iff.mpr fun h => h2 ((flush0_8 t).mp h))]; iintro H; iexists d8; iexact H))
  rw [hst, stFirst_dzb, stFirst_dln]
  isplitl [Hg]; · iexact Hg
  isplitl [Ho]; · iexact Ho
  iexact HO

end Cert.KernelIdeal.Ffn

end
-- ==== Proof.SoundD.lean ====
module

public import proofs.«01_k».proof.Proof.Data
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.Tactic
public import Idealize.ShloMosaic.Lib.WordCmp

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
attribute [local irreducible] stAt dzbOf dlnOf hidOf dupOf dgpOf accOf accInit stFirst stNext

set_option maxHeartbeats 2000000 in
theorem soundD (c : Dev nD) (t : Fin cfg0.N) (h0 : ¬ t.val % 24 = 0) (h1 : t.val % 3 = 0) (h2 : ¬ t.val % 3 = 2) :
    bodyPre m c t ⊢ wp frame (wpE (defs₀ (F := F)) Variants.none c none) Set.univ (bodyOn (grid0.coords t) (mems t)) (fun _ => bodyPost m c t) := by
  have hN : t.val < 24 := lt_of_lt_of_eq t.isLt (show cfg0.N = 24 from N_0)
  unfold bodyPre
  simp only [before_0, before_1, before_2, before_3, before_4, before_5, before_6, before_7]
  rw [inv_castSucc, inv_pos m c _ _ (by omega)]
  simp only [before_13 m c t (by omega)]
  have hst := stAt_D m c t (by omega) h1
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runD c (grid0.coords t) (mems t) (fun h => h0 ((cond1_iff t).mp h)) ((cond2_iff t).mpr h1) (fun h => h2 ((cond3_iff t).mp h)) (insAt m c t) _ (prev m c t).dln Set.univ _)
  isplitl [H0 H1 H2 H3 H4 H5 H6 H7]
  · unfold insOwn
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexists _; iexact H9
  isplitl [H10]; · iexists _; iexact H10
  isplitl [H11]; · iexists _; iexact H11
  isplitl [H12]; · iexists _; iexact H12
  isplitl [H13]; · iexact H13
  isplitl [HS]; · iexists _; iexact HS
  iintro HO
  iapply (post_of m c t ((dats m 0 c).before 8 t d8) (accInit (insAt m c t)) (by rw [hst, stFirst_acc]) (by rw [(dats m 0 c).leavesExact_idle 8 t ((idle8 t).trans (by simp [h2])) (Bool.eq_false_iff.mpr fun h => h2 ((flush0_8 t).mp h))]; iintro H; iexists d8; iexact H))
  rw [hst, stFirst_dzb, stFirst_dln]
  isplitl [Hg]; · iexact Hg
  isplitl [Ho]; · iexact Ho
  iexact HO

end Cert.KernelIdeal.Ffn

end
-- ==== Proof.SoundB.lean ====
module

public import proofs.«01_k».proof.Proof.Data
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.Tactic
public import Idealize.ShloMosaic.Lib.WordCmp

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
attribute [local irreducible] stAt dzbOf dlnOf hidOf dupOf dgpOf accOf accInit stFirst stNext

set_option maxHeartbeats 2000000 in
theorem soundB (c : Dev nD) (t : Fin cfg0.N) (h0 : ¬ t.val % 24 = 0) (h1 : ¬ t.val % 3 = 0) (h2 : ¬ t.val % 3 = 2) :
    bodyPre m c t ⊢ wp frame (wpE (defs₀ (F := F)) Variants.none c none) Set.univ (bodyOn (grid0.coords t) (mems t)) (fun _ => bodyPost m c t) := by
  have hN : t.val < 24 := lt_of_lt_of_eq t.isLt (show cfg0.N = 24 from N_0)
  unfold bodyPre
  simp only [before_0, before_1, before_2, before_3, before_4, before_5, before_6, before_7]
  rw [inv_castSucc, inv_pos m c _ _ (by omega)]
  simp only [before_12 m c t h1]
  simp only [before_13 m c t (by omega)]
  have hst := stAt_BC m c t h1
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runB c (grid0.coords t) (mems t) (fun h => h0 ((cond1_iff t).mp h)) (fun h => h1 ((cond2_iff t).mp h)) (fun h => h2 ((cond3_iff t).mp h)) (insAt m c t) _ (prev m c t).dzb (prev m c t).dln (prev m c t).acc Set.univ _)
  isplitl [H0 H1 H2 H3 H4 H5 H6 H7]
  · unfold insOwn
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexists _; iexact H9
  isplitl [H10]; · iexists _; iexact H10
  isplitl [H11]; · iexists _; iexact H11
  isplitl [H12]; · iexact H12
  isplitl [H13]; · iexact H13
  isplitl [HS]; · iexact HS
  iintro HO
  iapply (post_of m c t ((dats m 0 c).before 8 t d8) (prev m c t).acc (by rw [hst, stNext_acc]) (by rw [(dats m 0 c).leavesExact_idle 8 t ((idle8 t).trans (by simp [h2])) (Bool.eq_false_iff.mpr fun h => h2 ((flush0_8 t).mp h))]; iintro H; iexists d8; iexact H))
  rw [hst, stNext_dzb, stNext_dln]
  isplitl [Hg]; · iexact Hg
  isplitl [Ho]; · iexact Ho
  iexact HO

end Cert.KernelIdeal.Ffn

end
-- ==== Proof.SoundC.lean ====
module

public import proofs.«01_k».proof.Proof.Data
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.Tactic
public import Idealize.ShloMosaic.Lib.WordCmp

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
attribute [local irreducible] stAt dzbOf dlnOf hidOf dupOf dgpOf accOf accInit stFirst stNext

set_option maxHeartbeats 2000000 in
theorem soundC (c : Dev nD) (t : Fin cfg0.N) (h0 : ¬ t.val % 24 = 0) (h1 : ¬ t.val % 3 = 0) (h2 : t.val % 3 = 2) :
    bodyPre m c t ⊢ wp frame (wpE (defs₀ (F := F)) Variants.none c none) Set.univ (bodyOn (grid0.coords t) (mems t)) (fun _ => bodyPost m c t) := by
  have hN : t.val < 24 := lt_of_lt_of_eq t.isLt (show cfg0.N = 24 from N_0)
  unfold bodyPre
  simp only [before_0, before_1, before_2, before_3, before_4, before_5, before_6, before_7]
  rw [inv_castSucc, inv_pos m c _ _ (by omega)]
  simp only [before_12 m c t h1]
  simp only [before_13 m c t (by omega)]
  have hst := stAt_BC m c t h1
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runC c (grid0.coords t) (mems t) (fun h => h0 ((cond1_iff t).mp h)) (fun h => h1 ((cond2_iff t).mp h)) ((cond3_iff t).mpr h2) (insAt m c t) (prev m c t).dzb (prev m c t).dln (prev m c t).acc Set.univ _)
  isplitl [H0 H1 H2 H3 H4 H5 H6 H7]
  · unfold insOwn
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [H9]; · iexists _; iexact H9
  isplitl [H10]; · iexists _; iexact H10
  isplitl [H11]; · iexists _; iexact H11
  isplitl [H12]; · iexact H12
  isplitl [H13]; · iexact H13
  isplitl [HS]; · iexact HS
  iintro HO
  iapply (post_of m c t (accOf (insAt m c t) (prev m c t).dzb (prev m c t).acc) (prev m c t).acc (by rw [hst, stNext_acc]) (by rw [leaves_live m c 8 t ((idle8 t).trans (by simp [h2])), after_8, hst, ← stNext_acc, stNext_dzb]))
  rw [hst, stNext_dzb, stNext_dln]
  isplitl [Hg]; · iexact Hg
  isplitl [Ho]; · iexact Ho
  iexact HO

end Cert.KernelIdeal.Ffn

end
-- ==== Proof.KFrame.lean ====
module

public import Idealize.ShloMosaic.Lib.Claim
public import proofs.«01_k».proof.Proof.SoundA
public import proofs.«01_k».proof.Proof.SoundD
public import proofs.«01_k».proof.Proof.SoundB
public import proofs.«01_k».proof.Proof.SoundC
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.Tactic
public import Idealize.ShloMosaic.Lib.WordCmp

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  rw [show (bodyAt0 t : Prog (TpuEff nD τ sig (Elt F) Λ₀ .tc) PUnit) = bodyOn (grid0.coords t) (mems t) from rfl]
  have hN : t.val < 24 := lt_of_lt_of_eq t.isLt (show cfg0.N = 24 from N_0)
  by_cases h1 : t.val % 3 = 0
  · have h2 : ¬ t.val % 3 = 2 := by omega
    by_cases h0 : t.val % 24 = 0
    · exact soundA m c t h0 h1 h2
    · exact soundD m c t h0 h1 h2
  · have h0 : ¬ t.val % 24 = 0 := by omega
    by_cases h2 : t.val % 3 = 2
    · exact soundC m c t h0 h1 h2
    · exact soundB m c t h0 h1 h2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem inv_out (c : Dev nD) : (dats m 0 c).Φ (Fin.last cfg0.N) ⊢ Pipeline.ΦA spec0 c := by
  have ht : (Fin.last cfg0.N).val ≠ 0 := by rw [Fin.val_last]; have : cfg0.N = 24 := N_0; omega
  rw [show (dats m 0 c).Φ (Fin.last cfg0.N) = inv m c (Fin.last cfg0.N).val (Nat.le_of_lt_succ (Fin.last cfg0.N).isLt) from rfl,
    inv_pos m c _ _ ht, restInv_eq]
  iintro ⟨HS, Hg⟩
  isplitl [HS]
  · iexists _; iexact HS
  iexact Hg

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- Every fair execution ends, each array of the pipeline at what its proof data say. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.Ffn

end
-- ==== Proof.Frames.lean ====
module

public import proofs.«01_k».proof.Defs
public import proofs.«01_k».proof.Proof.Gen.Kernel
public import proofs.«01_k».proof.Proof.KFrame
public import proofs.«01_k».proof.Proof.Gen.ReferenceIdeal
public import proofs.«01_k».proof.Proof.Gen.ReferenceIdeal.Run
public import Idealize.ShloMosaic.Lib.Tactic

@[expose] public section

set_option maxRecDepth 16384

noncomputable section

namespace Cert.Frames

open Idealize.ShloMosaic Idealize.SL.Sem

local instance : Cert.Kernel.Facts := Cert.Kernel.Gen.facts
local instance : Cert.ReferenceIdeal.Facts := Cert.ReferenceIdeal.Gen.facts
local instance : Cert.KernelIdeal.Facts := Cert.KernelIdeal.Gen.facts

/-- The program as written: its text is the idealized one's, whose frame holds over every kind of number. -/
theorem kernel : Cert.quiescent_Kernel := by
  have h := fun m ρ (_ : True) => Cert.KernelIdeal.Ffn.frame (F := Bits) m ρ
  exact cast (by sl_kernel_rfl) h

theorem kernelIdeal : Cert.quiescent_KernelIdeal := fun m ρ _ => Cert.KernelIdeal.Ffn.frame (F := Ideal) m ρ

theorem referenceIdeal : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

end Cert.Frames

end
-- ==== Proof.Reals.lean ====
module

public import Idealize.ShloMosaic.Lib.Pointwise
public import Idealize.ShloMosaic.Lib.IdealHost
public import Idealize.ShloMosaic.PureOps.Ideal.Laws
public import proofs.«01_k».proof.Proof.Gen.ReferenceIdeal
public import proofs.«01_k».proof.Proof.Gen.KernelIdeal

@[expose] public section

set_option maxRecDepth 16384

noncomputable section

namespace Cert.Reals

open Idealize.ShloMosaic

/-! ## Arrays of extended reals that come from arrays of reals

An array all of whose elements are real is written as the real matrix or vector it comes from, a function of the
coordinates. Each operation of the two programs takes such arrays to such an array. -/

/-- The matrix of a function of two coordinates. -/
def mx {φ : FTy} {d : Fin 2 → ℕ} (a : ℕ → ℕ → ℝ) : FVec Ideal ⟨2, d⟩ φ := fun i => ((a (i 0).val (i 1).val : ℝ) : EReal)
/-- The vector of a function of one coordinate. -/
def vx {φ : FTy} {d : Fin 1 → ℕ} (a : ℕ → ℝ) : FVec Ideal ⟨1, d⟩ φ := fun i => ((a (i 0).val : ℝ) : EReal)

theorem mx_congr {φ : FTy} {d : Fin 2 → ℕ} {a b : ℕ → ℕ → ℝ} (h : ∀ i j, i < d 0 → j < d 1 → a i j = b i j) :
    (mx a : FVec Ideal ⟨2, d⟩ φ) = mx b := by
  funext i; show ((a _ _ : ℝ) : EReal) = _; rw [h _ _ (i 0).isLt (i 1).isLt]; rfl
theorem vx_congr {φ : FTy} {d : Fin 1 → ℕ} {a b : ℕ → ℝ} (h : ∀ i, i < d 0 → a i = b i) :
    (vx a : FVec Ideal ⟨1, d⟩ φ) = vx b := by
  funext i; show ((a _ : ℝ) : EReal) = _; rw [h _ (i 0).isLt]; rfl

section elementwise
variable {φ : FTy} {d : Fin 2 → ℕ} (a b : ℕ → ℕ → ℝ)

theorem mul_mx : mulf (mx a : FVec Ideal ⟨2, d⟩ φ) (mx b) = mx fun i j => a i j * b i j := by
  funext i; exact (EReal.coe_mul _ _).symm
theorem add_mx : addf (mx a : FVec Ideal ⟨2, d⟩ φ) (mx b) = mx fun i j => a i j + b i j := by
  funext i; exact (EReal.coe_add _ _).symm
theorem sub_mx : subf (mx a : FVec Ideal ⟨2, d⟩ φ) (mx b) = mx fun i j => a i j - b i j := by
  funext i; exact (EReal.coe_sub _ _).symm
theorem neg_mx : Host.negf (mx a : FVec Ideal ⟨2, d⟩ φ) = mx fun i j => - a i j := by
  funext i; exact (EReal.coe_neg _).symm
theorem exp_mx : Host.exp (mx a : FVec Ideal ⟨2, d⟩ φ) = mx fun i j => Real.exp (a i j) := rfl
theorem exp_mx' : exp (mx a : FVec Ideal ⟨2, d⟩ φ) = mx fun i j => Real.exp (a i j) := rfl
theorem truncf_mx {ψ : FTy} (h) : truncf ψ (mx a : FVec Ideal ⟨2, d⟩ φ) h = mx a := rfl
theorem extf_mx {ψ : FTy} (h) : extf ψ (mx a : FVec Ideal ⟨2, d⟩ φ) h = mx a := rfl

theorem div_coe_coe {x y : ℝ} (h : y ≠ 0) : Ideal.div (x : EReal) (y : EReal) = ((x / y : ℝ) : EReal) := by
  rw [Ideal.div_coe h, ← EReal.coe_mul, mul_one_div]
theorem div_mx (h : ∀ i j, i < d 0 → j < d 1 → b i j ≠ 0) : Host.divf (mx a : FVec Ideal ⟨2, d⟩ φ) (mx b) = mx fun i j => a i j / b i j := by
  funext i; exact div_coe_coe (h _ _ (i 0).isLt (i 1).isLt)
theorem div_mx' (h : ∀ i j, i < d 0 → j < d 1 → b i j ≠ 0) : divf (mx a : FVec Ideal ⟨2, d⟩ φ) (mx b) = mx fun i j => a i j / b i j := by
  funext i; exact div_coe_coe (h _ _ (i 0).isLt (i 1).isLt)
theorem rsqrt_coe {x : ℝ} (h : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (by linarith), if_neg (by linarith)]
theorem rsqrt_mx (h : ∀ i j, i < d 0 → j < d 1 → 0 < a i j) : Host.rsqrt (mx a : FVec Ideal ⟨2, d⟩ φ) = mx fun i j => (Real.sqrt (a i j))⁻¹ := by
  funext i; exact rsqrt_coe (h _ _ (i 0).isLt (i 1).isLt)
theorem rsqrt_mx' (h : ∀ i j, i < d 0 → j < d 1 → 0 < a i j) : rsqrt (mx a : FVec Ideal ⟨2, d⟩ φ) = mx fun i j => (Real.sqrt (a i j))⁻¹ := by
  funext i; exact rsqrt_coe (h _ _ (i 0).isLt (i 1).isLt)
end elementwise

/-! ## The literals -/

theorem lit_one : Ideal.ofBits .f32 0x3F800000#32 = ((1 : ℝ) : EReal) := by simp
theorem lit_zero : Ideal.ofBits .f32 0x00000000#32 = ((0 : ℝ) : EReal) := by simp
theorem lit_1024 : Ideal.ofBits .f32 0x44800000#32 = ((1024 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
/-- The residual's weight and the norm's small constant, as the literals denote them. -/
def alpha : ℝ := (2 ^ 23 + 5719293 : ℕ) * (2 : ℝ) ^ (-23 : ℤ)
def eps : ℝ := (2 ^ 23 + 2606508 : ℕ) * (2 : ℝ) ^ (-40 : ℤ)
theorem eps_pos : 0 < eps := by unfold eps; positivity
theorem lit_alpha : Ideal.ofBits .f32 0x3FD744FD#32 = (alpha : EReal) := by
  simp [Ideal.ofBits, Ideal.ieee, alpha, -EReal.coe_mul]
theorem lit_eps : Ideal.ofBits .f32 0x3727C5AC#32 = (eps : EReal) := by
  simp [Ideal.ofBits, Ideal.ieee, eps, -EReal.coe_mul]
theorem lit_inf : Ideal.ofBits .f32 0x7F800000#32 = ⊤ := by
  simp [Ideal.ofBits, Ideal.ieee]

/-! ## Broadcasts of a literal -/

theorem splat_mx {d : Fin 2 → ℕ} {b : BitVec 32} {r : ℝ} (hb : Ideal.ofBits .f32 b = (r : EReal)) (h) :
    (broadcastInDim ⟨2, d⟩ ![] h (constant (F := Ideal) ⟨0, ![]⟩ .f32 b)) = (mx fun _ _ => r : FVec Ideal ⟨2, d⟩ .f32) := by
  funext i; exact hb
theorem broadcast_mx {d : Fin 2 → ℕ} {b : BitVec 32} {r : ℝ} (hb : Ideal.ofBits .f32 b = (r : EReal)) :
    (broadcast ⟨2, d⟩ (Scalar.ofBits (F := Ideal) .f32 b)) = (mx fun _ _ => r : FVec Ideal ⟨2, d⟩ .f32) := by
  funext i; exact hb

/-! ## The logistic function and the division by a row's length -/

theorem sigmoid_ne (x : ℝ) : 1 + Real.exp (-x) ≠ 0 := by have := Real.exp_pos (-x); linarith
theorem sigmoid_mx {d : Fin 2 → ℕ} (a : ℕ → ℕ → ℝ) :
    Host.divf (mx fun _ _ => 1 : FVec Ideal ⟨2, d⟩ .f32) (mx fun i j => 1 + Real.exp (- a i j)) = mx fun i j => 1 / (1 + Real.exp (- a i j)) :=
  div_mx _ _ fun i j _ _ => sigmoid_ne _
theorem logistic_mx {φ : FTy} {d : Fin 2 → ℕ} (a : ℕ → ℕ → ℝ) :
    logistic (mx a : FVec Ideal ⟨2, d⟩ φ) = mx fun i j => 1 / (1 + Real.exp (- a i j)) := by
  funext i
  show Ideal.div 1 (1 + Ideal.exp (-((a (i 0).val (i 1).val : ℝ) : EReal))) = _
  rw [← EReal.coe_neg]
  show Ideal.div ((1 : ℝ) : EReal) (((1 : ℝ) : EReal) + ((Real.exp (- a (i 0).val (i 1).val) : ℝ) : EReal)) = _
  rw [← EReal.coe_add, div_coe_coe (sigmoid_ne _)]; rfl
theorem div_1024 {φ : FTy} {d : Fin 2 → ℕ} (a : ℕ → ℕ → ℝ) :
    Host.divf (mx a : FVec Ideal ⟨2, d⟩ φ) (mx fun _ _ => 1024) = mx fun i j => a i j / 1024 :=
  div_mx _ _ fun i j _ _ => by norm_num
theorem div_1024' {φ : FTy} {d : Fin 2 → ℕ} (a : ℕ → ℕ → ℝ) :
    divf (mx a : FVec Ideal ⟨2, d⟩ φ) (mx fun _ _ => 1024) = mx fun i j => a i j / 1024 :=
  div_mx' _ _ fun i j _ _ => by norm_num

/-! ## Layout -/

theorem shapeCast_mx {φ : FTy} {d : Fin 2 → ℕ} (a : ℕ → ℕ → ℝ) (h) :
    shapeCast ⟨2, d⟩ (mx a : FVec Ideal ⟨2, d⟩ φ) h = mx a := by
  rw [shapeCast_id]
theorem column_4096 (a : ℕ → ℝ) (h) :
    shapeCast Cert.ReferenceIdeal.S4096x1 (vx a : FVec Ideal Cert.ReferenceIdeal.S4096 .f32) h = mx fun i _ => a i := by
  funext i; pointwise; rfl
theorem column_512 (a : ℕ → ℝ) (h) :
    shapeCast Cert.KernelIdeal.S512x1 (vx a : FVec Ideal Cert.KernelIdeal.S512 .f32) h = mx fun i _ => a i := by
  funext i; pointwise; rfl
theorem row_1024 (a : ℕ → ℝ) (h) :
    shapeCast Cert.ReferenceIdeal.S1x1024 (vx a : FVec Ideal Cert.ReferenceIdeal.S1024 .f32) h = mx fun _ j => a j := by
  funext i; pointwise; rfl
theorem row_1024' (a : ℕ → ℝ) (h) :
    shapeCast Cert.KernelIdeal.S1x1024 (vx a : FVec Ideal Cert.KernelIdeal.S1024 .f32) h = mx fun _ j => a j := by
  funext i; pointwise; rfl
theorem bcol_vec (a : ℕ → ℝ) (h) :
    broadcastInDim Cert.ReferenceIdeal.S4096x1 ![0] h (vx a : FVec Ideal Cert.ReferenceIdeal.S4096 .f32) = mx fun i _ => a i := by
  funext i; pointwise; rfl
theorem bcol_wide (a : ℕ → ℝ) (h) :
    broadcastInDim Cert.ReferenceIdeal.S4096x1024 ![0] h (vx a : FVec Ideal Cert.ReferenceIdeal.S4096 .f32) = mx fun i _ => a i := by
  funext i; pointwise; rfl
theorem bcol (a : ℕ → ℕ → ℝ) (h) :
    broadcastInDim Cert.ReferenceIdeal.S4096x1024 ![0, 1] h (mx a : FVec Ideal Cert.ReferenceIdeal.S4096x1 .f32) = mx fun i _ => a i 0 := by
  funext i; pointwise; rfl
theorem brow_vec (a : ℕ → ℝ) (h) :
    broadcastInDim Cert.ReferenceIdeal.S1x1024 ![1] h (vx a : FVec Ideal Cert.ReferenceIdeal.S1024 .f32) = mx fun _ j => a j := by
  funext i; pointwise; rfl
theorem brow (a : ℕ → ℕ → ℝ) (h) :
    broadcastInDim Cert.ReferenceIdeal.S4096x1024 ![0, 1] h (mx a : FVec Ideal Cert.ReferenceIdeal.S1x1024 .f32) = mx fun _ j => a 0 j := by
  funext i; pointwise; rfl
theorem spread_col (a : ℕ → ℕ → ℝ) (h) :
    broadcastTo Cert.KernelIdeal.S512x1024 (mx a : FVec Ideal Cert.KernelIdeal.S512x1 .f32) h = mx fun i _ => a i 0 := by
  funext i; pointwise; rfl
theorem spread_row (a : ℕ → ℕ → ℝ) (h) :
    broadcastTo Cert.KernelIdeal.S512x1024 (mx a : FVec Ideal Cert.KernelIdeal.S1x1024 .f32) h = mx fun _ j => a 0 j := by
  funext i; pointwise; rfl

/-! ## Sums -/

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem sum_cols (a : ℕ → ℕ → ℝ) (h : Shape.ReducesTo Cert.ReferenceIdeal.S4096x1024 [1] Cert.ReferenceIdeal.S4096) (hz) :
    Host.reduceAdd (mx a : FVec Ideal Cert.ReferenceIdeal.S4096x1024 .f32) (constant Cert.ReferenceIdeal.S_ .f32 0x00000000#32) h hz = (vx fun i => ∑ k : Fin 1024, a i k : FVec Ideal Cert.ReferenceIdeal.S4096 .f32) := by
  funext i
  have hr : Shape.Reduces Cert.ReferenceIdeal.S4096x1024 [1] Cert.ReferenceIdeal.S4096 := by decide
  refine (Ideal.hostReduceAdd_single h hr _ _ i).trans ?_
  show Ideal.ofBits .f32 0x00000000#32 + _ = _
  rw [Ideal.ofBits_zero_f32, zero_add]
  exact coe_sum _
theorem sum_one (a : ℕ → ℕ → ℝ) (h : Shape.ReducesTo Cert.ReferenceIdeal.S4096x1 [1] Cert.ReferenceIdeal.S4096) (hz) :
    Host.reduceAdd (mx a : FVec Ideal Cert.ReferenceIdeal.S4096x1 .f32) (constant Cert.ReferenceIdeal.S_ .f32 0x00000000#32) h hz = (vx fun i => a i 0 : FVec Ideal Cert.ReferenceIdeal.S4096 .f32) := by
  funext i
  have hr : Shape.Reduces Cert.ReferenceIdeal.S4096x1 [1] Cert.ReferenceIdeal.S4096 := by decide
  refine (Ideal.hostReduceAdd_single h hr _ _ i).trans ?_
  show Ideal.ofBits .f32 0x00000000#32 + _ = _
  rw [Ideal.ofBits_zero_f32, zero_add]
  exact (coe_sum _).trans (congrArg _ (Fin.sum_univ_one _))
theorem sum_rows (a : ℕ → ℕ → ℝ) (h : Shape.ReducesTo Cert.ReferenceIdeal.S4096x1024 [0] Cert.ReferenceIdeal.S1024) (hz) :
    Host.reduceAdd (mx a : FVec Ideal Cert.ReferenceIdeal.S4096x1024 .f32) (constant Cert.ReferenceIdeal.S_ .f32 0x00000000#32) h hz = (vx fun j => ∑ k : Fin 4096, a k j : FVec Ideal Cert.ReferenceIdeal.S1024 .f32) := by
  funext i
  have hr : Shape.Reduces Cert.ReferenceIdeal.S4096x1024 [0] Cert.ReferenceIdeal.S1024 := by decide
  refine (Ideal.hostReduceAdd_single h hr _ _ i).trans ?_
  show Ideal.ofBits .f32 0x00000000#32 + _ = _
  rw [Ideal.ofBits_zero_f32, zero_add]
  exact coe_sum _
theorem sum_row (a : ℕ → ℕ → ℝ) (h : Shape.ReducesTo Cert.ReferenceIdeal.S1x1024 [0] Cert.ReferenceIdeal.S1024) (hz) :
    Host.reduceAdd (mx a : FVec Ideal Cert.ReferenceIdeal.S1x1024 .f32) (constant Cert.ReferenceIdeal.S_ .f32 0x00000000#32) h hz = (vx fun j => a 0 j : FVec Ideal Cert.ReferenceIdeal.S1024 .f32) := by
  funext i
  have hr : Shape.Reduces Cert.ReferenceIdeal.S1x1024 [0] Cert.ReferenceIdeal.S1024 := by decide
  refine (Ideal.hostReduceAdd_single h hr _ _ i).trans ?_
  show Ideal.ofBits .f32 0x00000000#32 + _ = _
  rw [Ideal.ofBits_zero_f32, zero_add]
  exact (coe_sum _).trans (congrArg _ (Fin.sum_univ_one _))
theorem sum_cols' (a : ℕ → ℕ → ℝ) (h) :
    multiReduction .add [1] Cert.KernelIdeal.S512 (mx a : FVec Ideal Cert.KernelIdeal.S512x1024 .f32) 0x00000000#32 h (.inl rfl) rfl = vx fun i => ∑ k : Fin 1024, a i k := by
  funext i
  refine (Ideal.multiReduction_add_single _ _ h (.inl rfl) rfl i).trans ?_
  exact coe_sum _
theorem sum_rows' (a : ℕ → ℕ → ℝ) (h) :
    multiReduction .add [0] Cert.KernelIdeal.S1024 (mx a : FVec Ideal Cert.KernelIdeal.S512x1024 .f32) 0x00000000#32 h (.inl rfl) rfl = vx fun j => ∑ k : Fin 512, a k j := by
  funext i
  refine (Ideal.multiReduction_add_single _ _ h (.inl rfl) rfl i).trans ?_
  exact coe_sum _

/-! ## Products -/

theorem dot_block (a b : ℕ → ℕ → ℝ) [Cert.KernelIdeal.Facts] :
    matmul Cert.KernelIdeal.dot_S256x1024_S1024x1024_S256x1024_1_1_0_0_n_n none (mx a : FVec Ideal Cert.KernelIdeal.S256x1024 .bf16)
        (mx b : FVec Ideal Cert.KernelIdeal.S1024x1024 .bf16) (constant Cert.KernelIdeal.S256x1024 .f32 0x00000000#32)
      = (mx fun i j => ∑ k : Fin 1024, a i k * b j k) := by
  funext i
  pointwise
  exact (Finset.sum_congr rfl fun k _ => (EReal.coe_mul _ _).symm).trans (coe_sum _)
theorem dot_up (a b : ℕ → ℕ → ℝ) [Cert.ReferenceIdeal.Facts] :
    Host.dotGeneral Cert.ReferenceIdeal.dot_S4096x1024_S1024x3072_S4096x3072_1_0_0_1_n_n none (mx a : FVec Ideal Cert.ReferenceIdeal.S4096x1024 .f32) (mx b : FVec Ideal Cert.ReferenceIdeal.S1024x3072 .f32)
      = (mx fun i j => ∑ k : Fin 1024, a i k * b k j : FVec Ideal Cert.ReferenceIdeal.S4096x3072 .f32) := by
  funext i
  pointwise
  exact (Finset.sum_congr rfl fun k _ => (EReal.coe_mul _ _).symm).trans (coe_sum _)
theorem dot_down (a b : ℕ → ℕ → ℝ) [Cert.ReferenceIdeal.Facts] :
    Host.dotGeneral Cert.ReferenceIdeal.dot_S4096x3072_S3072x1024_S4096x1024_1_0_0_1_n_n none (mx a : FVec Ideal Cert.ReferenceIdeal.S4096x3072 .f32) (mx b : FVec Ideal Cert.ReferenceIdeal.S3072x1024 .f32)
      = (mx fun i j => ∑ k : Fin 3072, a i k * b k j : FVec Ideal Cert.ReferenceIdeal.S4096x1024 .f32) := by
  funext i
  pointwise
  exact (Finset.sum_congr rfl fun k _ => (EReal.coe_mul _ _).symm).trans (coe_sum _)
theorem dot_up' (a b : ℕ → ℕ → ℝ) [Cert.KernelIdeal.Facts] :
    Host.dotGeneral Cert.KernelIdeal.dot_S4096x1024_S1024x3072_S4096x3072_1_0_0_1_n_n none (mx a : FVec Ideal Cert.KernelIdeal.S4096x1024 .f32) (mx b : FVec Ideal Cert.KernelIdeal.S1024x3072 .f32)
      = (mx fun i j => ∑ k : Fin 1024, a i k * b k j : FVec Ideal Cert.KernelIdeal.S4096x3072 .f32) := by
  funext i
  pointwise
  exact (Finset.sum_congr rfl fun k _ => (EReal.coe_mul _ _).symm).trans (coe_sum _)
theorem dot_down' (a b : ℕ → ℕ → ℝ) [Cert.KernelIdeal.Facts] :
    Host.dotGeneral Cert.KernelIdeal.dot_S4096x3072_S3072x1024_S4096x1024_1_0_0_1_n_n none (mx a : FVec Ideal Cert.KernelIdeal.S4096x3072 .f32) (mx b : FVec Ideal Cert.KernelIdeal.S3072x1024 .f32)
      = (mx fun i j => ∑ k : Fin 3072, a i k * b k j : FVec Ideal Cert.KernelIdeal.S4096x1024 .f32) := by
  funext i
  pointwise
  exact (Finset.sum_congr rfl fun k _ => (EReal.coe_mul _ _).symm).trans (coe_sum _)
theorem dot_down_t (a b : ℕ → ℕ → ℝ) [Cert.ReferenceIdeal.Facts] :
    Host.dotGeneral Cert.ReferenceIdeal.dot_S4096x1024_S3072x1024_S4096x3072_1_1_0_0_n_n none (mx a : FVec Ideal Cert.ReferenceIdeal.S4096x1024 .f32) (mx b : FVec Ideal Cert.ReferenceIdeal.S3072x1024 .f32)
      = (mx fun i j => ∑ k : Fin 1024, a i k * b j k : FVec Ideal Cert.ReferenceIdeal.S4096x3072 .f32) := by
  funext i
  pointwise
  exact (Finset.sum_congr rfl fun k _ => (EReal.coe_mul _ _).symm).trans (coe_sum _)
theorem dot_up_t (a b : ℕ → ℕ → ℝ) [Cert.ReferenceIdeal.Facts] :
    Host.dotGeneral Cert.ReferenceIdeal.dot_S4096x3072_S1024x3072_S4096x1024_1_1_0_0_n_n none (mx a : FVec Ideal Cert.ReferenceIdeal.S4096x3072 .f32) (mx b : FVec Ideal Cert.ReferenceIdeal.S1024x3072 .f32)
      = (mx fun i j => ∑ k : Fin 3072, a i k * b j k : FVec Ideal Cert.ReferenceIdeal.S4096x1024 .f32) := by
  funext i
  pointwise
  exact (Finset.sum_congr rfl fun k _ => (EReal.coe_mul _ _).symm).trans (coe_sum _)

end Cert.Reals

end
-- ==== Proof.Spec.lean ====
module

public import proofs.«01_k».proof.Proof.Reals

@[expose] public section

noncomputable section

namespace Cert.Reals

/-! ## The mathematics over the reals

The functions of matrices the two programs compute, on coordinates that run over the naturals: a block of rows or of
columns of one is then the same function of the shifted coordinates. -/

section norm
variable (z dy : ℕ → ℕ → ℝ) (g : ℕ → ℝ)
/-- A row's mean, the centred rows, a row's variance, the inverse deviation, the normalised rows. -/
def mu (i : ℕ) : ℝ := (∑ k : Fin 1024, z i k) / 1024
def zcen (i j : ℕ) : ℝ := z i j - mu z i
def var (i : ℕ) : ℝ := (∑ k : Fin 1024, zcen z i k * zcen z i k) / 1024
def rstd (i : ℕ) : ℝ := (Real.sqrt (var z i + eps))⁻¹
def xhat (i j : ℕ) : ℝ := zcen z i j * rstd z i
/-- The gradient of the normalised rows; of the norm's argument. -/
def dxh (i j : ℕ) : ℝ := dy i j * g j
def dz (i j : ℕ) : ℝ :=
  rstd z i * ((dxh dy g i j - (∑ k : Fin 1024, dxh dy g i k) / 1024)
    - xhat z i j * ((∑ k : Fin 1024, dxh dy g i k * xhat z i k) / 1024))
end norm

section gates
variable (gp up dh : ℕ → ℕ → ℝ)
/-- The logistic function of the gate, the activation, the hidden rows; the gradients of the two projections. -/
def sg (i j : ℕ) : ℝ := 1 / (1 + Real.exp (- gp i j))
def act (i j : ℕ) : ℝ := gp i j * sg gp i j
def hid (i j : ℕ) : ℝ := act gp i j * up i j
def dup (i j : ℕ) : ℝ := dh i j * act gp i j
def dgp (i j : ℕ) : ℝ := (dh i j * up i j) * (sg gp i j * (1 + gp i j * (1 - sg gp i j)))
end gates

/-- The call's arguments. -/
structure Args where
  x : ℕ → ℕ → ℝ
  wg : ℕ → ℕ → ℝ
  wu : ℕ → ℕ → ℝ
  wd : ℕ → ℕ → ℝ
  g : ℕ → ℝ
  dy : ℕ → ℕ → ℝ

namespace Args
variable (A : Args)
/-- The values of the forward pass. -/
def gp (i j : ℕ) : ℝ := ∑ k : Fin 1024, A.x i k * A.wg k j
def up (i j : ℕ) : ℝ := ∑ k : Fin 1024, A.x i k * A.wu k j
def z (i j : ℕ) : ℝ := alpha * A.x i j + ∑ k : Fin 3072, hid A.gp A.up i k * A.wd k j
/-- The gradients. -/
def Dz : ℕ → ℕ → ℝ := Reals.dz A.z A.dy A.g
def dh (i j : ℕ) : ℝ := ∑ k : Fin 1024, A.Dz i k * A.wd j k
def Dup : ℕ → ℕ → ℝ := Reals.dup A.gp A.dh
def Dgp : ℕ → ℕ → ℝ := Reals.dgp A.gp A.up A.dh
def Dx (i j : ℕ) : ℝ := alpha * A.Dz i j + ∑ k : Fin 3072, (A.Dgp i k * A.wg j k + A.Dup i k * A.wu j k)
def Dg (j : ℕ) : ℝ := ∑ k : Fin 4096, A.dy k j * xhat A.z k j
def Db (j : ℕ) : ℝ := ∑ k : Fin 4096, A.dy k j
/-- The norm's parameter gradients as the rows of one block. -/
def Dln (i j : ℕ) : ℝ := if i = 0 then A.Dg j else if i = 1 then A.Db j else 0
end Args

/-! ## The norm's gradient, two ways -/

section norm
variable (z dy : ℕ → ℕ → ℝ) (g : ℕ → ℝ)

theorem var_nonneg (i : ℕ) : 0 ≤ var z i :=
  div_nonneg (Finset.sum_nonneg fun k _ => mul_self_nonneg _) (by norm_num)
theorem var_eps_pos (i : ℕ) : 0 < var z i + eps := by have := var_nonneg z i; have := eps_pos; linarith

/-- The centred rows sum to zero. -/
theorem sum_zcen (i : ℕ) : ∑ k : Fin 1024, zcen z i k = 0 := by
  simp only [zcen, Finset.sum_sub_distrib, Finset.sum_const, Finset.card_univ, Fintype.card_fin, nsmul_eq_mul, mu]
  push_cast
  ring

theorem rstd_sq (i : ℕ) : rstd z i / (var z i + eps) = rstd z i * (rstd z i * rstd z i) := by
  have h := var_eps_pos z i
  have hs := Real.mul_self_sqrt h.le
  have h0 : Real.sqrt (var z i + eps) ≠ 0 := (Real.sqrt_pos.mpr h).ne'
  unfold rstd
  conv_lhs => rw [← hs]
  rw [Real.sqrt_mul_self (Real.sqrt_nonneg _)]
  field_simp

/-- The derivative written operation by operation — `t` the variance's share, `u` the centred rows' gradient — is the
    closed form. -/
theorem dz_eq (t : ℕ → ℝ) (u : ℕ → ℕ → ℝ)
    (ht : ∀ i, t i = (∑ k : Fin 1024, zcen z i k * (dy i k * g k)) * (-(1 / 2) * (rstd z i / (var z i + eps))) / 1024)
    (hu : ∀ i j, u i j = ((dy i j * g j) * rstd z i + zcen z i j * t i) + t i * zcen z i j) (i j : ℕ) :
    u i j + (∑ k : Fin 1024, - u i k) / 1024 = dz z dy g i j := by
  have hS : ∑ k : Fin 1024, - u i k = - (rstd z i * ∑ k : Fin 1024, dxh dy g i k) := by
    have h0 := sum_zcen z i
    have e : ∀ k : Fin 1024, - u i k = - (rstd z i * dxh dy g i k) - 2 * t i * zcen z i k := fun k => by
      rw [hu, dxh]; ring
    rw [Finset.sum_congr rfl fun k _ => e k, Finset.sum_sub_distrib, Finset.sum_neg_distrib, ← Finset.mul_sum, ← Finset.mul_sum, h0]
    ring
  have hX : ∑ k : Fin 1024, dxh dy g i k * xhat z i k = rstd z i * ∑ k : Fin 1024, zcen z i k * (dy i k * g k) := by
    rw [Finset.mul_sum]
    exact Finset.sum_congr rfl fun k _ => by rw [dxh, xhat]; ring
  rw [hS, hu, ht, rstd_sq]
  unfold dz
  rw [hX, xhat, dxh]
  ring
end norm

/-- The gate's gradient, two ways. -/
theorem dgp_eq (gp up dh : ℕ → ℕ → ℝ) (i j : ℕ) :
    (dh i j * up i j) * sg gp i j + (gp i j * (dh i j * up i j)) * (sg gp i j * (1 - sg gp i j)) = dgp gp up dh i j := by
  unfold dgp; ring

end Cert.Reals

end
-- ==== Proof.RefValue.lean ====
module

public import proofs.«01_k».proof.Proof.Spec
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Reals

/-! ## The reference's values, over the reals

Where the arguments are real matrices, every value the reference names is the real matrix of the mathematics. -/

local notation "Val" => Valuation τ sig (Elt Ideal)

/-- The arguments are the real matrices `A`. -/
structure Holds (L : Val) (A : Args) : Prop where
  a0 : L (Proc.devRef .tc main_arg0) = (mx A.x : FVec Ideal S4096x1024 .f32)
  a1 : L (Proc.devRef .tc main_arg1) = (mx A.wg : FVec Ideal S1024x3072 .f32)
  a2 : L (Proc.devRef .tc main_arg2) = (mx A.wu : FVec Ideal S1024x3072 .f32)
  a3 : L (Proc.devRef .tc main_arg3) = (mx A.wd : FVec Ideal S3072x1024 .f32)
  a4 : L (Proc.devRef .tc main_arg4) = (vx A.g : FVec Ideal S1024 .f32)
  a5 : L (Proc.devRef .tc main_arg5) = (mx A.dy : FVec Ideal S4096x1024 .f32)

variable {L : Val} {A : Args} (H : Holds L A)
include H

theorem zero_eq : res_main_v0 L = (mx fun _ _ => 0 : FVec Ideal S4096x3072 .f32) := splat_mx lit_zero _
theorem gate_eq : res_main_v4 L = (mx A.gp : FVec Ideal S4096x3072 .f32) := by
  rw [res_main_v4, H.a0, H.a1, zero_eq H, dot_up, add_mx]
  exact mx_congr fun i j _ _ => add_zero _
theorem up_eq : res_main_v6 L = (mx A.up : FVec Ideal S4096x3072 .f32) := by
  rw [res_main_v6, H.a0, H.a2, zero_eq H, dot_up, add_mx]
  exact mx_congr fun i j _ _ => add_zero _
theorem sg_eq : res_main_v7_2 L = (mx (sg A.gp) : FVec Ideal S4096x3072 .f32) := by
  rw [res_main_v7_2, gate_eq H, splat_mx lit_one, neg_mx, exp_mx, add_mx, sigmoid_mx]; rfl
theorem act_eq : res_main_v7_0 L = (mx (act A.gp) : FVec Ideal S4096x3072 .f32) := by
  rw [res_main_v7_0, gate_eq H, sg_eq H, mul_mx]; rfl
theorem hid_eq : res_main_v8 L = (mx (hid A.gp A.up) : FVec Ideal S4096x3072 .f32) := by
  rw [res_main_v8, act_eq H, up_eq H, mul_mx]; rfl
theorem z_eq : res_main_v13 L = (mx A.z : FVec Ideal S4096x1024 .f32) := by
  rw [res_main_v13, hid_eq H, H.a0, H.a3, splat_mx lit_alpha, mul_mx, dot_down, add_mx, splat_mx lit_zero, add_mx]
  exact mx_congr fun i j _ _ => add_zero _
theorem zcen_eq : res_main_v19 L = (mx (zcen A.z) : FVec Ideal S4096x1024 .f32) := by
  rw [res_main_v19, z_eq H, sum_cols, bcol_vec, splat_mx lit_1024, div_1024, bcol, sub_mx]; rfl
theorem vareps_eq : res_main_v26 L = (mx fun i _ => var A.z i + eps : FVec Ideal S4096x1 .f32) := by
  rw [res_main_v26, zcen_eq H, mul_mx, sum_cols, bcol_vec, splat_mx lit_1024, div_1024, splat_mx lit_eps, add_mx]; rfl
theorem rstd_eq : res_main_v27 L = (mx fun i _ => rstd A.z i : FVec Ideal S4096x1 .f32) := by
  rw [res_main_v27, vareps_eq H, rsqrt_mx _ fun i _ _ _ => var_eps_pos A.z i]; rfl
theorem xhat_eq : res_main_v32 L = (mx (xhat A.z) : FVec Ideal S4096x1024 .f32) := by
  rw [res_main_v32, zcen_eq H, rstd_eq H, bcol, mul_mx]; rfl
theorem dy_eq : res_main_v39 L = (mx A.dy : FVec Ideal S4096x1024 .f32) := by
  rw [res_main_v39, H.a5]; exact shapeCast_mx _ _
theorem dxh_eq : res_main_v47 L = (mx (fun i j => A.dy i j * A.g j) : FVec Ideal S4096x1024 .f32) := by
  rw [res_main_v47, res_main_v33, dy_eq H, H.a4, brow_vec, brow, mul_mx]

/-- The variance's share of the gradient, a row. -/
def tOf (A : Args) (i : ℕ) : ℝ :=
  (∑ k : Fin 1024, zcen A.z i k * (A.dy i k * A.g k)) * (-(1 / 2) * (rstd A.z i / (var A.z i + eps))) / 1024
/-- The centred rows' gradient. -/
def uOf (A : Args) (i j : ℕ) : ℝ := ((A.dy i j * A.g j) * rstd A.z i + zcen A.z i j * tOf A i) + tOf A i * zcen A.z i j

theorem t_eq : res_main_v58 L = (mx (fun i _ => tOf A i) : FVec Ideal S4096x1024 .f32) := by
  rw [res_main_v58, zcen_eq H, dxh_eq H, rstd_eq H, vareps_eq H, mul_mx, sum_cols, column_4096, splat_mx lit_neg_half,
    div_mx _ _ fun i _ _ _ => (var_eps_pos A.z i).ne', mul_mx, mul_mx, splat_mx lit_1024, div_1024, sum_one, bcol_wide]; rfl
theorem u_eq : res_main_v62 L = (mx (uOf A) : FVec Ideal S4096x1024 .f32) := by
  rw [res_main_v62, zcen_eq H, dxh_eq H, rstd_eq H, t_eq H, bcol, mul_mx, mul_mx, mul_mx, add_mx, add_mx]; rfl
theorem dz_eq : res_main_v70 L = (mx A.Dz : FVec Ideal S4096x1024 .f32) := by
  rw [res_main_v70, u_eq H, neg_mx, sum_cols, column_4096, splat_mx lit_1024, div_1024, sum_one, bcol_wide, add_mx]
  exact mx_congr fun i j _ _ => Reals.dz_eq A.z A.dy A.g (tOf A) (uOf A) (fun _ => rfl) (fun _ _ => rfl) i j
theorem dh_eq : res_main_v73 L = (mx A.dh : FVec Ideal S4096x3072 .f32) := by
  rw [res_main_v73, dz_eq H, H.a3, dot_down_t]; rfl
theorem dup_eq : res_main_v76 L = (mx A.Dup : FVec Ideal S4096x3072 .f32) := by
  rw [res_main_v76, act_eq H, dh_eq H, mul_mx]
  exact mx_congr fun i j _ _ => mul_comm _ _
theorem dgp_eq : res_main_v78 L = (mx A.Dgp : FVec Ideal S4096x3072 .f32) := by
  rw [res_main_v78, res_main_v77, gate_eq H, sg_eq H, up_eq H, dh_eq H, mul_mx, mul_mx, mul_mx, splat_mx lit_one, sub_mx, mul_mx, mul_mx, add_mx]
  exact mx_congr fun i j _ _ => Reals.dgp_eq A.gp A.up A.dh i j

/-! ## The results -/

theorem dx_eq : (addf (addf (mulf (broadcastInDim S4096x1024 ![] bcast_S_S4096x1024 (constant S_ .f32 0x3FD744FD#32)) (res_main_v70 L)) (Host.dotGeneral (φ₁ := .f32) (φ₂ := .f32) dot_S4096x3072_S1024x3072_S4096x1024_1_1_0_0_n_n none (res_main_v76 L) (L (Proc.devRef .tc main_arg2)))) (Host.dotGeneral (φ₁ := .f32) (φ₂ := .f32) dot_S4096x3072_S1024x3072_S4096x1024_1_1_0_0_n_n none (res_main_v78 L) (L (Proc.devRef .tc main_arg1))) : FVec Ideal S4096x1024 .f32)
    = mx A.Dx := by
  rw [dz_eq H, dup_eq H, dgp_eq H, H.a1, H.a2, splat_mx lit_alpha, mul_mx, dot_up_t, dot_up_t, add_mx, add_mx]
  exact mx_congr fun i j _ _ => by rw [Args.Dx, Finset.sum_add_distrib]; ring

theorem dg_eq : (broadcastInDim S1x1024 ![1] bcast_S1024_S1x1024_1 (Host.reduceAdd (shapeCast S1x1024 (Host.reduceAdd (mulf (res_main_v32 L) (res_main_v39 L)) (constant S_ .f32 0x00000000#32) reducesTo_S4096x1024_S1024_d0 h_S_) shapeCasts_S1024_S1x1024) (constant S_ .f32 0x00000000#32) reducesTo_S1x1024_S1024_d0 h_S_) : FVec Ideal S1x1024 .f32)
    = mx fun _ j => A.Dg j := by
  rw [xhat_eq H, dy_eq H, mul_mx, sum_rows, row_1024, sum_row, brow_vec]
  exact mx_congr fun i j _ _ => Finset.sum_congr rfl fun k _ => mul_comm _ _
theorem db_eq : (broadcastInDim S1x1024 ![1] bcast_S1024_S1x1024_1 (Host.reduceAdd (shapeCast S1x1024 (Host.reduceAdd (φ := .f32) (L (Proc.devRef .tc main_arg5)) (constant S_ .f32 0x00000000#32) reducesTo_S4096x1024_S1024_d0 h_S_) shapeCasts_S1024_S1x1024) (constant S_ .f32 0x00000000#32) reducesTo_S1x1024_S1024_d0 h_S_) : FVec Ideal S1x1024 .f32)
    = mx fun _ j => A.Db j := by
  rw [H.a5, sum_rows, row_1024, sum_row, brow_vec]; rfl
omit H in
theorem rows_eq (A : Args) : (concatenate S8x1024 0 [⟨S1x1024, (mx fun _ j => A.Dg j : FVec Ideal S1x1024 .f32)⟩, ⟨S1x1024, (mx fun _ j => A.Db j : FVec Ideal S1x1024 .f32)⟩, ⟨S6x1024, (mx fun _ _ => 0 : FVec Ideal S6x1024 .f32)⟩] concatenates_S1x1024_S1x1024_S6x1024_S8x1024_d0)
    = (mx A.Dln : FVec Ideal S8x1024 .f32) := by
  funext i
  pointwise
  show _ = ((A.Dln (i 0).val (i 1).val : ℝ) : EReal)
  unfold Args.Dln
  by_cases h : (i 0).val = 0
  · rw [dif_pos (by omega), if_pos h]; rfl
  · by_cases h' : (i 0).val = 1
    · rw [dif_neg (by omega), dif_pos (by omega), if_neg h, if_pos h']; rfl
    · rw [dif_neg (by omega), dif_neg (by omega), if_neg h, if_neg h']; rfl

omit H in
/-- Every execution of the reference ends with its results at the real gradients and its arguments unchanged. -/
theorem run_values (m : (ℓ : Loc nD τ sig) → Buf (Elt Ideal) ℓ) (ρ : Dev nD → PrngReg) (A : Dev nD → Args)
    (H : ∀ c, Holds (launchContents m c) (A c)) :
    θ_run defs (onTc (τ := τ) (main (F := Ideal))) ⟨m, fun _ => 0, ρ⟩ fun r => ∀ c : Dev nD,
      r.2.mem ((c.tc : Thread nD τ).loc main_v86) = (mx (A c).Dx : FVec Ideal S4096x1024 .f32)
      ∧ r.2.mem ((c.tc : Thread nD τ).loc main_v91) = (mx (A c).Dgp : FVec Ideal S4096x3072 .bf16)
      ∧ r.2.mem ((c.tc : Thread nD τ).loc main_v92) = (mx (A c).Dup : FVec Ideal S4096x3072 .bf16)
      ∧ r.2.mem ((c.tc : Thread nD τ).loc main_v93) = (mx (hid (A c).gp (A c).up) : FVec Ideal S4096x3072 .bf16)
      ∧ r.2.mem ((c.tc : Thread nD τ).loc main_v94) = (mx (A c).Dz : FVec Ideal S4096x1024 .bf16)
      ∧ r.2.mem ((c.tc : Thread nD τ).loc main_v90) = (mx (A c).Dln : FVec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h1, h2, h3, h4, h5, h6, hA⟩ := h c
    refine ⟨h1.trans (dx_eq (H c)), h2.trans ?_, h3.trans ?_, h4.trans ?_, h5.trans ?_, h6.trans ?_, hA⟩
    · rw [dgp_eq (H c)]; rfl
    · rw [dup_eq (H c)]; rfl
    · rw [hid_eq (H c)]; rfl
    · rw [dz_eq (H c)]; rfl
    · refine Eq.trans ?_ (rows_eq (A c))
      rw [← dg_eq (H c), ← db_eq (H c), ← splat_mx lit_zero bcast_S_S6x1024])
    (run (F := Ideal) m ρ)
end Cert.ReferenceIdeal.Value

end
-- ==== Proof.Block.lean ====
module

public import proofs.«01_k».proof.Proof.Spec
public import proofs.«01_k».proof.Proof.Pieces

@[expose] public section

set_option maxRecDepth 16384

noncomputable section

namespace Cert.KernelIdeal.Ffn

open Idealize.ShloMosaic Cert.KernelIdeal.Gen Cert.Reals

/-! ## The body's values, over the reals

Where the blocks a point reads are real matrices, so is every block it leaves. -/

/-- A real matrix as a block of either format. -/
abbrev m32 {d : Fin 2 → ℕ} (a : ℕ → ℕ → ℝ) : FVec Ideal ⟨2, d⟩ .f32 := mx a
abbrev m16 {d : Fin 2 → ℕ} (a : ℕ → ℕ → ℝ) : FVec Ideal ⟨2, d⟩ .bf16 := mx a

section norm
variable (dyb zb gr : ℕ → ℕ → ℝ)
theorem pay3_eq : k0_pay3 (F := Ideal) (m32 zb) = mx (zcen zb) := by
  unfold k0_pay3
  dsimp only
  rw [shapeCast_mx, sum_cols', column_512, broadcast_mx lit_1024, div_1024', spread_col, sub_mx]; rfl
theorem pay4_eq : k0_pay4 (F := Ideal) (m32 zb) = mx fun i _ => rstd zb i := by
  unfold k0_pay4
  dsimp only
  rw [pay3_eq, mul_mx, sum_cols', column_512, broadcast_mx lit_1024, div_1024', broadcast_mx lit_eps, add_mx]
  exact rsqrt_mx' (fun i _ => var zb i + eps) fun i _ _ _ => var_eps_pos zb i
theorem pay5_eq : k0_pay5 (F := Ideal) (m32 zb) = mx (xhat zb) := by
  unfold k0_pay5
  dsimp only
  rw [pay3_eq, pay4_eq, spread_col, mul_mx]; rfl
theorem pay6_eq : k0_pay6 (F := Ideal) (m32 dyb) (m32 zb) (m32 gr) = mx (dz zb dyb fun j => gr 0 j) := by
  unfold k0_pay6
  dsimp only
  rw [pay4_eq, pay5_eq, shapeCast_mx, spread_row, mul_mx, sum_cols', column_512, broadcast_mx lit_1024, div_1024', spread_col, spread_col, sub_mx,
    mul_mx, sum_cols', column_512, div_1024', spread_col, mul_mx, sub_mx, mul_mx]; rfl
theorem pay7_eq : k0_pay7 (F := Ideal) (m32 dyb) (m32 zb) = mx fun i j => dyb i j * xhat zb i j := by
  unfold k0_pay7
  dsimp only
  rw [pay5_eq, mul_mx]
theorem pay11_eq (a L : ℕ → ℕ → ℝ) : k0_pay11 (F := Ideal) (m32 a) (m32 L) = mx fun i j => L i j + ∑ k : Fin 512, a k j := by
  unfold k0_pay11
  dsimp only
  rw [shapeCast_mx, sum_rows', row_1024', add_mx]
theorem pay12_eq (a L : ℕ → ℕ → ℝ) : k0_pay12 (F := Ideal) (m32 a) (m32 L) = mx fun i j => L i j + ∑ k : Fin 512, a k j := by
  unfold k0_pay12
  dsimp only
  rw [shapeCast_mx, sum_rows', row_1024', add_mx]
theorem pay9_eq : k0_pay9 (F := Ideal) = mx fun _ _ => 0 := by
  unfold k0_pay9
  exact broadcast_mx lit_zero
theorem pay10_eq (a : ℕ → ℕ → ℝ) : k0_pay10 (F := Ideal) (m32 a) = mx fun i j => alpha * a i j := by
  unfold k0_pay10
  dsimp only
  rw [broadcast_mx lit_alpha, mul_mx, shapeCast_mx]
end norm

section gates
variable (D w gp up v : ℕ → ℕ → ℝ)
theorem pay13_eq : k0_pay13 (F := Ideal) (m16 D) (m16 w) = mx fun i j => ∑ k : Fin 1024, D i k * w j k := by
  unfold k0_pay13
  dsimp only
  rw [shapeCast_mx, shapeCast_mx, dot_block]
theorem pay14_eq : k0_pay14 (F := Ideal) (m16 D) (m16 w) = mx fun i j => ∑ k : Fin 1024, D i k * w j k := by
  unfold k0_pay14
  dsimp only
  rw [shapeCast_mx, shapeCast_mx, dot_block]
theorem pay15_eq : k0_pay15 (F := Ideal) (m16 gp) = mx gp := by
  unfold k0_pay15; dsimp only; rw [shapeCast_mx, extf_mx]
theorem pay16_eq : k0_pay16 (F := Ideal) (m16 gp) = mx gp := by
  unfold k0_pay16; dsimp only; rw [shapeCast_mx, extf_mx]
theorem pay25_eq : k0_pay25 (F := Ideal) (m16 gp) = mx gp := by
  unfold k0_pay25; dsimp only; rw [shapeCast_mx, extf_mx]
theorem pay26_eq : k0_pay26 (F := Ideal) (m16 gp) = mx gp := by
  unfold k0_pay26; dsimp only; rw [shapeCast_mx, extf_mx]
theorem pay17_eq : k0_pay17 (F := Ideal) (m16 gp) = mx (sg gp) := by
  unfold k0_pay17; dsimp only; rw [pay15_eq, logistic_mx]; rfl
theorem pay27_eq : k0_pay27 (F := Ideal) (m16 gp) = mx (sg gp) := by
  unfold k0_pay27; dsimp only; rw [pay25_eq, logistic_mx]; rfl
theorem pay18_eq : k0_pay18 (F := Ideal) (m16 gp) = mx (act gp) := by
  unfold k0_pay18; dsimp only; rw [pay15_eq, pay17_eq, mul_mx]; rfl
theorem pay28_eq : k0_pay28 (F := Ideal) (m16 gp) = mx (act gp) := by
  unfold k0_pay28; dsimp only; rw [pay25_eq, pay27_eq, mul_mx]; rfl
theorem pay19_eq : k0_pay19 (F := Ideal) (m16 gp) (m16 up) = mx (hid gp up) := by
  unfold k0_pay19; dsimp only; rw [pay18_eq, pay16_eq, mul_mx, truncf_mx]; rfl
theorem pay29_eq : k0_pay29 (F := Ideal) (m16 gp) (m16 up) = mx (hid gp up) := by
  unfold k0_pay29; dsimp only; rw [pay28_eq, pay26_eq, mul_mx, truncf_mx]; rfl
theorem pay20_eq : k0_pay20 (F := Ideal) (m16 D) (m16 w) (m16 gp) = mx (dup gp fun i j => ∑ k : Fin 1024, D i k * w j k) := by
  unfold k0_pay20; dsimp only; rw [pay13_eq, pay18_eq, mul_mx, truncf_mx]; rfl
theorem pay30_eq : k0_pay30 (F := Ideal) (m32 v) (m16 gp) = mx (dup gp v) := by
  unfold k0_pay30; dsimp only; rw [pay28_eq, mul_mx, truncf_mx]; rfl
theorem pay21_eq : k0_pay21 (F := Ideal) (m16 D) (m16 w) (m16 up) = mx fun i j => (∑ k : Fin 1024, D i k * w j k) * up i j := by
  unfold k0_pay21; dsimp only; rw [pay13_eq, pay16_eq, mul_mx]
theorem pay31_eq : k0_pay31 (F := Ideal) (m32 v) (m16 up) = mx fun i j => v i j * up i j := by
  unfold k0_pay31; dsimp only; rw [pay26_eq, mul_mx]
theorem pay22_eq : k0_pay22 (F := Ideal) = mx fun _ _ => 1 := by
  unfold k0_pay22; exact broadcast_mx lit_one
theorem pay23_eq : k0_pay23 (F := Ideal) (m32 gp) (m32 (sg gp)) (m32 fun i j => v i j * up i j) (m32 fun _ _ => 1) = mx (dgp gp up v) := by
  unfold k0_pay23; dsimp only
  rw [broadcast_mx lit_one, sub_mx, mul_mx, add_mx, mul_mx, mul_mx, truncf_mx]; rfl
theorem pay1_eq : k0_pay1 (F := Ideal) (m32 gp) (m32 (sg gp)) (m32 fun i j => v i j * up i j) = mx (dgp gp up v) := by
  unfold k0_pay1; dsimp only
  rw [broadcast_mx lit_one, sub_mx, mul_mx, add_mx, mul_mx, mul_mx, truncf_mx]; rfl
theorem pay24_eq (a wg wu du : ℕ → ℕ → ℝ) :
    k0_pay24 (F := Ideal) (m32 gp) (m32 (sg gp)) (m16 du) (m32 fun i j => v i j * up i j) (m32 fun _ _ => 1) (m32 a) (m16 wg) (m16 wu)
      = mx fun i j => a i j + (∑ k : Fin 1024, dgp gp up v i k * wg j k + ∑ k : Fin 1024, du i k * wu j k) := by
  unfold k0_pay24; dsimp only
  rw [pay23_eq, shapeCast_mx, shapeCast_mx, dot_block, dot_block, add_mx, add_mx, shapeCast_mx]
theorem pay2_eq (a wg wu du : ℕ → ℕ → ℝ) :
    k0_pay2 (F := Ideal) (m32 gp) (m32 (sg gp)) (m16 du) (m32 fun i j => v i j * up i j) (m32 a) (m16 wg) (m16 wu)
      = mx fun i j => a i j + (∑ k : Fin 1024, dgp gp up v i k * wg j k + ∑ k : Fin 1024, du i k * wu j k) := by
  unfold k0_pay2; dsimp only
  rw [pay1_eq, shapeCast_mx, shapeCast_mx, dot_block, dot_block, add_mx, add_mx, shapeCast_mx]
end gates

/-! ## The two halves of a block -/

theorem lo_mx (a : ℕ → ℕ → ℝ) : lo (F := Ideal) (e := .f32) (m32 a) = m32 a := by
  funext i
  show ((a _ _ : ℝ) : EReal) = ((a _ _ : ℝ) : EReal)
  simp [Rect.emb_apply]
theorem hi_mx (a : ℕ → ℕ → ℝ) : hi (F := Ideal) (e := .f32) (m32 a) = m32 fun i j => a (256 + i) j := by
  funext i
  show ((a _ _ : ℝ) : EReal) = ((a _ _ : ℝ) : EReal)
  simp [Rect.emb_apply]
theorem join_mx (a : ℕ → ℕ → ℝ) : join (F := Ideal) (e := .f32) (m32 a) (m32 fun i j => a (256 + i) j) = m32 a := by
  funext y
  unfold join
  by_cases h : y ∈ rBot.set
  · obtain ⟨x, rfl⟩ : ∃ x, rBot.emb x = y := rBot.exists_idx_of_mem h
    rw [View.canon_cons_emb]
    show ((a _ _ : ℝ) : EReal) = ((a _ _ : ℝ) : EReal)
    simp [Rect.emb_apply]
  · have h' : y ∈ rTop.set := (mem_top_or_bot y).resolve_right h
    rw [canon_off (F := Ideal) (e := .f32) _ _ _ h]
    obtain ⟨x, rfl⟩ : ∃ x, rTop.emb x = y := rTop.exists_idx_of_mem h'
    rw [View.canon_cons_emb]
    show ((a _ _ : ℝ) : EReal) = ((a _ _ : ℝ) : EReal)
    simp [Rect.emb_apply]
theorem lo_mx' (a : ℕ → ℕ → ℝ) : lo (F := Ideal) (e := .bf16) (m16 a) = m16 a := by
  funext i
  show ((a _ _ : ℝ) : EReal) = ((a _ _ : ℝ) : EReal)
  simp [Rect.emb_apply]
theorem hi_mx' (a : ℕ → ℕ → ℝ) : hi (F := Ideal) (e := .bf16) (m16 a) = m16 fun i j => a (256 + i) j := by
  funext i
  show ((a _ _ : ℝ) : EReal) = ((a _ _ : ℝ) : EReal)
  simp [Rect.emb_apply]
theorem join_mx' (a : ℕ → ℕ → ℝ) : join (F := Ideal) (e := .bf16) (m16 a) (m16 fun i j => a (256 + i) j) = m16 a := by
  funext y
  unfold join
  by_cases h : y ∈ rBot.set
  · obtain ⟨x, rfl⟩ : ∃ x, rBot.emb x = y := rBot.exists_idx_of_mem h
    rw [View.canon_cons_emb]
    show ((a _ _ : ℝ) : EReal) = ((a _ _ : ℝ) : EReal)
    simp [Rect.emb_apply]
  · have h' : y ∈ rTop.set := (mem_top_or_bot y).resolve_right h
    rw [canon_off (F := Ideal) (e := .bf16) _ _ _ h]
    obtain ⟨x, rfl⟩ : ∃ x, rTop.emb x = y := rTop.exists_idx_of_mem h'
    rw [View.canon_cons_emb]
    show ((a _ _ : ℝ) : EReal) = ((a _ _ : ℝ) : EReal)
    simp [Rect.emb_apply]

/-! ## What a point leaves -/

/-- The blocks a point reads, from the real matrices they are. -/
structure Blk where
  dy : ℕ → ℕ → ℝ
  z : ℕ → ℕ → ℝ
  gp : ℕ → ℕ → ℝ
  up : ℕ → ℕ → ℝ
  wg : ℕ → ℕ → ℝ
  wu : ℕ → ℕ → ℝ
  wd : ℕ → ℕ → ℝ
  g : ℕ → ℝ
def Blk.ins (B : Blk) : Ins Ideal := ⟨m32 B.dy, m32 B.z, m16 B.gp, m16 B.up, m16 B.wg, m16 B.wu, m16 B.wd, m32 fun _ j => B.g j⟩

/-- The hidden rows' gradient from the block `D`. -/
def Blk.dh (B : Blk) (D : ℕ → ℕ → ℝ) (i j : ℕ) : ℝ := ∑ k : Fin 1024, D i k * B.wd j k

variable (B : Blk) (D : ℕ → ℕ → ℝ)

theorem dzbOf_eq : dzbOf B.ins = m16 (dz B.z B.dy B.g) := by
  unfold dzbOf Blk.ins k0_pay8
  dsimp only
  rw [pay6_eq, truncf_mx]
theorem accInit_eq : accInit B.ins = m32 fun i j => alpha * dz B.z B.dy B.g i j := by
  unfold accInit Blk.ins
  dsimp only
  rw [pay6_eq, pay10_eq]
theorem hidOf_eq : hidOf B.ins = m16 (hid B.gp B.up) := by
  unfold hidOf Blk.ins
  dsimp only
  rw [lo_mx', lo_mx', hi_mx', hi_mx', pay19_eq, pay29_eq]
  exact join_mx' _
theorem dupTop_eq : dupTop B.ins (m16 D) = m16 (dup B.gp (B.dh D)) := by
  unfold dupTop Blk.ins
  dsimp only
  rw [lo_mx', lo_mx', pay20_eq]; rfl
theorem dupBot_eq : dupBot B.ins (m16 D) = m16 fun i j => dup B.gp (B.dh D) (256 + i) j := by
  unfold dupBot Blk.ins
  dsimp only
  rw [hi_mx', hi_mx', pay14_eq, pay30_eq]; rfl
theorem dupOf_eq : dupOf B.ins (m16 D) = m16 (dup B.gp (B.dh D)) := by
  unfold dupOf
  rw [dupTop_eq, dupBot_eq]
  exact join_mx' _
theorem dgpOf_eq : dgpOf B.ins (m16 D) = m16 (dgp B.gp B.up (B.dh D)) := by
  unfold dgpOf Blk.ins
  dsimp only
  rw [lo_mx', lo_mx', lo_mx', hi_mx', hi_mx', hi_mx', pay15_eq, pay17_eq, pay21_eq, pay22_eq, pay23_eq, pay25_eq, pay27_eq, pay14_eq,
    pay31_eq, pay1_eq]
  exact join_mx' _
theorem accOf_eq (a : ℕ → ℕ → ℝ) : accOf B.ins (m16 D) (m32 a) = m32 fun i j => a i j
    + (∑ k : Fin 1024, dgp B.gp B.up (B.dh D) i k * B.wg j k + ∑ k : Fin 1024, dup B.gp (B.dh D) i k * B.wu j k) := by
  unfold accOf
  rw [dupTop_eq, dupBot_eq]
  unfold Blk.ins
  dsimp only
  rw [lo_mx', lo_mx', lo_mx', lo_mx, hi_mx', hi_mx', hi_mx', hi_mx, pay15_eq, pay17_eq, pay21_eq, pay22_eq, pay24_eq, pay25_eq, pay27_eq,
    pay14_eq, pay31_eq, pay2_eq]
  exact join_mx _
theorem dlnOf_eq (l : ℕ → ℕ → ℝ) : dlnOf B.ins (m32 l) = m32 fun i j => if i = 0 then l 0 j + ∑ k : Fin 512, B.dy k j * xhat B.z k j
    else if i = 1 then l 1 j + ∑ k : Fin 512, B.dy k j else l i j := by
  have e0 : (View.ld (m32 l : Vec Ideal S8x1024 .f32) rRow0 : Vec Ideal S1x1024 .f32) = m32 l := by
    funext i
    show ((l _ _ : ℝ) : EReal) = ((l _ _ : ℝ) : EReal)
    simp [Rect.emb_apply]
  have e1 : (View.ld (m32 l : Vec Ideal S8x1024 .f32) rRow1 : Vec Ideal S1x1024 .f32) = m32 fun i j => l (1 + i) j := by
    funext i
    show ((l _ _ : ℝ) : EReal) = ((l _ _ : ℝ) : EReal)
    simp [Rect.emb_apply]
  unfold dlnOf Blk.ins
  dsimp only
  rw [e0, e1, pay7_eq, pay11_eq, pay12_eq]
  funext y
  by_cases h1 : y ∈ rRow1.set
  · obtain ⟨x, rfl⟩ : ∃ x, rRow1.emb x = y := rRow1.exists_idx_of_mem h1
    rw [View.canon_cons_emb]
    have hx : (x 0).val = 0 := by have : (x 0).val < 1 := (x 0).isLt; omega
    show (((_ : ℝ)) : EReal) = ((_ : ℝ) : EReal)
    simp [Rect.emb_apply, hx]
  · rw [canon_off (F := Ideal) (e := .f32) _ _ _ h1]
    have n1 : (y 0).val ≠ 1 := fun e => h1 (by
      rw [Rect.mem_set_unit]
      refine Fin.forall_fin_two.mpr ⟨⟨?_, ?_⟩, ⟨Nat.zero_le _, ?_⟩⟩
      · show 1 ≤ (y 0).val
        omega
      · show (y 0).val < 1 + 1
        omega
      · show (y 1).val < 0 + 1024
        have : (y 1).val < 1024 := (y 1).isLt
        omega)
    by_cases h0 : y ∈ rRow0.set
    · obtain ⟨x, rfl⟩ : ∃ x, rRow0.emb x = y := rRow0.exists_idx_of_mem h0
      rw [View.canon_cons_emb]
      have hx : (x 0).val = 0 := by have : (x 0).val < 1 := (x 0).isLt; omega
      show (((_ : ℝ)) : EReal) = ((_ : ℝ) : EReal)
      simp [Rect.emb_apply, hx]
    · rw [canon_off (F := Ideal) (e := .f32) _ _ _ h0]
      have n0 : (y 0).val ≠ 0 := fun e => h0 (by
        rw [Rect.mem_set_unit]
        refine Fin.forall_fin_two.mpr ⟨⟨Nat.zero_le _, ?_⟩, ⟨Nat.zero_le _, ?_⟩⟩
        · show (y 0).val < 0 + 1
          omega
        · show (y 1).val < 0 + 1024
          have : (y 1).val < 1024 := (y 1).isLt
          omega)
      rw [View.canon_unit_zero hz2']
      show ((l (y 0).val (y 1).val : ℝ) : EReal) = ((if (y 0).val = 0 then _ else if (y 0).val = 1 then _ else l (y 0).val (y 1).val : ℝ) : EReal)
      rw [if_neg n0, if_neg n1]

end Cert.KernelIdeal.Ffn

end
-- ==== Proof.Entry.lean ====
module

public import proofs.«01_k».proof.Proof.Block
public import proofs.«01_k».proof.Proof.KFrame
public import Idealize.ShloMosaic.Lib.Claim

@[expose] public section

set_option maxRecDepth 16384

noncomputable section

namespace Cert.KernelIdeal.Ffn

open Idealize.ShloMosaic Idealize.ShloMosaic.TcCoe Idealize.SL.Sem Cert.KernelIdeal.Gen Cert.Reals

/-! ## The arrays the region finds, over the reals -/

variable (m : (ℓ : Loc nD τ sig) → Buf (Elt Ideal) ℓ) (c : Dev nD)

/-- The arguments are the real matrices `A`. -/
structure Holds (A : Args) : Prop where
  a0 : m ((c : Thread nD τ).loc main_arg0) = (mx A.x : FVec Ideal S4096x1024 .f32)
  a1 : m ((c : Thread nD τ).loc main_arg1) = (mx A.wg : FVec Ideal S1024x3072 .f32)
  a2 : m ((c : Thread nD τ).loc main_arg2) = (mx A.wu : FVec Ideal S1024x3072 .f32)
  a3 : m ((c : Thread nD τ).loc main_arg3) = (mx A.wd : FVec Ideal S3072x1024 .f32)
  a4 : m ((c : Thread nD τ).loc main_arg4) = (vx A.g : FVec Ideal S1024 .f32)
  a5 : m ((c : Thread nD τ).loc main_arg5) = (mx A.dy : FVec Ideal S4096x1024 .f32)

variable {m c} {A : Args} (H : Holds m c A)
include H

theorem V_dy : V m c main_arg5 = (mx A.dy : FVec Ideal S4096x1024 .f32) := by rw [V_main_arg5, H.a5]
theorem V_gp : V m c main_v8 = (mx A.gp : FVec Ideal S4096x3072 .bf16) := by
  simp only [V, hostOps0, hostOps0_1, hostOps0_2, List.flatten_cons, List.flatten_nil, List.append_nil,
    List.cons_append, List.nil_append]
  after_results_simp
  show truncf .bf16 (Host.dotGeneral (F := Ideal) (φ₁ := .f32) (φ₂ := .f32) dot_S4096x1024_S1024x3072_S4096x3072_1_0_0_1_n_n none
    (m ((c : Thread nD τ).loc main_arg0)) (m ((c : Thread nD τ).loc main_arg1))) bitsLt_bf16_f32 = _
  rw [H.a0, H.a1, dot_up', truncf_mx]; rfl

theorem V_up : V m c main_v9 = (mx A.up : FVec Ideal S4096x3072 .bf16) := by
  simp only [V, hostOps0, hostOps0_1, hostOps0_2, List.flatten_cons, List.flatten_nil, List.append_nil,
    List.cons_append, List.nil_append]
  after_results_simp
  show truncf .bf16 (Host.dotGeneral (F := Ideal) (φ₁ := .f32) (φ₂ := .f32) dot_S4096x1024_S1024x3072_S4096x3072_1_0_0_1_n_n none
    (m ((c : Thread nD τ).loc main_arg0)) (m ((c : Thread nD τ).loc main_arg2))) bitsLt_bf16_f32 = _
  rw [H.a0, H.a2, dot_up', truncf_mx]; rfl

theorem V_wg : V m c main_v11 = (mx A.wg : FVec Ideal S1024x3072 .bf16) := by
  simp only [V, hostOps0, hostOps0_1, hostOps0_2, List.flatten_cons, List.flatten_nil, List.append_nil,
    List.cons_append, List.nil_append]
  after_results_simp
  show truncf (F := Ideal) (s := S1024x3072) (φ := .f32) .bf16 (m ((c : Thread nD τ).loc main_arg1)) bitsLt_bf16_f32 = _
  rw [H.a1, truncf_mx]

theorem V_wu : V m c main_v12 = (mx A.wu : FVec Ideal S1024x3072 .bf16) := by
  simp only [V, hostOps0, hostOps0_1, hostOps0_2, List.flatten_cons, List.flatten_nil, List.append_nil,
    List.cons_append, List.nil_append]
  after_results_simp
  show truncf (F := Ideal) (s := S1024x3072) (φ := .f32) .bf16 (m ((c : Thread nD τ).loc main_arg2)) bitsLt_bf16_f32 = _
  rw [H.a2, truncf_mx]

theorem V_wd : V m c main_v13 = (mx A.wd : FVec Ideal S3072x1024 .bf16) := by
  simp only [V, hostOps0, hostOps0_1, hostOps0_2, List.flatten_cons, List.flatten_nil, List.append_nil,
    List.cons_append, List.nil_append]
  after_results_simp
  show truncf (F := Ideal) (s := S3072x1024) (φ := .f32) .bf16 (m ((c : Thread nD τ).loc main_arg3)) bitsLt_bf16_f32 = _
  rw [H.a3, truncf_mx]

theorem V_g : V m c main_v14 = (mx (fun _ j => A.g j) : FVec Ideal S1x1024 .f32) := by
  simp only [V, hostOps0, hostOps0_1, hostOps0_2, List.flatten_cons, List.flatten_nil, List.append_nil,
    List.cons_append, List.nil_append]
  after_results_simp
  show broadcastInDim S1x1024 ![1] _ (m ((c : Thread nD τ).loc main_arg4) : FVec Ideal S1024 .f32) = _
  rw [H.a4]
  exact brow_vec _ _

theorem V_z : V m c main_v7 = (mx A.z : FVec Ideal S4096x1024 .f32) := by
  simp only [V, hostOps0, hostOps0_1, hostOps0_2, List.flatten_cons, List.flatten_nil, List.append_nil,
    List.cons_append, List.nil_append]
  after_results_simp
  show addf (F := Ideal)
      (mulf (broadcastInDim S4096x1024 ![] bcast_S_S4096x1024 (constant S_ .f32 1071072509#32))
        (m ((c : Thread nD τ).loc main_arg0) : FVec Ideal S4096x1024 .f32))
      (Host.dotGeneral (F := Ideal) (φ₁ := .f32) (φ₂ := .f32) dot_S4096x3072_S3072x1024_S4096x1024_1_0_0_1_n_n none
        (mulf (mulf
            (Host.dotGeneral (F := Ideal) (φ₁ := .f32) (φ₂ := .f32) dot_S4096x1024_S1024x3072_S4096x3072_1_0_0_1_n_n none
              (m ((c : Thread nD τ).loc main_arg0)) (m ((c : Thread nD τ).loc main_arg1)))
            (Host.divf (broadcastInDim S4096x3072 ![] bcast_S_S4096x3072 (constant S_ .f32 1065353216#32))
              (addf (broadcastInDim S4096x3072 ![] bcast_S_S4096x3072 (constant S_ .f32 1065353216#32))
                (Host.exp (Host.negf
                  (Host.dotGeneral (F := Ideal) (φ₁ := .f32) (φ₂ := .f32) dot_S4096x1024_S1024x3072_S4096x3072_1_0_0_1_n_n none
                    (m ((c : Thread nD τ).loc main_arg0)) (m ((c : Thread nD τ).loc main_arg1))))))))
          (Host.dotGeneral (F := Ideal) (φ₁ := .f32) (φ₂ := .f32) dot_S4096x1024_S1024x3072_S4096x3072_1_0_0_1_n_n none
            (m ((c : Thread nD τ).loc main_arg0)) (m ((c : Thread nD τ).loc main_arg2))))
        (m ((c : Thread nD τ).loc main_arg3))) = _
  rw [H.a0, H.a1, H.a2, H.a3, dot_up', dot_up']
  rw [splat_mx lit_one, splat_mx lit_alpha, neg_mx, exp_mx, add_mx, sigmoid_mx, mul_mx, mul_mx, mul_mx, dot_down', add_mx]
  rfl

end Cert.KernelIdeal.Ffn

end
-- ==== Proof.Walk.lean ====
module

public import proofs.«01_k».proof.Proof.Entry

@[expose] public section

set_option maxRecDepth 16384

noncomputable section

namespace Cert.KernelIdeal.Ffn

open Idealize.ShloMosaic Idealize.ShloMosaic.TcCoe Idealize.SL.Sem Cert.KernelIdeal.Gen Cert.Reals

/-! ## The blocks a point reads -/

theorem N_lt (t : Fin cfg0.N) : t.val < 24 := Nat.lt_of_lt_of_eq t.isLt N_0

/-- Each window's block at point `t`: row tile `t / 3`, column tile `t % 3`. -/
theorem ix0 : ∀ t : Fin cfg0.N, win0_0.index t 0 = t.val / 3 ∧ win0_0.index t 1 = 0 := by decide +kernel
theorem ix1 : ∀ t : Fin cfg0.N, win0_1.index t 0 = t.val / 3 ∧ win0_1.index t 1 = 0 := by decide +kernel
theorem ix2 : ∀ t : Fin cfg0.N, win0_2.index t 0 = t.val / 3 ∧ win0_2.index t 1 = t.val % 3 := by decide +kernel
theorem ix3 : ∀ t : Fin cfg0.N, win0_3.index t 0 = t.val / 3 ∧ win0_3.index t 1 = t.val % 3 := by decide +kernel
theorem ix4 : ∀ t : Fin cfg0.N, win0_4.index t 0 = 0 ∧ win0_4.index t 1 = t.val % 3 := by decide +kernel
theorem ix5 : ∀ t : Fin cfg0.N, win0_5.index t 0 = 0 ∧ win0_5.index t 1 = t.val % 3 := by decide +kernel
theorem ix6 : ∀ t : Fin cfg0.N, win0_6.index t 0 = t.val % 3 ∧ win0_6.index t 1 = 0 := by decide +kernel
theorem ix7 : ∀ t : Fin cfg0.N, win0_7.index t 0 = 0 ∧ win0_7.index t 1 = 0 := by decide +kernel
theorem ix8 : ∀ t : Fin cfg0.N, win0_8.index t 0 = t.val / 3 ∧ win0_8.index t 1 = 0 := by decide +kernel
theorem ix9 : ∀ t : Fin cfg0.N, win0_9.index t 0 = t.val / 3 ∧ win0_9.index t 1 = t.val % 3 := by decide +kernel
theorem ix10 : ∀ t : Fin cfg0.N, win0_10.index t 0 = t.val / 3 ∧ win0_10.index t 1 = t.val % 3 := by decide +kernel
theorem ix11 : ∀ t : Fin cfg0.N, win0_11.index t 0 = t.val / 3 ∧ win0_11.index t 1 = t.val % 3 := by decide +kernel
theorem ix12 : ∀ t : Fin cfg0.N, win0_12.index t 0 = t.val / 3 ∧ win0_12.index t 1 = 0 := by decide +kernel
theorem ix13 : ∀ t : Fin cfg0.N, win0_13.index t 0 = 0 ∧ win0_13.index t 1 = 0 := by decide +kernel

/-- The blocks of point `t`, cut from the whole matrices. -/
def blkAt (A : Args) (t : ℕ) : Blk where
  dy i j := A.dy (512 * (t / 3) + i) j
  z i j := A.z (512 * (t / 3) + i) j
  gp i j := A.gp (512 * (t / 3) + i) (1024 * (t % 3) + j)
  up i j := A.up (512 * (t / 3) + i) (1024 * (t % 3) + j)
  wg i j := A.wg i (1024 * (t % 3) + j)
  wu i j := A.wu i (1024 * (t % 3) + j)
  wd i j := A.wd (1024 * (t % 3) + i) j
  g := A.g

variable {m : (ℓ : Loc nD τ sig) → Buf (Elt Ideal) ℓ} {c : Dev nD} {A : Args} (H : Holds m c A)
include H

theorem rd0 (t : Fin cfg0.N) : iblk m c 0 t = m32 (blkAt A t).dy := by
  funext j
  unfold iblk
  rw [View.read_apply]
  show V m c main_arg5 _ = _
  rw [V_dy H]
  show ((A.dy (win0_0.index t 0 * 512 + 1 * (j 0).val) (win0_0.index t 1 * 1024 + 1 * (j 1).val) : ℝ) : EReal)
    = ((A.dy (512 * (t.val / 3) + (j 0).val) (j 1).val : ℝ) : EReal)
  rw [(ix0 t).1, (ix0 t).2]
  congr 2 <;> omega
theorem rd1 (t : Fin cfg0.N) : iblk m c 1 t = m32 (blkAt A t).z := by
  funext j
  unfold iblk
  rw [View.read_apply]
  show V m c main_v7 _ = _
  rw [V_z H]
  show ((A.z (win0_1.index t 0 * 512 + 1 * (j 0).val) (win0_1.index t 1 * 1024 + 1 * (j 1).val) : ℝ) : EReal)
    = ((A.z (512 * (t.val / 3) + (j 0).val) (j 1).val : ℝ) : EReal)
  rw [(ix1 t).1, (ix1 t).2]
  congr 2 <;> omega
theorem rd2 (t : Fin cfg0.N) : iblk m c 2 t = m16 (blkAt A t).gp := by
  funext j
  unfold iblk
  rw [View.read_apply]
  show V m c main_v8 _ = _
  rw [V_gp H]
  show ((A.gp (win0_2.index t 0 * 512 + 1 * (j 0).val) (win0_2.index t 1 * 1024 + 1 * (j 1).val) : ℝ) : EReal)
    = ((A.gp (512 * (t.val / 3) + (j 0).val) (1024 * (t.val % 3) + (j 1).val) : ℝ) : EReal)
  rw [(ix2 t).1, (ix2 t).2]
  congr 2 <;> omega
theorem rd3 (t : Fin cfg0.N) : iblk m c 3 t = m16 (blkAt A t).up := by
  funext j
  unfold iblk
  rw [View.read_apply]
  show V m c main_v9 _ = _
  rw [V_up H]
  show ((A.up (win0_3.index t 0 * 512 + 1 * (j 0).val) (win0_3.index t 1 * 1024 + 1 * (j 1).val) : ℝ) : EReal)
    = ((A.up (512 * (t.val / 3) + (j 0).val) (1024 * (t.val % 3) + (j 1).val) : ℝ) : EReal)
  rw [(ix3 t).1, (ix3 t).2]
  congr 2 <;> omega
theorem rd4 (t : Fin cfg0.N) : iblk m c 4 t = m16 (blkAt A t).wg := by
  funext j
  unfold iblk
  rw [View.read_apply]
  show V m c main_v11 _ = _
  rw [V_wg H]
  show ((A.wg (win0_4.index t 0 * 1024 + 1 * (j 0).val) (win0_4.index t 1 * 1024 + 1 * (j 1).val) : ℝ) : EReal)
    = ((A.wg (j 0).val (1024 * (t.val % 3) + (j 1).val) : ℝ) : EReal)
  rw [(ix4 t).1, (ix4 t).2]
  congr 2 <;> omega
theorem rd5 (t : Fin cfg0.N) : iblk m c 5 t = m16 (blkAt A t).wu := by
  funext j
  unfold iblk
  rw [View.read_apply]
  show V m c main_v12 _ = _
  rw [V_wu H]
  show ((A.wu (win0_5.index t 0 * 1024 + 1 * (j 0).val) (win0_5.index t 1 * 1024 + 1 * (j 1).val) : ℝ) : EReal)
    = ((A.wu (j 0).val (1024 * (t.val % 3) + (j 1).val) : ℝ) : EReal)
  rw [(ix5 t).1, (ix5 t).2]
  congr 2 <;> omega
theorem rd6 (t : Fin cfg0.N) : iblk m c 6 t = m16 (blkAt A t).wd := by
  funext j
  unfold iblk
  rw [View.read_apply]
  show V m c main_v13 _ = _
  rw [V_wd H]
  show ((A.wd (win0_6.index t 0 * 1024 + 1 * (j 0).val) (win0_6.index t 1 * 1024 + 1 * (j 1).val) : ℝ) : EReal)
    = ((A.wd (1024 * (t.val % 3) + (j 0).val) (j 1).val : ℝ) : EReal)
  rw [(ix6 t).1, (ix6 t).2]
  congr 2 <;> omega
theorem rd7 (t : Fin cfg0.N) : iblk m c 7 t = m32 fun _ j => (blkAt A t).g j := by
  funext j
  unfold iblk
  rw [View.read_apply]
  show V m c main_v14 _ = _
  rw [V_g H]
  show ((A.g (win0_7.index t 1 * 1024 + 1 * (j 1).val) : ℝ) : EReal) = ((A.g (j 1).val : ℝ) : EReal)
  rw [(ix7 t).2]
  congr 2; omega

theorem insAt_eq (t : Fin cfg0.N) : insAt m c t = (blkAt A t).ins := by
  unfold insAt Blk.ins
  rw [rd0 H, rd1 H, rd2 H, rd3 H, rd4 H, rd5 H, rd6 H, rd7 H]

omit H in
theorem blk_dz (A : Args) (t : ℕ) : dz (blkAt A t).z (blkAt A t).dy (blkAt A t).g = fun i j => A.Dz (512 * (t / 3) + i) j := rfl
omit H in
theorem blk_hid (A : Args) (t : ℕ) : hid (blkAt A t).gp (blkAt A t).up
    = fun i j => hid A.gp A.up (512 * (t / 3) + i) (1024 * (t % 3) + j) := rfl
omit H in
theorem blk_dup (A : Args) (t : ℕ) : dup (blkAt A t).gp ((blkAt A t).dh fun i j => A.Dz (512 * (t / 3) + i) j)
    = fun i j => A.Dup (512 * (t / 3) + i) (1024 * (t % 3) + j) := rfl
omit H in
theorem blk_dgp (A : Args) (t : ℕ) : dgp (blkAt A t).gp (blkAt A t).up ((blkAt A t).dh fun i j => A.Dz (512 * (t / 3) + i) j)
    = fun i j => A.Dgp (512 * (t / 3) + i) (1024 * (t % 3) + j) := rfl

/-! ## What the points carry -/

/-- The input gradient of row tile `q` from the first `n` hidden columns. -/
def accTo (A : Args) (q n : ℕ) (i j : ℕ) : ℝ :=
  alpha * A.Dz (512 * q + i) j
    + ∑ k ∈ Finset.range n, (A.Dgp (512 * q + i) k * A.wg j k + A.Dup (512 * q + i) k * A.wu j k)

/-- The norm's parameter gradients from the first `n` rows. -/
def dlnTo (A : Args) (n : ℕ) (i j : ℕ) : ℝ :=
  if i = 0 then ∑ k ∈ Finset.range n, A.dy k j * xhat A.z k j
  else if i = 1 then ∑ k ∈ Finset.range n, A.dy k j else 0

/-- The state after point `t`. -/
def stOf (A : Args) (t : ℕ) : St Ideal :=
  ⟨m16 fun i j => A.Dz (512 * (t / 3) + i) j, m32 (dlnTo A (512 * (t / 3 + 1))), m32 (accTo A (t / 3) (1024 * (t % 3 + 1)))⟩

omit H in
theorem acc_step (A : Args) (t : ℕ) (a : ℕ → ℕ → ℝ) (ha : a = accTo A (t / 3) (1024 * (t % 3))) :
    accOf (blkAt A t).ins (m16 fun i j => A.Dz (512 * (t / 3) + i) j) (m32 a) = m32 (accTo A (t / 3) (1024 * (t % 3 + 1))) := by
  rw [accOf_eq, blk_dgp, blk_dup, ha]
  refine mx_congr fun i j _ _ => ?_
  unfold accTo
  rw [Nat.mul_succ, Finset.sum_range_add, Finset.sum_range (n := 1024), Finset.sum_add_distrib (s := Finset.univ)]
  exact add_assoc _ _ _

omit H in
theorem dln_step (A : Args) (t : ℕ) (l : ℕ → ℕ → ℝ) (hl : l = dlnTo A (512 * (t / 3))) :
    dlnOf (blkAt A t).ins (m32 l) = m32 (dlnTo A (512 * (t / 3 + 1))) := by
  rw [dlnOf_eq, hl]
  refine mx_congr fun i j _ _ => ?_
  unfold dlnTo
  rw [Nat.mul_succ, Finset.sum_range_add, Finset.sum_range_add, Finset.sum_range (n := 512), Finset.sum_range (n := 512)]
  split
  · rfl
  · split
    · rfl
    · rfl

omit H in
theorem acc_start (A : Args) (t : ℕ) (h : t % 3 = 0) : accInit (blkAt A t).ins = m32 (accTo A (t / 3) (1024 * (t % 3))) := by
  rw [accInit_eq, blk_dz, h]
  refine mx_congr fun i j _ _ => ?_
  simp [accTo]

omit H in
theorem dln_start (A : Args) : k0_pay9 (F := Ideal) = m32 (dlnTo A (512 * (0 / 3))) := by
  rw [pay9_eq]
  refine mx_congr fun i j _ _ => ?_
  simp [dlnTo]

omit H in
theorem first_eq (A : Args) (t : ℕ) (h : t % 3 = 0) :
    stFirst (blkAt A t).ins (m32 (dlnTo A (512 * (t / 3)))) = stOf A t := by
  unfold stFirst stOf
  rw [dzbOf_eq, blk_dz, dln_step A t _ rfl, acc_start A t h, acc_step A t _ rfl]

omit H in
theorem next_eq (A : Args) (t : ℕ) (h : ¬ t % 3 = 0) : stNext (blkAt A t).ins (stOf A (t - 1)) = stOf A t := by
  have h1 : (t - 1) / 3 = t / 3 := by omega
  have h2 : (t - 1) % 3 + 1 = t % 3 := by omega
  unfold stNext stOf
  dsimp only
  rw [h1, h2, acc_step A t _ rfl]

theorem stAt_eq : ∀ (n : ℕ) (h : n < cfg0.N), stAt m c n h = stOf A n
  | 0, h => by
    rw [stAt_A m c ⟨0, h⟩ rfl, insAt_eq H, dln_start A]
    exact first_eq A 0 rfl
  | n + 1, h => by
    by_cases h3 : (n + 1) % 3 = 0
    · rw [stAt_D m c ⟨n + 1, h⟩ (Nat.succ_ne_zero n) h3, insAt_eq H]
      have e : (prev m c ⟨n + 1, h⟩).dln = m32 (dlnTo A (512 * ((n + 1) / 3))) := by
        rw [show prev m c ⟨n + 1, h⟩ = stAt m c n (Nat.lt_of_succ_lt h) from rfl, stAt_eq n]
        show m32 (dlnTo A (512 * (n / 3 + 1))) = _
        rw [show n / 3 + 1 = (n + 1) / 3 by omega]
      rw [e]
      exact first_eq A (n + 1) h3
    · rw [stAt_BC m c ⟨n + 1, h⟩ h3, insAt_eq H,
        show prev m c ⟨n + 1, h⟩ = stAt m c n (Nat.lt_of_succ_lt h) from rfl, stAt_eq n]
      exact next_eq A (n + 1) h3

end Cert.KernelIdeal.Ffn

end
-- ==== Proof.Result.lean ====
module

public import proofs.«01_k».proof.Proof.Walk

@[expose] public section

set_option maxRecDepth 16384

noncomputable section

namespace Cert.KernelIdeal.Ffn

open Idealize.ShloMosaic Idealize.ShloMosaic.TcCoe Idealize.SL.Sem Cert.KernelIdeal.Gen Cert.Reals

/-! ## The arrays the kernel ends holding -/

/-- A whole input gradient row, from all the hidden columns. -/
theorem accTo_full (A : Args) (q i j : ℕ) : accTo A q 3072 i j = A.Dx (512 * q + i) j := by
  unfold accTo
  rw [Finset.sum_range (n := 3072)]
  rfl

theorem dlnTo_full (A : Args) : dlnTo A 4096 = A.Dln := by
  funext i j
  unfold dlnTo
  rw [Finset.sum_range (n := 4096), Finset.sum_range (n := 4096)]
  rfl

theorem stOf_dzb (A : Args) (t : ℕ) : (stOf A t).dzb = m16 fun i j => A.Dz (512 * (t / 3) + i) j := rfl

variable {m : (ℓ : Loc nD τ sig) → Buf (Elt Ideal) ℓ} {c : Dev nD} {A : Args} (H : Holds m c A)
include H

theorem left8 (t : Fin cfg0.N) (h : t.val % 3 = 2) : (dats m 0 c).after 8 t = m32 fun i j => A.Dx (512 * (t.val / 3) + i) j := by
  rw [after_8, stAt_eq H]
  show m32 (accTo A (t.val / 3) (1024 * (t.val % 3 + 1))) = _
  rw [h]
  exact mx_congr fun i j _ _ => accTo_full A _ i j

theorem flushed8 (t : Fin cfg0.N) (hf : (cfg0.win 8).flush t = true) :
    (dats m 0 c).flushed 8 t = ((cfg0.win 8).blk t).view.read (Elt Ideal) (mx A.Dx : FVec Ideal S4096x1024 .f32) := by
  show (cfg0.win 8).cut (grid0.coords t) ((dats m 0 c).after 8 t) = _
  rw [left8 H t ((flush0_8 t).mp hf)]
  funext j
  rw [View.read_apply]
  show ((A.Dx (512 * (t.val / 3) + (j 0).val) ((j 1).val) : ℝ) : EReal)
    = ((A.Dx (win0_8.index t 0 * 512 + 1 * (j 0).val) (win0_8.index t 1 * 1024 + 1 * (j 1).val) : ℝ) : EReal)
  rw [(ix8 t).1, (ix8 t).2]
  congr 2 <;> omega

theorem final8 : (dats m 0 c).arrAt 8 cfg0.N = (mx A.Dx : FVec Ideal S4096x1024 .f32) :=
  (dats m 0 c).arrAt_eq_of_cover 8 _ (flushed8 H) fun i => by
    have h0 : (i 0 : Nat) < 4096 := (i 0).isLt
    have h1 : (i 1 : Nat) < 1024 := (i 1).isLt
    have hN : cfg0.N = 24 := N_0
    obtain ⟨t, ht⟩ : ∃ t : Fin cfg0.N, t.val = 3 * ((i 0 : Nat) / 512) + 2 := ⟨⟨3 * ((i 0 : Nat) / 512) + 2, by omega⟩, rfl⟩
    refine ⟨t, (flush0_8 t).mpr (by omega), ?_⟩
    show i ∈ ((View.whole main_v15_0).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [(ix8 t).1]; omega
    | ⟨1, _⟩ =>
      show win0_8.index t 1 * 1024 ≤ (i 1 : Nat) ∧ (i 1 : Nat) < win0_8.index t 1 * 1024 + 1024
      rw [(ix8 t).2]; omega

theorem left9 (t : Fin cfg0.N)  : (dats m 0 c).after 9 t = m16 fun i j => A.Dgp (512 * (t.val / 3) + i) (1024 * (t.val % 3) + j) := by
  rw [after_9, stAt_eq H, insAt_eq H]
  rw [stOf_dzb, dgpOf_eq, blk_dgp]

theorem flushed9 (t : Fin cfg0.N) (hf : (cfg0.win 9).flush t = true) :
    (dats m 0 c).flushed 9 t = ((cfg0.win 9).blk t).view.read (Elt Ideal) (mx A.Dgp : FVec Ideal S4096x3072 .bf16) := by
  show (cfg0.win 9).cut (grid0.coords t) ((dats m 0 c).after 9 t) = _
  rw [left9 H t]
  funext j
  rw [View.read_apply]
  show ((A.Dgp (512 * (t.val / 3) + (j 0).val) (1024 * (t.val % 3) + (j 1).val) : ℝ) : EReal)
    = ((A.Dgp (win0_9.index t 0 * 512 + 1 * (j 0).val) (win0_9.index t 1 * 1024 + 1 * (j 1).val) : ℝ) : EReal)
  rw [(ix9 t).1, (ix9 t).2]
  congr 2 <;> omega

theorem final9 : (dats m 0 c).arrAt 9 cfg0.N = (mx A.Dgp : FVec Ideal S4096x3072 .bf16) :=
  (dats m 0 c).arrAt_eq_of_cover 9 _ (flushed9 H) fun i => by
    have h0 : (i 0 : Nat) < 4096 := (i 0).isLt
    have h1 : (i 1 : Nat) < 3072 := (i 1).isLt
    have hN : cfg0.N = 24 := N_0
    obtain ⟨t, ht⟩ : ∃ t : Fin cfg0.N, t.val = 3 * ((i 0 : Nat) / 512) + (i 1 : Nat) / 1024 := ⟨⟨3 * ((i 0 : Nat) / 512) + (i 1 : Nat) / 1024, by omega⟩, rfl⟩
    refine ⟨t, flush0_9 t, ?_⟩
    show i ∈ ((View.whole main_v15_1).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [(ix9 t).1]; omega
    | ⟨1, _⟩ =>
      show win0_9.index t 1 * 1024 ≤ (i 1 : Nat) ∧ (i 1 : Nat) < win0_9.index t 1 * 1024 + 1024
      rw [(ix9 t).2]; omega

theorem left10 (t : Fin cfg0.N)  : (dats m 0 c).after 10 t = m16 fun i j => A.Dup (512 * (t.val / 3) + i) (1024 * (t.val % 3) + j) := by
  rw [after_10, stAt_eq H, insAt_eq H]
  rw [stOf_dzb, dupOf_eq, blk_dup]

theorem flushed10 (t : Fin cfg0.N) (hf : (cfg0.win 10).flush t = true) :
    (dats m 0 c).flushed 10 t = ((cfg0.win 10).blk t).view.read (Elt Ideal) (mx A.Dup : FVec Ideal S4096x3072 .bf16) := by
  show (cfg0.win 10).cut (grid0.coords t) ((dats m 0 c).after 10 t) = _
  rw [left10 H t]
  funext j
  rw [View.read_apply]
  show ((A.Dup (512 * (t.val / 3) + (j 0).val) (1024 * (t.val % 3) + (j 1).val) : ℝ) : EReal)
    = ((A.Dup (win0_10.index t 0 * 512 + 1 * (j 0).val) (win0_10.index t 1 * 1024 + 1 * (j 1).val) : ℝ) : EReal)
  rw [(ix10 t).1, (ix10 t).2]
  congr 2 <;> omega

theorem final10 : (dats m 0 c).arrAt 10 cfg0.N = (mx A.Dup : FVec Ideal S4096x3072 .bf16) :=
  (dats m 0 c).arrAt_eq_of_cover 10 _ (flushed10 H) fun i => by
    have h0 : (i 0 : Nat) < 4096 := (i 0).isLt
    have h1 : (i 1 : Nat) < 3072 := (i 1).isLt
    have hN : cfg0.N = 24 := N_0
    obtain ⟨t, ht⟩ : ∃ t : Fin cfg0.N, t.val = 3 * ((i 0 : Nat) / 512) + (i 1 : Nat) / 1024 := ⟨⟨3 * ((i 0 : Nat) / 512) + (i 1 : Nat) / 1024, by omega⟩, rfl⟩
    refine ⟨t, flush0_10 t, ?_⟩
    show i ∈ ((View.whole main_v15_2).slice (win0_10.rect t)).set
    rw [View.set_slice_whole, Rect.mem_set_unit]
    intro a
    match a with
    | ⟨0, _⟩ =>
      show win0_10.index t 0 * 512 ≤ (i 0 : Nat) ∧ (i 0 : Nat) < win0_10.index t 0 * 512 + 512
      rw [(ix10 t).1]; omega
    | ⟨1, _⟩ =>
      show win0_10.index t 1 * 1024 ≤ (i 1 : Nat) ∧ (i 1 : Nat) < win0_10.index t 1 * 1024 + 1024
      rw [(ix10 t).2]; omega

theorem left11 (t : Fin cfg0.N)  : (dats m 0 c).after 11 t = m16 fun i j => (hid A.gp A.up) (512 * (t.val / 3) + i) (1024 * (t.val % 3) + j) := by
  rw [after_11, insAt_eq H, hidOf_eq, blk_hid]

theorem flushed11 (t : Fin cfg0.N) (hf : (cfg0.win 11).flush t = true) :
    (dats m 0 c).flushed 11 t = ((cfg0.win 11).blk t).view.read (Elt Ideal) (mx (hid A.gp A.up) : FVec Ideal S4096x3072 .bf16) := by
  show (cfg0.win 11).cut (grid0.coords t) ((dats m 0 c).after 11 t) = _
  rw [left11 H t]
  funext j
  rw [View.read_apply]
  show (((hid A.gp A.up) (512 * (t.val / 3) + (j 0).val) (1024 * (t.val % 3) + (j 1).val) : ℝ) : EReal)
    = (((hid A.gp A.up) (win0_11.index t 0 * 512 + 1 * (j 0).val) (win0_11.index t 1 * 1024 + 1 * (j 1).val) : ℝ) : EReal)
  rw [(ix11 t).1, (ix11 t).2]
  congr 2 <;> omega

theorem final11 : (dats m 0 c).arrAt 11 cfg0.N = (mx (hid A.gp A.up) : FVec Ideal S4096x3072 .bf16) :=
  (dats m 0 c).arrAt_eq_of_cover 11 _ (flushed11 H) fun i => by
    have h0 : (i 0 : Nat) < 4096 := (i 0).isLt
    have h1 : (i 1 : Nat) < 3072 := (i 1).isLt
    have hN : cfg0.N = 24 := N_0
    obtain ⟨t, ht⟩ : ∃ t : Fin cfg0.N, t.val = 3 * ((i 0 : Nat) / 512) + (i 1 : Nat) / 1024 := ⟨⟨3 * ((i 0 : Nat) / 512) + (i 1 : Nat) / 1024, by omega⟩, rfl⟩
    refine ⟨t, flush0_11 t, ?_⟩
    show i ∈ ((View.whole main_v15_3).slice (win0_11.rect t)).set
    rw [View.set_slice_whole, Rect.mem_set_unit]
    intro a
    match a with
    | ⟨0, _⟩ =>
      show win0_11.index t 0 * 512 ≤ (i 0 : Nat) ∧ (i 0 : Nat) < win0_11.index t 0 * 512 + 512
      rw [(ix11 t).1]; omega
    | ⟨1, _⟩ =>
      show win0_11.index t 1 * 1024 ≤ (i 1 : Nat) ∧ (i 1 : Nat) < win0_11.index t 1 * 1024 + 1024
      rw [(ix11 t).2]; omega

theorem left12 (t : Fin cfg0.N)  : (dats m 0 c).after 12 t = m16 fun i j => A.Dz (512 * (t.val / 3) + i) j := by
  rw [after_12, stAt_eq H]
  rfl

theorem flushed12 (t : Fin cfg0.N) (hf : (cfg0.win 12).flush t = true) :
    (dats m 0 c).flushed 12 t = ((cfg0.win 12).blk t).view.read (Elt Ideal) (mx A.Dz : FVec Ideal S4096x1024 .bf16) := by
  show (cfg0.win 12).cut (grid0.coords t) ((dats m 0 c).after 12 t) = _
  rw [left12 H t]
  funext j
  rw [View.read_apply]
  show ((A.Dz (512 * (t.val / 3) + (j 0).val) ((j 1).val) : ℝ) : EReal)
    = ((A.Dz (win0_12.index t 0 * 512 + 1 * (j 0).val) (win0_12.index t 1 * 1024 + 1 * (j 1).val) : ℝ) : EReal)
  rw [(ix12 t).1, (ix12 t).2]
  congr 2 <;> omega

theorem final12 : (dats m 0 c).arrAt 12 cfg0.N = (mx A.Dz : FVec Ideal S4096x1024 .bf16) :=
  (dats m 0 c).arrAt_eq_of_cover 12 _ (flushed12 H) fun i => by
    have h0 : (i 0 : Nat) < 4096 := (i 0).isLt
    have h1 : (i 1 : Nat) < 1024 := (i 1).isLt
    have hN : cfg0.N = 24 := N_0
    obtain ⟨t, ht⟩ : ∃ t : Fin cfg0.N, t.val = 3 * ((i 0 : Nat) / 512) + 2 := ⟨⟨3 * ((i 0 : Nat) / 512) + 2, by omega⟩, rfl⟩
    refine ⟨t, (flush0_12 t).mpr (by omega), ?_⟩
    show i ∈ ((View.whole main_v15_4).slice (win0_12.rect t)).set
    rw [View.set_slice_whole, Rect.mem_set_unit]
    intro a
    match a with
    | ⟨0, _⟩ =>
      show win0_12.index t 0 * 512 ≤ (i 0 : Nat) ∧ (i 0 : Nat) < win0_12.index t 0 * 512 + 512
      rw [(ix12 t).1]; omega
    | ⟨1, _⟩ =>
      show win0_12.index t 1 * 1024 ≤ (i 1 : Nat) ∧ (i 1 : Nat) < win0_12.index t 1 * 1024 + 1024
      rw [(ix12 t).2]; omega

theorem left13 (t : Fin cfg0.N) (h : t.val % 24 = 23) : (dats m 0 c).after 13 t = m32 fun i j => A.Dln i j := by
  have hN := N_lt t
  rw [after_13, stAt_eq H]
  show m32 (dlnTo A (512 * (t.val / 3 + 1))) = _
  rw [show 512 * (t.val / 3 + 1) = 4096 by omega, dlnTo_full]

theorem flushed13 (t : Fin cfg0.N) (hf : (cfg0.win 13).flush t = true) :
    (dats m 0 c).flushed 13 t = ((cfg0.win 13).blk t).view.read (Elt Ideal) (mx A.Dln : FVec Ideal S8x1024 .f32) := by
  show (cfg0.win 13).cut (grid0.coords t) ((dats m 0 c).after 13 t) = _
  rw [left13 H t ((flush0_13 t).mp hf)]
  funext j
  rw [View.read_apply]
  show ((A.Dln ((j 0).val) ((j 1).val) : ℝ) : EReal)
    = ((A.Dln (win0_13.index t 0 * 8 + 1 * (j 0).val) (win0_13.index t 1 * 1024 + 1 * (j 1).val) : ℝ) : EReal)
  rw [(ix13 t).1, (ix13 t).2]
  congr 2 <;> omega

theorem final13 : (dats m 0 c).arrAt 13 cfg0.N = (mx A.Dln : FVec Ideal S8x1024 .f32) :=
  (dats m 0 c).arrAt_eq_of_cover 13 _ (flushed13 H) fun i => by
    have h0 : (i 0 : Nat) < 8 := (i 0).isLt
    have h1 : (i 1 : Nat) < 1024 := (i 1).isLt
    have hN : cfg0.N = 24 := N_0
    obtain ⟨t, ht⟩ : ∃ t : Fin cfg0.N, t.val = 23 := ⟨⟨23, by omega⟩, rfl⟩
    refine ⟨t, (flush0_13 t).mpr (by omega), ?_⟩
    show i ∈ ((View.whole main_v15_5).slice (win0_13.rect t)).set
    rw [View.set_slice_whole, Rect.mem_set_unit]
    intro a
    match a with
    | ⟨0, _⟩ =>
      show win0_13.index t 0 * 8 ≤ (i 0 : Nat) ∧ (i 0 : Nat) < win0_13.index t 0 * 8 + 8
      rw [(ix13 t).1]; omega
    | ⟨1, _⟩ =>
      show win0_13.index t 1 * 1024 ≤ (i 1 : Nat) ∧ (i 1 : Nat) < win0_13.index t 1 * 1024 + 1024
      rw [(ix13 t).2]; omega

end Cert.KernelIdeal.Ffn

end
-- ==== Proof.KValue.lean ====
module

public import proofs.«01_k».proof.Proof.Result

@[expose] public section

set_option maxRecDepth 16384

noncomputable section

namespace Cert.KernelIdeal.Ffn

open Idealize.ShloMosaic Idealize.ShloMosaic.TcCoe Idealize.SL.Sem Cert.KernelIdeal.Gen Cert.Reals

/-- Every fair execution ends with the results at the real matrices of the specification and the arguments unchanged. -/
theorem run_values (m : (ℓ : Loc nD τ sig) → Buf (Elt Ideal) ℓ) (ρ : Dev nD → PrngReg) (A : Dev nD → Args)
    (H : ∀ c, Holds m c (A c)) :
    θ_run defs (onTc (τ := τ) (main (F := Ideal))) ⟨m, fun _ => 0, ρ⟩ fun r => ∀ c : Dev nD,
      r.2.mem ((c.tc : Thread nD τ).loc main_v15_0) = (mx (A c).Dx : FVec Ideal S4096x1024 .f32)
      ∧ r.2.mem ((c.tc : Thread nD τ).loc main_v15_1) = (mx (A c).Dgp : FVec Ideal S4096x3072 .bf16)
      ∧ r.2.mem ((c.tc : Thread nD τ).loc main_v15_2) = (mx (A c).Dup : FVec Ideal S4096x3072 .bf16)
      ∧ r.2.mem ((c.tc : Thread nD τ).loc main_v15_3) = (mx (hid (A c).gp (A c).up) : FVec Ideal S4096x3072 .bf16)
      ∧ r.2.mem ((c.tc : Thread nD τ).loc main_v15_4) = (mx (A c).Dz : FVec Ideal S4096x1024 .bf16)
      ∧ r.2.mem ((c.tc : Thread nD τ).loc main_v15_5) = (mx (A c).Dln : FVec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h.1 c).1 8).trans (final8 (H c)), ((h.1 c).1 9).trans (final9 (H c)), ((h.1 c).1 10).trans (final10 (H c)),
      ((h.1 c).1 11).trans (final11 (H c)), ((h.1 c).1 12).trans (final12 (H c)), ((h.1 c).1 13).trans (final13 (H c)), h.2.1 c⟩)
    (θ_run_and (run_main m ρ) (frame m ρ))

end Cert.KernelIdeal.Ffn

end
-- ==== Proof.Finite.lean ====
module

public import proofs.«01_k».proof.Proof.Reals
public import proofs.«01_k».proof.Pre_all_finite
public import Idealize.ShloMosaic.Lib.ReduceAll

@[expose] public section

set_option maxRecDepth 16384

noncomputable section

/-! ## Arguments whose elements are all finite are arrays of real numbers -/

namespace Cert.Reals

open Idealize.ShloMosaic

/-- An element whose absolute value is below infinity is real. -/
theorem real_of_abs_lt (x : EReal) (h : Ideal.cmp .olt (max x (-x)) (Ideal.ofBits .f32 0x7F800000#32) = 1#1) : x = (x.toReal : EReal) := by
  rw [lit_inf] at h
  have hl : max x (-x) < ⊤ := by
    by_contra hn
    simp [Ideal.cmp, hn] at h
  refine (EReal.coe_toReal ?_ ?_).symm
  · rintro rfl; simp at hl
  · rintro rfl; simp at hl

theorem exists_mx {d : Fin 2 → ℕ} (x : FVec Ideal ⟨2, d⟩ .f32) (h : ∀ i, x i = ((x i).toReal : EReal)) : ∃ a : ℕ → ℕ → ℝ, x = mx a := by
  classical
  refine ⟨fun i j => if h : ∃ k : Shape.Idx ⟨2, d⟩, (k 0).val = i ∧ (k 1).val = j then (x h.choose).toReal else 0, ?_⟩
  funext k
  have hk : ∃ k' : Shape.Idx ⟨2, d⟩, (k' 0).val = (k 0).val ∧ (k' 1).val = (k 1).val := ⟨k, rfl, rfl⟩
  have e : hk.choose = k := by
    funext a
    apply Fin.ext
    match a with
    | ⟨0, _⟩ => exact hk.choose_spec.1
    | ⟨1, _⟩ => exact hk.choose_spec.2
  unfold mx
  dsimp only
  rw [dif_pos hk, e]
  exact h k

theorem exists_vx {d : Fin 1 → ℕ} (x : FVec Ideal ⟨1, d⟩ .f32) (h : ∀ i, x i = ((x i).toReal : EReal)) : ∃ a : ℕ → ℝ, x = vx a := by
  classical
  refine ⟨fun i => if h : ∃ k : Shape.Idx ⟨1, d⟩, (k 0).val = i then (x h.choose).toReal else 0, ?_⟩
  funext k
  have hk : ∃ k' : Shape.Idx ⟨1, d⟩, (k' 0).val = (k 0).val := ⟨k, rfl⟩
  have e : hk.choose = k := by
    funext a
    apply Fin.ext
    match a with
    | ⟨0, _⟩ => exact hk.choose_spec
  unfold vx
  dsimp only
  rw [dif_pos hk, e]
  exact h k

end Cert.Reals

namespace Cert.Pre_all_finite

open Idealize.ShloMosaic Cert.Reals

theorem facts : Facts where
  bcast_S_S4096x1024 := by decide
  reducesTo_S4096x1024_S_d0_1 := by decide
  h_S_ := by decide
  bcast_S_S1024x3072 := by decide
  reducesTo_S1024x3072_S_d0_1 := by decide
  bcast_S_S3072x1024 := by decide
  reducesTo_S3072x1024_S_d0_1 := by decide
  bcast_S_S1024 := by decide
  reducesTo_S1024_S_d0 := by decide

instance : Subsingleton S_.Idx := ⟨fun _ _ => funext fun a => a.elim0⟩

theorem and_one {a b : IVec S_ 1} (h : andi a b = fun _ => 1#1) : (a = fun _ => 1#1) ∧ b = fun _ => 1#1 := by
  have hh : ∀ p q : BitVec 1, IntOp.andi p q = 1#1 → p = 1#1 ∧ q = 1#1 := by decide
  exact ⟨funext fun i => (hh _ _ (congrFun h i)).1, funext fun i => (hh _ _ (congrFun h i)).2⟩

theorem real_of_all {s : Shape} {axes} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32))) (constantI S_ 1 1#1) hr hu
      = fun _ => 1#1) (i : s.Idx) : x i = ((x i).toReal : EReal) :=
  real_of_abs_lt _ (Host.reduce_andi_all _ _ hr hu (Shape.Idx.first hu) (congrFun h _) i)

variable [Facts]
open Facts

theorem reals (x : FVec Ideal S4096x1024 .f32) (wg wu : FVec Ideal S1024x3072 .f32) (wd : FVec Ideal S3072x1024 .f32)
    (g : FVec Ideal S1024 .f32) (dy : FVec Ideal S4096x1024 .f32) (h : fn (F := Ideal) x wg wu wd g dy = fun _ => 1#1) :
    (∃ a, x = mx a) ∧ (∃ a, wg = mx a) ∧ (∃ a, wu = mx a) ∧ (∃ a, wd = mx a) ∧ (∃ a, g = vx a) ∧ ∃ a, dy = mx a := by
  unfold fn fn_part1 at h
  dsimp only at h
  obtain ⟨h, h5⟩ := and_one h
  obtain ⟨h, h4⟩ := and_one h
  obtain ⟨h, h3⟩ := and_one h
  obtain ⟨h, h2⟩ := and_one h
  obtain ⟨h0, h1⟩ := and_one h
  exact ⟨exists_mx _ (real_of_all _ _ _ _ h0), exists_mx _ (real_of_all _ _ _ _ h1), exists_mx _ (real_of_all _ _ _ _ h2),
    exists_mx _ (real_of_all _ _ _ _ h3), exists_vx _ (real_of_all _ _ _ _ h4), exists_mx _ (real_of_all _ _ _ _ h5)⟩

end Cert.Pre_all_finite

end
-- ==== Proof.Extended.lean ====
module

public import Idealize.ShloMosaic.Lib.Pointwise
public import Idealize.ShloMosaic.Lib.IdealHost
public import Idealize.ShloMosaic.Lib.Pipeline.Value
public import Idealize.ShloMosaic.PureOps.Ideal.Laws

@[expose] public section

set_option maxRecDepth 16384

noncomputable section

namespace Cert.Extended

open Idealize.ShloMosaic

/-! ## Arrays of extended reals as functions of the coordinates

Any matrix, its elements finite or not, is written as a function of its two coordinates; the claims without a
precondition are proved about these. -/

/-- The matrix of a function of two coordinates. -/
def ex {φ : FTy} {d : Fin 2 → ℕ} (a : ℕ → ℕ → EReal) : FVec Ideal ⟨2, d⟩ φ := fun i => a (i 0).val (i 1).val

theorem ex_congr {φ : FTy} {d : Fin 2 → ℕ} {a b : ℕ → ℕ → EReal} (h : ∀ i j, i < d 0 → j < d 1 → a i j = b i j) :
    (ex a : FVec Ideal ⟨2, d⟩ φ) = ex b := by
  funext i; exact h _ _ (i 0).isLt (i 1).isLt

/-- Every matrix is one. -/
theorem exists_ex {φ : FTy} {d : Fin 2 → ℕ} (x : FVec Ideal ⟨2, d⟩ φ) : ∃ a : ℕ → ℕ → EReal, x = ex a := by
  classical
  refine ⟨fun i j => if h : ∃ k : Shape.Idx ⟨2, d⟩, (k 0).val = i ∧ (k 1).val = j then x h.choose else 0, ?_⟩
  funext k
  have hk : ∃ k' : Shape.Idx ⟨2, d⟩, (k' 0).val = (k 0).val ∧ (k' 1).val = (k 1).val := ⟨k, rfl, rfl⟩
  have e : hk.choose = k := by
    funext a
    apply Fin.ext
    match a with
    | ⟨0, _⟩ => exact hk.choose_spec.1
    | ⟨1, _⟩ => exact hk.choose_spec.2
  unfold ex
  dsimp only
  rw [dif_pos hk, e]

/-- The product of a transposed matrix with another: the sum runs over `n` shared rows. -/
def tmul (n : ℕ) (a b : ℕ → ℕ → EReal) : ℕ → ℕ → EReal := fun i j => ∑ k : Fin n, a k i * b k j
/-- The product of a matrix with a transposed one: the sum runs over `n` shared columns. -/
def mult (n : ℕ) (a b : ℕ → ℕ → EReal) : ℕ → ℕ → EReal := fun i j => ∑ k : Fin n, a i k * b j k
/-- The product of two matrices. -/
def mul (n : ℕ) (a b : ℕ → ℕ → EReal) : ℕ → ℕ → EReal := fun i j => ∑ k : Fin n, a i k * b k j

theorem tmul_rows (n s : ℕ) (a b : ℕ → ℕ → EReal) (i j : ℕ) : tmul n (fun k i => a k (s + i)) b i j = tmul n a b (s + i) j := rfl
theorem tmul_cols (n s : ℕ) (a b : ℕ → ℕ → EReal) (i j : ℕ) : tmul n a (fun k j => b k (s + j)) i j = tmul n a b i (s + j) := rfl
theorem mult_rows (n s : ℕ) (a b : ℕ → ℕ → EReal) (i j : ℕ) : mult n (fun i k => a (s + i) k) b i j = mult n a b (s + i) j := rfl
theorem mul_rows (n s : ℕ) (a b : ℕ → ℕ → EReal) (i j : ℕ) : mul n (fun i k => a (s + i) k) b i j = mul n a b (s + i) j := rfl
theorem mul_cols (n s : ℕ) (a b : ℕ → ℕ → EReal) (i j : ℕ) : mul n a (fun k j => b k (s + j)) i j = mul n a b i (s + j) := rfl

/-- The corner at which every whole-buffer access starts. -/
theorem corner : (![0, 0] : Fin 2 → ℕ) = fun _ => 0 := by
  funext a
  match a with
  | ⟨0, _⟩ => rfl
  | ⟨1, _⟩ => rfl

end Cert.Extended

end
-- ==== Proof.Down.lean ====
module

public import proofs.«01_k».proof.Defs
public import proofs.«01_k».proof.Proof.Extended
public import proofs.«01_k».proof.Proof.Gen.Kernel3
public import proofs.«01_k».proof.Proof.Gen.Kernel3Ideal.Frame
public import proofs.«01_k».proof.Proof.Gen.Reference3Ideal.Run

@[expose] public section

set_option maxRecDepth 16384

noncomputable section

namespace Cert.Kernel3Ideal.Down

open Idealize.ShloMosaic Idealize.ShloMosaic.TcCoe Idealize.SL.Sem Cert.Kernel3Ideal.Gen Cert.Extended

/-! ## The gradient of the down projection's weight: hidᵀ · dz, a block of rows per grid point -/

/-- One block: the hidden columns' block, transposed, times the whole of dz. -/
theorem block (a b : ℕ → ℕ → EReal) :
    k0_pay1 (ex a : FVec Ideal S4096x1024 .bf16) (ex b : FVec Ideal S4096x1024 .bf16) = (ex (tmul 4096 a b) : FVec Ideal S1024x1024 .bf16) := by
  funext i
  show matmul dot_S4096x1024_S4096x1024_S1024x1024_0_0_1_1_n_n none (ex a : FVec Ideal S4096x1024 .bf16) (ex b : FVec Ideal S4096x1024 .bf16) (constant S1024x1024 .f32 0x00000000#32) i = _
  pointwise
  rfl

theorem left_eq (x y : FVec Ideal S4096x1024 .bf16) : out0_2 (F := Ideal) x y = k0_pay1 (F := Ideal) x y := by
  unfold out0_2
  rw [View.canon_unit_zero corner, View.ld_unit_zero corner, View.ld_unit_zero corner]

theorem ix0 : ∀ t : Fin cfg0.N, win0_0.index t 0 = 0 ∧ win0_0.index t 1 = t.val := by decide +kernel
theorem ix1 : ∀ t : Fin cfg0.N, win0_1.index t 0 = 0 ∧ win0_1.index t 1 = 0 := by decide +kernel
theorem ix2 : ∀ t : Fin cfg0.N, win0_2.index t 0 = t.val ∧ win0_2.index t 1 = 0 := by decide +kernel

section
variable {m : (ℓ : Loc nD τ sig) → Buf (Elt Ideal) ℓ} {c : Dev nD} {a b : ℕ → ℕ → EReal}
  (ha : m ((c.tc : Thread nD τ).loc main_arg0) = (ex a : FVec Ideal S4096x3072 .bf16))
  (hb : m ((c.tc : Thread nD τ).loc main_arg1) = (ex b : FVec Ideal S4096x1024 .bf16))

include ha in
theorem read0 (t : Fin cfg0.N) : iblk m c 0 t = (ex fun i j => a i (1024 * t.val + j) : FVec Ideal S4096x1024 .bf16) := by
  funext j
  unfold iblk
  rw [View.read_apply]
  show m ((c.tc : Thread nD τ).loc main_arg0) _ = _
  rw [ha]
  show a (win0_0.index t 0 * 4096 + 1 * (j 0).val) (win0_0.index t 1 * 1024 + 1 * (j 1).val) = _
  rw [(ix0 t).1, (ix0 t).2]
  show _ = a (j 0).val (1024 * t.val + (j 1).val)
  congr 1 <;> omega

include hb in
theorem read1 (t : Fin cfg0.N) : iblk m c 1 t = (ex b : FVec Ideal S4096x1024 .bf16) := by
  funext j
  unfold iblk
  rw [View.read_apply]
  show m ((c.tc : Thread nD τ).loc main_arg1) _ = _
  rw [hb]
  show b (win0_1.index t 0 * 4096 + 1 * (j 0).val) (win0_1.index t 1 * 1024 + 1 * (j 1).val) = _
  rw [(ix1 t).1, (ix1 t).2]
  show _ = b (j 0).val (j 1).val
  congr 1 <;> omega

include ha hb

theorem flushed (t : Fin cfg0.N) (_ : (cfg0.win 2).flush t = true) :
    (dats m 0 c).flushed 2 t = ((cfg0.win 2).blk t).view.read (Elt Ideal) (ex (tmul 4096 a b) : FVec Ideal S3072x1024 .bf16) := by
  show (cfg0.win 2).cut (grid0.coords t) ((dats m 0 c).after 2 t) = _
  rw [after0_2, left_eq, read0 ha, read1 hb, block]
  funext j
  rw [View.read_apply]
  show tmul 4096 (fun i j => a i (1024 * t.val + j)) b (j 0).val (j 1).val
    = tmul 4096 a b (win0_2.index t 0 * 1024 + 1 * (j 0).val) (win0_2.index t 1 * 1024 + 1 * (j 1).val)
  rw [(ix2 t).1, (ix2 t).2, tmul_rows]
  congr 1 <;> omega

theorem final : (dats m 0 c).arrAt 2 cfg0.N = (ex (tmul 4096 a b) : FVec Ideal S3072x1024 .bf16) :=
  (dats m 0 c).arrAt_eq_of_cover 2 _ (flushed ha hb) fun i => by
    have h0 : (i 0 : Nat) < 3072 := (i 0).isLt
    have h1 : (i 1 : Nat) < 1024 := (i 1).isLt
    have hN : cfg0.N = 3 := N_0
    obtain ⟨t, ht⟩ : ∃ t : Fin cfg0.N, t.val = (i 0 : Nat) / 1024 := ⟨⟨(i 0 : Nat) / 1024, by omega⟩, rfl⟩
    refine ⟨t, flush0_2 t, ?_⟩
    show i ∈ ((View.whole main_v0).slice (win0_2.rect t)).set
    rw [View.set_slice_whole, Rect.mem_set_unit]
    intro x
    match x with
    | ⟨0, _⟩ =>
      show win0_2.index t 0 * 1024 ≤ (i 0 : Nat) ∧ (i 0 : Nat) < win0_2.index t 0 * 1024 + 1024
      rw [(ix2 t).1]; omega
    | ⟨1, _⟩ =>
      show win0_2.index t 1 * 1024 ≤ (i 1 : Nat) ∧ (i 1 : Nat) < win0_2.index t 1 * 1024 + 1024
      rw [(ix2 t).2]; omega
end

/-- The reference's product. -/
theorem host (a b : ℕ → ℕ → EReal) :
    Host.dotGeneral Cert.Reference3Ideal.dot_S3072x4096_S4096x1024_S3072x1024_1_0_0_1_n_n none
      (transpose Cert.Reference3Ideal.S3072x4096 [1, 0] (ex a : FVec Ideal Cert.Reference3Ideal.S4096x3072 .f32) Cert.Reference3Ideal.Facts₀.transposes_S4096x3072_S3072x4096_1_0)
      (ex b : FVec Ideal Cert.Reference3Ideal.S4096x1024 .f32) = (ex (tmul 4096 a b) : FVec Ideal Cert.Reference3Ideal.S3072x1024 .f32) := by
  funext i
  pointwise
  rfl

/-- The kernel and the reference end holding the same product. -/
theorem values : Cert.algebraic_Kernel3Ideal_Reference3Ideal := by
  intro m g m' g' _ hagree
  choose a ha using fun c : Dev nD => exists_ex (m ((c.tc : Thread nD τ).loc main_arg0) : FVec Ideal S4096x3072 .bf16)
  choose b hb using fun c : Dev nD => exists_ex (m ((c.tc : Thread nD τ).loc main_arg1) : FVec Ideal S4096x1024 .bf16)
  refine ⟨fun c => (ex (tmul 4096 (a c) (b c)) : FVec Ideal S3072x1024 .bf16), ?_, ?_⟩
  · exact (θ_run defs _ _).mono (fun r h c => ⟨((h.1 c).1 2).trans (final (ha c) (hb c)), h.2.1 c⟩) (θ_run_and (run_main m g) (frame m g))
  · refine (θ_run Cert.Reference3Ideal.defs _ _).mono (fun r h c => ⟨(h c).1.trans ?_, (h c).2⟩) (Cert.Reference3Ideal.Value.run (F := Ideal) m' g')
    rw [(hagree c).1, (hagree c).2, ha c, hb c]
    exact host (a c) (b c)

theorem frame_kernel : Cert.quiescent_Kernel3 := by
  have h := fun m ρ (_ : True) => frame (F := Bits) m ρ
  exact cast (by sl_kernel_rfl) h
theorem frame_ideal : Cert.quiescent_Kernel3Ideal := fun m ρ _ => frame (F := Ideal) m ρ
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Kernel3Ideal.Down

end
-- ==== Proof.GateRun.lean ====
module

public import proofs.«01_k».proof.Proof.Gen.Kernel2Ideal.Frame
public import Idealize.ShloMosaic.Lib.Pipeline.TableIdle
public import Idealize.ShloMosaic.Lib.Pipeline.Value
public import Idealize.ShloMosaic.Lib.WritesUnit
public import Idealize.ShloMosaic.Lib.Claim

@[expose] public section

set_option maxRecDepth 16384

noncomputable section

namespace Cert.Kernel2Ideal.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-! ## The body of one grid point: one block of one of the two products -/

/-- The whole of x, transposed, times a block of columns. -/
def product (x y : Vec F S4096x1024 .bf16) : Vec F S1024x1024 .bf16 :=
  truncf .bf16 (matmul dot_S4096x1024_S4096x1024_S1024x1024_0_0_1_1_n_n none x y (constant S1024x1024 .f32 0x00000000#32)) bitsLt_bf16_f32

theorem start (a : Fin 2) : (![0, 0] : Fin 2 → Nat) a = 0 := by fin_cases a <;> rfl

/-- A load of a whole block reads it. -/
theorem loaded (x : Vec F S4096x1024 .bf16) :
    View.ld (Val := Elt F) (e' := .bf16) x (Rect.unit (s := S4096x1024) ![0, 0] S4096x1024.size inb_S4096x1024_S4096x1024_0_0) = x :=
  View.ld_unit_zero (funext start) inb_S4096x1024_S4096x1024_0_0 x

/-- One store of a whole block leaves it. -/
theorem stored {S : Shape} {e : EltTy} (v : View sig .tc .vmem S e) (f : v.ty.Contents (Elt F)) {off : Fin S.rank → Nat} (hz : ∀ a, off a = 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ fun y => ⟨⟨Rect.unit off S.size inb, w⟩, List.mem_singleton_self _, ?_⟩, View.canon_unit_zero (funext hz)]
  rw [Rect.mem_set_unit]; intro a; rw [hz a]; exact ⟨Nat.zero_le _, by rw [Nat.zero_add]; exact (y a).isLt⟩

section
variable (c : Dev nD) (i : grid0.Coords) (a2 : Memref sig .tc .vmem S4096x1024 .bf16) (h2 : a2.IsWhole) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole) (a6 : Memref sig .tc .vmem S1024x1024 .bf16) (h6 : a6.IsWhole)
  (x y : Vec F S4096x1024 .bf16)

set_option maxHeartbeats 4000000 in
/-- In the first half of the grid a block of the first product is stored. -/
theorem run_first (K : PUnit → sProp 𝕄) (p : k0_cond1 i = 1#1) (q : ¬ k0_cond2 i = 1#1) :
    iprop(owns (c : Thread nD τ) a2 fullShare x ∗ owns (c : Thread nD τ) a3 fullShare y ∗ (∃ d, owns (c : Thread nD τ) a5 fullShare d)
        ∗ ((owns (c : Thread nD τ) a2 fullShare x ∗ owns (c : Thread nD τ) a3 fullShare y ∗ owns (c : Thread nD τ) a5 fullShare (product x y)) -∗ K ⟨⟩))
      ⊢ wp frame (wpE (defs₀ (F := F)) Variants.none c none) Set.univ (cc0_tn_cols2 (F := F) i a2 h2 a3 h3 a4 h4 a5 h5 a6 h6) K := by
  unfold cc0_tn_cols2
  unfold owns; dsimp only
  iintro ⟨⟨%f2, %hf2, H2⟩, ⟨%f3, %hf3, H3⟩, ⟨%d5, %f5, -, H5⟩, Hk⟩
  obtain rfl := h2.eq_unread hf2; obtain rfl := h3.eq_unread hf3
  sl_exec (disch := first | sl_exact p | sl_exact q)
  sl_step
  iapply Hk
  isplitl [H2]
  · iexists _; isplitr; · ipureintro; exact h2.read_unread _
    iexact H2
  isplitl [H3]
  · iexists _; isplitr; · ipureintro; exact h3.read_unread _
    iexact H3
  iexists _; isplitr
  swap; · iexact H5
  ipureintro
  refine (stored _ _ start _ _).trans ?_
  sl_unfold_words
  simp only [View.readAt_eq_ld, h2.read_unread, h3.read_unread]
  exact congrArg₂ product (loaded x) (loaded y)

set_option maxHeartbeats 4000000 in
/-- In the second half a block of the second. -/
theorem run_second (K : PUnit → sProp 𝕄) (p : ¬ k0_cond1 i = 1#1) (q : k0_cond2 i = 1#1) :
    iprop(owns (c : Thread nD τ) a2 fullShare x ∗ owns (c : Thread nD τ) a4 fullShare y ∗ (∃ d, owns (c : Thread nD τ) a6 fullShare d)
        ∗ ((owns (c : Thread nD τ) a2 fullShare x ∗ owns (c : Thread nD τ) a4 fullShare y ∗ owns (c : Thread nD τ) a6 fullShare (product x y)) -∗ K ⟨⟩))
      ⊢ wp frame (wpE (defs₀ (F := F)) Variants.none c none) Set.univ (cc0_tn_cols2 (F := F) i a2 h2 a3 h3 a4 h4 a5 h5 a6 h6) K := by
  unfold cc0_tn_cols2
  unfold owns; dsimp only
  iintro ⟨⟨%f2, %hf2, H2⟩, ⟨%f4, %hf4, H4⟩, ⟨%d6, %f6, -, H6⟩, Hk⟩
  obtain rfl := h2.eq_unread hf2; obtain rfl := h4.eq_unread hf4
  sl_exec (disch := first | sl_exact p | sl_exact q)
  sl_step
  iapply Hk
  isplitl [H2]
  · iexists _; isplitr; · ipureintro; exact h2.read_unread _
    iexact H2
  isplitl [H4]
  · iexists _; isplitr; · ipureintro; exact h4.read_unread _
    iexact H4
  iexists _; isplitr
  swap; · iexact H6
  ipureintro
  refine (stored _ _ start _ _).trans ?_
  sl_unfold_words
  simp only [View.readAt_eq_ld, h2.read_unread, h4.read_unread]
  exact congrArg₂ product (loaded x) (loaded y)
end

variable (m : (ℓ : Loc nD τ sig) → Buf (Elt F) ℓ) (ρ : Dev nD → PrngReg)

/-! ## Which product a point is of -/

theorem first_iff (t : Fin cfg0.N) : k0_cond1 (grid0.coords t) = 1#1 ↔ t.val < 3 := by
  have ht : t.val < 6 := Nat.lt_of_lt_of_eq t.isLt N_0
  have e0 : (grid0.coords t 0).val = t.val / 3 % 2 := Pipeline.Grid.coords_val t 0 (by decide) rfl
  simp only [k0_cond1, e0]
  word_cmp

theorem second_iff (t : Fin cfg0.N) : k0_cond2 (grid0.coords t) = 1#1 ↔ ¬ t.val < 3 := by
  have ht : t.val < 6 := Nat.lt_of_lt_of_eq t.isLt N_0
  have e0 : (grid0.coords t 0).val = t.val / 3 % 2 := Pipeline.Grid.coords_val t 0 (by decide) rfl
  simp only [k0_cond2, e0]
  word_cmp

theorem idle3 : ∀ t : Fin cfg0.N, cfg0.idle 3 (grid0.coords t) = !(decide (t.val < 3)) := by decide +kernel
theorem idle4 : ∀ t : Fin cfg0.N, cfg0.idle 4 (grid0.coords t) = decide (t.val < 3) := by decide +kernel
theorem flush3 : ∀ t : Fin cfg0.N, (cfg0.win 3).flush t = (decide (t.val < 2) || decide (t.val = 5)) := by decide +kernel
theorem flush4 : ∀ t : Fin cfg0.N, (cfg0.win 4).flush t = !(decide (t.val < 3)) := by decide +kernel
theorem tab3 : ∀ t : Fin cfg0.N, (decide (t.val + 1 < 3) || decide (5 < t.val + 1))
    = ((cfg0.win 3).flush t || (cfg0.idle 3 (cfg0.grid.coords t) && (decide (t.val < 3) || decide (5 < t.val)))) := by decide +kernel
theorem fresh3 (n : ℕ) (h : n ≤ cfg0.N) : cfg0.fresh 3 n = (decide (n < 3) || decide (5 < n)) :=
  cfg0.fresh_tab 3 (fun n => decide (n < 3) || decide (5 < n)) rfl tab3 n h

/-! ## The pipeline's proof data -/

/-- The last point of the first product not after `t`. -/
def upto2 (t : Fin cfg0.N) : Fin cfg0.N := ⟨min t.val 2, lt_of_le_of_lt (Nat.min_le_left _ _) t.isLt⟩

theorem upto2_first (t : Fin cfg0.N) (h : t.val < 3) : upto2 t = t := Fin.ext (Nat.min_eq_left (by omega))
theorem upto2_second (t : Fin cfg0.N) (h : ¬ t.val < 3) (k : t.val - 1 < cfg0.N) : upto2 t = upto2 ⟨t.val - 1, k⟩ := Fin.ext (by simp only [upto2]; omega)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product (iblk m c 0 (upto2 t)) (iblk m c 1 (upto2 t))
    | ⟨4, _⟩ => product (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = product (iblk m c 0 (upto2 t)) (iblk m c 1 (upto2 t)) := by dsimp only [dats]
theorem after_4 (c : Dev nD) (t : Fin cfg0.N) : (dats m 0 c).after 4 t = product (iblk m c 0 t) (iblk m c 2 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Through the second half, the first product's buffer holds its last block. -/
theorem before_3 (c : Dev nD) (t : Fin cfg0.N) (h : ¬ t.val < 3) (d) : (dats m 0 c).before 3 t d = (dats m 0 c).after 3 t := by
  have hN : t.val < 6 := lt_of_lt_of_eq t.isLt N_0
  rw [(dats m 0 c).before_out_traj 3 rfl (fun _ _ => rfl) (fun t _ hi _ => ?_) t.val t rfl d, fresh3 _ (Nat.le_of_lt t.isLt),
    if_neg (by simp only [Bool.or_eq_true, decide_eq_true_eq]; omega), after_3, after_3, ← upto2_second t h]
  rw [after_3, after_3]
  have h1 : ¬ t.val < 3 := by have := (idle3 t).symm.trans hi; simpa using this
  rw [← upto2_second t h1]

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- A block of the first product, untouched in the second half. -/
theorem leaves_3 (c : Dev nD) (t : Fin cfg0.N) (h : ¬ t.val < 3) :
    owns (c : Thread nD τ) (st0_3 t) fullShare ((dats m 0 c).after 3 t) ⊢ (dats m 0 c).leavesExact 3 t := by
  have hi : cfg0.idle 3 (cfg0.grid.coords t) = true := (idle3 t).trans (by simp [h])
  by_cases hf : (cfg0.win 3).flush t = true
  · unfold Dat.leavesExact; rw [hi, hf]
  · rw [(dats m 0 c).leavesExact_idle 3 t hi (Bool.eq_false_iff.mpr hf)]
    iintro H; iexists (dats m 0 c).after 3 t; rw [before_3 m c t h]; iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 2000000 in
theorem sound_first (c : Dev nD) (t : Fin cfg0.N) (h : t.val < 3) :
    bodyPre m c t ⊢ wp frame (wpE (defs₀ (F := F)) Variants.none c none) Set.univ (bodyAt0 t) (fun _ => bodyPost m c t) := by
  unfold bodyPre bodyPost
  simp only [before_0, before_1, before_2]
  rw [show (dats m 0 c).owesAt () t.succ = (dats m 0 c).owesAt () t.castSucc from rfl,
    show (dats m 0 c).Φ t.succ = (dats m 0 c).Φ t.castSucc from rfl]
  rw [leaves_live m c 0 t rfl, after_0, leaves_live m c 1 t rfl, after_1, leaves_live m c 2 t rfl, after_2,
    leaves_live m c 3 t ((idle3 t).trans (by simp [h])), after_3, upto2_first t h,
    (dats m 0 c).leavesExact_idle 4 t ((idle4 t).trans (by simp [h])) ((flush4 t).trans (by simp [h]))]
  iintro ⟨HΦ, Ho, ⟨%d0, H0⟩, ⟨%d1, H1⟩, ⟨%d2, H2⟩, ⟨%d3, H3⟩, ⟨%d4, H4⟩⟩
  iapply (run_first c (grid0.coords t) _ _ _ _ _ _ _ _ _ _ (iblk m c 0 t) (iblk m c 1 t) _ ((first_iff t).mpr h) (fun k => (second_iff t).mp k h))
  isplitl [H0]; · iexact H0
  isplitl [H1]; · iexact H1
  isplitl [H3]; · iexists _; iexact H3
  iintro ⟨H0, H1, H3⟩
  isplitl [HΦ]; · iexact HΦ
  isplitl [Ho]; · iexact Ho
  isplitl [H0]; · iexact H0
  isplitl [H1]; · iexact H1
  isplitl [H2]; · iexact H2
  isplitl [H3]; · iexact H3
  iexists d4; iexact H4

set_option maxHeartbeats 2000000 in
theorem sound_second (c : Dev nD) (t : Fin cfg0.N) (h : ¬ t.val < 3) :
    bodyPre m c t ⊢ wp frame (wpE (defs₀ (F := F)) Variants.none c none) Set.univ (bodyAt0 t) (fun _ => bodyPost m c t) := by
  unfold bodyPre bodyPost
  simp only [before_0, before_1, before_2, before_3 m c t h]
  rw [show (dats m 0 c).owesAt () t.succ = (dats m 0 c).owesAt () t.castSucc from rfl,
    show (dats m 0 c).Φ t.succ = (dats m 0 c).Φ t.castSucc from rfl]
  rw [leaves_live m c 0 t rfl, after_0, leaves_live m c 1 t rfl, after_1, leaves_live m c 2 t rfl, after_2,
    leaves_live m c 4 t ((idle4 t).trans (by simp [h])), after_4]
  iintro ⟨HΦ, Ho, ⟨%d0, H0⟩, ⟨%d1, H1⟩, ⟨%d2, H2⟩, ⟨%d3, H3⟩, ⟨%d4, H4⟩⟩
  iapply (run_second c (grid0.coords t) _ _ _ _ _ _ _ _ _ _ (iblk m c 0 t) (iblk m c 2 t) _ (fun k => h ((first_iff t).mp k)) ((second_iff t).mpr h))
  isplitl [H0]; · iexact H0
  isplitl [H2]; · iexact H2
  isplitl [H4]; · iexists _; iexact H4
  iintro ⟨H0, H2, H4⟩
  isplitl [HΦ]; · iexact HΦ
  isplitl [Ho]; · iexact Ho
  isplitl [H0]; · iexact H0
  isplitl [H1]; · iexact H1
  isplitl [H2]; · iexact H2
  isplitl [H3]; · iapply (leaves_3 m c t h); iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (?_ : bodyPre m c t ⊢ wp frame (wpE (defs₀ (F := F)) Variants.none c none) Set.univ (bodyAt0 t) (fun _ => bodyPost m c t)) rfl .rfl fun _ => .rfl
  by_cases h : t.val < 3
  · exact sound_first m c t h
  · exact sound_second m c t h

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- Every fair execution ends, each array of the pipeline at what its proof data say. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel2Ideal.GateUp

end
-- ==== Proof.GateUp.lean ====
module

public import proofs.«01_k».proof.Defs
public import proofs.«01_k».proof.Proof.Extended
public import proofs.«01_k».proof.Proof.GateRun
public import proofs.«01_k».proof.Proof.Gen.Kernel2
public import proofs.«01_k».proof.Proof.Gen.Reference2Ideal.Run

@[expose] public section

set_option maxRecDepth 16384

noncomputable section

namespace Cert.Kernel2Ideal.GateUp

open Idealize.ShloMosaic Idealize.ShloMosaic.TcCoe Idealize.SL.Sem Cert.Kernel2Ideal.Gen Cert.Extended

/-! ## The gradients of the gate's and of the up projection's weight: xᵀ · dgate, then xᵀ · dup, a block of columns per point -/

/-- One block: the whole of x, transposed, times a block of columns. -/
theorem product_eq (a b : ℕ → ℕ → EReal) :
    product (F := Ideal) (ex a : FVec Ideal S4096x1024 .bf16) (ex b : FVec Ideal S4096x1024 .bf16) = (ex (tmul 4096 a b) : FVec Ideal S1024x1024 .bf16) := by
  funext i
  show matmul dot_S4096x1024_S4096x1024_S1024x1024_0_0_1_1_n_n none (ex a : FVec Ideal S4096x1024 .bf16) (ex b : FVec Ideal S4096x1024 .bf16) (constant S1024x1024 .f32 0x00000000#32) i = _
  pointwise
  rfl

theorem ix0 : ∀ t : Fin cfg0.N, win0_0.index t 0 = 0 ∧ win0_0.index t 1 = 0 := by decide +kernel
theorem ix1 : ∀ t : Fin cfg0.N, win0_1.index t 0 = 0 ∧ win0_1.index t 1 = min t.val 2 := by decide +kernel
theorem ix2 : ∀ t : Fin cfg0.N, win0_2.index t 0 = 0 ∧ win0_2.index t 1 = t.val - 3 := by decide +kernel
theorem ix3 : ∀ t : Fin cfg0.N, win0_3.index t 0 = 0 ∧ win0_3.index t 1 = min t.val 2 := by decide +kernel
theorem ix4 : ∀ t : Fin cfg0.N, win0_4.index t 0 = 0 ∧ win0_4.index t 1 = t.val - 3 := by decide +kernel

section
variable {m : (ℓ : Loc nD τ sig) → Buf (Elt Ideal) ℓ} {c : Dev nD} {a b d : ℕ → ℕ → EReal}
  (ha : m ((c.tc : Thread nD τ).loc main_arg0) = (ex a : FVec Ideal S4096x1024 .bf16))
  (hb : m ((c.tc : Thread nD τ).loc main_arg1) = (ex b : FVec Ideal S4096x3072 .bf16))
  (hd : m ((c.tc : Thread nD τ).loc main_arg2) = (ex d : FVec Ideal S4096x3072 .bf16))

include ha in
theorem read0 (t : Fin cfg0.N) : iblk m c 0 t = (ex a : FVec Ideal S4096x1024 .bf16) := by
  funext j
  unfold iblk
  rw [View.read_apply]
  show m ((c.tc : Thread nD τ).loc main_arg0) _ = _
  rw [ha]
  show a (win0_0.index t 0 * 4096 + 1 * (j 0).val) (win0_0.index t 1 * 1024 + 1 * (j 1).val) = _
  rw [(ix0 t).1, (ix0 t).2]
  show _ = a (j 0).val (j 1).val
  congr 1 <;> omega

include hb in
theorem read1 (t : Fin cfg0.N) : iblk m c 1 t = (ex fun i j => b i (1024 * min t.val 2 + j) : FVec Ideal S4096x1024 .bf16) := by
  funext j
  unfold iblk
  rw [View.read_apply]
  show m ((c.tc : Thread nD τ).loc main_arg1) _ = _
  rw [hb]
  show b (win0_1.index t 0 * 4096 + 1 * (j 0).val) (win0_1.index t 1 * 1024 + 1 * (j 1).val) = _
  rw [(ix1 t).1, (ix1 t).2]
  show _ = b (j 0).val (1024 * min t.val 2 + (j 1).val)
  congr 1 <;> omega

include hd in
theorem read2 (t : Fin cfg0.N) : iblk m c 2 t = (ex fun i j => d i (1024 * (t.val - 3) + j) : FVec Ideal S4096x1024 .bf16) := by
  funext j
  unfold iblk
  rw [View.read_apply]
  show m ((c.tc : Thread nD τ).loc main_arg2) _ = _
  rw [hd]
  show d (win0_2.index t 0 * 4096 + 1 * (j 0).val) (win0_2.index t 1 * 1024 + 1 * (j 1).val) = _
  rw [(ix2 t).1, (ix2 t).2]
  show _ = d (j 0).val (1024 * (t.val - 3) + (j 1).val)
  congr 1 <;> omega

include ha hb in
theorem flushed3 (t : Fin cfg0.N) (_ : (cfg0.win 3).flush t = true) :
    (dats m 0 c).flushed 3 t = ((cfg0.win 3).blk t).view.read (Elt Ideal) (ex (tmul 4096 a b) : FVec Ideal S1024x3072 .bf16) := by
  have e : min (min t.val 2) 2 = min t.val 2 := by omega
  show (cfg0.win 3).cut (grid0.coords t) ((dats m 0 c).after 3 t) = _
  rw [after_3, read0 ha, read1 hb, product_eq]
  funext j
  rw [View.read_apply]
  show tmul 4096 a (fun i j => b i (1024 * min (min t.val 2) 2 + j)) (j 0).val (j 1).val
    = tmul 4096 a b (win0_3.index t 0 * 1024 + 1 * (j 0).val) (win0_3.index t 1 * 1024 + 1 * (j 1).val)
  rw [(ix3 t).1, (ix3 t).2, tmul_cols, e]
  congr 1 <;> omega

include ha hd in
theorem flushed4 (t : Fin cfg0.N) (_ : (cfg0.win 4).flush t = true) :
    (dats m 0 c).flushed 4 t = ((cfg0.win 4).blk t).view.read (Elt Ideal) (ex (tmul 4096 a d) : FVec Ideal S1024x3072 .bf16) := by
  show (cfg0.win 4).cut (grid0.coords t) ((dats m 0 c).after 4 t) = _
  rw [after_4, read0 ha, read2 hd, product_eq]
  funext j
  rw [View.read_apply]
  show tmul 4096 a (fun i j => d i (1024 * (t.val - 3) + j)) (j 0).val (j 1).val
    = tmul 4096 a d (win0_4.index t 0 * 1024 + 1 * (j 0).val) (win0_4.index t 1 * 1024 + 1 * (j 1).val)
  rw [(ix4 t).1, (ix4 t).2, tmul_cols]
  congr 1 <;> omega

include ha hb in
/-- The first product's three blocks are written back at the points 0, 1 and 5. -/
theorem final3 : (dats m 0 c).arrAt 3 cfg0.N = (ex (tmul 4096 a b) : FVec Ideal S1024x3072 .bf16) :=
  (dats m 0 c).arrAt_eq_of_cover 3 _ (flushed3 ha hb) fun i => by
    have h0 : (i 0 : Nat) < 1024 := (i 0).isLt
    have h1 : (i 1 : Nat) < 3072 := (i 1).isLt
    have hN : cfg0.N = 6 := N_0
    obtain ⟨t, hf, ht⟩ : ∃ t : Fin cfg0.N, (cfg0.win 3).flush t = true ∧ min t.val 2 = (i 1 : Nat) / 1024 := by
      by_cases h : (i 1 : Nat) / 1024 < 2
      · exact ⟨⟨(i 1 : Nat) / 1024, by omega⟩, (flush3 _).trans (by simp [h]), Nat.min_eq_left (Nat.le_of_lt h)⟩
      · exact ⟨⟨5, by omega⟩, (flush3 _).trans rfl, by show min 5 2 = _; omega⟩
    refine ⟨t, hf, ?_⟩
    show i ∈ ((View.whole main_v0_0).slice (win0_3.rect t)).set
    rw [View.set_slice_whole, Rect.mem_set_unit]
    intro x
    match x with
    | ⟨0, _⟩ =>
      show win0_3.index t 0 * 1024 ≤ (i 0 : Nat) ∧ (i 0 : Nat) < win0_3.index t 0 * 1024 + 1024
      rw [(ix3 t).1]; omega
    | ⟨1, _⟩ =>
      show win0_3.index t 1 * 1024 ≤ (i 1 : Nat) ∧ (i 1 : Nat) < win0_3.index t 1 * 1024 + 1024
      rw [(ix3 t).2, ht]; omega

include ha hd in
/-- The second's at the points 3, 4 and 5. -/
theorem final4 : (dats m 0 c).arrAt 4 cfg0.N = (ex (tmul 4096 a d) : FVec Ideal S1024x3072 .bf16) :=
  (dats m 0 c).arrAt_eq_of_cover 4 _ (flushed4 ha hd) fun i => by
    have h0 : (i 0 : Nat) < 1024 := (i 0).isLt
    have h1 : (i 1 : Nat) < 3072 := (i 1).isLt
    have hN : cfg0.N = 6 := N_0
    obtain ⟨t, ht⟩ : ∃ t : Fin cfg0.N, t.val = (i 1 : Nat) / 1024 + 3 := ⟨⟨(i 1 : Nat) / 1024 + 3, by omega⟩, rfl⟩
    have hq : ¬ t.val < 3 := by omega
    refine ⟨t, (flush4 t).trans (by simp [hq]), ?_⟩
    show i ∈ ((View.whole main_v0_1).slice (win0_4.rect t)).set
    rw [View.set_slice_whole, Rect.mem_set_unit]
    intro x
    match x with
    | ⟨0, _⟩ =>
      show win0_4.index t 0 * 1024 ≤ (i 0 : Nat) ∧ (i 0 : Nat) < win0_4.index t 0 * 1024 + 1024
      rw [(ix4 t).1]; omega
    | ⟨1, _⟩ =>
      show win0_4.index t 1 * 1024 ≤ (i 1 : Nat) ∧ (i 1 : Nat) < win0_4.index t 1 * 1024 + 1024
      rw [(ix4 t).2]; omega
end

/-- The reference's product. -/
theorem host (a b : ℕ → ℕ → EReal) :
    Host.dotGeneral Cert.Reference2Ideal.dot_S1024x4096_S4096x3072_S1024x3072_1_0_0_1_n_n none
      (transpose Cert.Reference2Ideal.S1024x4096 [1, 0] (ex a : FVec Ideal Cert.Reference2Ideal.S4096x1024 .f32) Cert.Reference2Ideal.Facts₀.transposes_S4096x1024_S1024x4096_1_0)
      (ex b : FVec Ideal Cert.Reference2Ideal.S4096x3072 .f32) = (ex (tmul 4096 a b) : FVec Ideal Cert.Reference2Ideal.S1024x3072 .f32) := by
  funext i
  pointwise
  rfl

/-- The kernel and the reference end holding the same two products. -/
theorem values : Cert.algebraic_Kernel2Ideal_Reference2Ideal := by
  intro m g m' g' _ hagree
  choose a ha using fun c : Dev nD => exists_ex (m ((c.tc : Thread nD τ).loc main_arg0) : FVec Ideal S4096x1024 .bf16)
  choose b hb using fun c : Dev nD => exists_ex (m ((c.tc : Thread nD τ).loc main_arg1) : FVec Ideal S4096x3072 .bf16)
  choose d hd using fun c : Dev nD => exists_ex (m ((c.tc : Thread nD τ).loc main_arg2) : FVec Ideal S4096x3072 .bf16)
  refine ⟨fun c => (ex (tmul 4096 (a c) (b c)) : FVec Ideal S1024x3072 .bf16), fun c => (ex (tmul 4096 (a c) (d c)) : FVec Ideal S1024x3072 .bf16), ?_, ?_⟩
  · exact (θ_run defs _ _).mono (fun r h c => ⟨((h.1 c).1 3).trans (final3 (ha c) (hb c)), ((h.1 c).1 4).trans (final4 (ha c) (hd c)), h.2.1 c⟩)
      (θ_run_and (run_main m g) (frame m g))
  · refine (θ_run Cert.Reference2Ideal.defs _ _).mono (fun r h c => ⟨(h c).1.trans ?_, (h c).2.1.trans ?_, (h c).2.2⟩) (Cert.Reference2Ideal.Value.run (F := Ideal) m' g')
    · rw [(hagree c).1, (hagree c).2.1, ha c, hb c]
      exact host (a c) (b c)
    · rw [(hagree c).1, (hagree c).2.2, ha c, hd c]
      exact host (a c) (d c)

theorem frame_kernel : Cert.quiescent_Kernel2 := by
  have h := fun m ρ (_ : True) => frame (F := Bits) m ρ
  exact cast (by sl_kernel_rfl) h
theorem frame_ideal : Cert.quiescent_Kernel2Ideal := fun m ρ _ => frame (F := Ideal) m ρ
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

end Cert.Kernel2Ideal.GateUp

end
-- ==== Proof.Norm.lean ====
module

public import proofs.«01_k».proof.Proof.Extended

@[expose] public section

noncomputable section

namespace Cert.Extended

open Idealize.ShloMosaic

/-! ## The layer norm of rows of extended reals, and the scaled residual -/

/-- The vector of a function of one coordinate. -/
def ev {φ : FTy} {d : Fin 1 → ℕ} (a : ℕ → EReal) : FVec Ideal ⟨1, d⟩ φ := fun i => a (i 0).val

/-- Every vector is one. -/
theorem exists_ev {φ : FTy} {d : Fin 1 → ℕ} (x : FVec Ideal ⟨1, d⟩ φ) : ∃ a : ℕ → EReal, x = ev a := by
  classical
  refine ⟨fun i => if h : ∃ k : Shape.Idx ⟨1, d⟩, (k 0).val = i then x h.choose else 0, ?_⟩
  funext k
  have hk : ∃ k' : Shape.Idx ⟨1, d⟩, (k' 0).val = (k 0).val := ⟨k, rfl⟩
  have e : hk.choose = k := by
    funext a
    apply Fin.ext
    match a with
    | ⟨0, _⟩ => exact hk.choose_spec
  unfold ev
  dsimp only
  rw [dif_pos hk, e]

/-- The row's mean. -/
def mean (z : ℕ → ℕ → EReal) (i : ℕ) : EReal := Ideal.div (∑ k : Fin 1024, z i k) (Ideal.ofBits FTy.f32 0x44800000#32)
/-- The reciprocal of the row's deviation. -/
def spread (z : ℕ → ℕ → EReal) (i : ℕ) : EReal :=
  Ideal.rsqrt (Ideal.div (∑ k : Fin 1024, (z i k - mean z i) * (z i k - mean z i)) (Ideal.ofBits FTy.f32 0x44800000#32) + Ideal.ofBits FTy.f32 0x3727C5AC#32)
/-- The layer norm. -/
def norm (z : ℕ → ℕ → EReal) (g b : ℕ → EReal) : ℕ → ℕ → EReal := fun i j => (z i j - mean z i) * spread z i * g j + b j
/-- A scaled array plus another. -/
def resid (x p : ℕ → ℕ → EReal) : ℕ → ℕ → EReal := fun i j => Ideal.ofBits FTy.f32 0x3FD744FD#32 * x i j + p i j
/-- Three arrays side by side, 384, 384 and the remaining columns. -/
def cat (a b d : ℕ → ℕ → EReal) : ℕ → ℕ → EReal := fun i j => if j < 384 then a i j else if j < 768 then b i (j - 384) else d i (j - 768)

theorem norm_rows (s : ℕ) (z : ℕ → ℕ → EReal) (g b : ℕ → EReal) (i j : ℕ) : norm (fun i j => z (s + i) j) g b i j = norm z g b (s + i) j := rfl
theorem resid_rows (s : ℕ) (x p : ℕ → ℕ → EReal) (i j : ℕ) : resid (fun i j => x (s + i) j) (fun i j => p (s + i) j) i j = resid x p (s + i) j := rfl
theorem cat_rows (s : ℕ) (a b d : ℕ → ℕ → EReal) (i j : ℕ) :
    cat (fun i j => a (s + i) j) (fun i j => b (s + i) j) (fun i j => d (s + i) j) i j = cat a b d (s + i) j := rfl

/-- A block of whole rows, read off its array. -/
theorem at_rows (a : ℕ → ℕ → EReal) {u v s : ℕ} (R C i j : ℕ) (hu : u = s) (hv : v = 0) : a (u * R + 1 * i) (v * C + 1 * j) = a (R * s + i) j := by
  rw [hu, hv, Nat.mul_comm s R, Nat.one_mul, Nat.one_mul, Nat.zero_mul, Nat.zero_add]

/-- The whole array as its only block. -/
theorem at_whole (a : ℕ → ℕ → EReal) {u v : ℕ} (R C i j : ℕ) (hu : u = 0) (hv : v = 0) : a (u * R + 1 * i) (v * C + 1 * j) = a i j := by
  rw [hu, hv, Nat.one_mul, Nat.one_mul, Nat.zero_mul, Nat.zero_mul, Nat.zero_add, Nat.zero_add]

end Cert.Extended

end
-- ==== Proof.Loss.lean ====
module

public import proofs.«01_k».proof.Defs
public import proofs.«01_k».proof.Proof.Norm
public import proofs.«01_k».proof.Proof.Reals
public import proofs.«01_k».proof.Proof.Gen.Kernel11
public import proofs.«01_k».proof.Proof.Gen.Kernel11Ideal.Frame
public import proofs.«01_k».proof.Proof.Gen.Reference11Ideal.Run

@[expose] public section

set_option maxRecDepth 16384

noncomputable section

namespace Cert.Loss

open Idealize.ShloMosaic Cert.Extended

/-! ## Half the sum of the rows' mean squared errors, block of rows by block of rows -/

/-- A row's mean squared error. -/
def err (y t : ℕ → ℕ → EReal) (i : ℕ) : EReal := Ideal.div (∑ k : Fin 1024, (y i k - t i k) * (y i k - t i k)) (Ideal.ofBits FTy.f32 0x44800000#32)
/-- The share of a block of 512 rows. -/
def part (y t : ℕ → ℕ → EReal) (s : ℕ) : EReal := Ideal.ofBits FTy.f32 0x3F000000#32 * ∑ i : Fin 512, err y t (512 * s + i)
/-- The shares of the blocks 0 to `k`, added in order. -/
def sofar (y t : ℕ → ℕ → EReal) : ℕ → EReal
  | 0 => 0 + part y t 0
  | k + 1 => sofar y t k + part y t (k + 1)
/-- The whole. -/
def loss (y t : ℕ → ℕ → EReal) : EReal := Ideal.ofBits FTy.f32 0x3F000000#32 * ∑ i : Fin 4096, err y t i
/-- Its derivative in `y`. -/
def slope (y t : ℕ → ℕ → EReal) : ℕ → ℕ → EReal := fun i j => (y i j - t i j) * Ideal.ofBits FTy.f32 0x3A800000#32

theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_share : Ideal.ofBits .f32 0x3A800000#32 = ((1 / 1024 : ℝ) : EReal) := by
  simp [Ideal.ofBits, Ideal.ieee, -EReal.coe_mul]; norm_num

theorem sum_parts (f : ℕ → EReal) : ∑ i : Fin 4096, f i
    = 0 + (∑ i : Fin 512, f (512 * 0 + i)) + (∑ i : Fin 512, f (512 * 1 + i)) + (∑ i : Fin 512, f (512 * 2 + i)) + (∑ i : Fin 512, f (512 * 3 + i))
      + (∑ i : Fin 512, f (512 * 4 + i)) + (∑ i : Fin 512, f (512 * 5 + i)) + (∑ i : Fin 512, f (512 * 6 + i)) + ∑ i : Fin 512, f (512 * 7 + i) := by
  rw [Fin.sum_univ_eq_sum_range (fun k => f k) 4096]
  simp only [Fin.sum_univ_eq_sum_range (fun k => f (512 * 0 + k)), Fin.sum_univ_eq_sum_range (fun k => f (512 * 1 + k)), Fin.sum_univ_eq_sum_range (fun k => f (512 * 2 + k)),
    Fin.sum_univ_eq_sum_range (fun k => f (512 * 3 + k)), Fin.sum_univ_eq_sum_range (fun k => f (512 * 4 + k)), Fin.sum_univ_eq_sum_range (fun k => f (512 * 5 + k)),
    Fin.sum_univ_eq_sum_range (fun k => f (512 * 6 + k)), Fin.sum_univ_eq_sum_range (fun k => f (512 * 7 + k))]
  rw [show 4096 = 512 + 512 + 512 + 512 + 512 + 512 + 512 + 512 from rfl]
  rw [Finset.sum_range_add, Finset.sum_range_add, Finset.sum_range_add, Finset.sum_range_add, Finset.sum_range_add, Finset.sum_range_add, Finset.sum_range_add]
  simp only [Nat.mul_zero, Nat.mul_one, Nat.zero_add, zero_add, Nat.reduceAdd, Nat.reduceMul]

/-- Taking half of each block's sum and adding is taking half of the sum: the factor is a nonnegative real. -/
theorem sofar_last (y t : ℕ → ℕ → EReal) : sofar y t 7 = loss y t := by
  have h (a b : EReal) : ((1 / 2 : ℝ) : EReal) * (a + b) = ((1 / 2 : ℝ) : EReal) * a + ((1 / 2 : ℝ) : EReal) * b :=
    EReal.left_distrib_of_nonneg_of_ne_top (EReal.coe_nonneg.mpr (by norm_num)) (EReal.coe_ne_top _) a b
  unfold loss
  rw [sum_parts (err y t), lit_half, h, h, h, h, h, h, h, h, mul_zero]
  simp only [sofar, part, lit_half, Nat.reduceAdd, Nat.zero_add]

/-- The reference's factors multiply to the kernel's. -/
theorem slope_eq (e : EReal) :
    Ideal.div (Ideal.ofBits FTy.f32 0x3F000000#32) (Ideal.ofBits FTy.f32 0x44800000#32) * (Ideal.ofBits FTy.f32 0x40000000#32 * e)
      = e * Ideal.ofBits FTy.f32 0x3A800000#32 := by
  rw [lit_half, lit_two, lit_share, Cert.Reals.lit_1024, Cert.Reals.div_coe_coe (by norm_num), ← mul_assoc, ← EReal.coe_mul, mul_comm,
    show (1 / 2 / 1024 * 2 : ℝ) = 1 / 1024 by norm_num]

end Cert.Loss

namespace Cert.Kernel11Ideal.Loss

open Idealize.ShloMosaic Idealize.ShloMosaic.TcCoe Idealize.SL.Sem Cert.Kernel11Ideal.Gen Cert.Extended Cert.Loss

theorem pay1_eq : (k0_pay1 : FVec Ideal S8x128 .f32) = ex fun _ _ => 0 := by
  funext i
  unfold k0_pay1
  pointwise
  rfl

theorem pay3_eq (y t : ℕ → ℕ → EReal) : k0_pay3 (ex y : FVec Ideal S512x1024 .f32) (ex t : FVec Ideal S512x1024 .f32) = (ex (slope y t) : FVec Ideal S512x1024 .f32) := by
  funext i
  unfold k0_pay3 k0_pay2
  pointwise
  rfl

theorem pay4_eq (y t : ℕ → ℕ → EReal) (a : EReal) :
    k0_pay4 (ex y : FVec Ideal S512x1024 .f32) (ex t : FVec Ideal S512x1024 .f32) (ex fun _ _ => a : FVec Ideal S8x128 .f32)
      = (ex fun _ _ => a + Ideal.ofBits FTy.f32 0x3F000000#32 * ∑ i : Fin 512, err y t i : FVec Ideal S8x128 .f32) := by
  funext i
  unfold k0_pay4 k0_pay2
  pointwise
  rfl

section
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S8x128 .f32) (h4 : a4.IsWhole) (y t : ℕ → ℕ → EReal) (a : EReal)

/-- The zero block, read back whole. -/
theorem zero_read (v : View sig .tc .vmem S8x128 .f32) (inb inb') :
    v.readCov [(⟨Rect.unit (s := S8x128) ![0, 0] ![8, 128] inb, (ex fun _ _ => a : FVec Ideal S8x128 .f32)⟩ : View.Piece (Elt Ideal) S8x128 .f32)]
      (Rect.unit (s := S8x128) ![0, 0] ![8, 128] inb').toLoadRect = (ex fun _ _ => a : FVec Ideal S8x128 .f32) := by
  rw [View.readCov_eq_canon_ld _ _ _ fun y => ?_, View.canon_unit_zero corner]
  · exact View.ld_unit_zero (S := S8x128) corner _ _
  · refine ⟨_, List.mem_singleton_self _, ?_⟩
    rw [Rect.mem_set_unit]
    intro x
    match x with
    | ⟨0, _⟩ => exact ⟨Nat.zero_le _, by simpa using (y 0).isLt⟩
    | ⟨1, _⟩ => exact ⟨Nat.zero_le _, by simpa using (y 1).isLt⟩

theorem firstSlope (hc0 : cond0_0 i) : out0_A_2 (F := Ideal) c i a1 h1 a2 h2 a3 h3 a4 h4 hc0 (ex y : FVec Ideal S512x1024 .f32) (ex t : FVec Ideal S512x1024 .f32)
    = (ex (slope y t) : FVec Ideal S512x1024 .f32) := by
  unfold out0_A_2
  rw [View.read_writes_eq_canon _ _ _ (cover0_A_2 (F := Ideal) c i a1 h1 a2 h2 a3 h3 a4 h4 hc0 _ _)]
  unfold kernelRun0_A
  dsimp only
  sl_unfold_words
  rw [View.canon_unit_zero corner]
  simp only [View.readAt_eq_ld, h1.read_unread, h2.read_unread, View.ld_unit_zero (S := S512x1024) corner]
  rw [pay3_eq]

theorem laterSlope (hc0 : ¬cond0_0 i) : out0_B_2 (F := Ideal) c i a1 h1 a2 h2 a3 h3 a4 h4 hc0 (ex y : FVec Ideal S512x1024 .f32) (ex t : FVec Ideal S512x1024 .f32) (ex fun _ _ => a : FVec Ideal S8x128 .f32)
    = (ex (slope y t) : FVec Ideal S512x1024 .f32) := by
  unfold out0_B_2
  rw [View.read_writes_eq_canon _ _ _ (cover0_B_2 (F := Ideal) c i a1 h1 a2 h2 a3 h3 a4 h4 hc0 _ _ _)]
  unfold kernelRun0_B
  dsimp only
  sl_unfold_words
  rw [View.canon_unit_zero corner]
  simp only [View.readAt_eq_ld, h1.read_unread, h2.read_unread, View.ld_unit_zero (S := S512x1024) corner]
  rw [pay3_eq]

theorem firstShare (hc0 : cond0_0 i) : out0_A_3 (F := Ideal) c i a1 h1 a2 h2 a3 h3 a4 h4 hc0 (ex y : FVec Ideal S512x1024 .f32) (ex t : FVec Ideal S512x1024 .f32)
    = (ex fun _ _ => 0 + Ideal.ofBits FTy.f32 0x3F000000#32 * ∑ i : Fin 512, err y t i : FVec Ideal S8x128 .f32) := by
  unfold out0_A_3
  rw [View.read_writes_eq_canon _ _ _ (cover0_A_3 (F := Ideal) c i a1 h1 a2 h2 a3 h3 a4 h4 hc0 _ _)]
  unfold kernelRun0_A
  dsimp only
  sl_unfold_words
  rw [View.canon_cons_unit_zero corner]
  simp only [View.readAt_eq_ld, h1.read_unread, h2.read_unread, View.ld_unit_zero (S := S512x1024) corner]
  rw [pay1_eq]
  erw [zero_read 0 a4.view]
  rw [pay4_eq]

theorem laterShare (hc0 : ¬cond0_0 i) : out0_B_3 (F := Ideal) c i a1 h1 a2 h2 a3 h3 a4 h4 hc0 (ex y : FVec Ideal S512x1024 .f32) (ex t : FVec Ideal S512x1024 .f32) (ex fun _ _ => a : FVec Ideal S8x128 .f32)
    = (ex fun _ _ => a + Ideal.ofBits FTy.f32 0x3F000000#32 * ∑ i : Fin 512, err y t i : FVec Ideal S8x128 .f32) := by
  unfold out0_B_3
  rw [View.read_writes_eq_canon _ _ _ (cover0_B_3 (F := Ideal) c i a1 h1 a2 h2 a3 h3 a4 h4 hc0 _ _ _)]
  unfold kernelRun0_B
  dsimp only
  sl_unfold_words
  rw [View.canon_unit_zero corner]
  simp only [View.readAt_eq_ld, h1.read_unread, h2.read_unread, h4.read_unread, View.ld_unit_zero (S := S512x1024) corner, View.ld_unit_zero (S := S8x128) corner]
  rw [pay4_eq]
end

/-! ## The blocks, read off the arrays -/

theorem ix0 : ∀ t : Fin cfg0.N, win0_0.index t 0 = t.val ∧ win0_0.index t 1 = 0 := by decide +kernel
theorem ix1 : ∀ t : Fin cfg0.N, win0_1.index t 0 = t.val ∧ win0_1.index t 1 = 0 := by decide +kernel
theorem ix2 : ∀ t : Fin cfg0.N, win0_2.index t 0 = t.val ∧ win0_2.index t 1 = 0 := by decide +kernel
theorem ix3 : ∀ t : Fin cfg0.N, win0_3.index t 0 = 0 ∧ win0_3.index t 1 = 0 := by decide +kernel

section
variable {m : (ℓ : Loc nD τ sig) → Buf (Elt Ideal) ℓ} {c : Dev nD} {y z : ℕ → ℕ → EReal}
  (ha0 : m ((c.tc : Thread nD τ).loc main_arg0) = (ex y : FVec Ideal S4096x1024 .f32))
  (ha1 : m ((c.tc : Thread nD τ).loc main_arg1) = (ex z : FVec Ideal S4096x1024 .f32))

include ha0 in
theorem read0 (t : Fin cfg0.N) : iblk m c 0 t = (ex fun i j => y (512 * t.val + i) j : FVec Ideal S512x1024 .f32) := by
  funext j
  unfold iblk
  rw [View.read_apply]
  show V m c main_arg0 _ = _
  rw [V_main_arg0, ha0]
  exact at_rows y 512 1024 (j 0).val (j 1).val (ix0 t).1 (ix0 t).2

include ha1 in
theorem read1 (t : Fin cfg0.N) : iblk m c 1 t = (ex fun i j => z (512 * t.val + i) j : FVec Ideal S512x1024 .f32) := by
  funext j
  unfold iblk
  rw [View.read_apply]
  show V m c main_arg1 _ = _
  rw [V_main_arg1, ha1]
  exact at_rows z 512 1024 (j 0).val (j 1).val (ix1 t).1 (ix1 t).2

include ha0 ha1

/-- The accumulator after each point. -/
theorem share (n : ℕ) (hn : n < cfg0.N) : (outsAt0 m c n hn).2 = (ex fun _ _ => sofar y z n : FVec Ideal S8x128 .f32) := by
  have hN : cfg0.N = 8 := N_0
  induction n with
  | zero =>
    have e := outsAt0_A m c ⟨0, hn⟩ rfl
    dsimp only at e
    rw [e]
    dsimp only
    rw [read0 ha0, read1 ha1, firstShare]
    rfl
  | succ n ih =>
    have e := outsAt0_B m c ⟨n + 1, hn⟩ (by show ¬(n + 1) % 8 = 0; omega)
    dsimp only at e
    rw [e]
    dsimp only
    rw [read0 ha0, read1 ha1]
    erw [ih (by omega)]
    rw [laterShare]
    rfl

theorem flushed2 (t : Fin cfg0.N) (_ : (cfg0.win 2).flush t = true) :
    (dats m 0 c).flushed 2 t = ((cfg0.win 2).blk t).view.read (Elt Ideal) (ex (slope y z) : FVec Ideal S4096x1024 .f32) := by
  have hN : cfg0.N = 8 := N_0
  have ht := t.isLt
  show (cfg0.win 2).cut (grid0.coords t) ((dats m 0 c).after 2 t) = _
  have e : (outsAt0 m c t.val t.isLt).1 = (ex fun i j => slope y z (512 * t.val + i) j : FVec Ideal S512x1024 .f32) := by
    by_cases h : t.val % 8 = 0
    · rw [outsAt0_A m c t h]
      dsimp only
      rw [read0 ha0, read1 ha1, firstSlope]
      rfl
    · rw [outsAt0_B m c t h]
      dsimp only
      rw [read0 ha0, read1 ha1]
      rw [share ha0 ha1]
      rw [laterSlope]
      rfl
  rw [after0_2, e]
  funext j
  rw [View.read_apply]
  exact (at_rows (slope y z) 512 1024 (j 0).val (j 1).val (ix2 t).1 (ix2 t).2).symm

theorem flushed3 (t : Fin cfg0.N) (hf : (cfg0.win 3).flush t = true) :
    (dats m 0 c).flushed 3 t = ((cfg0.win 3).blk t).view.read (Elt Ideal) (ex fun _ _ => loss y z : FVec Ideal S8x128 .f32) := by
  have hN : cfg0.N = 8 := N_0
  have ht := t.isLt
  have h7 := (flush0_3 t).mp hf
  show (cfg0.win 3).cut (grid0.coords t) ((dats m 0 c).after 3 t) = _
  rw [after0_3, share ha0 ha1, show t.val = 7 by omega, sofar_last]
  funext j
  rw [View.read_apply]
  rfl

theorem final2 : (dats m 0 c).arrAt 2 cfg0.N = (ex (slope y z) : FVec Ideal S4096x1024 .f32) :=
  (dats m 0 c).arrAt_eq_of_cover 2 _ (flushed2 ha0 ha1) fun i => by
    have h0 : (i 0 : Nat) < 4096 := (i 0).isLt
    have h1 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    refine ⟨t, flush0_2 t, ?_⟩
    show i ∈ ((View.whole main_v0_0).slice (win0_2.rect t)).set
    rw [View.set_slice_whole, Rect.mem_set_unit]
    intro x
    match x with
    | ⟨0, _⟩ =>
      show win0_2.index t 0 * 512 ≤ (i 0 : Nat) ∧ (i 0 : Nat) < win0_2.index t 0 * 512 + 512
      rw [(ix2 t).1]; omega
    | ⟨1, _⟩ =>
      show win0_2.index t 1 * 1024 ≤ (i 1 : Nat) ∧ (i 1 : Nat) < win0_2.index t 1 * 1024 + 1024
      rw [(ix2 t).2]; omega

theorem final3 : (dats m 0 c).arrAt 3 cfg0.N = (ex fun _ _ => loss y z : FVec Ideal S8x128 .f32) :=
  (dats m 0 c).arrAt_eq_of_cover 3 _ (flushed3 ha0 ha1) fun i => by
    have h0 : (i 0 : Nat) < 8 := (i 0).isLt
    have h1 : (i 1 : Nat) < 128 := (i 1).isLt
    have hN : cfg0.N = 8 := N_0
    obtain ⟨t, ht⟩ : ∃ t : Fin cfg0.N, t.val = 7 := ⟨⟨7, by omega⟩, rfl⟩
    refine ⟨t, (flush0_3 t).mpr (by omega), ?_⟩
    show i ∈ ((View.whole main_v0_1).slice (win0_3.rect t)).set
    rw [View.set_slice_whole, Rect.mem_set_unit]
    intro x
    match x with
    | ⟨0, _⟩ =>
      show win0_3.index t 0 * 8 ≤ (i 0 : Nat) ∧ (i 0 : Nat) < win0_3.index t 0 * 8 + 8
      rw [(ix3 t).1]; omega
    | ⟨1, _⟩ =>
      show win0_3.index t 1 * 128 ≤ (i 1 : Nat) ∧ (i 1 : Nat) < win0_3.index t 1 * 128 + 128
      rw [(ix3 t).2]; omega
end

end Cert.Kernel11Ideal.Loss

namespace Cert.Reference11Ideal.Loss

open Idealize.ShloMosaic Idealize.ShloMosaic.TcCoe Idealize.SL.Sem Cert.Reference11Ideal.Gen Cert.Extended Cert.Loss

/-! ## The reference -/

theorem host_slope (y t : ℕ → ℕ → EReal) :
    mulf (broadcastInDim S4096x1024 ![0] bcast_S4096_S4096x1024_0 (Host.divf (broadcastInDim S4096 ![] bcast_S_S4096 (mulf (constant (F := Ideal) S_ .f32 0x3F000000#32) (constant S_ .f32 0x3F800000#32)))
        (broadcastInDim S4096 ![] bcast_S_S4096 (constant S_ .f32 0x44800000#32))))
      (mulf (broadcastInDim S4096x1024 ![] bcast_S_S4096x1024 (constant S_ .f32 0x40000000#32)) (subf (ex y : FVec Ideal S4096x1024 .f32) (ex t : FVec Ideal S4096x1024 .f32)))
      = (ex (slope y t) : FVec Ideal S4096x1024 .f32) := by
  funext i
  pointwise
  exact slope_eq (y (i 0).val (i 1).val - t (i 0).val (i 1).val)

theorem host_loss (y t : ℕ → ℕ → EReal) :
    broadcastInDim S8x128 ![] bcast_S_S8x128 (mulf (constant S_ .f32 0x3F000000#32) (Host.reduceAdd (Host.divf
        (Host.reduceAdd (mulf (subf (ex y : FVec Ideal S4096x1024 .f32) (ex t : FVec Ideal S4096x1024 .f32)) (subf (ex y : FVec Ideal S4096x1024 .f32) (ex t : FVec Ideal S4096x1024 .f32)))
          (constant S_ .f32 0x00000000#32) reducesTo_S4096x1024_S4096_d1 h_S_) (broadcastInDim S4096 ![] bcast_S_S4096 (constant S_ .f32 0x44800000#32)))
        (constant S_ .f32 0x00000000#32) reducesTo_S4096_S_d0 h_S_))
      = (ex fun _ _ => loss y t : FVec Ideal S8x128 .f32) := by
  funext i
  pointwise
  rfl

end Cert.Reference11Ideal.Loss

namespace Cert.Kernel11Ideal.Loss

open Idealize.ShloMosaic Idealize.ShloMosaic.TcCoe Idealize.SL.Sem Cert.Kernel11Ideal.Gen Cert.Extended Cert.Loss Cert.Reference11Ideal.Loss

/-- The kernel and the reference end holding the same arrays. -/
theorem values : Cert.algebraic_Kernel11Ideal_Reference11Ideal := by
  intro m s m' s' _ hagree
  choose y hy using fun c : Dev nD => exists_ex (m ((c.tc : Thread nD τ).loc main_arg0) : FVec Ideal S4096x1024 .f32)
  choose t ht using fun c : Dev nD => exists_ex (m ((c.tc : Thread nD τ).loc main_arg1) : FVec Ideal S4096x1024 .f32)
  refine ⟨fun c => (ex (slope (y c) (t c)) : FVec Ideal S4096x1024 .f32), fun c => (ex fun _ _ => loss (y c) (t c) : FVec Ideal S8x128 .f32), ?_, ?_⟩
  · exact (θ_run defs _ _).mono (fun _ h c => ⟨((h.1 c).1 2).trans (final2 (hy c) (ht c)), ((h.1 c).1 3).trans (final3 (hy c) (ht c)), h.2.1 c⟩)
      (θ_run_and (run_main m s) (frame m s))
  · refine (θ_run Cert.Reference11Ideal.defs _ _).mono (fun _ h c => ⟨(h c).1.trans ?_, (h c).2.1.trans ?_, (h c).2.2⟩) (Cert.Reference11Ideal.Value.run (F := Ideal) m' s')
    · rw [(hagree c).1, (hagree c).2, hy c, ht c]
      exact host_slope _ _
    · rw [(hagree c).1, (hagree c).2, hy c, ht c]
      exact host_loss _ _

theorem frame_kernel : Cert.quiescent_Kernel11 := by
  have h := fun m ρ (_ : True) => frame (F := Bits) m ρ
  exact cast (by sl_kernel_rfl) h
theorem frame_ideal : Cert.quiescent_Kernel11Ideal := fun m ρ _ => frame (F := Ideal) m ρ
theorem frame_reference : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

end Cert.Kernel11Ideal.Loss

end
-- ==== Proof.OutWeight.lean ====
module

public import proofs.«01_k».proof.Defs
public import proofs.«01_k».proof.Proof.Extended
public import proofs.«01_k».proof.Proof.Gen.Kernel5
public import proofs.«01_k».proof.Proof.Gen.Kernel5Ideal.Frame
public import proofs.«01_k».proof.Proof.Gen.Reference5Ideal.Run

@[expose] public section

set_option maxRecDepth 16384

noncomputable section

namespace Cert.Kernel5Ideal.OutWeight

open Idealize.ShloMosaic Idealize.ShloMosaic.TcCoe Idealize.SL.Sem Cert.Kernel5Ideal.Gen Cert.Extended

/-! ## The gradient of the output projection's weight: ycᵀ · dz, a block of rows per grid point -/

/-- One block: a block of yc's columns, transposed, times the whole of dz. -/
theorem block (a b : ℕ → ℕ → EReal) :
    k0_pay1 (ex a : FVec Ideal S4096x512 .bf16) (ex b : FVec Ideal S4096x1024 .bf16) = (ex (tmul 4096 a b) : FVec Ideal S512x1024 .bf16) := by
  funext i
  show matmul dot_S4096x512_S4096x1024_S512x1024_0_0_1_1_n_n none (ex a : FVec Ideal S4096x512 .bf16) (ex b : FVec Ideal S4096x1024 .bf16) (constant S512x1024 .f32 0x00000000#32) i = _
  pointwise
  rfl

theorem left_eq (x : FVec Ideal S4096x512 .bf16) (y : FVec Ideal S4096x1024 .bf16) : out0_2 (F := Ideal) x y = k0_pay1 (F := Ideal) x y := by
  unfold out0_2
  rw [View.canon_unit_zero corner, View.ld_unit_zero corner, View.ld_unit_zero corner]

theorem ix0 : ∀ t : Fin cfg0.N, win0_0.index t 0 = 0 ∧ win0_0.index t 1 = t.val := by decide +kernel
theorem ix1 : ∀ t : Fin cfg0.N, win0_1.index t 0 = 0 ∧ win0_1.index t 1 = 0 := by decide +kernel
theorem ix2 : ∀ t : Fin cfg0.N, win0_2.index t 0 = t.val ∧ win0_2.index t 1 = 0 := by decide +kernel

section
variable {m : (ℓ : Loc nD τ sig) → Buf (Elt Ideal) ℓ} {c : Dev nD} {a b : ℕ → ℕ → EReal}
  (ha : m ((c.tc : Thread nD τ).loc main_arg0) = (ex a : FVec Ideal S4096x1024 .bf16))
  (hb : m ((c.tc : Thread nD τ).loc main_arg1) = (ex b : FVec Ideal S4096x1024 .bf16))

include ha in
theorem read0 (t : Fin cfg0.N) : iblk m c 0 t = (ex fun i j => a i (512 * t.val + j) : FVec Ideal S4096x512 .bf16) := by
  funext j
  unfold iblk
  rw [View.read_apply]
  show m ((c.tc : Thread nD τ).loc main_arg0) _ = _
  rw [ha]
  show a (win0_0.index t 0 * 4096 + 1 * (j 0).val) (win0_0.index t 1 * 512 + 1 * (j 1).val) = _
  rw [(ix0 t).1, (ix0 t).2]
  show _ = a (j 0).val (512 * t.val + (j 1).val)
  congr 1 <;> omega

include hb in
theorem read1 (t : Fin cfg0.N) : iblk m c 1 t = (ex b : FVec Ideal S4096x1024 .bf16) := by
  funext j
  unfold iblk
  rw [View.read_apply]
  show m ((c.tc : Thread nD τ).loc main_arg1) _ = _
  rw [hb]
  show b (win0_1.index t 0 * 4096 + 1 * (j 0).val) (win0_1.index t 1 * 1024 + 1 * (j 1).val) = _
  rw [(ix1 t).1, (ix1 t).2]
  show _ = b (j 0).val (j 1).val
  congr 1 <;> omega

include ha hb

theorem flushed (t : Fin cfg0.N) (_ : (cfg0.win 2).flush t = true) :
    (dats m 0 c).flushed 2 t = ((cfg0.win 2).blk t).view.read (Elt Ideal) (ex (tmul 4096 a b) : FVec Ideal S1024x1024 .bf16) := by
  show (cfg0.win 2).cut (grid0.coords t) ((dats m 0 c).after 2 t) = _
  rw [after0_2, left_eq, read0 ha, read1 hb, block]
  funext j
  rw [View.read_apply]
  show tmul 4096 (fun i j => a i (512 * t.val + j)) b (j 0).val (j 1).val
    = tmul 4096 a b (win0_2.index t 0 * 512 + 1 * (j 0).val) (win0_2.index t 1 * 1024 + 1 * (j 1).val)
  rw [(ix2 t).1, (ix2 t).2, tmul_rows]
  congr 1 <;> omega

theorem final : (dats m 0 c).arrAt 2 cfg0.N = (ex (tmul 4096 a b) : FVec Ideal S1024x1024 .bf16) :=
  (dats m 0 c).arrAt_eq_of_cover 2 _ (flushed ha hb) fun i => by
    have h0 : (i 0 : Nat) < 1024 := (i 0).isLt
    have h1 : (i 1 : Nat) < 1024 := (i 1).isLt
    have hN : cfg0.N = 2 := N_0
    obtain ⟨t, ht⟩ : ∃ t : Fin cfg0.N, t.val = (i 0 : Nat) / 512 := ⟨⟨(i 0 : Nat) / 512, by omega⟩, rfl⟩
    refine ⟨t, flush0_2 t, ?_⟩
    show i ∈ ((View.whole main_v0).slice (win0_2.rect t)).set
    rw [View.set_slice_whole, Rect.mem_set_unit]
    intro x
    match x with
    | ⟨0, _⟩ =>
      show win0_2.index t 0 * 512 ≤ (i 0 : Nat) ∧ (i 0 : Nat) < win0_2.index t 0 * 512 + 512
      rw [(ix2 t).1]; omega
    | ⟨1, _⟩ =>
      show win0_2.index t 1 * 1024 ≤ (i 1 : Nat) ∧ (i 1 : Nat) < win0_2.index t 1 * 1024 + 1024
      rw [(ix2 t).2]; omega
end

/-- The reference's product. -/
theorem host (a b : ℕ → ℕ → EReal) :
    Host.dotGeneral Cert.Reference5Ideal.dot_S1024x4096_S4096x1024_S1024x1024_1_0_0_1_n_n none
      (transpose Cert.Reference5Ideal.S1024x4096 [1, 0] (ex a : FVec Ideal Cert.Reference5Ideal.S4096x1024 .f32) Cert.Reference5Ideal.Facts₀.transposes_S4096x1024_S1024x4096_1_0)
      (ex b : FVec Ideal Cert.Reference5Ideal.S4096x1024 .f32) = (ex (tmul 4096 a b) : FVec Ideal Cert.Reference5Ideal.S1024x1024 .f32) := by
  funext i
  pointwise
  rfl

/-- The kernel and the reference end holding the same product. -/
theorem values : Cert.algebraic_Kernel5Ideal_Reference5Ideal := by
  intro m g m' g' _ hagree
  choose a ha using fun c : Dev nD => exists_ex (m ((c.tc : Thread nD τ).loc main_arg0) : FVec Ideal S4096x1024 .bf16)
  choose b hb using fun c : Dev nD => exists_ex (m ((c.tc : Thread nD τ).loc main_arg1) : FVec Ideal S4096x1024 .bf16)
  refine ⟨fun c => (ex (tmul 4096 (a c) (b c)) : FVec Ideal S1024x1024 .bf16), ?_, ?_⟩
  · exact (θ_run defs _ _).mono (fun r h c => ⟨((h.1 c).1 2).trans (final (ha c) (hb c)), h.2.1 c⟩) (θ_run_and (run_main m g) (frame m g))
  · refine (θ_run Cert.Reference5Ideal.defs _ _).mono (fun r h c => ⟨(h c).1.trans ?_, (h c).2⟩) (Cert.Reference5Ideal.Value.run (F := Ideal) m' g')
    rw [(hagree c).1, (hagree c).2, ha c, hb c]
    exact host (a c) (b c)

theorem frame_kernel : Cert.quiescent_Kernel5 := by
  have h := fun m ρ (_ : True) => frame (F := Bits) m ρ
  exact cast (by sl_kernel_rfl) h
theorem frame_ideal : Cert.quiescent_Kernel5Ideal := fun m ρ _ => frame (F := Ideal) m ρ
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Kernel5Ideal.OutWeight

end
-- ==== Proof.InWeight.lean ====
module

public import proofs.«01_k».proof.Defs
public import proofs.«01_k».proof.Proof.Extended
public import proofs.«01_k».proof.Proof.Gen.Kernel6
public import proofs.«01_k».proof.Proof.Gen.Kernel6Ideal.Frame
public import proofs.«01_k».proof.Proof.Gen.Reference6Ideal.Run

@[expose] public section

set_option maxRecDepth 16384

noncomputable section

namespace Cert.Kernel6Ideal.InWeight

open Idealize.ShloMosaic Idealize.ShloMosaic.TcCoe Idealize.SL.Sem Cert.Kernel6Ideal.Gen Cert.Extended

/-! ## The gradient of the input projection's weight: xᵀ · dp, a block of columns per grid point -/

/-- One block: the whole of x, transposed, times a block of dp's columns. -/
theorem block (a b : ℕ → ℕ → EReal) :
    k0_pay1 (ex a : FVec Ideal S4096x1024 .bf16) (ex b : FVec Ideal S4096x1024 .bf16) = (ex (tmul 4096 a b) : FVec Ideal S1024x1024 .bf16) := by
  funext i
  show matmul dot_S4096x1024_S4096x1024_S1024x1024_0_0_1_1_n_n none (ex a : FVec Ideal S4096x1024 .bf16) (ex b : FVec Ideal S4096x1024 .bf16) (constant S1024x1024 .f32 0x00000000#32) i = _
  pointwise
  rfl

theorem left_eq (x y : FVec Ideal S4096x1024 .bf16) : out0_2 (F := Ideal) x y = k0_pay1 (F := Ideal) x y := by
  unfold out0_2
  rw [View.canon_unit_zero corner, View.ld_unit_zero corner, View.ld_unit_zero corner]

theorem ix0 : ∀ t : Fin cfg0.N, win0_0.index t 0 = 0 ∧ win0_0.index t 1 = 0 := by decide +kernel
theorem ix1 : ∀ t : Fin cfg0.N, win0_1.index t 0 = 0 ∧ win0_1.index t 1 = t.val := by decide +kernel
theorem ix2 : ∀ t : Fin cfg0.N, win0_2.index t 0 = 0 ∧ win0_2.index t 1 = t.val := by decide +kernel

section
variable {m : (ℓ : Loc nD τ sig) → Buf (Elt Ideal) ℓ} {c : Dev nD} {a b : ℕ → ℕ → EReal}
  (ha : m ((c.tc : Thread nD τ).loc main_arg0) = (ex a : FVec Ideal S4096x1024 .bf16))
  (hb : m ((c.tc : Thread nD τ).loc main_arg1) = (ex b : FVec Ideal S4096x3072 .bf16))

include ha in
theorem read0 (t : Fin cfg0.N) : iblk m c 0 t = (ex a : FVec Ideal S4096x1024 .bf16) := by
  funext j
  unfold iblk
  rw [View.read_apply]
  show m ((c.tc : Thread nD τ).loc main_arg0) _ = _
  rw [ha]
  show a (win0_0.index t 0 * 4096 + 1 * (j 0).val) (win0_0.index t 1 * 1024 + 1 * (j 1).val) = _
  rw [(ix0 t).1, (ix0 t).2]
  show _ = a (j 0).val (j 1).val
  congr 1 <;> omega

include hb in
theorem read1 (t : Fin cfg0.N) : iblk m c 1 t = (ex fun i j => b i (1024 * t.val + j) : FVec Ideal S4096x1024 .bf16) := by
  funext j
  unfold iblk
  rw [View.read_apply]
  show m ((c.tc : Thread nD τ).loc main_arg1) _ = _
  rw [hb]
  show b (win0_1.index t 0 * 4096 + 1 * (j 0).val) (win0_1.index t 1 * 1024 + 1 * (j 1).val) = _
  rw [(ix1 t).1, (ix1 t).2]
  show _ = b (j 0).val (1024 * t.val + (j 1).val)
  congr 1 <;> omega

include ha hb

theorem flushed (t : Fin cfg0.N) (_ : (cfg0.win 2).flush t = true) :
    (dats m 0 c).flushed 2 t = ((cfg0.win 2).blk t).view.read (Elt Ideal) (ex (tmul 4096 a b) : FVec Ideal S1024x3072 .bf16) := by
  show (cfg0.win 2).cut (grid0.coords t) ((dats m 0 c).after 2 t) = _
  rw [after0_2, left_eq, read0 ha, read1 hb, block]
  funext j
  rw [View.read_apply]
  show tmul 4096 a (fun i j => b i (1024 * t.val + j)) (j 0).val (j 1).val
    = tmul 4096 a b (win0_2.index t 0 * 1024 + 1 * (j 0).val) (win0_2.index t 1 * 1024 + 1 * (j 1).val)
  rw [(ix2 t).1, (ix2 t).2, tmul_cols]
  congr 1 <;> omega

theorem final : (dats m 0 c).arrAt 2 cfg0.N = (ex (tmul 4096 a b) : FVec Ideal S1024x3072 .bf16) :=
  (dats m 0 c).arrAt_eq_of_cover 2 _ (flushed ha hb) fun i => by
    have h0 : (i 0 : Nat) < 1024 := (i 0).isLt
    have h1 : (i 1 : Nat) < 3072 := (i 1).isLt
    have hN : cfg0.N = 3 := N_0
    obtain ⟨t, ht⟩ : ∃ t : Fin cfg0.N, t.val = (i 1 : Nat) / 1024 := ⟨⟨(i 1 : Nat) / 1024, by omega⟩, rfl⟩
    refine ⟨t, flush0_2 t, ?_⟩
    show i ∈ ((View.whole main_v0).slice (win0_2.rect t)).set
    rw [View.set_slice_whole, Rect.mem_set_unit]
    intro x
    match x with
    | ⟨0, _⟩ =>
      show win0_2.index t 0 * 1024 ≤ (i 0 : Nat) ∧ (i 0 : Nat) < win0_2.index t 0 * 1024 + 1024
      rw [(ix2 t).1]; omega
    | ⟨1, _⟩ =>
      show win0_2.index t 1 * 1024 ≤ (i 1 : Nat) ∧ (i 1 : Nat) < win0_2.index t 1 * 1024 + 1024
      rw [(ix2 t).2]; omega
end

/-- The reference's product. -/
theorem host (a b : ℕ → ℕ → EReal) :
    Host.dotGeneral Cert.Reference6Ideal.dot_S1024x4096_S4096x3072_S1024x3072_1_0_0_1_n_n none
      (transpose Cert.Reference6Ideal.S1024x4096 [1, 0] (ex a : FVec Ideal Cert.Reference6Ideal.S4096x1024 .f32) Cert.Reference6Ideal.Facts₀.transposes_S4096x1024_S1024x4096_1_0)
      (ex b : FVec Ideal Cert.Reference6Ideal.S4096x3072 .f32) = (ex (tmul 4096 a b) : FVec Ideal Cert.Reference6Ideal.S1024x3072 .f32) := by
  funext i
  pointwise
  rfl

/-- The kernel and the reference end holding the same product. -/
theorem values : Cert.algebraic_Kernel6Ideal_Reference6Ideal := by
  intro m g m' g' _ hagree
  choose a ha using fun c : Dev nD => exists_ex (m ((c.tc : Thread nD τ).loc main_arg0) : FVec Ideal S4096x1024 .bf16)
  choose b hb using fun c : Dev nD => exists_ex (m ((c.tc : Thread nD τ).loc main_arg1) : FVec Ideal S4096x3072 .bf16)
  refine ⟨fun c => (ex (tmul 4096 (a c) (b c)) : FVec Ideal S1024x3072 .bf16), ?_, ?_⟩
  · exact (θ_run defs _ _).mono (fun r h c => ⟨((h.1 c).1 2).trans (final (ha c) (hb c)), h.2.1 c⟩) (θ_run_and (run_main m g) (frame m g))
  · refine (θ_run Cert.Reference6Ideal.defs _ _).mono (fun r h c => ⟨(h c).1.trans ?_, (h c).2⟩) (Cert.Reference6Ideal.Value.run (F := Ideal) m' g')
    rw [(hagree c).1, (hagree c).2, ha c, hb c]
    exact host (a c) (b c)

theorem frame_kernel : Cert.quiescent_Kernel6 := by
  have h := fun m ρ (_ : True) => frame (F := Bits) m ρ
  exact cast (by sl_kernel_rfl) h
theorem frame_ideal : Cert.quiescent_Kernel6Ideal := fun m ρ _ => frame (F := Ideal) m ρ
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Kernel6Ideal.InWeight

end
-- ==== Proof.InGrad.lean ====
module

public import proofs.«01_k».proof.Defs
public import proofs.«01_k».proof.Proof.Extended
public import proofs.«01_k».proof.Proof.Gen.Kernel7
public import proofs.«01_k».proof.Proof.Gen.Kernel7Ideal.Frame
public import proofs.«01_k».proof.Proof.Gen.Reference7Ideal.Run

@[expose] public section

set_option maxRecDepth 16384

noncomputable section

namespace Cert.Kernel7Ideal.InGrad

open Idealize.ShloMosaic Idealize.ShloMosaic.TcCoe Idealize.SL.Sem Cert.Kernel7Ideal.Gen Cert.Extended

/-! ## The gradient passed back through the input projection: dres + dp · w_inᵀ, a block of rows per grid point -/

/-- The result: the residual's gradient plus the product. -/
def back (a b w : ℕ → ℕ → EReal) : ℕ → ℕ → EReal := fun i j => a i j + mult 3072 b w i j

theorem back_rows (s : ℕ) (a b w : ℕ → ℕ → EReal) (i j : ℕ) :
    back (fun i j => a (s + i) j) (fun i j => b (s + i) j) w i j = back a b w (s + i) j := rfl

/-- One block of rows. -/
theorem block (a b w : ℕ → ℕ → EReal) :
    k0_pay1 (ex a : FVec Ideal S512x1024 .f32) (ex b : FVec Ideal S512x3072 .bf16) (ex w : FVec Ideal S1024x3072 .bf16)
      = (ex (back a b w) : FVec Ideal S512x1024 .f32) := by
  funext i
  show addf (ex a : FVec Ideal S512x1024 .f32) (matmul dot_S512x3072_S1024x3072_S512x1024_1_1_0_0_n_n none (ex b : FVec Ideal S512x3072 .bf16) (ex w : FVec Ideal S1024x3072 .bf16) (constant S512x1024 .f32 0x00000000#32)) i = _
  pointwise
  rfl

theorem left_eq (x : FVec Ideal S512x1024 .f32) (y : FVec Ideal S512x3072 .bf16) (z : FVec Ideal S1024x3072 .bf16) :
    out0_3 (F := Ideal) x y z = k0_pay1 (F := Ideal) x y z := by
  unfold out0_3
  rw [View.canon_unit_zero corner, View.ld_unit_zero corner, View.ld_unit_zero corner, View.ld_unit_zero corner]

theorem ix0 : ∀ t : Fin cfg0.N, win0_0.index t 0 = t.val ∧ win0_0.index t 1 = 0 := by decide +kernel
theorem ix1 : ∀ t : Fin cfg0.N, win0_1.index t 0 = t.val ∧ win0_1.index t 1 = 0 := by decide +kernel
theorem ix2 : ∀ t : Fin cfg0.N, win0_2.index t 0 = 0 ∧ win0_2.index t 1 = 0 := by decide +kernel
theorem ix3 : ∀ t : Fin cfg0.N, win0_3.index t 0 = t.val ∧ win0_3.index t 1 = 0 := by decide +kernel

section
variable {m : (ℓ : Loc nD τ sig) → Buf (Elt Ideal) ℓ} {c : Dev nD} {a b w : ℕ → ℕ → EReal}
  (ha : m ((c.tc : Thread nD τ).loc main_arg0) = (ex a : FVec Ideal S4096x1024 .f32))
  (hb : m ((c.tc : Thread nD τ).loc main_arg1) = (ex b : FVec Ideal S4096x3072 .bf16))
  (hw : m ((c.tc : Thread nD τ).loc main_arg2) = (ex w : FVec Ideal S1024x3072 .bf16))

include ha in
theorem read0 (t : Fin cfg0.N) : iblk m c 0 t = (ex fun i j => a (512 * t.val + i) j : FVec Ideal S512x1024 .f32) := by
  funext j
  unfold iblk
  rw [View.read_apply]
  show m ((c.tc : Thread nD τ).loc main_arg0) _ = _
  rw [ha]
  show a (win0_0.index t 0 * 512 + 1 * (j 0).val) (win0_0.index t 1 * 1024 + 1 * (j 1).val) = _
  rw [(ix0 t).1, (ix0 t).2]
  show _ = a (512 * t.val + (j 0).val) (j 1).val
  congr 1 <;> omega

include hb in
theorem read1 (t : Fin cfg0.N) : iblk m c 1 t = (ex fun i j => b (512 * t.val + i) j : FVec Ideal S512x3072 .bf16) := by
  funext j
  unfold iblk
  rw [View.read_apply]
  show m ((c.tc : Thread nD τ).loc main_arg1) _ = _
  rw [hb]
  show b (win0_1.index t 0 * 512 + 1 * (j 0).val) (win0_1.index t 1 * 3072 + 1 * (j 1).val) = _
  rw [(ix1 t).1, (ix1 t).2]
  show _ = b (512 * t.val + (j 0).val) (j 1).val
  congr 1 <;> omega

include hw in
theorem read2 (t : Fin cfg0.N) : iblk m c 2 t = (ex w : FVec Ideal S1024x3072 .bf16) := by
  funext j
  unfold iblk
  rw [View.read_apply]
  show m ((c.tc : Thread nD τ).loc main_arg2) _ = _
  rw [hw]
  show w (win0_2.index t 0 * 1024 + 1 * (j 0).val) (win0_2.index t 1 * 3072 + 1 * (j 1).val) = _
  rw [(ix2 t).1, (ix2 t).2]
  show _ = w (j 0).val (j 1).val
  congr 1 <;> omega

include ha hb hw

theorem flushed (t : Fin cfg0.N) (_ : (cfg0.win 3).flush t = true) :
    (dats m 0 c).flushed 3 t = ((cfg0.win 3).blk t).view.read (Elt Ideal) (ex (back a b w) : FVec Ideal S4096x1024 .f32) := by
  show (cfg0.win 3).cut (grid0.coords t) ((dats m 0 c).after 3 t) = _
  rw [after0_3, left_eq, read0 ha, read1 hb, read2 hw, block]
  funext j
  rw [View.read_apply]
  show back (fun i j => a (512 * t.val + i) j) (fun i j => b (512 * t.val + i) j) w (j 0).val (j 1).val
    = back a b w (win0_3.index t 0 * 512 + 1 * (j 0).val) (win0_3.index t 1 * 1024 + 1 * (j 1).val)
  rw [(ix3 t).1, (ix3 t).2, back_rows]
  congr 1 <;> omega

theorem final : (dats m 0 c).arrAt 3 cfg0.N = (ex (back a b w) : FVec Ideal S4096x1024 .f32) :=
  (dats m 0 c).arrAt_eq_of_cover 3 _ (flushed ha hb hw) fun i => by
    have h0 : (i 0 : Nat) < 4096 := (i 0).isLt
    have h1 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    refine ⟨t, flush0_3 t, ?_⟩
    show i ∈ ((View.whole main_v0).slice (win0_3.rect t)).set
    rw [View.set_slice_whole, Rect.mem_set_unit]
    intro x
    match x with
    | ⟨0, _⟩ =>
      show win0_3.index t 0 * 512 ≤ (i 0 : Nat) ∧ (i 0 : Nat) < win0_3.index t 0 * 512 + 512
      rw [(ix3 t).1]; omega
    | ⟨1, _⟩ =>
      show win0_3.index t 1 * 1024 ≤ (i 1 : Nat) ∧ (i 1 : Nat) < win0_3.index t 1 * 1024 + 1024
      rw [(ix3 t).2]; omega
end

/-- The reference's sum. -/
theorem host (a b w : ℕ → ℕ → EReal) :
    addf (ex a : FVec Ideal Cert.Reference7Ideal.S4096x1024 .f32)
      (Host.dotGeneral Cert.Reference7Ideal.dot_S4096x3072_S3072x1024_S4096x1024_1_0_0_1_n_n none
        (ex b : FVec Ideal Cert.Reference7Ideal.S4096x3072 .f32)
        (transpose Cert.Reference7Ideal.S3072x1024 [1, 0] (ex w : FVec Ideal Cert.Reference7Ideal.S1024x3072 .f32) Cert.Reference7Ideal.Facts₀.transposes_S1024x3072_S3072x1024_1_0))
      = (ex (back a b w) : FVec Ideal Cert.Reference7Ideal.S4096x1024 .f32) := by
  funext i
  pointwise
  rfl

/-- The kernel and the reference end holding the same gradient. -/
theorem values : Cert.algebraic_Kernel7Ideal_Reference7Ideal := by
  intro m g m' g' _ hagree
  choose a ha using fun c : Dev nD => exists_ex (m ((c.tc : Thread nD τ).loc main_arg0) : FVec Ideal S4096x1024 .f32)
  choose b hb using fun c : Dev nD => exists_ex (m ((c.tc : Thread nD τ).loc main_arg1) : FVec Ideal S4096x3072 .bf16)
  choose w hw using fun c : Dev nD => exists_ex (m ((c.tc : Thread nD τ).loc main_arg2) : FVec Ideal S1024x3072 .bf16)
  refine ⟨fun c => (ex (back (a c) (b c) (w c)) : FVec Ideal S4096x1024 .f32), ?_, ?_⟩
  · exact (θ_run defs _ _).mono (fun r h c => ⟨((h.1 c).1 3).trans (final (ha c) (hb c) (hw c)), h.2.1 c⟩) (θ_run_and (run_main m g) (frame m g))
  · refine (θ_run Cert.Reference7Ideal.defs _ _).mono (fun r h c => ⟨(h c).1.trans ?_, (h c).2⟩) (Cert.Reference7Ideal.Value.run (F := Ideal) m' g')
    rw [(hagree c).1, (hagree c).2.1, (hagree c).2.2, ha c, hb c, hw c]
    exact host (a c) (b c) (w c)

theorem frame_kernel : Cert.quiescent_Kernel7 := by
  have h := fun m ρ (_ : True) => frame (F := Bits) m ρ
  exact cast (by sl_kernel_rfl) h
theorem frame_ideal : Cert.quiescent_Kernel7Ideal := fun m ρ _ => frame (F := Ideal) m ρ
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Kernel7Ideal.InGrad

end
-- ==== Proof.InProj.lean ====
module

public import proofs.«01_k».proof.Defs
public import proofs.«01_k».proof.Proof.Extended
public import proofs.«01_k».proof.Proof.Gen.Kernel9
public import proofs.«01_k».proof.Proof.Gen.Kernel9Ideal.Frame
public import proofs.«01_k».proof.Proof.Gen.Reference9Ideal.Run

@[expose] public section

set_option maxRecDepth 16384

noncomputable section

namespace Cert.Kernel9Ideal.InProj

open Idealize.ShloMosaic Idealize.ShloMosaic.TcCoe Idealize.SL.Sem Cert.Kernel9Ideal.Gen Cert.Extended

/-! ## The input projection x · w: a block of rows by a block of columns per grid point -/

/-- One block. -/
theorem block (a b : ℕ → ℕ → EReal) :
    k0_pay1 (ex a : FVec Ideal S1024x1024 .bf16) (ex b : FVec Ideal S1024x1024 .bf16) = (ex (mul 1024 a b) : FVec Ideal S1024x1024 .f32) := by
  funext i
  show matmul dot_S1024x1024_S1024x1024_S1024x1024_1_0_0_1_n_n none (ex a : FVec Ideal S1024x1024 .bf16) (ex b : FVec Ideal S1024x1024 .bf16) (constant S1024x1024 .f32 0x00000000#32) i = _
  pointwise
  rfl

theorem left_eq (c : Dev nD) (i : grid0.Coords) (a2 : Memref sig .tc .vmem S1024x1024 .bf16) (h2 : a2.IsWhole) (a3 : Memref sig .tc .vmem S1024x1024 .bf16) (h3 : a3.IsWhole) (a5 : Memref sig .tc .vmem S1024x1024 .f32) (h5 : a5.IsWhole)
    (x y : FVec Ideal S1024x1024 .bf16) : out0_A_2 (F := Ideal) c i a2 h2 a3 h3 a5 h5 x y = k0_pay1 (F := Ideal) x y := by
  unfold out0_A_2
  rw [View.read_writes_eq_canon _ _ _ (cover0_A_2 (F := Ideal) c i a2 h2 a3 h3 a5 h5 x y)]
  unfold kernelRun0_A
  dsimp only
  rw [View.canon_unit_zero corner]
  simp only [View.readAt_eq_ld, h2.read_unread, h3.read_unread, View.ld_unit_zero (S := S1024x1024) corner]

theorem ix0 : ∀ t : Fin cfg0.N, win0_0.index t 0 = t.val / 3 ∧ win0_0.index t 1 = 0 := by decide +kernel
theorem ix1 : ∀ t : Fin cfg0.N, win0_1.index t 0 = 0 ∧ win0_1.index t 1 = t.val % 3 := by decide +kernel
theorem ix2 : ∀ t : Fin cfg0.N, win0_2.index t 0 = t.val / 3 ∧ win0_2.index t 1 = t.val % 3 := by decide +kernel

section
variable {m : (ℓ : Loc nD τ sig) → Buf (Elt Ideal) ℓ} {c : Dev nD} {a b : ℕ → ℕ → EReal}
  (ha : m ((c.tc : Thread nD τ).loc main_arg0) = (ex a : FVec Ideal S4096x1024 .bf16))
  (hb : m ((c.tc : Thread nD τ).loc main_arg1) = (ex b : FVec Ideal S1024x3072 .bf16))

include ha in
theorem read0 (t : Fin cfg0.N) : iblk m c 0 t = (ex fun i j => a (1024 * (t.val / 3) + i) j : FVec Ideal S1024x1024 .bf16) := by
  funext j
  unfold iblk
  rw [View.read_apply]
  show V m c main_arg0 _ = _
  rw [V_main_arg0, ha]
  show a (win0_0.index t 0 * 1024 + 1 * (j 0).val) (win0_0.index t 1 * 1024 + 1 * (j 1).val) = _
  rw [(ix0 t).1, (ix0 t).2]
  show _ = a (1024 * (t.val / 3) + (j 0).val) (j 1).val
  congr 1 <;> omega

include hb in
theorem read1 (t : Fin cfg0.N) : iblk m c 1 t = (ex fun i j => b i (1024 * (t.val % 3) + j) : FVec Ideal S1024x1024 .bf16) := by
  funext j
  unfold iblk
  rw [View.read_apply]
  show V m c main_arg1 _ = _
  rw [V_main_arg1, hb]
  show b (win0_1.index t 0 * 1024 + 1 * (j 0).val) (win0_1.index t 1 * 1024 + 1 * (j 1).val) = _
  rw [(ix1 t).1, (ix1 t).2]
  show _ = b (j 0).val (1024 * (t.val % 3) + (j 1).val)
  congr 1 <;> omega

include ha hb

theorem flushed (t : Fin cfg0.N) (_ : (cfg0.win 2).flush t = true) :
    (dats m 0 c).flushed 2 t = ((cfg0.win 2).blk t).view.read (Elt Ideal) (ex (mul 1024 a b) : FVec Ideal S4096x3072 .f32) := by
  show (cfg0.win 2).cut (grid0.coords t) ((dats m 0 c).after 2 t) = _
  rw [after0_2]
  unfold outsAt0
  rw [left_eq, read0 ha, read1 hb, block]
  funext j
  rw [View.read_apply]
  show mul 1024 (fun i j => a (1024 * (t.val / 3) + i) j) (fun i j => b i (1024 * (t.val % 3) + j)) (j 0).val (j 1).val
    = mul 1024 a b (win0_2.index t 0 * 1024 + 1 * (j 0).val) (win0_2.index t 1 * 1024 + 1 * (j 1).val)
  rw [(ix2 t).1, (ix2 t).2, mul_rows, mul_cols]
  congr 1 <;> omega

theorem final : (dats m 0 c).arrAt 2 cfg0.N = (ex (mul 1024 a b) : FVec Ideal S4096x3072 .f32) :=
  (dats m 0 c).arrAt_eq_of_cover 2 _ (flushed ha hb) fun i => by
    have h0 : (i 0 : Nat) < 4096 := (i 0).isLt
    have h1 : (i 1 : Nat) < 3072 := (i 1).isLt
    have hN : cfg0.N = 12 := N_0
    obtain ⟨t, ht⟩ : ∃ t : Fin cfg0.N, t.val = 3 * ((i 0 : Nat) / 1024) + (i 1 : Nat) / 1024 := ⟨⟨3 * ((i 0 : Nat) / 1024) + (i 1 : Nat) / 1024, by omega⟩, rfl⟩
    refine ⟨t, flush0_2 t, ?_⟩
    show i ∈ ((View.whole main_v1).slice (win0_2.rect t)).set
    rw [View.set_slice_whole, Rect.mem_set_unit]
    intro x
    match x with
    | ⟨0, _⟩ =>
      show win0_2.index t 0 * 1024 ≤ (i 0 : Nat) ∧ (i 0 : Nat) < win0_2.index t 0 * 1024 + 1024
      rw [(ix2 t).1]; omega
    | ⟨1, _⟩ =>
      show win0_2.index t 1 * 1024 ≤ (i 1 : Nat) ∧ (i 1 : Nat) < win0_2.index t 1 * 1024 + 1024
      rw [(ix2 t).2]; omega
end

/-- The reference's product. -/
theorem host (a b : ℕ → ℕ → EReal) :
    Host.dotGeneral Cert.Reference9Ideal.dot_S4096x1024_S1024x3072_S4096x3072_1_0_0_1_n_n none
        (ex a : FVec Ideal Cert.Reference9Ideal.S4096x1024 .f32) (ex b : FVec Ideal Cert.Reference9Ideal.S1024x3072 .f32)
      = (ex (mul 1024 a b) : FVec Ideal Cert.Reference9Ideal.S4096x3072 .f32) := by
  funext i
  pointwise
  rfl

/-- The kernel and the reference end holding the same projection. -/
theorem values : Cert.algebraic_Kernel9Ideal_Reference9Ideal := by
  intro m g m' g' _ hagree
  choose a ha using fun c : Dev nD => exists_ex (m ((c.tc : Thread nD τ).loc main_arg0) : FVec Ideal S4096x1024 .bf16)
  choose b hb using fun c : Dev nD => exists_ex (m ((c.tc : Thread nD τ).loc main_arg1) : FVec Ideal S1024x3072 .bf16)
  refine ⟨fun c => (ex (mul 1024 (a c) (b c)) : FVec Ideal S4096x3072 .f32), ?_, ?_⟩
  · exact (θ_run defs _ _).mono (fun r h c => ⟨((h.1 c).1 2).trans (final (ha c) (hb c)), h.2.1 c⟩) (θ_run_and (run_main m g) (frame m g))
  · refine (θ_run Cert.Reference9Ideal.defs _ _).mono (fun r h c => ⟨(h c).1.trans ?_, (h c).2⟩) (Cert.Reference9Ideal.Value.run (F := Ideal) m' g')
    rw [(hagree c).1, (hagree c).2, ha c, hb c]
    exact host (a c) (b c)

theorem frame_kernel : Cert.quiescent_Kernel9 := by
  have h := fun m ρ (_ : True) => frame (F := Bits) m ρ
  exact cast (by sl_kernel_rfl) h
theorem frame_ideal : Cert.quiescent_Kernel9Ideal := fun m ρ _ => frame (F := Ideal) m ρ
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Kernel9Ideal.InProj

end
-- ==== Proof.OutProj.lean ====
module

public import proofs.«01_k».proof.Defs
public import proofs.«01_k».proof.Proof.Norm
public import proofs.«01_k».proof.Proof.Gen.Kernel10
public import proofs.«01_k».proof.Proof.Gen.Kernel10Ideal.Frame
public import proofs.«01_k».proof.Proof.Gen.Reference10Ideal.Run

@[expose] public section

set_option maxRecDepth 16384

noncomputable section

namespace Cert.Kernel10Ideal.OutProj

open Idealize.ShloMosaic Idealize.ShloMosaic.TcCoe Idealize.SL.Sem Cert.Kernel10Ideal.Gen Cert.Extended

/-! ## The output projection with its residual and layer norm, a block of rows per grid point -/

/-- The three stores that put the mixers' outputs side by side. -/
abbrev stores (a b d : ℕ → ℕ → EReal) : List (View.Piece (Elt Ideal) S512x1024 .bf16) :=
  [⟨Rect.unit (s := S512x1024) ![0, 768] ![512, 256] inb_S512x1024_S512x256_0_768, (k0_pay4 (ex d : FVec Ideal S512x256 .f32) : FVec Ideal S512x256 .bf16)⟩,
   ⟨Rect.unit (s := S512x1024) ![0, 384] ![512, 384] inb_S512x1024_S512x384_0_384, (k0_pay3 (ex b : FVec Ideal S512x384 .f32) : FVec Ideal S512x384 .bf16)⟩,
   ⟨Rect.unit (s := S512x1024) ![0, 0] ![512, 384] inb_S512x1024_S512x384_0_0, (k0_pay2 (ex a : FVec Ideal S512x384 .f32) : FVec Ideal S512x384 .bf16)⟩]

theorem stores_cover (a b d : ℕ → ℕ → EReal) (y : S512x1024.Idx) : ∃ p ∈ stores a b d, y ∈ p.1.set :=
  View.cover_of_tiledBy _ ![512, 128] (by sl_kernel_rfl) y

theorem joined (a b d : ℕ → ℕ → EReal) : View.canon (stores a b d) = (ex (cat a b d) : FVec Ideal S512x1024 .bf16) := by
  funext y
  refine View.canon_apply_of_pieces (S := S512x1024) (e := .bf16) (Val := Elt Ideal) (ex (cat a b d) : FVec Ideal S512x1024 .bf16) _ ?_ y (stores_cover a b d y)
  intro p hp
  simp only [stores, List.mem_cons, List.not_mem_nil, or_false] at hp
  rcases hp with rfl | rfl | rfl
  · intro x
    have h : (x 1 : Nat) < 256 := (x 1).isLt
    show d (x 0 : Nat) (x 1 : Nat) = cat a b d (0 + 1 * (x 0 : Nat)) (768 + 1 * (x 1 : Nat))
    unfold cat
    rw [if_neg (by omega), if_neg (by omega)]
    congr 1 <;> omega
  · intro x
    have h : (x 1 : Nat) < 384 := (x 1).isLt
    show b (x 0 : Nat) (x 1 : Nat) = cat a b d (0 + 1 * (x 0 : Nat)) (384 + 1 * (x 1 : Nat))
    unfold cat
    rw [if_neg (by omega), if_pos (by omega)]
    congr 1 <;> omega
  · intro x
    have h : (x 1 : Nat) < 384 := (x 1).isLt
    show a (x 0 : Nat) (x 1 : Nat) = cat a b d (0 + 1 * (x 0 : Nat)) (0 + 1 * (x 1 : Nat))
    unfold cat
    rw [if_pos (by omega)]
    congr 1 <;> omega

/-- The joined array, read back whole. -/
theorem joined_read (v : View sig .tc .vmem S512x1024 .bf16) (a b d : ℕ → ℕ → EReal) :
    v.readCov (stores a b d) (Rect.unit (s := S512x1024) ![0, 0] ![512, 1024] inb_S512x1024_S512x1024_0_0).toLoadRect = (ex (cat a b d) : FVec Ideal S512x1024 .bf16) := by
  rw [View.readCov_eq_canon_ld _ _ _ (stores_cover a b d), joined]
  exact View.ld_unit_zero (S := S512x1024) corner _ _

theorem pay5_eq (x p w : ℕ → ℕ → EReal) :
    k0_pay5 (ex x : FVec Ideal S512x1024 .f32) (ex p : FVec Ideal S512x1024 .bf16) (ex w : FVec Ideal S1024x1024 .bf16)
      = (ex (resid x (mul 1024 p w)) : FVec Ideal S512x1024 .f32) := by
  funext i
  unfold k0_pay5
  pointwise
  rfl

theorem pay8_eq (x p w : ℕ → ℕ → EReal) :
    k0_pay8 (ex x : FVec Ideal S512x1024 .f32) (ex p : FVec Ideal S512x1024 .bf16) (ex w : FVec Ideal S1024x1024 .bf16)
      = (ex (fun i _ => mean (resid x (mul 1024 p w)) i) : FVec Ideal S512x1 .f32) := by
  funext i
  unfold k0_pay8
  rw [pay5_eq]
  pointwise
  rfl

theorem pay6_eq (v : FVec Ideal S1x1024 .f32) : k0_pay6 v = v := by
  unfold k0_pay6
  exact shapeCast_self _ _

theorem pay7_eq (v : FVec Ideal S1x1024 .f32) : k0_pay7 v = v := by
  unfold k0_pay7
  exact shapeCast_self _ _

theorem pay1_eq (z : ℕ → ℕ → EReal) (g b : ℕ → EReal) :
    k0_pay1 (ex z : FVec Ideal S512x1024 .f32) (ex fun _ j => g j : FVec Ideal S1x1024 .f32) (ex fun _ j => b j : FVec Ideal S1x1024 .f32) (ex fun i _ => mean z i : FVec Ideal S512x1 .f32)
      = (ex (norm z g b) : FVec Ideal S512x1024 .bf16) := by
  funext i
  unfold k0_pay1
  pointwise
  rfl

section
variable (c : Dev nD) (i : grid0.Coords) (a1 : Memref sig .tc .vmem S512x384 .f32) (h1 : a1.IsWhole) (a2 : Memref sig .tc .vmem S512x384 .f32) (h2 : a2.IsWhole) (a3 : Memref sig .tc .vmem S512x256 .f32) (h3 : a3.IsWhole)
  (a4 : Memref sig .tc .vmem S512x1024 .f32) (h4 : a4.IsWhole) (a5 : Memref sig .tc .vmem S1024x1024 .bf16) (h5 : a5.IsWhole) (a6 : Memref sig .tc .vmem S1x1024 .f32) (h6 : a6.IsWhole) (a7 : Memref sig .tc .vmem S1x1024 .f32) (h7 : a7.IsWhole)
  (a9 : Memref sig .tc .vmem S512x1024 .f32) (h9 : a9.IsWhole) (a10 : Memref sig .tc .vmem S512x1024 .bf16) (h10 : a10.IsWhole) (a11 : Memref sig .tc .vmem S512x1024 .bf16) (h11 : a11.IsWhole)
  (p q r x w : ℕ → ℕ → EReal) (g b : ℕ → EReal)

/-- The three mixers' outputs, the input, the weight and the norm's parameters at the body's arguments. -/
theorem left7 : out0_A_7 (F := Ideal) c i a1 h1 a2 h2 a3 h3 a4 h4 a5 h5 a6 h6 a7 h7 a9 h9 a10 h10 a11 h11
      (ex p : FVec Ideal S512x384 .f32) (ex q : FVec Ideal S512x384 .f32) (ex r : FVec Ideal S512x256 .f32) (ex x : FVec Ideal S512x1024 .f32) (ex w : FVec Ideal S1024x1024 .bf16)
      (ex fun _ j => g j : FVec Ideal S1x1024 .f32) (ex fun _ j => b j : FVec Ideal S1x1024 .f32)
    = (ex (resid x (mul 1024 (cat p q r) w)) : FVec Ideal S512x1024 .f32) := by
  unfold out0_A_7
  rw [View.read_writes_eq_canon _ _ _ (cover0_A_7 (F := Ideal) c i a1 h1 a2 h2 a3 h3 a4 h4 a5 h5 a6 h6 a7 h7 a9 h9 a10 h10 a11 h11 _ _ _ _ _ _ _)]
  unfold kernelRun0_A
  dsimp only
  sl_unfold_words
  rw [View.canon_unit_zero corner]
  simp only [View.readAt_eq_ld, h1.read_unread, h2.read_unread, h3.read_unread, h4.read_unread, h5.read_unread, h6.read_unread, h7.read_unread, View.ld_unit_zero (S := S512x384) corner, View.ld_unit_zero (S := S512x256) corner, View.ld_unit_zero (S := S512x1024) corner, View.ld_unit_zero (S := S1024x1024) corner, View.ld_unit_zero (S := S1x1024) corner]
  erw [joined_read]
  rw [pay5_eq]

theorem left8 : out0_A_8 (F := Ideal) c i a1 h1 a2 h2 a3 h3 a4 h4 a5 h5 a6 h6 a7 h7 a9 h9 a10 h10 a11 h11
      (ex p : FVec Ideal S512x384 .f32) (ex q : FVec Ideal S512x384 .f32) (ex r : FVec Ideal S512x256 .f32) (ex x : FVec Ideal S512x1024 .f32) (ex w : FVec Ideal S1024x1024 .bf16)
      (ex fun _ j => g j : FVec Ideal S1x1024 .f32) (ex fun _ j => b j : FVec Ideal S1x1024 .f32)
    = (ex (norm (resid x (mul 1024 (cat p q r) w)) g b) : FVec Ideal S512x1024 .bf16) := by
  unfold out0_A_8
  rw [View.read_writes_eq_canon _ _ _ (cover0_A_8 (F := Ideal) c i a1 h1 a2 h2 a3 h3 a4 h4 a5 h5 a6 h6 a7 h7 a9 h9 a10 h10 a11 h11 _ _ _ _ _ _ _)]
  unfold kernelRun0_A
  dsimp only
  sl_unfold_words
  rw [View.canon_unit_zero corner]
  simp only [View.readAt_eq_ld, h1.read_unread, h2.read_unread, h3.read_unread, h4.read_unread, h5.read_unread, h6.read_unread, h7.read_unread, View.ld_unit_zero (S := S512x384) corner, View.ld_unit_zero (S := S512x256) corner, View.ld_unit_zero (S := S512x1024) corner, View.ld_unit_zero (S := S1024x1024) corner, View.ld_unit_zero (S := S1x1024) corner]
  erw [joined_read]
  rw [pay5_eq, pay8_eq, pay6_eq, pay7_eq, pay1_eq]

theorem left9 : out0_A_9 (F := Ideal) c i a1 h1 a2 h2 a3 h3 a4 h4 a5 h5 a6 h6 a7 h7 a9 h9 a10 h10 a11 h11
      (ex p : FVec Ideal S512x384 .f32) (ex q : FVec Ideal S512x384 .f32) (ex r : FVec Ideal S512x256 .f32) (ex x : FVec Ideal S512x1024 .f32) (ex w : FVec Ideal S1024x1024 .bf16)
      (ex fun _ j => g j : FVec Ideal S1x1024 .f32) (ex fun _ j => b j : FVec Ideal S1x1024 .f32)
    = (ex (cat p q r) : FVec Ideal S512x1024 .bf16) := by
  unfold out0_A_9
  rw [View.read_writes_eq_canon _ _ _ (cover0_A_9 (F := Ideal) c i a1 h1 a2 h2 a3 h3 a4 h4 a5 h5 a6 h6 a7 h7 a9 h9 a10 h10 a11 h11 _ _ _ _ _ _ _)]
  unfold kernelRun0_A
  dsimp only
  sl_unfold_words
  simp only [View.readAt_eq_ld, h1.read_unread, h2.read_unread, h3.read_unread, View.ld_unit_zero (S := S512x384) corner, View.ld_unit_zero (S := S512x256) corner]
  exact joined p q r
end

/-! ## The blocks, read off the arrays -/

theorem ix0 : ∀ t : Fin cfg0.N, win0_0.index t 0 = t.val ∧ win0_0.index t 1 = 0 := by decide +kernel
theorem ix1 : ∀ t : Fin cfg0.N, win0_1.index t 0 = t.val ∧ win0_1.index t 1 = 0 := by decide +kernel
theorem ix2 : ∀ t : Fin cfg0.N, win0_2.index t 0 = t.val ∧ win0_2.index t 1 = 0 := by decide +kernel
theorem ix3 : ∀ t : Fin cfg0.N, win0_3.index t 0 = t.val ∧ win0_3.index t 1 = 0 := by decide +kernel
theorem ix4 : ∀ t : Fin cfg0.N, win0_4.index t 0 = 0 ∧ win0_4.index t 1 = 0 := by decide +kernel
theorem ix5 : ∀ t : Fin cfg0.N, win0_5.index t 0 = 0 ∧ win0_5.index t 1 = 0 := by decide +kernel
theorem ix6 : ∀ t : Fin cfg0.N, win0_6.index t 0 = 0 ∧ win0_6.index t 1 = 0 := by decide +kernel
theorem ix7 : ∀ t : Fin cfg0.N, win0_7.index t 0 = t.val ∧ win0_7.index t 1 = 0 := by decide +kernel
theorem ix8 : ∀ t : Fin cfg0.N, win0_8.index t 0 = t.val ∧ win0_8.index t 1 = 0 := by decide +kernel
theorem ix9 : ∀ t : Fin cfg0.N, win0_9.index t 0 = t.val ∧ win0_9.index t 1 = 0 := by decide +kernel

section
variable {m : (ℓ : Loc nD τ sig) → Buf (Elt Ideal) ℓ} {c : Dev nD} {p q r x w : ℕ → ℕ → EReal} {g b : ℕ → EReal}
  (ha0 : m ((c.tc : Thread nD τ).loc main_arg0) = (ex p : FVec Ideal S4096x384 .f32))
  (ha1 : m ((c.tc : Thread nD τ).loc main_arg1) = (ex q : FVec Ideal S4096x384 .f32))
  (ha2 : m ((c.tc : Thread nD τ).loc main_arg2) = (ex r : FVec Ideal S4096x256 .f32))
  (ha3 : m ((c.tc : Thread nD τ).loc main_arg3) = (ex x : FVec Ideal S4096x1024 .f32))
  (ha4 : m ((c.tc : Thread nD τ).loc main_arg4) = (ex w : FVec Ideal S1024x1024 .f32))
  (ha5 : m ((c.tc : Thread nD τ).loc main_arg5) = (ev g : FVec Ideal S1024 .f32))
  (ha6 : m ((c.tc : Thread nD τ).loc main_arg6) = (ev b : FVec Ideal S1024 .f32))

include ha0 in
theorem read0 (t : Fin cfg0.N) : iblk m c 0 t = (ex fun i j => p (512 * t.val + i) j : FVec Ideal S512x384 .f32) := by
  funext j
  unfold iblk
  rw [View.read_apply]
  show V m c main_arg0 _ = _
  rw [V_main_arg0, ha0]
  exact at_rows p 512 384 (j 0).val (j 1).val (ix0 t).1 (ix0 t).2

include ha1 in
theorem read1 (t : Fin cfg0.N) : iblk m c 1 t = (ex fun i j => q (512 * t.val + i) j : FVec Ideal S512x384 .f32) := by
  funext j
  unfold iblk
  rw [View.read_apply]
  show V m c main_arg1 _ = _
  rw [V_main_arg1, ha1]
  exact at_rows q 512 384 (j 0).val (j 1).val (ix1 t).1 (ix1 t).2

include ha2 in
theorem read2 (t : Fin cfg0.N) : iblk m c 2 t = (ex fun i j => r (512 * t.val + i) j : FVec Ideal S512x256 .f32) := by
  funext j
  unfold iblk
  rw [View.read_apply]
  show V m c main_arg2 _ = _
  rw [V_main_arg2, ha2]
  exact at_rows r 512 256 (j 0).val (j 1).val (ix2 t).1 (ix2 t).2

include ha3 in
theorem read3 (t : Fin cfg0.N) : iblk m c 3 t = (ex fun i j => x (512 * t.val + i) j : FVec Ideal S512x1024 .f32) := by
  funext j
  unfold iblk
  rw [View.read_apply]
  show V m c main_arg3 _ = _
  rw [V_main_arg3, ha3]
  exact at_rows x 512 1024 (j 0).val (j 1).val (ix3 t).1 (ix3 t).2

include ha4 in
/-- The weight after its rounding on the host. -/
theorem weight : V m c main_v1 = (ex w : FVec Ideal S1024x1024 .bf16) := by
  simp only [V, hostOps0, List.flatten_cons, List.flatten_nil, List.append_nil, List.cons_append, List.nil_append]
  after_results_simp
  show (truncf .bf16 (m ((c.tc : Thread nD τ).loc main_arg4) : FVec Ideal S1024x1024 .f32) bitsLt_bf16_f32 : FVec Ideal S1024x1024 .bf16) = _
  rw [ha4]
  rfl

include ha5 in
/-- The norm's parameters as rows. -/
theorem scale : V m c main_v2 = (ex fun _ j => g j : FVec Ideal S1x1024 .f32) := by
  simp only [V, hostOps0, List.flatten_cons, List.flatten_nil, List.append_nil, List.cons_append, List.nil_append]
  after_results_simp
  show (broadcastInDim S1x1024 ![1] bcast_S1024_S1x1024_1 (m ((c.tc : Thread nD τ).loc main_arg5) : FVec Ideal S1024 .f32) : FVec Ideal S1x1024 .f32) = _
  rw [ha5]
  funext i
  pointwise
  rfl

include ha6 in
theorem shift : V m c main_v3 = (ex fun _ j => b j : FVec Ideal S1x1024 .f32) := by
  simp only [V, hostOps0, List.flatten_cons, List.flatten_nil, List.append_nil, List.cons_append, List.nil_append]
  after_results_simp
  show (broadcastInDim S1x1024 ![1] bcast_S1024_S1x1024_1 (m ((c.tc : Thread nD τ).loc main_arg6) : FVec Ideal S1024 .f32) : FVec Ideal S1x1024 .f32) = _
  rw [ha6]
  funext i
  pointwise
  rfl

include ha4 in
theorem read4 (t : Fin cfg0.N) : iblk m c 4 t = (ex w : FVec Ideal S1024x1024 .bf16) := by
  funext j
  unfold iblk
  rw [View.read_apply]
  show V m c main_v1 _ = _
  rw [weight ha4]
  exact at_whole w 1024 1024 (j 0).val (j 1).val (ix4 t).1 (ix4 t).2

include ha5 in
theorem read5 (t : Fin cfg0.N) : iblk m c 5 t = (ex fun _ j => g j : FVec Ideal S1x1024 .f32) := by
  funext j
  unfold iblk
  rw [View.read_apply]
  show V m c main_v2 _ = _
  rw [scale ha5]
  exact at_whole (fun _ j => g j) 1 1024 (j 0).val (j 1).val (ix5 t).1 (ix5 t).2

include ha6 in
theorem read6 (t : Fin cfg0.N) : iblk m c 6 t = (ex fun _ j => b j : FVec Ideal S1x1024 .f32) := by
  funext j
  unfold iblk
  rw [View.read_apply]
  show V m c main_v3 _ = _
  rw [shift ha6]
  exact at_whole (fun _ j => b j) 1 1024 (j 0).val (j 1).val (ix6 t).1 (ix6 t).2

include ha0 ha1 ha2 ha3 ha4 ha5 ha6

theorem flushed7 (t : Fin cfg0.N) (_ : (cfg0.win 7).flush t = true) :
    (dats m 0 c).flushed 7 t = ((cfg0.win 7).blk t).view.read (Elt Ideal) (ex (resid x (mul 1024 (cat p q r) w)) : FVec Ideal S4096x1024 .f32) := by
  show (cfg0.win 7).cut (grid0.coords t) ((dats m 0 c).after 7 t) = _
  rw [after0_7]
  unfold outsAt0
  rw [read0 ha0, read1 ha1, read2 ha2, read3 ha3, read4 ha4, read5 ha5, read6 ha6, left7]
  funext j
  rw [View.read_apply]
  exact (at_rows (resid x (mul 1024 (cat p q r) w)) 512 1024 (j 0).val (j 1).val (ix7 t).1 (ix7 t).2).symm

theorem flushed8 (t : Fin cfg0.N) (_ : (cfg0.win 8).flush t = true) :
    (dats m 0 c).flushed 8 t = ((cfg0.win 8).blk t).view.read (Elt Ideal) (ex (norm (resid x (mul 1024 (cat p q r) w)) g b) : FVec Ideal S4096x1024 .bf16) := by
  show (cfg0.win 8).cut (grid0.coords t) ((dats m 0 c).after 8 t) = _
  rw [after0_8]
  unfold outsAt0
  rw [read0 ha0, read1 ha1, read2 ha2, read3 ha3, read4 ha4, read5 ha5, read6 ha6, left8]
  funext j
  rw [View.read_apply]
  exact (at_rows (norm (resid x (mul 1024 (cat p q r) w)) g b) 512 1024 (j 0).val (j 1).val (ix8 t).1 (ix8 t).2).symm

theorem flushed9 (t : Fin cfg0.N) (_ : (cfg0.win 9).flush t = true) :
    (dats m 0 c).flushed 9 t = ((cfg0.win 9).blk t).view.read (Elt Ideal) (ex (cat p q r) : FVec Ideal S4096x1024 .bf16) := by
  show (cfg0.win 9).cut (grid0.coords t) ((dats m 0 c).after 9 t) = _
  rw [after0_9]
  unfold outsAt0
  rw [read0 ha0, read1 ha1, read2 ha2, read3 ha3, read4 ha4, read5 ha5, read6 ha6, left9]
  funext j
  rw [View.read_apply]
  exact (at_rows (cat p q r) 512 1024 (j 0).val (j 1).val (ix9 t).1 (ix9 t).2).symm

omit ha0 ha1 ha2 ha3 ha4 ha5 ha6

/-- Every row lies in the block of the grid point it names. -/
theorem point (i : S4096x1024.Idx) : ∃ t : Fin cfg0.N, t.val = (i 0 : Nat) / 512 := by
  have h0 : (i 0 : Nat) < 4096 := (i 0).isLt
  have hN : cfg0.N = 8 := N_0
  exact ⟨⟨(i 0 : Nat) / 512, by omega⟩, rfl⟩

/-- The coordinates of an index within the block of whole rows that holds it. -/
theorem held (i : S4096x1024.Idx) {t u v : ℕ} (ht : t = (i 0 : Nat) / 512) (hu : u = t) (hv : v = 0) :
    (u * 512 ≤ (i 0 : Nat) ∧ (i 0 : Nat) < u * 512 + 512) ∧ (v * 1024 ≤ (i 1 : Nat) ∧ (i 1 : Nat) < v * 1024 + 1024) := by
  have h1 : (i 1 : Nat) < 1024 := (i 1).isLt
  omega

include ha0 ha1 ha2 ha3 ha4 ha5 ha6

theorem final7 : (dats m 0 c).arrAt 7 cfg0.N = (ex (resid x (mul 1024 (cat p q r) w)) : FVec Ideal S4096x1024 .f32) :=
  (dats m 0 c).arrAt_eq_of_cover 7 _ (flushed7 ha0 ha1 ha2 ha3 ha4 ha5 ha6) fun i => by
    obtain ⟨t, ht⟩ := point i
    refine ⟨t, flush0_7 t, ?_⟩
    show i ∈ ((View.whole main_v4_0).slice (win0_7.rect t)).set
    rw [View.set_slice_whole, Rect.mem_set_unit]
    have h := held i ht (ix7 t).1 (ix7 t).2
    exact Fin.forall_fin_two.mpr h

theorem final8 : (dats m 0 c).arrAt 8 cfg0.N = (ex (norm (resid x (mul 1024 (cat p q r) w)) g b) : FVec Ideal S4096x1024 .bf16) :=
  (dats m 0 c).arrAt_eq_of_cover 8 _ (flushed8 ha0 ha1 ha2 ha3 ha4 ha5 ha6) fun i => by
    obtain ⟨t, ht⟩ := point i
    refine ⟨t, flush0_8 t, ?_⟩
    show i ∈ ((View.whole main_v4_1).slice (win0_8.rect t)).set
    rw [View.set_slice_whole, Rect.mem_set_unit]
    have h := held i ht (ix8 t).1 (ix8 t).2
    exact Fin.forall_fin_two.mpr h

theorem final9 : (dats m 0 c).arrAt 9 cfg0.N = (ex (cat p q r) : FVec Ideal S4096x1024 .bf16) :=
  (dats m 0 c).arrAt_eq_of_cover 9 _ (flushed9 ha0 ha1 ha2 ha3 ha4 ha5 ha6) fun i => by
    obtain ⟨t, ht⟩ := point i
    refine ⟨t, flush0_9 t, ?_⟩
    show i ∈ ((View.whole main_v4_2).slice (win0_9.rect t)).set
    rw [View.set_slice_whole, Rect.mem_set_unit]
    have h := held i ht (ix9 t).1 (ix9 t).2
    exact Fin.forall_fin_two.mpr h
end

end Cert.Kernel10Ideal.OutProj

namespace Cert.Reference10Ideal.OutProj

open Idealize.ShloMosaic Idealize.ShloMosaic.TcCoe Idealize.SL.Sem Cert.Reference10Ideal.Gen Cert.Extended

/-! ## The reference -/

theorem host_cat (p q r : ℕ → ℕ → EReal) :
    (concatenate S4096x1024 1 [⟨S4096x384, (ex p : FVec Ideal S4096x384 .f32)⟩, ⟨S4096x384, (ex q : FVec Ideal S4096x384 .f32)⟩, ⟨S4096x256, (ex r : FVec Ideal S4096x256 .f32)⟩]
        concatenates_S4096x384_S4096x384_S4096x256_S4096x1024_d1 : FVec Ideal S4096x1024 .f32)
      = (ex (cat p q r) : FVec Ideal S4096x1024 .f32) := by
  funext i
  pointwise
  show (if (i 1 : Nat) < 384 then p (i 0 : Nat) (i 1 : Nat) else if (i 1 : Nat) - 384 < 384 then q (i 0 : Nat) ((i 1 : Nat) - 384) else r (i 0 : Nat) ((i 1 : Nat) - 384 - 384))
    = if (i 1 : Nat) < 384 then p (i 0 : Nat) (i 1 : Nat) else if (i 1 : Nat) < 768 then q (i 0 : Nat) ((i 1 : Nat) - 384) else r (i 0 : Nat) ((i 1 : Nat) - 768)
  split_ifs with h h' h''
  · rfl
  · rfl
  · omega
  · omega
  · rw [show (i 1 : Nat) - 384 - 384 = (i 1 : Nat) - 768 by omega]

theorem host_resid (x p w : ℕ → ℕ → EReal) :
    addf (mulf (broadcastInDim S4096x1024 ![] bcast_S_S4096x1024 (constant (F := Ideal) S_ .f32 0x3FD744FD#32)) (ex x : FVec Ideal S4096x1024 .f32))
        (Host.dotGeneral dot_S4096x1024_S1024x1024_S4096x1024_1_0_0_1_n_n none (ex p : FVec Ideal S4096x1024 .f32) (ex w : FVec Ideal S1024x1024 .f32))
      = (ex (resid x (mul 1024 p w)) : FVec Ideal S4096x1024 .f32) := by
  funext i
  pointwise
  rfl

theorem host_norm {m : (ℓ : Loc nD τ sig) → Buf (Elt Ideal) ℓ} {c : Dev nD} {p q r x w : ℕ → ℕ → EReal} {g b : ℕ → EReal}
    (ha0 : m ((c.tc : Thread nD τ).loc main_arg0) = (ex p : FVec Ideal S4096x384 .f32))
    (ha1 : m ((c.tc : Thread nD τ).loc main_arg1) = (ex q : FVec Ideal S4096x384 .f32))
    (ha2 : m ((c.tc : Thread nD τ).loc main_arg2) = (ex r : FVec Ideal S4096x256 .f32))
    (ha3 : m ((c.tc : Thread nD τ).loc main_arg3) = (ex x : FVec Ideal S4096x1024 .f32))
    (ha4 : m ((c.tc : Thread nD τ).loc main_arg4) = (ex w : FVec Ideal S1024x1024 .f32))
    (ha5 : m ((c.tc : Thread nD τ).loc main_arg5) = (ev g : FVec Ideal S1024 .f32))
    (ha6 : m ((c.tc : Thread nD τ).loc main_arg6) = (ev b : FVec Ideal S1024 .f32)) :
    Value.res_main_v27 (F := Ideal) m c = (ex (norm (resid x (mul 1024 (cat p q r) w)) g b) : FVec Ideal S4096x1024 .bf16) := by
  unfold Value.res_main_v27
  rw [ha0, ha1, ha2, ha3, ha4, ha5, ha6, host_cat, host_resid]
  funext i
  pointwise
  rfl

end Cert.Reference10Ideal.OutProj

namespace Cert.Kernel10Ideal.OutProj

open Idealize.ShloMosaic Idealize.ShloMosaic.TcCoe Idealize.SL.Sem Cert.Kernel10Ideal.Gen Cert.Extended Cert.Reference10Ideal.OutProj

/-- The kernel and the reference end holding the same arrays. -/
theorem values : Cert.algebraic_Kernel10Ideal_Reference10Ideal := by
  intro m s m' s' _ hagree
  choose p hp using fun c : Dev nD => exists_ex (m ((c.tc : Thread nD τ).loc main_arg0) : FVec Ideal S4096x384 .f32)
  choose q hq using fun c : Dev nD => exists_ex (m ((c.tc : Thread nD τ).loc main_arg1) : FVec Ideal S4096x384 .f32)
  choose r hr using fun c : Dev nD => exists_ex (m ((c.tc : Thread nD τ).loc main_arg2) : FVec Ideal S4096x256 .f32)
  choose x hx using fun c : Dev nD => exists_ex (m ((c.tc : Thread nD τ).loc main_arg3) : FVec Ideal S4096x1024 .f32)
  choose w hw using fun c : Dev nD => exists_ex (m ((c.tc : Thread nD τ).loc main_arg4) : FVec Ideal S1024x1024 .f32)
  choose g hg using fun c : Dev nD => exists_ev (m ((c.tc : Thread nD τ).loc main_arg5) : FVec Ideal S1024 .f32)
  choose b hb using fun c : Dev nD => exists_ev (m ((c.tc : Thread nD τ).loc main_arg6) : FVec Ideal S1024 .f32)
  refine ⟨fun c => (ex (resid (x c) (mul 1024 (cat (p c) (q c) (r c)) (w c))) : FVec Ideal S4096x1024 .f32),
    fun c => (ex (norm (resid (x c) (mul 1024 (cat (p c) (q c) (r c)) (w c))) (g c) (b c)) : FVec Ideal S4096x1024 .bf16),
    fun c => (ex (cat (p c) (q c) (r c)) : FVec Ideal S4096x1024 .bf16), ?_, ?_⟩
  · exact (θ_run defs _ _).mono (fun _ h c =>
      ⟨((h.1 c).1 7).trans (final7 (hp c) (hq c) (hr c) (hx c) (hw c) (hg c) (hb c)), ((h.1 c).1 8).trans (final8 (hp c) (hq c) (hr c) (hx c) (hw c) (hg c) (hb c)),
        ((h.1 c).1 9).trans (final9 (hp c) (hq c) (hr c) (hx c) (hw c) (hg c) (hb c)), h.2.1 c⟩) (θ_run_and (run_main m s) (frame m s))
  · refine (θ_run Cert.Reference10Ideal.defs _ _).mono (fun _ h c => ?_) (Cert.Reference10Ideal.Value.run (F := Ideal) m' s')
    obtain ⟨e0, e1, e2, e3, e4, e5, e6⟩ := hagree c
    refine ⟨(h c).1.trans ?_, (h c).2.1.trans (host_norm (e0.trans (hp c)) (e1.trans (hq c)) (e2.trans (hr c)) (e3.trans (hx c)) (e4.trans (hw c)) (e5.trans (hg c)) (e6.trans (hb c))),
      (h c).2.2.1.trans ?_, (h c).2.2.2⟩
    · rw [e0, e1, e2, e3, e4, hp c, hq c, hr c, hx c, hw c]
      erw [host_cat]
      exact host_resid _ _ _
    · rw [e0, e1, e2, hp c, hq c, hr c]
      erw [host_cat]
      rfl

theorem frame_kernel : Cert.quiescent_Kernel10 := by
  have h := fun m ρ (_ : True) => frame (F := Bits) m ρ
  exact cast (by sl_kernel_rfl) h
theorem frame_ideal : Cert.quiescent_Kernel10Ideal := fun m ρ _ => frame (F := Ideal) m ρ
theorem frame_reference : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

end Cert.Kernel10Ideal.OutProj

end
-- ==== Proof.OutGrad.lean ====
module

public import proofs.«01_k».proof.Defs
public import proofs.«01_k».proof.Proof.Norm
public import proofs.«01_k».proof.Proof.Block
public import proofs.«01_k».proof.Proof.Gen.Kernel4
public import proofs.«01_k».proof.Proof.Gen.Kernel4Ideal.Frame

@[expose] public section

set_option maxRecDepth 16384

noncomputable section

namespace Cert.OutGrad

open Idealize.ShloMosaic
open Cert.Reals hiding Args

/-! ## The mathematics of the output projection's gradients -/

/-- The call's arguments, over the reals. -/
structure Args where
  x : ℕ → ℕ → ℝ
  yc : ℕ → ℕ → ℝ
  w : ℕ → ℕ → ℝ
  g : ℕ → ℝ
  dy : ℕ → ℕ → ℝ

namespace Args
variable (A : Args)
/-- The norm's argument, its gradient, and the gradient of the projected rows. -/
def z (i j : ℕ) : ℝ := alpha * A.x i j + ∑ k : Fin 1024, A.yc i k * A.w k j
def Dz : ℕ → ℕ → ℝ := Reals.dz A.z A.dy A.g
def Dyc (i j : ℕ) : ℝ := ∑ k : Fin 1024, A.Dz i k * A.w j k
def Dx (i j : ℕ) : ℝ := alpha * A.Dz i j
/-- The gradients of the norm's parameters from the first `n` rows, as the rows of one block. -/
def lnTo (n i j : ℕ) : ℝ := if i = 0 then ∑ k ∈ Finset.range n, A.dy k j * xhat A.z k j else if i = 1 then ∑ k ∈ Finset.range n, A.dy k j else 0
/-- From all of them. -/
def Dln (i j : ℕ) : ℝ := if i = 0 then ∑ k : Fin 4096, A.dy k j * xhat A.z k j else if i = 1 then ∑ k : Fin 4096, A.dy k j else 0

theorem lnTo_full : A.lnTo 4096 = A.Dln := by
  funext i j
  unfold lnTo
  rw [Finset.sum_range (n := 4096), Finset.sum_range (n := 4096)]
  rfl

/-- One block of 512 rows more. -/
theorem lnTo_succ (n i j : ℕ) : A.lnTo (512 * (n + 1)) i j =
    if i = 0 then A.lnTo (512 * n) 0 j + ∑ k : Fin 512, A.dy (512 * n + k) j * xhat A.z (512 * n + k) j
    else if i = 1 then A.lnTo (512 * n) 1 j + ∑ k : Fin 512, A.dy (512 * n + k) j else A.lnTo (512 * n) i j := by
  unfold lnTo
  rw [Nat.mul_succ, Finset.sum_range_add, Finset.sum_range_add, Finset.sum_range (fun k => A.dy (512 * n + k) j * xhat A.z (512 * n + k) j),
    Finset.sum_range (fun k => A.dy (512 * n + k) j)]
  by_cases h : i = 0
  · simp only [h, if_true]
  · by_cases h' : i = 1
    · simp [h']
    · simp only [h, h', if_false]
end Args

end Cert.OutGrad

namespace Cert.Kernel4Ideal.OutGrad

open Idealize.ShloMosaic Idealize.ShloMosaic.TcCoe Idealize.SL.Sem Cert.Kernel4Ideal.Gen Cert.OutGrad
open Cert.Reals hiding Args
open Cert.Extended (corner at_rows at_whole)
open Cert.KernelIdeal.Ffn (m32 m16 Blk rRow0 rRow1 readCov_rows readCov_row1 read_two_rows dlnOf_eq dlnOf)

/-! ## The body's values: the norm's part is the feed-forward gradient's, on the same blocks -/

theorem dz_block (dy z : ℕ → ℕ → ℝ) (g : ℕ → ℝ) :
    k0_pay1 (F := Ideal) (k0_pay11 (m32 dy) (m32 z) (m32 fun _ j => g j)) (k0_pay12 (m32 z)) = m32 (dz z dy g) :=
  Cert.KernelIdeal.Ffn.pay6_eq dy z fun _ j => g j

theorem pay2_eq (dy z : ℕ → ℕ → ℝ) (g : ℕ → ℝ) :
    k0_pay2 (F := Ideal) (k0_pay11 (m32 dy) (m32 z) (m32 fun _ j => g j)) (k0_pay12 (m32 z)) = m16 (dz z dy g) := by
  unfold k0_pay2
  dsimp only
  rw [dz_block, truncf_mx]

theorem pay3_eq (dy z : ℕ → ℕ → ℝ) (g : ℕ → ℝ) :
    k0_pay3 (F := Ideal) (k0_pay11 (m32 dy) (m32 z) (m32 fun _ j => g j)) (k0_pay12 (m32 z)) = m32 fun i j => alpha * dz z dy g i j := by
  unfold k0_pay3
  dsimp only
  rw [dz_block]
  rw [broadcast_mx lit_alpha, mul_mx]

theorem pay4_eq (dy z w : ℕ → ℕ → ℝ) (g : ℕ → ℝ) :
    k0_pay4 (F := Ideal) (k0_pay11 (m32 dy) (m32 z) (m32 fun _ j => g j)) (k0_pay12 (m32 z)) (m16 w) = m32 fun i j => ∑ k : Fin 1024, dz z dy g i k * w j k := by
  unfold k0_pay4
  dsimp only
  rw [dz_block, truncf_mx, shapeCast_mx]
  funext i
  pointwise
  exact (Finset.sum_congr rfl fun k _ => (EReal.coe_mul _ _).symm).trans (coe_sum _)

theorem pay5_eq (dy z : ℕ → ℕ → ℝ) (l : Vec Ideal S1x1024 .f32) :
    k0_pay5 (m32 dy) (k0_pay10 (m32 z)) l = Cert.KernelIdeal.Gen.k0_pay11 (Cert.KernelIdeal.Gen.k0_pay7 (m32 dy) (m32 z)) l := rfl
theorem pay6_eq (dy : ℕ → ℕ → ℝ) (l : Vec Ideal S1x1024 .f32) : k0_pay6 (m32 dy) l = Cert.KernelIdeal.Gen.k0_pay12 (m32 dy) l := rfl
theorem zeros_eq : k0_pay7 (F := Ideal) = m32 fun _ _ => 0 := Cert.KernelIdeal.Ffn.pay9_eq

/-! The block of parameter gradients, its rows read back after the store of the whole. -/

theorem row0_read (v : View sig .tc .vmem S8x1024 .f32) (w : Vec Ideal S8x1024 .f32) (inb inb') :
    v.readCov [(⟨Rect.unit (s := S8x1024) ![0, 0] ![8, 1024] inb, w⟩ : View.Piece (Elt Ideal) S8x1024 .f32)] (Rect.unit (s := S8x1024) ![0, 0] ![1, 1024] inb').toLoadRect
      = View.ld w rRow0 := readCov_rows v inb w _
theorem row1_read (v : View sig .tc .vmem S8x1024 .f32) (w : Vec Ideal S8x1024 .f32) (a : Vec Ideal S1x1024 .f32) (inb inb' inb'') :
    v.readCov [(⟨Rect.unit (s := S8x1024) ![0, 0] ![1, 1024] inb, a⟩ : View.Piece (Elt Ideal) S8x1024 .f32), ⟨Rect.unit (s := S8x1024) ![0, 0] ![8, 1024] inb', w⟩]
      (Rect.unit (s := S8x1024) ![1, 0] ![1, 1024] inb'').toLoadRect = View.ld w rRow1 := readCov_row1 v inb inb' inb'' a w

/-- A point's blocks, as the feed-forward gradient takes them. -/
def blk (dy z : ℕ → ℕ → ℝ) : Blk := ⟨dy, z, z, z, z, z, z, fun _ => 0⟩

section
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S1024x1024 .bf16) (h3 : a3.IsWhole) (a4 : Memref sig .tc .vmem S1x1024 .f32) (h4 : a4.IsWhole)
  (a5 : Memref sig .tc .vmem S512x1024 .bf16) (h5 : a5.IsWhole) (a6 : Memref sig .tc .vmem S512x1024 .f32) (h6 : a6.IsWhole)
  (a7 : Memref sig .tc .vmem S512x1024 .f32) (h7 : a7.IsWhole) (a8 : Memref sig .tc .vmem S8x1024 .f32) (h8 : a8.IsWhole)
  (dy z w l : ℕ → ℕ → ℝ) (g : ℕ → ℝ)

theorem first4 (hc0 : cond0_0 i) : out0_A_4 (F := Ideal) c i a1 h1 a2 h2 a3 h3 a4 h4 a5 h5 a6 h6 a7 h7 a8 h8 hc0 (m32 dy) (m32 z) (m16 w) (m32 fun _ j => g j)
    = m16 (dz z dy g) := by
  unfold out0_A_4
  rw [View.read_writes_eq_canon _ _ _ (cover0_A_4 (F := Ideal) c i a1 h1 a2 h2 a3 h3 a4 h4 a5 h5 a6 h6 a7 h7 a8 h8 hc0 _ _ _ _)]
  unfold kernelRun0_A
  dsimp only
  sl_unfold_words
  rw [View.canon_unit_zero corner]
  simp only [View.readAt_eq_ld, h1.read_unread, h2.read_unread, h4.read_unread, View.ld_unit_zero (S := S512x1024) corner, View.ld_unit_zero (S := S1x1024) corner]
  exact pay2_eq dy z g

theorem first5 (hc0 : cond0_0 i) : out0_A_5 (F := Ideal) c i a1 h1 a2 h2 a3 h3 a4 h4 a5 h5 a6 h6 a7 h7 a8 h8 hc0 (m32 dy) (m32 z) (m16 w) (m32 fun _ j => g j)
    = m32 fun i j => ∑ k : Fin 1024, dz z dy g i k * w j k := by
  unfold out0_A_5
  rw [View.read_writes_eq_canon _ _ _ (cover0_A_5 (F := Ideal) c i a1 h1 a2 h2 a3 h3 a4 h4 a5 h5 a6 h6 a7 h7 a8 h8 hc0 _ _ _ _)]
  unfold kernelRun0_A
  dsimp only
  sl_unfold_words
  rw [View.canon_unit_zero corner]
  simp only [View.readAt_eq_ld, h1.read_unread, h2.read_unread, h3.read_unread, h4.read_unread, View.ld_unit_zero (S := S512x1024) corner, View.ld_unit_zero (S := S1x1024) corner,
    View.ld_unit_zero (S := S1024x1024) corner]
  exact pay4_eq dy z w g

theorem first6 (hc0 : cond0_0 i) : out0_A_6 (F := Ideal) c i a1 h1 a2 h2 a3 h3 a4 h4 a5 h5 a6 h6 a7 h7 a8 h8 hc0 (m32 dy) (m32 z) (m16 w) (m32 fun _ j => g j)
    = m32 fun i j => alpha * dz z dy g i j := by
  unfold out0_A_6
  rw [View.read_writes_eq_canon _ _ _ (cover0_A_6 (F := Ideal) c i a1 h1 a2 h2 a3 h3 a4 h4 a5 h5 a6 h6 a7 h7 a8 h8 hc0 _ _ _ _)]
  unfold kernelRun0_A
  dsimp only
  sl_unfold_words
  rw [View.canon_unit_zero corner]
  simp only [View.readAt_eq_ld, h1.read_unread, h2.read_unread, h4.read_unread, View.ld_unit_zero (S := S512x1024) corner, View.ld_unit_zero (S := S1x1024) corner]
  exact pay3_eq dy z g

theorem first7 (hc0 : cond0_0 i) : out0_A_7 (F := Ideal) c i a1 h1 a2 h2 a3 h3 a4 h4 a5 h5 a6 h6 a7 h7 a8 h8 hc0 (m32 dy) (m32 z) (m16 w) (m32 fun _ j => g j)
    = dlnOf (blk dy z).ins (m32 fun _ _ => 0) := by
  unfold out0_A_7
  rw [View.read_writes_eq_canon _ _ _ (cover0_A_7 (F := Ideal) c i a1 h1 a2 h2 a3 h3 a4 h4 a5 h5 a6 h6 a7 h7 a8 h8 hc0 _ _ _ _)]
  unfold kernelRun0_A
  dsimp only
  sl_unfold_words
  simp only [View.readAt_eq_ld, h1.read_unread, h2.read_unread, View.ld_unit_zero (S := S512x1024) corner]
  rw [row0_read, row1_read, zeros_eq, pay5_eq, pay6_eq]
  unfold dlnOf Blk.ins blk
  dsimp only

theorem later4 (hc0 : ¬cond0_0 i) : out0_B_4 (F := Ideal) c i a1 h1 a2 h2 a3 h3 a4 h4 a5 h5 a6 h6 a7 h7 a8 h8 hc0 (m32 dy) (m32 z) (m16 w) (m32 fun _ j => g j) (m32 l)
    = m16 (dz z dy g) := by
  unfold out0_B_4
  rw [View.read_writes_eq_canon _ _ _ (cover0_B_4 (F := Ideal) c i a1 h1 a2 h2 a3 h3 a4 h4 a5 h5 a6 h6 a7 h7 a8 h8 hc0 _ _ _ _ _)]
  unfold kernelRun0_B
  dsimp only
  sl_unfold_words
  rw [View.canon_unit_zero corner]
  simp only [View.readAt_eq_ld, h1.read_unread, h2.read_unread, h4.read_unread, View.ld_unit_zero (S := S512x1024) corner, View.ld_unit_zero (S := S1x1024) corner]
  exact pay2_eq dy z g

theorem later5 (hc0 : ¬cond0_0 i) : out0_B_5 (F := Ideal) c i a1 h1 a2 h2 a3 h3 a4 h4 a5 h5 a6 h6 a7 h7 a8 h8 hc0 (m32 dy) (m32 z) (m16 w) (m32 fun _ j => g j) (m32 l)
    = m32 fun i j => ∑ k : Fin 1024, dz z dy g i k * w j k := by
  unfold out0_B_5
  rw [View.read_writes_eq_canon _ _ _ (cover0_B_5 (F := Ideal) c i a1 h1 a2 h2 a3 h3 a4 h4 a5 h5 a6 h6 a7 h7 a8 h8 hc0 _ _ _ _ _)]
  unfold kernelRun0_B
  dsimp only
  sl_unfold_words
  rw [View.canon_unit_zero corner]
  simp only [View.readAt_eq_ld, h1.read_unread, h2.read_unread, h3.read_unread, h4.read_unread, View.ld_unit_zero (S := S512x1024) corner, View.ld_unit_zero (S := S1x1024) corner,
    View.ld_unit_zero (S := S1024x1024) corner]
  exact pay4_eq dy z w g

theorem later6 (hc0 : ¬cond0_0 i) : out0_B_6 (F := Ideal) c i a1 h1 a2 h2 a3 h3 a4 h4 a5 h5 a6 h6 a7 h7 a8 h8 hc0 (m32 dy) (m32 z) (m16 w) (m32 fun _ j => g j) (m32 l)
    = m32 fun i j => alpha * dz z dy g i j := by
  unfold out0_B_6
  rw [View.read_writes_eq_canon _ _ _ (cover0_B_6 (F := Ideal) c i a1 h1 a2 h2 a3 h3 a4 h4 a5 h5 a6 h6 a7 h7 a8 h8 hc0 _ _ _ _ _)]
  unfold kernelRun0_B
  dsimp only
  sl_unfold_words
  rw [View.canon_unit_zero corner]
  simp only [View.readAt_eq_ld, h1.read_unread, h2.read_unread, h4.read_unread, View.ld_unit_zero (S := S512x1024) corner, View.ld_unit_zero (S := S1x1024) corner]
  exact pay3_eq dy z g

theorem later7 (hc0 : ¬cond0_0 i) : out0_B_7 (F := Ideal) c i a1 h1 a2 h2 a3 h3 a4 h4 a5 h5 a6 h6 a7 h7 a8 h8 hc0 (m32 dy) (m32 z) (m16 w) (m32 fun _ j => g j) (m32 l)
    = dlnOf (blk dy z).ins (m32 l) := by
  unfold out0_B_7
  unfold kernelRun0_B
  dsimp only
  sl_unfold_words
  simp only [View.readAt_eq_ld, h1.read_unread, h2.read_unread, h8.read_unread, View.ld_unit_zero (S := S512x1024) corner]
  rw [pay5_eq, pay6_eq]
  refine (read_two_rows (F := Ideal) (e := .f32) a8.view (h8.unread (m32 l)) _ _ [] inb_S8x1024_S8x1024_0_0 (m32 l) (h8.read_unread _)).trans ?_
  unfold dlnOf Blk.ins blk
  dsimp only
end

/-! ## The arrays the region finds, and their blocks -/

theorem ix0 : ∀ t : Fin cfg0.N, win0_0.index t 0 = t.val ∧ win0_0.index t 1 = 0 := by decide +kernel
theorem ix1 : ∀ t : Fin cfg0.N, win0_1.index t 0 = t.val ∧ win0_1.index t 1 = 0 := by decide +kernel
theorem ix2 : ∀ t : Fin cfg0.N, win0_2.index t 0 = 0 ∧ win0_2.index t 1 = 0 := by decide +kernel
theorem ix3 : ∀ t : Fin cfg0.N, win0_3.index t 0 = 0 ∧ win0_3.index t 1 = 0 := by decide +kernel
theorem ix4 : ∀ t : Fin cfg0.N, win0_4.index t 0 = t.val ∧ win0_4.index t 1 = 0 := by decide +kernel
theorem ix5 : ∀ t : Fin cfg0.N, win0_5.index t 0 = t.val ∧ win0_5.index t 1 = 0 := by decide +kernel
theorem ix6 : ∀ t : Fin cfg0.N, win0_6.index t 0 = t.val ∧ win0_6.index t 1 = 0 := by decide +kernel
theorem ix7 : ∀ t : Fin cfg0.N, win0_7.index t 0 = 0 ∧ win0_7.index t 1 = 0 := by decide +kernel

/-- The arguments are the real matrices `A`. -/
structure Holds (m : (ℓ : Loc nD τ sig) → Buf (Elt Ideal) ℓ) (c : Dev nD) (A : Args) : Prop where
  a0 : m ((c.tc : Thread nD τ).loc main_arg0) = (mx A.x : FVec Ideal S4096x1024 .f32)
  a1 : m ((c.tc : Thread nD τ).loc main_arg1) = (mx A.yc : FVec Ideal S4096x1024 .f32)
  a2 : m ((c.tc : Thread nD τ).loc main_arg2) = (mx A.w : FVec Ideal S1024x1024 .f32)
  a3 : m ((c.tc : Thread nD τ).loc main_arg3) = (vx A.g : FVec Ideal S1024 .f32)
  a4 : m ((c.tc : Thread nD τ).loc main_arg4) = (mx A.dy : FVec Ideal S4096x1024 .f32)

theorem dot_rows (a b : ℕ → ℕ → ℝ) :
    Host.dotGeneral dot_S4096x1024_S1024x1024_S4096x1024_1_0_0_1_n_n none (mx a : FVec Ideal S4096x1024 .f32) (mx b : FVec Ideal S1024x1024 .f32)
      = (mx fun i j => ∑ k : Fin 1024, a i k * b k j : FVec Ideal S4096x1024 .f32) := by
  funext i
  pointwise
  exact (Finset.sum_congr rfl fun k _ => (EReal.coe_mul _ _).symm).trans (coe_sum _)

section
variable {m : (ℓ : Loc nD τ sig) → Buf (Elt Ideal) ℓ} {c : Dev nD} {A : Args} (H : Holds m c A)
include H

theorem V_z : V m c main_v3 = (mx A.z : FVec Ideal S4096x1024 .f32) := by
  simp only [V, hostOps0, List.flatten_cons, List.flatten_nil, List.append_nil, List.cons_append, List.nil_append]
  after_results_simp
  show addf (F := Ideal) (mulf (broadcastInDim S4096x1024 ![] bcast_S_S4096x1024 (constant S_ .f32 0x3FD744FD#32)) (m ((c.tc : Thread nD τ).loc main_arg0) : FVec Ideal S4096x1024 .f32))
    (Host.dotGeneral (F := Ideal) (φ₁ := .f32) (φ₂ := .f32) dot_S4096x1024_S1024x1024_S4096x1024_1_0_0_1_n_n none (m ((c.tc : Thread nD τ).loc main_arg1)) (m ((c.tc : Thread nD τ).loc main_arg2))) = _
  rw [H.a0, H.a1, H.a2, splat_mx lit_alpha, mul_mx, dot_rows, add_mx]
  rfl

theorem V_w : V m c main_v4 = (mx A.w : FVec Ideal S1024x1024 .bf16) := by
  simp only [V, hostOps0, List.flatten_cons, List.flatten_nil, List.append_nil, List.cons_append, List.nil_append]
  after_results_simp
  show truncf (F := Ideal) (s := S1024x1024) (φ := .f32) .bf16 (m ((c.tc : Thread nD τ).loc main_arg2)) bitsLt_bf16_f32 = _
  rw [H.a2, truncf_mx]

theorem V_g : V m c main_v5 = (mx fun _ j => A.g j : FVec Ideal S1x1024 .f32) := by
  simp only [V, hostOps0, List.flatten_cons, List.flatten_nil, List.append_nil, List.cons_append, List.nil_append]
  after_results_simp
  show broadcastInDim S1x1024 ![1] bcast_S1024_S1x1024_1 (m ((c.tc : Thread nD τ).loc main_arg3) : FVec Ideal S1024 .f32) = _
  rw [H.a3]
  exact brow_vec _ _

theorem read0 (t : Fin cfg0.N) : iblk m c 0 t = (m32 fun i j => A.dy (512 * t.val + i) j : FVec Ideal S512x1024 .f32) := by
  funext j
  unfold iblk
  rw [View.read_apply]
  show V m c main_arg4 _ = _
  rw [V_main_arg4, H.a4]
  exact at_rows (fun i j => (A.dy i j : EReal)) 512 1024 (j 0).val (j 1).val (ix0 t).1 (ix0 t).2

theorem read1 (t : Fin cfg0.N) : iblk m c 1 t = (m32 fun i j => A.z (512 * t.val + i) j : FVec Ideal S512x1024 .f32) := by
  funext j
  unfold iblk
  rw [View.read_apply]
  show V m c main_v3 _ = _
  rw [V_z H]
  exact at_rows (fun i j => (A.z i j : EReal)) 512 1024 (j 0).val (j 1).val (ix1 t).1 (ix1 t).2

theorem read2 (t : Fin cfg0.N) : iblk m c 2 t = (m16 A.w : FVec Ideal S1024x1024 .bf16) := by
  funext j
  unfold iblk
  rw [View.read_apply]
  show V m c main_v4 _ = _
  rw [V_w H]
  exact at_whole (fun i j => (A.w i j : EReal)) 1024 1024 (j 0).val (j 1).val (ix2 t).1 (ix2 t).2

theorem read3 (t : Fin cfg0.N) : iblk m c 3 t = (m32 fun _ j => A.g j : FVec Ideal S1x1024 .f32) := by
  funext j
  unfold iblk
  rw [View.read_apply]
  show V m c main_v5 _ = _
  rw [V_g H]
  exact at_whole (fun _ j => (A.g j : EReal)) 1 1024 (j 0).val (j 1).val (ix3 t).1 (ix3 t).2

/-! ## What the points leave -/

/-- The parameter gradients after each point: those of the rows so far. -/
theorem ln (n : ℕ) (hn : n < cfg0.N) : (outsAt0 m c n hn).2.2.2 = (m32 (A.lnTo (512 * (n + 1))) : FVec Ideal S8x1024 .f32) := by
  have hN : cfg0.N = 8 := N_0
  induction n with
  | zero =>
    have e := outsAt0_A m c ⟨0, hn⟩ rfl
    dsimp only at e
    rw [e]
    dsimp only
    rw [read0 H, read1 H, read2 H, read3 H, first7, dlnOf_eq]
    refine mx_congr fun i j _ _ => (Eq.trans ?_ (A.lnTo_succ 0 i j).symm)
    have h0 (i : ℕ) : A.lnTo (512 * 0) i j = 0 := by unfold Args.lnTo; simp
    rw [h0, h0, h0]
    rfl
  | succ n ih =>
    have e := outsAt0_B m c ⟨n + 1, hn⟩ (by show ¬(n + 1) % 8 = 0; omega)
    dsimp only at e
    rw [e]
    dsimp only
    rw [read0 H, read1 H, read2 H, read3 H]
    erw [ih (by omega)]
    rw [later7, dlnOf_eq]
    exact mx_congr fun i j _ _ => (A.lnTo_succ (n + 1) i j).symm

theorem flushed4 (t : Fin cfg0.N) (_ : (cfg0.win 4).flush t = true) :
    (dats m 0 c).flushed 4 t = ((cfg0.win 4).blk t).view.read (Elt Ideal) (mx A.Dz : FVec Ideal S4096x1024 .bf16) := by
  have hN : cfg0.N = 8 := N_0
  have ht := t.isLt
  show (cfg0.win 4).cut (grid0.coords t) ((dats m 0 c).after 4 t) = _
  have e : (outsAt0 m c t.val t.isLt).1 = (m16 fun i j => A.Dz (512 * t.val + i) j : FVec Ideal S512x1024 .bf16) := by
    by_cases h : t.val % 8 = 0
    · rw [outsAt0_A m c t h]
      dsimp only
      rw [read0 H, read1 H, read2 H, read3 H, first4]
      rfl
    · rw [outsAt0_B m c t h]
      dsimp only
      rw [read0 H, read1 H, read2 H, read3 H, ln H, later4]
      rfl
  rw [after0_4, e]
  funext j
  rw [View.read_apply]
  exact (at_rows (fun i j => (A.Dz i j : EReal)) 512 1024 (j 0).val (j 1).val (ix4 t).1 (ix4 t).2).symm

theorem flushed5 (t : Fin cfg0.N) (_ : (cfg0.win 5).flush t = true) :
    (dats m 0 c).flushed 5 t = ((cfg0.win 5).blk t).view.read (Elt Ideal) (mx A.Dyc : FVec Ideal S4096x1024 .f32) := by
  have hN : cfg0.N = 8 := N_0
  have ht := t.isLt
  show (cfg0.win 5).cut (grid0.coords t) ((dats m 0 c).after 5 t) = _
  have e : (outsAt0 m c t.val t.isLt).2.1 = (m32 fun i j => A.Dyc (512 * t.val + i) j : FVec Ideal S512x1024 .f32) := by
    by_cases h : t.val % 8 = 0
    · rw [outsAt0_A m c t h]
      dsimp only
      rw [read0 H, read1 H, read2 H, read3 H, first5]
      rfl
    · rw [outsAt0_B m c t h]
      dsimp only
      rw [read0 H, read1 H, read2 H, read3 H, ln H, later5]
      rfl
  rw [after0_5, e]
  funext j
  rw [View.read_apply]
  exact (at_rows (fun i j => (A.Dyc i j : EReal)) 512 1024 (j 0).val (j 1).val (ix5 t).1 (ix5 t).2).symm

theorem flushed6 (t : Fin cfg0.N) (_ : (cfg0.win 6).flush t = true) :
    (dats m 0 c).flushed 6 t = ((cfg0.win 6).blk t).view.read (Elt Ideal) (mx A.Dx : FVec Ideal S4096x1024 .f32) := by
  have hN : cfg0.N = 8 := N_0
  have ht := t.isLt
  show (cfg0.win 6).cut (grid0.coords t) ((dats m 0 c).after 6 t) = _
  have e : (outsAt0 m c t.val t.isLt).2.2.1 = (m32 fun i j => A.Dx (512 * t.val + i) j : FVec Ideal S512x1024 .f32) := by
    by_cases h : t.val % 8 = 0
    · rw [outsAt0_A m c t h]
      dsimp only
      rw [read0 H, read1 H, read2 H, read3 H, first6]
      rfl
    · rw [outsAt0_B m c t h]
      dsimp only
      rw [read0 H, read1 H, read2 H, read3 H, ln H, later6]
      rfl
  rw [after0_6, e]
  funext j
  rw [View.read_apply]
  exact (at_rows (fun i j => (A.Dx i j : EReal)) 512 1024 (j 0).val (j 1).val (ix6 t).1 (ix6 t).2).symm

theorem flushed7 (t : Fin cfg0.N) (hf : (cfg0.win 7).flush t = true) :
    (dats m 0 c).flushed 7 t = ((cfg0.win 7).blk t).view.read (Elt Ideal) (mx A.Dln : FVec Ideal S8x1024 .f32) := by
  have hN : cfg0.N = 8 := N_0
  have ht := t.isLt
  have h7 := (flush0_7 t).mp hf
  show (cfg0.win 7).cut (grid0.coords t) ((dats m 0 c).after 7 t) = _
  rw [after0_7, ln H, show t.val = 7 by omega, show 512 * (7 + 1) = 4096 from rfl, A.lnTo_full]
  funext j
  rw [View.read_apply]
  exact (at_whole (fun i j => (A.Dln i j : EReal)) 8 1024 (j 0).val (j 1).val (ix7 t).1 (ix7 t).2).symm

/-! ## The arrays the kernel ends holding -/

theorem final4 : (dats m 0 c).arrAt 4 cfg0.N = (mx A.Dz : FVec Ideal S4096x1024 .bf16) :=
  (dats m 0 c).arrAt_eq_of_cover 4 _ (flushed4 H) fun i => by
    have h0 : (i 0 : Nat) < 4096 := (i 0).isLt
    have h1 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    refine ⟨t, flush0_4 t, ?_⟩
    show i ∈ ((View.whole main_v6_0).slice (win0_4.rect t)).set
    rw [View.set_slice_whole, Rect.mem_set_unit]
    refine Fin.forall_fin_two.mpr ⟨?_, ?_⟩
    · show win0_4.index t 0 * 512 ≤ (i 0 : Nat) ∧ (i 0 : Nat) < win0_4.index t 0 * 512 + 512
      rw [(ix4 t).1]; omega
    · show win0_4.index t 1 * 1024 ≤ (i 1 : Nat) ∧ (i 1 : Nat) < win0_4.index t 1 * 1024 + 1024
      rw [(ix4 t).2]; omega

theorem final5 : (dats m 0 c).arrAt 5 cfg0.N = (mx A.Dyc : FVec Ideal S4096x1024 .f32) :=
  (dats m 0 c).arrAt_eq_of_cover 5 _ (flushed5 H) fun i => by
    have h0 : (i 0 : Nat) < 4096 := (i 0).isLt
    have h1 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    refine ⟨t, flush0_5 t, ?_⟩
    show i ∈ ((View.whole main_v6_1).slice (win0_5.rect t)).set
    rw [View.set_slice_whole, Rect.mem_set_unit]
    refine Fin.forall_fin_two.mpr ⟨?_, ?_⟩
    · show win0_5.index t 0 * 512 ≤ (i 0 : Nat) ∧ (i 0 : Nat) < win0_5.index t 0 * 512 + 512
      rw [(ix5 t).1]; omega
    · show win0_5.index t 1 * 1024 ≤ (i 1 : Nat) ∧ (i 1 : Nat) < win0_5.index t 1 * 1024 + 1024
      rw [(ix5 t).2]; omega

theorem final6 : (dats m 0 c).arrAt 6 cfg0.N = (mx A.Dx : FVec Ideal S4096x1024 .f32) :=
  (dats m 0 c).arrAt_eq_of_cover 6 _ (flushed6 H) fun i => by
    have h0 : (i 0 : Nat) < 4096 := (i 0).isLt
    have h1 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    refine ⟨t, flush0_6 t, ?_⟩
    show i ∈ ((View.whole main_v6_2).slice (win0_6.rect t)).set
    rw [View.set_slice_whole, Rect.mem_set_unit]
    refine Fin.forall_fin_two.mpr ⟨?_, ?_⟩
    · show win0_6.index t 0 * 512 ≤ (i 0 : Nat) ∧ (i 0 : Nat) < win0_6.index t 0 * 512 + 512
      rw [(ix6 t).1]; omega
    · show win0_6.index t 1 * 1024 ≤ (i 1 : Nat) ∧ (i 1 : Nat) < win0_6.index t 1 * 1024 + 1024
      rw [(ix6 t).2]; omega

theorem final7 : (dats m 0 c).arrAt 7 cfg0.N = (mx A.Dln : FVec Ideal S8x1024 .f32) :=
  (dats m 0 c).arrAt_eq_of_cover 7 _ (flushed7 H) fun i => by
    have h0 : (i 0 : Nat) < 8 := (i 0).isLt
    have h1 : (i 1 : Nat) < 1024 := (i 1).isLt
    have hN : cfg0.N = 8 := N_0
    obtain ⟨t, ht⟩ : ∃ t : Fin cfg0.N, t.val = 7 := ⟨⟨7, by omega⟩, rfl⟩
    refine ⟨t, (flush0_7 t).mpr (by omega), ?_⟩
    show i ∈ ((View.whole main_v6_3).slice (win0_7.rect t)).set
    rw [View.set_slice_whole, Rect.mem_set_unit]
    refine Fin.forall_fin_two.mpr ⟨?_, ?_⟩
    · show win0_7.index t 0 * 8 ≤ (i 0 : Nat) ∧ (i 0 : Nat) < win0_7.index t 0 * 8 + 8
      rw [(ix7 t).1]; omega
    · show win0_7.index t 1 * 1024 ≤ (i 1 : Nat) ∧ (i 1 : Nat) < win0_7.index t 1 * 1024 + 1024
      rw [(ix7 t).2]; omega
end

theorem frame_kernel : Cert.quiescent_Kernel4 := by
  have h := fun m ρ (_ : True) => frame (F := Bits) m ρ
  exact cast (by sl_kernel_rfl) h
theorem frame_ideal : Cert.quiescent_Kernel4Ideal := fun m ρ _ => frame (F := Ideal) m ρ

end Cert.Kernel4Ideal.OutGrad

end
-- ==== Proof.OutGradRef.lean ====
module

public import proofs.«01_k».proof.Proof.Finite
public import proofs.«01_k».proof.Proof.OutGrad
public import proofs.«01_k».proof.Pre_all_finite4
public import proofs.«01_k».proof.Proof.Gen.Reference4Ideal.Run

@[expose] public section

set_option maxRecDepth 16384

noncomputable section

namespace Cert.Pre_all_finite4

open Idealize.ShloMosaic Cert.Reals
open Cert.Pre_all_finite (and_one real_of_all)

/-! ## The precondition: the arguments are arrays of real numbers -/

theorem facts : Facts where
  bcast_S_S4096x1024 := by decide
  reducesTo_S4096x1024_S_d0_1 := by decide
  h_S_ := by decide
  bcast_S_S1024x1024 := by decide
  reducesTo_S1024x1024_S_d0_1 := by decide
  bcast_S_S1024 := by decide
  reducesTo_S1024_S_d0 := by decide

variable [Facts]
open Facts

theorem reals (x yc : FVec Ideal S4096x1024 .f32) (w : FVec Ideal S1024x1024 .f32) (g : FVec Ideal S1024 .f32) (dy : FVec Ideal S4096x1024 .f32)
    (h : fn (F := Ideal) x yc w g dy = fun _ => 1#1) :
    (∃ a, x = mx a) ∧ (∃ a, yc = mx a) ∧ (∃ a, w = mx a) ∧ (∃ a, g = vx a) ∧ ∃ a, dy = mx a := by
  unfold fn fn_part1 at h
  dsimp only at h
  obtain ⟨h, h4⟩ := and_one h
  obtain ⟨h, h3⟩ := and_one h
  obtain ⟨h, h2⟩ := and_one h
  obtain ⟨h0, h1⟩ := and_one h
  exact ⟨exists_mx _ (real_of_all _ _ _ _ h0), exists_mx _ (real_of_all _ _ _ _ h1), exists_mx _ (real_of_all _ _ _ _ h2),
    exists_vx _ (real_of_all _ _ _ _ h3), exists_mx _ (real_of_all _ _ _ _ h4)⟩

end Cert.Pre_all_finite4

namespace Cert.Reference4Ideal.OutGrad

open Idealize.ShloMosaic Idealize.ShloMosaic.TcCoe Idealize.SL.Sem Cert.Reference4Ideal.Gen Cert.OutGrad
open Cert.Reals hiding Args

/-! ## The reference's values, step by step -/

section
variable (x yc : FVec Ideal S4096x1024 .f32) (w : FVec Ideal S1024x1024 .f32) (g : FVec Ideal S1024 .f32) (dy z : FVec Ideal S4096x1024 .f32)

/-- The rows' sums as a column, and a column of one number. -/
abbrev zeroS : FVec Ideal S_ .f32 := constant S_ .f32 0x00000000#32
abbrev colOf (b : BitVec 32) : FVec Ideal S4096x1 .f32 := broadcastInDim S4096x1 ![] bcast_S_S4096x1 (constant S_ .f32 b)
abbrev rowSums (y : FVec Ideal S4096x1024 .f32) : FVec Ideal S4096 .f32 := Host.reduceAdd y zeroS reducesTo_S4096x1024_S4096_d1 h_S_

/-- The norm's argument; the centred rows, the variance, the inverse deviation, the normalised rows. -/
def arg : FVec Ideal S4096x1024 .f32 :=
  addf (addf (mulf (broadcastInDim S4096x1024 ![] bcast_S_S4096x1024 (constant S_ .f32 0x3FD744FD#32)) x)
    (Host.dotGeneral (φ₁ := .f32) (φ₂ := .f32) dot_S4096x1024_S1024x1024_S4096x1024_1_0_0_1_n_n none yc w)) (broadcastInDim S4096x1024 ![] bcast_S_S4096x1024 zeroS)
def cen : FVec Ideal S4096x1024 .f32 :=
  subf z (broadcastInDim S4096x1024 ![0, 1] bcast_S4096x1_S4096x1024_0_1 (Host.divf (broadcastInDim S4096x1 ![0] bcast_S4096_S4096x1_0 (rowSums z)) (colOf 0x44800000#32)))
def vareps : FVec Ideal S4096x1 .f32 :=
  addf (Host.divf (broadcastInDim S4096x1 ![0] bcast_S4096_S4096x1_0 (rowSums (mulf (cen z) (cen z)))) (colOf 0x44800000#32)) (colOf 0x3727C5AC#32)
def inv : FVec Ideal S4096x1 .f32 := Host.rsqrt (vareps z)
def normed : FVec Ideal S4096x1024 .f32 := mulf (cen z) (broadcastInDim S4096x1024 ![0, 1] bcast_S4096x1_S4096x1024_0_1 (inv z))
/-- The gradients: of the normalised rows, of the variance, of the centred rows, of the norm's argument. -/
def dNormed : FVec Ideal S4096x1024 .f32 :=
  mulf (shapeCast S4096x1024 dy shapeCasts_S4096x1024_S4096x1024) (broadcastInDim S4096x1024 ![0, 1] bcast_S1x1024_S4096x1024_0_1 (broadcastInDim S1x1024 ![1] bcast_S1024_S1x1024_1 g))
def dVar : FVec Ideal S4096x1024 .f32 :=
  broadcastInDim S4096x1024 ![0] bcast_S4096_S4096x1024_0 (Host.reduceAdd (Host.divf
    (mulf (shapeCast S4096x1 (rowSums (mulf (cen z) (dNormed g dy))) shapeCasts_S4096_S4096x1) (mulf (colOf 0xBF000000#32) (Host.divf (inv z) (vareps z)))) (colOf 0x44800000#32))
    zeroS reducesTo_S4096x1_S4096_d1 h_S_)
def dCen : FVec Ideal S4096x1024 .f32 :=
  addf (addf (mulf (dNormed g dy) (broadcastInDim S4096x1024 ![0, 1] bcast_S4096x1_S4096x1024_0_1 (inv z))) (mulf (cen z) (dVar g dy z))) (mulf (dVar g dy z) (cen z))
def dArg : FVec Ideal S4096x1024 .f32 :=
  addf (dCen g dy z) (broadcastInDim S4096x1024 ![0] bcast_S4096_S4096x1024_0 (Host.reduceAdd (Host.divf
    (shapeCast S4096x1 (rowSums (Host.negf (dCen g dy z))) shapeCasts_S4096_S4096x1) (colOf 0x44800000#32)) zeroS reducesTo_S4096x1_S4096_d1 h_S_))
/-- A matrix's columns summed, as a row. -/
def colSums (y : FVec Ideal S4096x1024 .f32) : FVec Ideal S1x1024 .f32 :=
  broadcastInDim S1x1024 ![1] bcast_S1024_S1x1024_1 (Host.reduceAdd (shapeCast S1x1024 (Host.reduceAdd y zeroS reducesTo_S4096x1024_S1024_d0 h_S_) shapeCasts_S1024_S1x1024)
    zeroS reducesTo_S1x1024_S1024_d0 h_S_)
def dParams : FVec Ideal S8x1024 .f32 :=
  concatenate S8x1024 0 [⟨S1x1024, colSums (mulf (normed z) (shapeCast S4096x1024 dy shapeCasts_S4096x1024_S4096x1024))⟩, ⟨S1x1024, colSums dy⟩,
    ⟨S6x1024, broadcastInDim S6x1024 ![] bcast_S_S6x1024 zeroS⟩] concatenates_S1x1024_S1x1024_S6x1024_S8x1024_d0
end

section
variable (m : (ℓ : Loc nD τ sig) → Buf (Elt Ideal) ℓ) (c : Dev nD)
abbrev zOf : FVec Ideal S4096x1024 .f32 :=
  arg (m ((c.tc : Thread nD τ).loc main_arg0)) (m ((c.tc : Thread nD τ).loc main_arg1)) (m ((c.tc : Thread nD τ).loc main_arg2))
abbrev dzOf : FVec Ideal S4096x1024 .f32 := dArg (m ((c.tc : Thread nD τ).loc main_arg3)) (m ((c.tc : Thread nD τ).loc main_arg4)) (zOf m c)

theorem res0_eq : Value.res_out0 m c = truncf .bf16 (dzOf m c) bitsLt_bf16_f32 := rfl
theorem res1_eq : Value.res_out1 m c = Host.dotGeneral (φ₁ := .f32) (φ₂ := .f32) dot_S4096x1024_S1024x1024_S4096x1024_1_1_0_0_n_n none (dzOf m c)
    (m ((c.tc : Thread nD τ).loc main_arg2) : FVec Ideal S1024x1024 .f32) := rfl
theorem res2_eq : Value.res_out2 m c = mulf (broadcastInDim S4096x1024 ![] bcast_S_S4096x1024 (constant S_ .f32 0x3FD744FD#32)) (dzOf m c) := rfl
theorem res3_eq : Value.res_out3 m c = dParams (m ((c.tc : Thread nD τ).loc main_arg4)) (zOf m c) := rfl
end

/-! ## Over the reals -/

section
variable (z d : ℕ → ℕ → ℝ) (g : ℕ → ℝ)

theorem cen_eq : cen (mx z) = mx (zcen z) := by
  unfold cen rowSums colOf zeroS
  rw [sum_cols, bcol_vec, splat_mx lit_1024, div_1024, bcol, sub_mx]; rfl
theorem vareps_eq : vareps (mx z) = mx fun i _ => var z i + eps := by
  unfold vareps rowSums colOf zeroS
  rw [cen_eq, mul_mx, sum_cols, bcol_vec, splat_mx lit_1024, div_1024, splat_mx lit_eps, add_mx]; rfl
theorem inv_eq : inv (mx z) = mx fun i _ => rstd z i := by
  rw [inv, vareps_eq, rsqrt_mx _ fun i _ _ _ => var_eps_pos z i]; rfl
theorem normed_eq : normed (mx z) = mx (xhat z) := by
  rw [normed, cen_eq, inv_eq, bcol, mul_mx]; rfl
theorem dNormed_eq : dNormed (vx g) (mx d) = mx fun i j => d i j * g j := by
  rw [dNormed, shapeCast_mx, brow_vec, brow, mul_mx]

/-- The variance's share of the gradient, a row; the centred rows' gradient. -/
def tOf (i : ℕ) : ℝ := (∑ k : Fin 1024, zcen z i k * (d i k * g k)) * (-(1 / 2) * (rstd z i / (var z i + eps))) / 1024
def uOf (i j : ℕ) : ℝ := ((d i j * g j) * rstd z i + zcen z i j * tOf z d g i) + tOf z d g i * zcen z i j

theorem dVar_eq : dVar (vx g) (mx d) (mx z) = mx fun i _ => tOf z d g i := by
  unfold dVar rowSums colOf zeroS
  rw [cen_eq, dNormed_eq, inv_eq, vareps_eq, mul_mx, sum_cols, column_4096, splat_mx lit_neg_half,
    div_mx _ _ fun i _ _ _ => (var_eps_pos z i).ne', mul_mx, mul_mx, splat_mx lit_1024, div_1024, sum_one, bcol_wide]; rfl
theorem dCen_eq : dCen (vx g) (mx d) (mx z) = mx (uOf z d g) := by
  rw [dCen, cen_eq, dNormed_eq, inv_eq, dVar_eq, bcol, mul_mx, mul_mx, mul_mx, add_mx, add_mx]; rfl
theorem dArg_eq : dArg (vx g) (mx d) (mx z) = mx (dz z d g) := by
  unfold dArg rowSums colOf zeroS
  rw [dCen_eq, neg_mx, sum_cols, column_4096, splat_mx lit_1024, div_1024, sum_one, bcol_wide, add_mx]
  exact mx_congr fun i j _ _ => dz_eq z d g (tOf z d g) (uOf z d g) (fun _ => rfl) (fun _ _ => rfl) i j
theorem colSums_eq (a : ℕ → ℕ → ℝ) : colSums (mx a) = mx fun _ j => ∑ k : Fin 4096, a k j := by
  unfold colSums zeroS
  rw [sum_rows, row_1024, sum_row, brow_vec]
theorem dParams_eq (A : Args) : dParams (mx A.dy) (mx A.z) = mx A.Dln := by
  rw [dParams, normed_eq, shapeCast_mx, mul_mx, colSums_eq, colSums_eq]
  funext i
  pointwise
  show _ = ((A.Dln (i 0).val (i 1).val : ℝ) : EReal)
  unfold Cert.OutGrad.Args.Dln
  by_cases h : (i 0).val = 0
  · rw [dif_pos (by omega), if_pos h]
    exact congrArg _ (Finset.sum_congr rfl fun k _ => mul_comm _ _)
  · by_cases h' : (i 0).val = 1
    · rw [dif_neg (by omega), dif_pos (by omega), if_neg h, if_pos h']; rfl
    · rw [dif_neg (by omega), dif_neg (by omega), if_neg h, if_neg h']; rfl
theorem dot_fwd (a b : ℕ → ℕ → ℝ) :
    Host.dotGeneral dot_S4096x1024_S1024x1024_S4096x1024_1_0_0_1_n_n none (mx a : FVec Ideal S4096x1024 .f32) (mx b : FVec Ideal S1024x1024 .f32)
      = (mx fun i j => ∑ k : Fin 1024, a i k * b k j : FVec Ideal S4096x1024 .f32) := by
  funext i
  pointwise
  exact (Finset.sum_congr rfl fun k _ => (EReal.coe_mul _ _).symm).trans (coe_sum _)
theorem arg_eq (A : Args) : arg (mx A.x) (mx A.yc) (mx A.w) = mx A.z := by
  unfold arg zeroS
  rw [splat_mx lit_alpha, mul_mx, dot_fwd, add_mx, splat_mx lit_zero, add_mx]
  exact mx_congr fun i j _ _ => add_zero _
theorem dot_back (a b : ℕ → ℕ → ℝ) :
    Host.dotGeneral dot_S4096x1024_S1024x1024_S4096x1024_1_1_0_0_n_n none (mx a : FVec Ideal S4096x1024 .f32) (mx b : FVec Ideal S1024x1024 .f32)
      = (mx fun i j => ∑ k : Fin 1024, a i k * b j k : FVec Ideal S4096x1024 .f32) := by
  funext i
  pointwise
  exact (Finset.sum_congr rfl fun k _ => (EReal.coe_mul _ _).symm).trans (coe_sum _)
end

section
variable {m : (ℓ : Loc nD τ sig) → Buf (Elt Ideal) ℓ} {c : Dev nD} {A : Args}
  (a0 : m ((c.tc : Thread nD τ).loc main_arg0) = (mx A.x : FVec Ideal S4096x1024 .f32))
  (a1 : m ((c.tc : Thread nD τ).loc main_arg1) = (mx A.yc : FVec Ideal S4096x1024 .f32))
  (a2 : m ((c.tc : Thread nD τ).loc main_arg2) = (mx A.w : FVec Ideal S1024x1024 .f32))
  (a3 : m ((c.tc : Thread nD τ).loc main_arg3) = (vx A.g : FVec Ideal S1024 .f32))
  (a4 : m ((c.tc : Thread nD τ).loc main_arg4) = (mx A.dy : FVec Ideal S4096x1024 .f32))

include a0 a1 a2 in
theorem zOf_eq : zOf m c = mx A.z := by rw [zOf, a0, a1, a2, arg_eq]
include a0 a1 a2 a4 in
theorem last3 : Value.res_out3 m c = (mx A.Dln : FVec Ideal S8x1024 .f32) := by
  rw [res3_eq, zOf_eq a0 a1 a2, a4, dParams_eq]
include a0 a1 a2 a3 a4
theorem dzOf_eq : dzOf m c = mx A.Dz := by
  rw [dzOf, zOf_eq a0 a1 a2, a3, a4, dArg_eq]; rfl
theorem last0 : Value.res_out0 m c = (mx A.Dz : FVec Ideal S4096x1024 .bf16) := by
  rw [res0_eq, dzOf_eq a0 a1 a2 a3 a4, truncf_mx]
theorem last1 : Value.res_out1 m c = (mx A.Dyc : FVec Ideal S4096x1024 .f32) := by
  rw [res1_eq, dzOf_eq a0 a1 a2 a3 a4, a2, dot_back]; rfl
theorem last2 : Value.res_out2 m c = (mx A.Dx : FVec Ideal S4096x1024 .f32) := by
  rw [res2_eq, dzOf_eq a0 a1 a2 a3 a4, splat_mx lit_alpha, mul_mx]; rfl
end

end Cert.Reference4Ideal.OutGrad

namespace Cert.Kernel4Ideal.OutGrad

open Idealize.ShloMosaic Idealize.ShloMosaic.TcCoe Idealize.SL.Sem Cert.Kernel4Ideal.Gen Cert.OutGrad
open Cert.Reals hiding Args
open Cert.Reference4Ideal.OutGrad (last0 last1 last2 last3)

local instance : Cert.Pre_all_finite4.Facts := Cert.Pre_all_finite4.facts

/-- Where the arguments are finite, the kernel and the reference end holding the same arrays. -/
theorem values : Cert.algebraic_Kernel4Ideal_Reference4Ideal_pre_all_finite4 := by
  intro m s m' s' hpre hagree
  have hex (c : Dev nD) : ∃ A : Args, Holds m c A := by
    obtain ⟨⟨x, h0⟩, ⟨yc, h1⟩, ⟨w, h2⟩, ⟨g, h3⟩, ⟨dy, h4⟩⟩ := Cert.Pre_all_finite4.reals _ _ _ _ _ (hpre c)
    exact ⟨⟨x, yc, w, g, dy⟩, ⟨h0, h1, h2, h3, h4⟩⟩
  choose A H using hex
  refine ⟨fun c => (mx (A c).Dz : FVec Ideal S4096x1024 .bf16), fun c => (mx (A c).Dyc : FVec Ideal S4096x1024 .f32), fun c => (mx (A c).Dx : FVec Ideal S4096x1024 .f32),
    fun c => (mx (A c).Dln : FVec Ideal S8x1024 .f32), ?_, ?_⟩
  · exact (θ_run defs _ _).mono (fun _ h c => ⟨((h.1 c).1 4).trans (final4 (H c)), ((h.1 c).1 5).trans (final5 (H c)), ((h.1 c).1 6).trans (final6 (H c)),
      ((h.1 c).1 7).trans (final7 (H c)), h.2.1 c⟩) (θ_run_and (run_main m s) (frame m s))
  · refine (θ_run Cert.Reference4Ideal.defs _ _).mono (fun _ h c => ?_) (Cert.Reference4Ideal.Value.run (F := Ideal) m' s')
    obtain ⟨e0, e1, e2, e3, e4⟩ := hagree c
    have a0 := e0.trans (H c).a0
    have a1 := e1.trans (H c).a1
    have a2 := e2.trans (H c).a2
    have a3 := e3.trans (H c).a3
    have a4 := e4.trans (H c).a4
    exact ⟨(h c).1.trans (last0 a0 a1 a2 a3 a4), (h c).2.1.trans (last1 a0 a1 a2 a3 a4), (h c).2.2.1.trans (last2 a0 a1 a2 a3 a4),
      (h c).2.2.2.1.trans (last3 a0 a1 a2 a4), (h c).2.2.2.2⟩

theorem frame_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

end Cert.Kernel4Ideal.OutGrad

end
-- ==== Proof.ForwardBlock.lean ====
module

public import proofs.«01_k».proof.Defs
public import proofs.«01_k».proof.Proof.Norm
public import proofs.«01_k».proof.Proof.Gen.Kernel8
public import proofs.«01_k».proof.Proof.Gen.Kernel8Ideal.Frame
public import proofs.«01_k».proof.Proof.Gen.Reference8Ideal.Run

@[expose] public section

set_option maxRecDepth 16384

noncomputable section

namespace Cert.Kernel8Ideal.Ffn

open Idealize.ShloMosaic Idealize.ShloMosaic.TcCoe Idealize.SL.Sem Cert.Kernel8Ideal.Gen Cert.Extended

/-! ## The feed-forward layer with its residual and layer norm: eight blocks of rows, each in three blocks of hidden columns -/

/-- The gated hidden values. -/
def act (g u : ℕ → ℕ → EReal) : ℕ → ℕ → EReal := fun i j => g i j * Ideal.logistic (g i j) * u i j
/-- A sum of two arrays. -/
def plus (a b : ℕ → ℕ → EReal) : ℕ → ℕ → EReal := fun i j => a i j + b i j
/-- An array from row `s` on. -/
def below (s : ℕ) (a : ℕ → ℕ → EReal) : ℕ → ℕ → EReal := fun i j => a (s + i) j

/-! ### The body's arithmetic -/

theorem pay13_eq (v : FVec Ideal S256x1024 .bf16) : k0_pay13 v = v := by unfold k0_pay13; exact shapeCast_self _ _
theorem pay19_eq (v : FVec Ideal S256x1024 .bf16) : k0_pay19 v = v := by unfold k0_pay19; exact shapeCast_self _ _
theorem pay14_eq (x w : ℕ → ℕ → EReal) : k0_pay14 (ex x : FVec Ideal S256x1024 .bf16) (ex w : FVec Ideal S1024x1024 .bf16) = (ex (mul 1024 x w) : FVec Ideal S256x1024 .f32) := by
  funext i; unfold k0_pay14; rw [pay13_eq]; pointwise; rfl
theorem pay15_eq (x w : ℕ → ℕ → EReal) : k0_pay15 (ex x : FVec Ideal S256x1024 .bf16) (ex w : FVec Ideal S1024x1024 .bf16) = (ex (mul 1024 x w) : FVec Ideal S256x1024 .f32) := by
  funext i; unfold k0_pay15; rw [pay13_eq]; pointwise; rfl
theorem pay20_eq (x w : ℕ → ℕ → EReal) : k0_pay20 (ex x : FVec Ideal S256x1024 .bf16) (ex w : FVec Ideal S1024x1024 .bf16) = (ex (mul 1024 x w) : FVec Ideal S256x1024 .f32) := by
  funext i; unfold k0_pay20; rw [pay19_eq]; pointwise; rfl
theorem pay21_eq (x w : ℕ → ℕ → EReal) : k0_pay21 (ex x : FVec Ideal S256x1024 .bf16) (ex w : FVec Ideal S1024x1024 .bf16) = (ex (mul 1024 x w) : FVec Ideal S256x1024 .f32) := by
  funext i; unfold k0_pay21; rw [pay19_eq]; pointwise; rfl
theorem pay16_eq (x w : ℕ → ℕ → EReal) : k0_pay16 (ex x : FVec Ideal S256x1024 .bf16) (ex w : FVec Ideal S1024x1024 .bf16) = (ex (mul 1024 x w) : FVec Ideal S256x1024 .bf16) := by
  unfold k0_pay16; rw [pay14_eq]; funext i; pointwise; rfl
theorem pay17_eq (x w : ℕ → ℕ → EReal) : k0_pay17 (ex x : FVec Ideal S256x1024 .bf16) (ex w : FVec Ideal S1024x1024 .bf16) = (ex (mul 1024 x w) : FVec Ideal S256x1024 .bf16) := by
  unfold k0_pay17; rw [pay15_eq]; funext i; pointwise; rfl
theorem pay2_eq (g : ℕ → ℕ → EReal) : k0_pay2 (ex g : FVec Ideal S256x1024 .f32) = (ex g : FVec Ideal S256x1024 .bf16) := by
  funext i; unfold k0_pay2; pointwise; rfl
theorem pay3_eq (g : ℕ → ℕ → EReal) : k0_pay3 (ex g : FVec Ideal S256x1024 .f32) = (ex g : FVec Ideal S256x1024 .bf16) := by
  funext i; unfold k0_pay3; pointwise; rfl
theorem pay18_eq (x w v : ℕ → ℕ → EReal) : k0_pay18 (ex x : FVec Ideal S256x1024 .bf16) (ex w : FVec Ideal S1024x1024 .bf16) (ex v : FVec Ideal S1024x1024 .bf16) = (ex (act (mul 1024 x w) (mul 1024 x v)) : FVec Ideal S256x1024 .bf16) := by
  unfold k0_pay18; rw [pay14_eq, pay15_eq]; funext i; pointwise; rfl
theorem pay1_eq (h a d : ℕ → ℕ → EReal) : k0_pay1 (ex h : FVec Ideal S256x1024 .bf16) (ex a : FVec Ideal S256x1024 .f32) (ex d : FVec Ideal S1024x1024 .bf16) = (ex (plus a (mul 1024 h d)) : FVec Ideal S256x1024 .f32) := by
  funext i; unfold k0_pay1; pointwise; rfl
theorem pay4_eq (g u a d : ℕ → ℕ → EReal) : k0_pay4 (ex g : FVec Ideal S256x1024 .f32) (ex u : FVec Ideal S256x1024 .f32) (ex a : FVec Ideal S256x1024 .f32) (ex d : FVec Ideal S1024x1024 .bf16) = (ex (plus a (mul 1024 (act g u) d)) : FVec Ideal S256x1024 .f32) := by
  funext i; unfold k0_pay4; pointwise; rfl
theorem pay12_eq : (k0_pay12 : FVec Ideal S512x1024 .f32) = ex fun _ _ => 0 := by
  funext i; unfold k0_pay12; pointwise; rfl
theorem pay8_eq (v : FVec Ideal S1x1024 .f32) : k0_pay8 v = v := by unfold k0_pay8; exact shapeCast_self _ _
theorem pay9_eq (v : FVec Ideal S1x1024 .f32) : k0_pay9 v = v := by unfold k0_pay9; exact shapeCast_self _ _
theorem pay7_eq (z a : ℕ → ℕ → EReal) (g b : ℕ → EReal) : k0_pay7 (ex z : FVec Ideal S512x1024 .f32) (ex fun _ j => g j : FVec Ideal S1x1024 .f32) (ex fun _ j => b j : FVec Ideal S1x1024 .f32) (ex a : FVec Ideal S512x1024 .f32)
    = (ex (resid (norm z g b) a) : FVec Ideal S512x1024 .f32) := by
  funext i; unfold k0_pay7; pointwise; rfl
theorem pay10_eq (z a : ℕ → ℕ → EReal) (g b : ℕ → EReal) : k0_pay10 (ex z : FVec Ideal S512x1024 .f32) (ex fun _ j => g j : FVec Ideal S1x1024 .f32) (ex fun _ j => b j : FVec Ideal S1x1024 .f32) (ex a : FVec Ideal S512x1024 .f32)
    = (ex (fun i _ => ∑ k : Fin 1024, resid (norm z g b) a i k) : FVec Ideal S512x1 .f32) := by
  unfold k0_pay10; rw [pay7_eq]; funext i; pointwise; rfl
theorem pay11_eq : (k0_pay11 : FVec Ideal S512x1 .f32) = ex fun _ _ => Ideal.ofBits FTy.f32 0x44800000#32 := by
  funext i; unfold k0_pay11; pointwise; rfl
theorem pay5_eq (z : ℕ → ℕ → EReal) (g b : ℕ → EReal) :
    k0_pay5 (ex z : FVec Ideal S512x1024 .f32) (ex fun _ j => g j : FVec Ideal S1x1024 .f32) (ex fun _ j => b j : FVec Ideal S1x1024 .f32) (ex (fun i _ => ∑ k : Fin 1024, z i k) : FVec Ideal S512x1 .f32) (ex (fun _ _ => Ideal.ofBits FTy.f32 0x44800000#32) : FVec Ideal S512x1 .f32)
      = (ex (norm z g b) : FVec Ideal S512x1024 .f32) := by
  funext i; unfold k0_pay5; pointwise; rfl
theorem pay6_eq (z : ℕ → ℕ → EReal) (g b : ℕ → EReal) :
    k0_pay6 (ex z : FVec Ideal S512x1024 .f32) (ex fun _ j => g j : FVec Ideal S1x1024 .f32) (ex fun _ j => b j : FVec Ideal S1x1024 .f32) (ex (fun i _ => ∑ k : Fin 1024, z i k) : FVec Ideal S512x1 .f32) (ex (fun _ _ => Ideal.ofBits FTy.f32 0x44800000#32) : FVec Ideal S512x1 .f32)
      = (ex (norm z g b) : FVec Ideal S512x1024 .bf16) := by
  unfold k0_pay6; rw [pay5_eq]; funext i; pointwise; rfl

/-! ### Halves of a block of rows -/

/-- The upper and the lower 256 rows of a block of 512. -/
abbrev top : Rect S512x1024 := Rect.unit (s := S512x1024) ![0, 0] ![256, 1024] inb_S512x1024_S256x1024_0_0
abbrev bot : Rect S512x1024 := Rect.unit (s := S512x1024) ![256, 0] ![256, 1024] inb_S512x1024_S256x1024_256_0
abbrev full : Rect S512x1024 := Rect.unit (s := S512x1024) ![0, 0] ![512, 1024] inb_S512x1024_S512x1024_0_0

theorem mem_bot (y : S512x1024.Idx) (h : 256 ≤ (y 0 : Nat)) : y ∈ bot.set := by
  have h0 : (y 0 : Nat) < 512 := (y 0).isLt
  have h1 : (y 1 : Nat) < 1024 := (y 1).isLt
  rw [Rect.mem_set_unit]
  have k : (256 ≤ (y 0 : Nat) ∧ (y 0 : Nat) < 256 + 256) ∧ (0 ≤ (y 1 : Nat) ∧ (y 1 : Nat) < 0 + 1024) := by omega
  exact Fin.forall_fin_two.mpr k

theorem mem_top (y : S512x1024.Idx) (h : (y 0 : Nat) < 256) : y ∈ top.set := by
  have h1 : (y 1 : Nat) < 1024 := (y 1).isLt
  rw [Rect.mem_set_unit]
  have k : (0 ≤ (y 0 : Nat) ∧ (y 0 : Nat) < 0 + 256) ∧ (0 ≤ (y 1 : Nat) ∧ (y 1 : Nat) < 0 + 1024) := by omega
  exact Fin.forall_fin_two.mpr k

theorem not_mem_bot (y : S512x1024.Idx) (h : (y 0 : Nat) < 256) : y ∉ bot.set := by
  rw [Rect.mem_set_unit]
  intro k
  have k0 : 256 ≤ (y 0 : Nat) := (k 0).1
  omega

theorem not_mem_top (y : S512x1024.Idx) (h : 256 ≤ (y 0 : Nat)) : y ∉ top.set := by
  rw [Rect.mem_set_unit]
  intro k
  have k0 : (y 0 : Nat) < 0 + 256 := (k 0).2
  omega

/-- A store elsewhere leaves an element as the stores before it left it. -/
theorem off {S : Shape} {e : EltTy} (r : Rect S) (w : r.shape.Idx → Elt Ideal e) (L : List (View.Piece (Elt Ideal) S e)) {y : S.Idx}
    (h : y ∉ r.set) : View.canon (Val := Elt Ideal) (⟨r, w⟩ :: L) y = View.canon L y := View.canon_cons_of_not_mem ⟨r, w⟩ L h

/-- Two halves stored leave the array they are halves of. -/
theorem halves {e : EltTy} (f : S512x1024.Idx → Elt Ideal e) (t b : S256x1024.Idx → Elt Ideal e) (L : List (View.Piece (Elt Ideal) S512x1024 e))
    (ht : ∀ x, t x = f (top.emb x)) (hb : ∀ x, b x = f (bot.emb x)) : View.canon (Val := Elt Ideal) (⟨bot, b⟩ :: ⟨top, t⟩ :: L) = f := by
  funext y
  rcases Nat.lt_or_ge (y 0 : Nat) 256 with h | h
  · rw [View.canon_cons_of_not_mem ⟨bot, b⟩ _ (not_mem_bot y h)]
    obtain ⟨x, rfl⟩ : ∃ x, top.emb x = y := top.exists_idx_of_mem (mem_top y h)
    rw [View.canon_cons_emb]
    exact ht x
  · obtain ⟨x, rfl⟩ : ∃ x, bot.emb x = y := bot.exists_idx_of_mem (mem_bot y h)
    rw [View.canon_cons_emb]
    exact hb x

theorem at_half (a : ℕ → ℕ → EReal) (s i j : ℕ) : a (s + 1 * i) (0 + 1 * j) = a (s + i) j := by rw [Nat.one_mul, Nat.one_mul, Nat.zero_add]
theorem at_top (a : ℕ → ℕ → EReal) (i j : ℕ) : a (0 + 1 * i) (0 + 1 * j) = a i j := by rw [Nat.one_mul, Nat.one_mul, Nat.zero_add, Nat.zero_add]

theorem halves16 (a : ℕ → ℕ → EReal) (L : List (View.Piece (Elt Ideal) S512x1024 .bf16)) :
    View.canon (Val := Elt Ideal) (⟨bot, (ex (below 256 a) : FVec Ideal S256x1024 .bf16)⟩ :: ⟨top, (ex a : FVec Ideal S256x1024 .bf16)⟩ :: L) = (ex a : FVec Ideal S512x1024 .bf16) :=
  halves (ex a : FVec Ideal S512x1024 .bf16) _ _ L (fun x => (at_top a (x 0 : Nat) (x 1 : Nat)).symm) (fun x => (at_half a 256 (x 0 : Nat) (x 1 : Nat)).symm)
theorem halves32 (a : ℕ → ℕ → EReal) (L : List (View.Piece (Elt Ideal) S512x1024 .f32)) :
    View.canon (Val := Elt Ideal) (⟨bot, (ex (below 256 a) : FVec Ideal S256x1024 .f32)⟩ :: ⟨top, (ex a : FVec Ideal S256x1024 .f32)⟩ :: L) = (ex a : FVec Ideal S512x1024 .f32) :=
  halves (ex a : FVec Ideal S512x1024 .f32) _ _ L (fun x => (at_top a (x 0 : Nat) (x 1 : Nat)).symm) (fun x => (at_half a 256 (x 0 : Nat) (x 1 : Nat)).symm)

theorem top16 (a : ℕ → ℕ → EReal) : View.ld (Val := Elt Ideal) (e' := .bf16) (ex a : FVec Ideal S512x1024 .bf16) top = (ex a : FVec Ideal S256x1024 .bf16) := by
  funext x; exact at_top a (x 0 : Nat) (x 1 : Nat)
theorem bot16 (a : ℕ → ℕ → EReal) : View.ld (Val := Elt Ideal) (e' := .bf16) (ex a : FVec Ideal S512x1024 .bf16) bot = (ex (below 256 a) : FVec Ideal S256x1024 .bf16) := by
  funext x; exact at_half a 256 (x 0 : Nat) (x 1 : Nat)
theorem top32 (a : ℕ → ℕ → EReal) : View.ld (Val := Elt Ideal) (e' := .f32) (ex a : FVec Ideal S512x1024 .f32) top = (ex a : FVec Ideal S256x1024 .f32) := by
  funext x; exact at_top a (x 0 : Nat) (x 1 : Nat)
theorem bot32 (a : ℕ → ℕ → EReal) : View.ld (Val := Elt Ideal) (e' := .f32) (ex a : FVec Ideal S512x1024 .f32) bot = (ex (below 256 a) : FVec Ideal S256x1024 .f32) := by
  funext x; exact at_half a 256 (x 0 : Nat) (x 1 : Nat)

theorem mem_full (y : S512x1024.Idx) : y ∈ full.set := by
  have h0 : (y 0 : Nat) < 512 := (y 0).isLt
  have h1 : (y 1 : Nat) < 1024 := (y 1).isLt
  rw [Rect.mem_set_unit]
  have k : (0 ≤ (y 0 : Nat) ∧ (y 0 : Nat) < 0 + 512) ∧ (0 ≤ (y 1 : Nat) ∧ (y 1 : Nat) < 0 + 1024) := by omega
  exact Fin.forall_fin_two.mpr k

/-- The upper rows, read after the whole block was stored. -/
theorem zero_top (v : View sig .tc .vmem S512x1024 .f32) (a : ℕ → ℕ → EReal) :
    v.readCov [(⟨full, (ex a : FVec Ideal S512x1024 .f32)⟩ : View.Piece (Elt Ideal) S512x1024 .f32)] top.toLoadRect = (ex a : FVec Ideal S256x1024 .f32) := by
  rw [View.readCov_eq_canon_ld _ _ _ fun y => ?_, View.canon_unit_zero corner]
  · exact top32 a
  · exact ⟨_, List.mem_singleton_self _, mem_full y⟩

/-- The lower rows, read after the whole block and then its upper rows were stored. -/
theorem zero_bot (v : View sig .tc .vmem S512x1024 .f32) (a : ℕ → ℕ → EReal) (t : FVec Ideal S256x1024 .f32) :
    v.readCov [(⟨top, t⟩ : View.Piece (Elt Ideal) S512x1024 .f32), ⟨full, (ex a : FVec Ideal S512x1024 .f32)⟩] bot.toLoadRect = (ex (below 256 a) : FVec Ideal S256x1024 .f32) := by
  rw [View.readCov_eq_canon_ld _ _ _ fun y => ?_]
  · funext x
    have k : bot.emb x ∉ top.set := not_mem_top _ (Nat.le_add_right 256 (1 * (x 0 : Nat)))
    refine (off (e := .f32) top t _ k).trans ?_
    rw [View.canon_unit_zero corner]
    exact at_half a 256 (x 0 : Nat) (x 1 : Nat)
  · exact ⟨_, List.mem_cons_of_mem _ (List.mem_singleton_self _), mem_full y⟩

/-- The whole block, read after its two halves were stored. -/
theorem halves_read (v : View sig .tc .vmem S512x1024 .f32) (a : ℕ → ℕ → EReal) :
    v.readCov [(⟨bot, (ex (below 256 a) : FVec Ideal S256x1024 .f32)⟩ : View.Piece (Elt Ideal) S512x1024 .f32), ⟨top, (ex a : FVec Ideal S256x1024 .f32)⟩] full.toLoadRect = (ex a : FVec Ideal S512x1024 .f32) := by
  rw [View.readCov_eq_canon_ld _ _ _ fun y => ?_, halves32]
  · exact View.ld_unit_zero (S := S512x1024) corner _ _
  · rcases Nat.lt_or_ge (y 0 : Nat) 256 with h | h
    · exact ⟨_, List.mem_cons_of_mem _ (List.mem_singleton.mpr rfl), mem_top y h⟩
    · exact ⟨_, List.mem_cons_self, mem_bot y h⟩

section
variable (c : Dev nD) (i : grid0.Coords) (a2 : Memref sig .tc .vmem S512x1024 .f32) (h2 : a2.IsWhole) (a3 : Memref sig .tc .vmem S512x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (a11 : Memref sig .tc .vmem S512x1024 .f32) (h11 : a11.IsWhole) (a12 : Memref sig .tc .vmem S512x1024 .f32) (h12 : a12.IsWhole) (a13 : Memref sig .tc .vmem S512x1024 .bf16) (h13 : a13.IsWhole) (a14 : Memref sig .tc .vmem S512x1024 .bf16) (h14 : a14.IsWhole) (a15 : Memref sig .tc .vmem S512x1024 .bf16) (h15 : a15.IsWhole) (a16 : Memref sig .tc .vmem S512x1024 .f32) (h16 : a16.IsWhole)
  (z x w v d a : ℕ → ℕ → EReal) (g b p q : ℕ → EReal)

theorem scratchA (hc0 : cond0_0 i) (hc1 : ¬cond0_1 i) : sout0_A_0 (F := Ideal) c i a2 h2 a3 h3 a4 h4 a5 h5 a6 h6 a7 h7 a8 h8 a9 h9 a10 h10 a11 h11 a12 h12 a13 h13 a14 h14 a15 h15 a16 h16 hc0 hc1
      (ex z : FVec Ideal S512x1024 .f32) (ex x : FVec Ideal S512x1024 .bf16) (ex w : FVec Ideal S1024x1024 .bf16) (ex v : FVec Ideal S1024x1024 .bf16) (ex d : FVec Ideal S1024x1024 .bf16) (ex fun _ j => g j : FVec Ideal S1x1024 .f32) (ex fun _ j => b j : FVec Ideal S1x1024 .f32) (ex fun _ j => p j : FVec Ideal S1x1024 .f32) (ex fun _ j => q j : FVec Ideal S1x1024 .f32)
    = (ex (plus (fun _ _ => 0) (mul 1024 (act (mul 1024 x w) (mul 1024 x v)) d)) : FVec Ideal S512x1024 .f32) := by
  unfold sout0_A_0
  rw [View.read_writes_eq_canon _ _ _ (scover0_A_0 (F := Ideal) c i a2 h2 a3 h3 a4 h4 a5 h5 a6 h6 a7 h7 a8 h8 a9 h9 a10 h10 a11 h11 a12 h12 a13 h13 a14 h14 a15 h15 a16 h16 hc0 hc1 _ _ _ _ _ _ _ _ _)]
  unfold kernelRun0_A
  dsimp only
  sl_unfold_words
  simp only [View.readAt_eq_ld, h2.read_unread, h3.read_unread, h4.read_unread, h5.read_unread, h6.read_unread, h7.read_unread, h8.read_unread, h9.read_unread, h10.read_unread, h16.read_unread, View.ld_unit_zero (S := S512x1024) corner, View.ld_unit_zero (S := S1024x1024) corner, View.ld_unit_zero (S := S1x1024) corner]
  erw [top16, bot16]
  rw [pay18_eq, pay20_eq, pay21_eq, pay12_eq]
  rw [zero_top a16.view]
  rw [pay1_eq]
  rw [zero_bot a16.view, pay4_eq]
  exact halves32 _ _

theorem gateA (hc0 : cond0_0 i) (hc1 : ¬cond0_1 i) : out0_A_12 (F := Ideal) c i a2 h2 a3 h3 a4 h4 a5 h5 a6 h6 a7 h7 a8 h8 a9 h9 a10 h10 a11 h11 a12 h12 a13 h13 a14 h14 a15 h15 a16 h16 hc0 hc1
      (ex z : FVec Ideal S512x1024 .f32) (ex x : FVec Ideal S512x1024 .bf16) (ex w : FVec Ideal S1024x1024 .bf16) (ex v : FVec Ideal S1024x1024 .bf16) (ex d : FVec Ideal S1024x1024 .bf16) (ex fun _ j => g j : FVec Ideal S1x1024 .f32) (ex fun _ j => b j : FVec Ideal S1x1024 .f32) (ex fun _ j => p j : FVec Ideal S1x1024 .f32) (ex fun _ j => q j : FVec Ideal S1x1024 .f32)
    = (ex (mul 1024 x w) : FVec Ideal S512x1024 .bf16) := by
  unfold out0_A_12
  rw [View.read_writes_eq_canon _ _ _ (cover0_A_12 (F := Ideal) c i a2 h2 a3 h3 a4 h4 a5 h5 a6 h6 a7 h7 a8 h8 a9 h9 a10 h10 a11 h11 a12 h12 a13 h13 a14 h14 a15 h15 a16 h16 hc0 hc1 _ _ _ _ _ _ _ _ _)]
  unfold kernelRun0_A
  dsimp only
  sl_unfold_words
  simp only [View.readAt_eq_ld, h2.read_unread, h3.read_unread, h4.read_unread, h5.read_unread, h6.read_unread, h7.read_unread, h8.read_unread, h9.read_unread, h10.read_unread, h16.read_unread, View.ld_unit_zero (S := S512x1024) corner, View.ld_unit_zero (S := S1024x1024) corner, View.ld_unit_zero (S := S1x1024) corner]
  erw [top16, bot16]
  rw [pay16_eq, pay20_eq, pay2_eq]
  exact halves16 _ _

theorem upA (hc0 : cond0_0 i) (hc1 : ¬cond0_1 i) : out0_A_13 (F := Ideal) c i a2 h2 a3 h3 a4 h4 a5 h5 a6 h6 a7 h7 a8 h8 a9 h9 a10 h10 a11 h11 a12 h12 a13 h13 a14 h14 a15 h15 a16 h16 hc0 hc1
      (ex z : FVec Ideal S512x1024 .f32) (ex x : FVec Ideal S512x1024 .bf16) (ex w : FVec Ideal S1024x1024 .bf16) (ex v : FVec Ideal S1024x1024 .bf16) (ex d : FVec Ideal S1024x1024 .bf16) (ex fun _ j => g j : FVec Ideal S1x1024 .f32) (ex fun _ j => b j : FVec Ideal S1x1024 .f32) (ex fun _ j => p j : FVec Ideal S1x1024 .f32) (ex fun _ j => q j : FVec Ideal S1x1024 .f32)
    = (ex (mul 1024 x v) : FVec Ideal S512x1024 .bf16) := by
  unfold out0_A_13
  rw [View.read_writes_eq_canon _ _ _ (cover0_A_13 (F := Ideal) c i a2 h2 a3 h3 a4 h4 a5 h5 a6 h6 a7 h7 a8 h8 a9 h9 a10 h10 a11 h11 a12 h12 a13 h13 a14 h14 a15 h15 a16 h16 hc0 hc1 _ _ _ _ _ _ _ _ _)]
  unfold kernelRun0_A
  dsimp only
  sl_unfold_words
  simp only [View.readAt_eq_ld, h2.read_unread, h3.read_unread, h4.read_unread, h5.read_unread, h6.read_unread, h7.read_unread, h8.read_unread, h9.read_unread, h10.read_unread, h16.read_unread, View.ld_unit_zero (S := S512x1024) corner, View.ld_unit_zero (S := S1024x1024) corner, View.ld_unit_zero (S := S1x1024) corner]
  erw [top16, bot16]
  rw [pay17_eq, pay21_eq, pay3_eq]
  exact halves16 _ _

theorem scratchB (hc0 : ¬cond0_0 i) (hc1 : ¬cond0_1 i) : sout0_B_0 (F := Ideal) c i a2 h2 a3 h3 a4 h4 a5 h5 a6 h6 a7 h7 a8 h8 a9 h9 a10 h10 a11 h11 a12 h12 a13 h13 a14 h14 a15 h15 a16 h16 hc0 hc1
      (ex z : FVec Ideal S512x1024 .f32) (ex x : FVec Ideal S512x1024 .bf16) (ex w : FVec Ideal S1024x1024 .bf16) (ex v : FVec Ideal S1024x1024 .bf16) (ex d : FVec Ideal S1024x1024 .bf16) (ex fun _ j => g j : FVec Ideal S1x1024 .f32) (ex fun _ j => b j : FVec Ideal S1x1024 .f32) (ex fun _ j => p j : FVec Ideal S1x1024 .f32) (ex fun _ j => q j : FVec Ideal S1x1024 .f32) (ex a : FVec Ideal S512x1024 .f32)
    = (ex (plus a (mul 1024 (act (mul 1024 x w) (mul 1024 x v)) d)) : FVec Ideal S512x1024 .f32) := by
  unfold sout0_B_0
  rw [View.read_writes_eq_canon _ _ _ (scover0_B_0 (F := Ideal) c i a2 h2 a3 h3 a4 h4 a5 h5 a6 h6 a7 h7 a8 h8 a9 h9 a10 h10 a11 h11 a12 h12 a13 h13 a14 h14 a15 h15 a16 h16 hc0 hc1 _ _ _ _ _ _ _ _ _ _)]
  unfold kernelRun0_B
  dsimp only
  sl_unfold_words
  simp only [View.readAt_eq_ld, h2.read_unread, h3.read_unread, h4.read_unread, h5.read_unread, h6.read_unread, h7.read_unread, h8.read_unread, h9.read_unread, h10.read_unread, h16.read_unread, View.ld_unit_zero (S := S512x1024) corner, View.ld_unit_zero (S := S1024x1024) corner, View.ld_unit_zero (S := S1x1024) corner]
  erw [top16, bot16, top32, bot32]
  rw [pay18_eq, pay20_eq, pay21_eq, pay1_eq, pay4_eq]
  exact halves32 _ _

theorem gateB (hc0 : ¬cond0_0 i) (hc1 : ¬cond0_1 i) : out0_B_12 (F := Ideal) c i a2 h2 a3 h3 a4 h4 a5 h5 a6 h6 a7 h7 a8 h8 a9 h9 a10 h10 a11 h11 a12 h12 a13 h13 a14 h14 a15 h15 a16 h16 hc0 hc1
      (ex z : FVec Ideal S512x1024 .f32) (ex x : FVec Ideal S512x1024 .bf16) (ex w : FVec Ideal S1024x1024 .bf16) (ex v : FVec Ideal S1024x1024 .bf16) (ex d : FVec Ideal S1024x1024 .bf16) (ex fun _ j => g j : FVec Ideal S1x1024 .f32) (ex fun _ j => b j : FVec Ideal S1x1024 .f32) (ex fun _ j => p j : FVec Ideal S1x1024 .f32) (ex fun _ j => q j : FVec Ideal S1x1024 .f32) (ex a : FVec Ideal S512x1024 .f32)
    = (ex (mul 1024 x w) : FVec Ideal S512x1024 .bf16) := by
  unfold out0_B_12
  rw [View.read_writes_eq_canon _ _ _ (cover0_B_12 (F := Ideal) c i a2 h2 a3 h3 a4 h4 a5 h5 a6 h6 a7 h7 a8 h8 a9 h9 a10 h10 a11 h11 a12 h12 a13 h13 a14 h14 a15 h15 a16 h16 hc0 hc1 _ _ _ _ _ _ _ _ _ _)]
  unfold kernelRun0_B
  dsimp only
  sl_unfold_words
  simp only [View.readAt_eq_ld, h2.read_unread, h3.read_unread, h4.read_unread, h5.read_unread, h6.read_unread, h7.read_unread, h8.read_unread, h9.read_unread, h10.read_unread, h16.read_unread, View.ld_unit_zero (S := S512x1024) corner, View.ld_unit_zero (S := S1024x1024) corner, View.ld_unit_zero (S := S1x1024) corner]
  erw [top16, bot16]
  rw [pay16_eq, pay20_eq, pay2_eq]
  exact halves16 _ _

theorem upB (hc0 : ¬cond0_0 i) (hc1 : ¬cond0_1 i) : out0_B_13 (F := Ideal) c i a2 h2 a3 h3 a4 h4 a5 h5 a6 h6 a7 h7 a8 h8 a9 h9 a10 h10 a11 h11 a12 h12 a13 h13 a14 h14 a15 h15 a16 h16 hc0 hc1
      (ex z : FVec Ideal S512x1024 .f32) (ex x : FVec Ideal S512x1024 .bf16) (ex w : FVec Ideal S1024x1024 .bf16) (ex v : FVec Ideal S1024x1024 .bf16) (ex d : FVec Ideal S1024x1024 .bf16) (ex fun _ j => g j : FVec Ideal S1x1024 .f32) (ex fun _ j => b j : FVec Ideal S1x1024 .f32) (ex fun _ j => p j : FVec Ideal S1x1024 .f32) (ex fun _ j => q j : FVec Ideal S1x1024 .f32) (ex a : FVec Ideal S512x1024 .f32)
    = (ex (mul 1024 x v) : FVec Ideal S512x1024 .bf16) := by
  unfold out0_B_13
  rw [View.read_writes_eq_canon _ _ _ (cover0_B_13 (F := Ideal) c i a2 h2 a3 h3 a4 h4 a5 h5 a6 h6 a7 h7 a8 h8 a9 h9 a10 h10 a11 h11 a12 h12 a13 h13 a14 h14 a15 h15 a16 h16 hc0 hc1 _ _ _ _ _ _ _ _ _ _)]
  unfold kernelRun0_B
  dsimp only
  sl_unfold_words
  simp only [View.readAt_eq_ld, h2.read_unread, h3.read_unread, h4.read_unread, h5.read_unread, h6.read_unread, h7.read_unread, h8.read_unread, h9.read_unread, h10.read_unread, h16.read_unread, View.ld_unit_zero (S := S512x1024) corner, View.ld_unit_zero (S := S1024x1024) corner, View.ld_unit_zero (S := S1x1024) corner]
  erw [top16, bot16]
  rw [pay17_eq, pay21_eq, pay3_eq]
  exact halves16 _ _

theorem scratchC (hc0 : ¬cond0_0 i) (hc1 : cond0_1 i) : sout0_C_0 (F := Ideal) c i a2 h2 a3 h3 a4 h4 a5 h5 a6 h6 a7 h7 a8 h8 a9 h9 a10 h10 a11 h11 a12 h12 a13 h13 a14 h14 a15 h15 a16 h16 hc0 hc1
      (ex z : FVec Ideal S512x1024 .f32) (ex x : FVec Ideal S512x1024 .bf16) (ex w : FVec Ideal S1024x1024 .bf16) (ex v : FVec Ideal S1024x1024 .bf16) (ex d : FVec Ideal S1024x1024 .bf16) (ex fun _ j => g j : FVec Ideal S1x1024 .f32) (ex fun _ j => b j : FVec Ideal S1x1024 .f32) (ex fun _ j => p j : FVec Ideal S1x1024 .f32) (ex fun _ j => q j : FVec Ideal S1x1024 .f32) (ex a : FVec Ideal S512x1024 .f32)
    = (ex (plus a (mul 1024 (act (mul 1024 x w) (mul 1024 x v)) d)) : FVec Ideal S512x1024 .f32) := by
  unfold sout0_C_0
  rw [View.read_writes_eq_canon _ _ _ (scover0_C_0 (F := Ideal) c i a2 h2 a3 h3 a4 h4 a5 h5 a6 h6 a7 h7 a8 h8 a9 h9 a10 h10 a11 h11 a12 h12 a13 h13 a14 h14 a15 h15 a16 h16 hc0 hc1 _ _ _ _ _ _ _ _ _ _)]
  unfold kernelRun0_C
  dsimp only
  sl_unfold_words
  simp only [View.readAt_eq_ld, h2.read_unread, h3.read_unread, h4.read_unread, h5.read_unread, h6.read_unread, h7.read_unread, h8.read_unread, h9.read_unread, h10.read_unread, h16.read_unread, View.ld_unit_zero (S := S512x1024) corner, View.ld_unit_zero (S := S1024x1024) corner, View.ld_unit_zero (S := S1x1024) corner]
  erw [top16, bot16, top32, bot32]
  rw [pay18_eq, pay20_eq, pay21_eq, pay1_eq, pay4_eq]
  exact halves32 _ _

theorem gateC (hc0 : ¬cond0_0 i) (hc1 : cond0_1 i) : out0_C_12 (F := Ideal) c i a2 h2 a3 h3 a4 h4 a5 h5 a6 h6 a7 h7 a8 h8 a9 h9 a10 h10 a11 h11 a12 h12 a13 h13 a14 h14 a15 h15 a16 h16 hc0 hc1
      (ex z : FVec Ideal S512x1024 .f32) (ex x : FVec Ideal S512x1024 .bf16) (ex w : FVec Ideal S1024x1024 .bf16) (ex v : FVec Ideal S1024x1024 .bf16) (ex d : FVec Ideal S1024x1024 .bf16) (ex fun _ j => g j : FVec Ideal S1x1024 .f32) (ex fun _ j => b j : FVec Ideal S1x1024 .f32) (ex fun _ j => p j : FVec Ideal S1x1024 .f32) (ex fun _ j => q j : FVec Ideal S1x1024 .f32) (ex a : FVec Ideal S512x1024 .f32)
    = (ex (mul 1024 x w) : FVec Ideal S512x1024 .bf16) := by
  unfold out0_C_12
  rw [View.read_writes_eq_canon _ _ _ (cover0_C_12 (F := Ideal) c i a2 h2 a3 h3 a4 h4 a5 h5 a6 h6 a7 h7 a8 h8 a9 h9 a10 h10 a11 h11 a12 h12 a13 h13 a14 h14 a15 h15 a16 h16 hc0 hc1 _ _ _ _ _ _ _ _ _ _)]
  unfold kernelRun0_C
  dsimp only
  sl_unfold_words
  simp only [View.readAt_eq_ld, h2.read_unread, h3.read_unread, h4.read_unread, h5.read_unread, h6.read_unread, h7.read_unread, h8.read_unread, h9.read_unread, h10.read_unread, h16.read_unread, View.ld_unit_zero (S := S512x1024) corner, View.ld_unit_zero (S := S1024x1024) corner, View.ld_unit_zero (S := S1x1024) corner]
  erw [top16, bot16]
  rw [pay16_eq, pay20_eq, pay2_eq]
  exact halves16 _ _

theorem upC (hc0 : ¬cond0_0 i) (hc1 : cond0_1 i) : out0_C_13 (F := Ideal) c i a2 h2 a3 h3 a4 h4 a5 h5 a6 h6 a7 h7 a8 h8 a9 h9 a10 h10 a11 h11 a12 h12 a13 h13 a14 h14 a15 h15 a16 h16 hc0 hc1
      (ex z : FVec Ideal S512x1024 .f32) (ex x : FVec Ideal S512x1024 .bf16) (ex w : FVec Ideal S1024x1024 .bf16) (ex v : FVec Ideal S1024x1024 .bf16) (ex d : FVec Ideal S1024x1024 .bf16) (ex fun _ j => g j : FVec Ideal S1x1024 .f32) (ex fun _ j => b j : FVec Ideal S1x1024 .f32) (ex fun _ j => p j : FVec Ideal S1x1024 .f32) (ex fun _ j => q j : FVec Ideal S1x1024 .f32) (ex a : FVec Ideal S512x1024 .f32)
    = (ex (mul 1024 x v) : FVec Ideal S512x1024 .bf16) := by
  unfold out0_C_13
  rw [View.read_writes_eq_canon _ _ _ (cover0_C_13 (F := Ideal) c i a2 h2 a3 h3 a4 h4 a5 h5 a6 h6 a7 h7 a8 h8 a9 h9 a10 h10 a11 h11 a12 h12 a13 h13 a14 h14 a15 h15 a16 h16 hc0 hc1 _ _ _ _ _ _ _ _ _ _)]
  unfold kernelRun0_C
  dsimp only
  sl_unfold_words
  simp only [View.readAt_eq_ld, h2.read_unread, h3.read_unread, h4.read_unread, h5.read_unread, h6.read_unread, h7.read_unread, h8.read_unread, h9.read_unread, h10.read_unread, h16.read_unread, View.ld_unit_zero (S := S512x1024) corner, View.ld_unit_zero (S := S1024x1024) corner, View.ld_unit_zero (S := S1x1024) corner]
  erw [top16, bot16]
  rw [pay17_eq, pay21_eq, pay3_eq]
  exact halves16 _ _

theorem sum (hc0 : ¬cond0_0 i) (hc1 : cond0_1 i) : out0_C_9 (F := Ideal) c i a2 h2 a3 h3 a4 h4 a5 h5 a6 h6 a7 h7 a8 h8 a9 h9 a10 h10 a11 h11 a12 h12 a13 h13 a14 h14 a15 h15 a16 h16 hc0 hc1
      (ex z : FVec Ideal S512x1024 .f32) (ex x : FVec Ideal S512x1024 .bf16) (ex w : FVec Ideal S1024x1024 .bf16) (ex v : FVec Ideal S1024x1024 .bf16) (ex d : FVec Ideal S1024x1024 .bf16) (ex fun _ j => g j : FVec Ideal S1x1024 .f32) (ex fun _ j => b j : FVec Ideal S1x1024 .f32) (ex fun _ j => p j : FVec Ideal S1x1024 .f32) (ex fun _ j => q j : FVec Ideal S1x1024 .f32) (ex a : FVec Ideal S512x1024 .f32)
    = (ex (resid (norm z p q) (plus a (mul 1024 (act (mul 1024 x w) (mul 1024 x v)) d))) : FVec Ideal S512x1024 .f32) := by
  unfold out0_C_9
  rw [View.read_writes_eq_canon _ _ _ (cover0_C_9 (F := Ideal) c i a2 h2 a3 h3 a4 h4 a5 h5 a6 h6 a7 h7 a8 h8 a9 h9 a10 h10 a11 h11 a12 h12 a13 h13 a14 h14 a15 h15 a16 h16 hc0 hc1 _ _ _ _ _ _ _ _ _ _)]
  unfold kernelRun0_C
  dsimp only
  sl_unfold_words
  simp only [View.readAt_eq_ld, h2.read_unread, h3.read_unread, h4.read_unread, h5.read_unread, h6.read_unread, h7.read_unread, h8.read_unread, h9.read_unread, h10.read_unread, h16.read_unread, View.ld_unit_zero (S := S512x1024) corner, View.ld_unit_zero (S := S1024x1024) corner, View.ld_unit_zero (S := S1x1024) corner]
  erw [top16, bot16, top32, bot32]
  rw [pay18_eq, pay20_eq, pay21_eq, pay1_eq, pay4_eq]
  erw [halves_read _ (plus a (mul 1024 (act (mul 1024 x w) (mul 1024 x v)) d))]
  rw [View.canon_unit_zero corner, pay7_eq]

theorem normed (hc0 : ¬cond0_0 i) (hc1 : cond0_1 i) : out0_C_10 (F := Ideal) c i a2 h2 a3 h3 a4 h4 a5 h5 a6 h6 a7 h7 a8 h8 a9 h9 a10 h10 a11 h11 a12 h12 a13 h13 a14 h14 a15 h15 a16 h16 hc0 hc1
      (ex z : FVec Ideal S512x1024 .f32) (ex x : FVec Ideal S512x1024 .bf16) (ex w : FVec Ideal S1024x1024 .bf16) (ex v : FVec Ideal S1024x1024 .bf16) (ex d : FVec Ideal S1024x1024 .bf16) (ex fun _ j => g j : FVec Ideal S1x1024 .f32) (ex fun _ j => b j : FVec Ideal S1x1024 .f32) (ex fun _ j => p j : FVec Ideal S1x1024 .f32) (ex fun _ j => q j : FVec Ideal S1x1024 .f32) (ex a : FVec Ideal S512x1024 .f32)
    = (ex (norm (resid (norm z p q) (plus a (mul 1024 (act (mul 1024 x w) (mul 1024 x v)) d))) g b) : FVec Ideal S512x1024 .f32) := by
  unfold out0_C_10
  rw [View.read_writes_eq_canon _ _ _ (cover0_C_10 (F := Ideal) c i a2 h2 a3 h3 a4 h4 a5 h5 a6 h6 a7 h7 a8 h8 a9 h9 a10 h10 a11 h11 a12 h12 a13 h13 a14 h14 a15 h15 a16 h16 hc0 hc1 _ _ _ _ _ _ _ _ _ _)]
  unfold kernelRun0_C
  dsimp only
  sl_unfold_words
  simp only [View.readAt_eq_ld, h2.read_unread, h3.read_unread, h4.read_unread, h5.read_unread, h6.read_unread, h7.read_unread, h8.read_unread, h9.read_unread, h10.read_unread, h16.read_unread, View.ld_unit_zero (S := S512x1024) corner, View.ld_unit_zero (S := S1024x1024) corner, View.ld_unit_zero (S := S1x1024) corner]
  erw [top16, bot16, top32, bot32]
  rw [pay18_eq, pay20_eq, pay21_eq, pay1_eq, pay4_eq]
  erw [halves_read _ (plus a (mul 1024 (act (mul 1024 x w) (mul 1024 x v)) d))]
  rw [View.canon_unit_zero corner, pay7_eq, pay10_eq, pay8_eq, pay9_eq, pay11_eq, pay5_eq]

theorem rounded (hc0 : ¬cond0_0 i) (hc1 : cond0_1 i) : out0_C_11 (F := Ideal) c i a2 h2 a3 h3 a4 h4 a5 h5 a6 h6 a7 h7 a8 h8 a9 h9 a10 h10 a11 h11 a12 h12 a13 h13 a14 h14 a15 h15 a16 h16 hc0 hc1
      (ex z : FVec Ideal S512x1024 .f32) (ex x : FVec Ideal S512x1024 .bf16) (ex w : FVec Ideal S1024x1024 .bf16) (ex v : FVec Ideal S1024x1024 .bf16) (ex d : FVec Ideal S1024x1024 .bf16) (ex fun _ j => g j : FVec Ideal S1x1024 .f32) (ex fun _ j => b j : FVec Ideal S1x1024 .f32) (ex fun _ j => p j : FVec Ideal S1x1024 .f32) (ex fun _ j => q j : FVec Ideal S1x1024 .f32) (ex a : FVec Ideal S512x1024 .f32)
    = (ex (norm (resid (norm z p q) (plus a (mul 1024 (act (mul 1024 x w) (mul 1024 x v)) d))) g b) : FVec Ideal S512x1024 .bf16) := by
  unfold out0_C_11
  rw [View.read_writes_eq_canon _ _ _ (cover0_C_11 (F := Ideal) c i a2 h2 a3 h3 a4 h4 a5 h5 a6 h6 a7 h7 a8 h8 a9 h9 a10 h10 a11 h11 a12 h12 a13 h13 a14 h14 a15 h15 a16 h16 hc0 hc1 _ _ _ _ _ _ _ _ _ _)]
  unfold kernelRun0_C
  dsimp only
  sl_unfold_words
  simp only [View.readAt_eq_ld, h2.read_unread, h3.read_unread, h4.read_unread, h5.read_unread, h6.read_unread, h7.read_unread, h8.read_unread, h9.read_unread, h10.read_unread, h16.read_unread, View.ld_unit_zero (S := S512x1024) corner, View.ld_unit_zero (S := S1024x1024) corner, View.ld_unit_zero (S := S1x1024) corner]
  erw [top16, bot16, top32, bot32]
  rw [pay18_eq, pay20_eq, pay21_eq, pay1_eq, pay4_eq]
  erw [halves_read _ (plus a (mul 1024 (act (mul 1024 x w) (mul 1024 x v)) d))]
  rw [View.canon_unit_zero corner, pay7_eq, pay10_eq, pay8_eq, pay9_eq, pay11_eq, pay6_eq]
end

end Cert.Kernel8Ideal.Ffn

end
-- ==== Proof.Forward.lean ====
module

public import proofs.«01_k».proof.Proof.ForwardBlock

@[expose] public section

set_option maxRecDepth 16384

noncomputable section

namespace Cert.Kernel8Ideal.Ffn

open Idealize.ShloMosaic Idealize.ShloMosaic.TcCoe Idealize.SL.Sem Cert.Kernel8Ideal.Gen Cert.Extended

/-! ## The sum over blocks of hidden columns -/

/-- An array from column `s` on. -/
def right (s : ℕ) (a : ℕ → ℕ → EReal) : ℕ → ℕ → EReal := fun i j => a i (s + j)
/-- What the hidden columns of block `k` contribute to block `r` of rows. -/
def share (x w v d : ℕ → ℕ → EReal) (r k : ℕ) : ℕ → ℕ → EReal :=
  mul 1024 (act (mul 1024 (below (512 * r) x) (right (1024 * k) w)) (mul 1024 (below (512 * r) x) (right (1024 * k) v))) (below (1024 * k) d)
/-- The contributions of blocks 0 to `k`, added in order. -/
def upto (x w v d : ℕ → ℕ → EReal) (r : ℕ) : ℕ → ℕ → ℕ → EReal
  | 0 => plus (fun _ _ => 0) (share x w v d r 0)
  | k + 1 => plus (upto x w v d r k) (share x w v d r (k + 1))
/-- The layer's product. -/
def product (x w v d : ℕ → ℕ → EReal) : ℕ → ℕ → EReal := mul 3072 (act (mul 1024 x w) (mul 1024 x v)) d

theorem sum_blocks (f : ℕ → EReal) : ∑ k : Fin 3072, f k = 0 + (∑ k : Fin 1024, f (1024 * 0 + k)) + (∑ k : Fin 1024, f (1024 * 1 + k)) + ∑ k : Fin 1024, f (1024 * 2 + k) := by
  simp only [Fin.sum_univ_eq_sum_range (fun k => f k), Fin.sum_univ_eq_sum_range (fun k => f (1024 * 0 + k)), Fin.sum_univ_eq_sum_range (fun k => f (1024 * 1 + k)), Fin.sum_univ_eq_sum_range (fun k => f (1024 * 2 + k))]
  rw [show 3072 = 1024 + 1024 + 1024 from rfl, Finset.sum_range_add, Finset.sum_range_add]
  simp only [Nat.mul_zero, Nat.zero_add, Nat.mul_one, zero_add]

theorem upto_two (x w v d : ℕ → ℕ → EReal) (r i j : ℕ) : upto x w v d r 2 i j = product x w v d (512 * r + i) j :=
  (sum_blocks fun k => act (mul 1024 x w) (mul 1024 x v) (512 * r + i) k * d k j).symm

theorem last_eq (x w v d : ℕ → ℕ → EReal) (r : ℕ) :
    plus (upto x w v d r 1) (share x w v d r 2) = below (512 * r) (product x w v d) := by
  funext i j
  exact upto_two x w v d r i j

/-! ## The blocks, read off the arrays -/

theorem ix0 : ∀ t : Fin cfg0.N, win0_0.index t 0 = t.val / 3 ∧ win0_0.index t 1 = 0 := by decide +kernel
theorem ix1 : ∀ t : Fin cfg0.N, win0_1.index t 0 = t.val / 3 ∧ win0_1.index t 1 = 0 := by decide +kernel
theorem ix2 : ∀ t : Fin cfg0.N, win0_2.index t 0 = 0 ∧ win0_2.index t 1 = t.val % 3 := by decide +kernel
theorem ix3 : ∀ t : Fin cfg0.N, win0_3.index t 0 = 0 ∧ win0_3.index t 1 = t.val % 3 := by decide +kernel
theorem ix4 : ∀ t : Fin cfg0.N, win0_4.index t 0 = t.val % 3 ∧ win0_4.index t 1 = 0 := by decide +kernel
theorem ix5 : ∀ t : Fin cfg0.N, win0_5.index t 0 = 0 ∧ win0_5.index t 1 = 0 := by decide +kernel
theorem ix6 : ∀ t : Fin cfg0.N, win0_6.index t 0 = 0 ∧ win0_6.index t 1 = 0 := by decide +kernel
theorem ix7 : ∀ t : Fin cfg0.N, win0_7.index t 0 = 0 ∧ win0_7.index t 1 = 0 := by decide +kernel
theorem ix8 : ∀ t : Fin cfg0.N, win0_8.index t 0 = 0 ∧ win0_8.index t 1 = 0 := by decide +kernel
theorem ix9 : ∀ t : Fin cfg0.N, win0_9.index t 0 = t.val / 3 ∧ win0_9.index t 1 = 0 := by decide +kernel
theorem ix10 : ∀ t : Fin cfg0.N, win0_10.index t 0 = t.val / 3 ∧ win0_10.index t 1 = 0 := by decide +kernel
theorem ix11 : ∀ t : Fin cfg0.N, win0_11.index t 0 = t.val / 3 ∧ win0_11.index t 1 = 0 := by decide +kernel
theorem ix12 : ∀ t : Fin cfg0.N, win0_12.index t 0 = t.val / 3 ∧ win0_12.index t 1 = t.val % 3 := by decide +kernel
theorem ix13 : ∀ t : Fin cfg0.N, win0_13.index t 0 = t.val / 3 ∧ win0_13.index t 1 = t.val % 3 := by decide +kernel

/-- A block of whole columns, read off its array. -/
theorem at_cols (a : ℕ → ℕ → EReal) {u v s : ℕ} (R C i j : ℕ) (hu : u = 0) (hv : v = s) : a (u * R + 1 * i) (v * C + 1 * j) = a i (C * s + j) := by
  rw [hu, hv, Nat.mul_comm s C, Nat.one_mul, Nat.one_mul, Nat.zero_mul, Nat.zero_add]

/-- A block of rows and columns, read off its array. -/
theorem at_block (a : ℕ → ℕ → EReal) {u v r s : ℕ} (R C i j : ℕ) (hu : u = r) (hv : v = s) : a (u * R + 1 * i) (v * C + 1 * j) = a (R * r + i) (C * s + j) := by
  rw [hu, hv, Nat.mul_comm s C, Nat.mul_comm r R, Nat.one_mul, Nat.one_mul]

section
variable {m : (ℓ : Loc nD τ sig) → Buf (Elt Ideal) ℓ} {c : Dev nD} {z w v d : ℕ → ℕ → EReal} {g b p q : ℕ → EReal}
  (ha0 : m ((c.tc : Thread nD τ).loc main_arg0) = (ex z : FVec Ideal S4096x1024 .f32))
  (ha1 : m ((c.tc : Thread nD τ).loc main_arg1) = (ex w : FVec Ideal S1024x3072 .f32))
  (ha2 : m ((c.tc : Thread nD τ).loc main_arg2) = (ex v : FVec Ideal S1024x3072 .f32))
  (ha3 : m ((c.tc : Thread nD τ).loc main_arg3) = (ex d : FVec Ideal S3072x1024 .f32))
  (ha4 : m ((c.tc : Thread nD τ).loc main_arg4) = (ev p : FVec Ideal S1024 .f32))
  (ha5 : m ((c.tc : Thread nD τ).loc main_arg5) = (ev q : FVec Ideal S1024 .f32))
  (ha6 : m ((c.tc : Thread nD τ).loc main_arg6) = (ev g : FVec Ideal S1024 .f32))
  (ha7 : m ((c.tc : Thread nD τ).loc main_arg7) = (ev b : FVec Ideal S1024 .f32))

include ha0 ha4 ha5 in
/-- The normed input, rounded on the host. -/
theorem input : V m c main_v22 = (ex (norm z p q) : FVec Ideal S4096x1024 .bf16) := by
  simp only [V, hostOps0, List.flatten_cons, List.flatten_nil, List.append_nil, List.cons_append, List.nil_append]
  after_results_simp
  rw [ha0, ha4, ha5]
  funext i
  pointwise
  rfl

/-! The weights after their rounding on the host, and the norms' parameters as rows. -/

include ha1 in
theorem gateWeight : V m c main_v23 = (ex w : FVec Ideal S1024x3072 .bf16) := by
  simp only [V, hostOps0, List.flatten_cons, List.flatten_nil, List.append_nil, List.cons_append, List.nil_append]
  after_results_simp
  show (truncf .bf16 (m ((c.tc : Thread nD τ).loc main_arg1) : FVec Ideal S1024x3072 .f32) bitsLt_bf16_f32 : FVec Ideal S1024x3072 .bf16) = _
  rw [ha1]
  rfl

include ha2 in
theorem upWeight : V m c main_v24 = (ex v : FVec Ideal S1024x3072 .bf16) := by
  simp only [V, hostOps0, List.flatten_cons, List.flatten_nil, List.append_nil, List.cons_append, List.nil_append]
  after_results_simp
  show (truncf .bf16 (m ((c.tc : Thread nD τ).loc main_arg2) : FVec Ideal S1024x3072 .f32) bitsLt_bf16_f32 : FVec Ideal S1024x3072 .bf16) = _
  rw [ha2]
  rfl

include ha3 in
theorem downWeight : V m c main_v25 = (ex d : FVec Ideal S3072x1024 .bf16) := by
  simp only [V, hostOps0, List.flatten_cons, List.flatten_nil, List.append_nil, List.cons_append, List.nil_append]
  after_results_simp
  show (truncf .bf16 (m ((c.tc : Thread nD τ).loc main_arg3) : FVec Ideal S3072x1024 .f32) bitsLt_bf16_f32 : FVec Ideal S3072x1024 .bf16) = _
  rw [ha3]
  rfl

include ha6 in
theorem scale : V m c main_v26 = (ex fun _ j => g j : FVec Ideal S1x1024 .f32) := by
  simp only [V, hostOps0, List.flatten_cons, List.flatten_nil, List.append_nil, List.cons_append, List.nil_append]
  after_results_simp
  show (broadcastInDim S1x1024 ![1] bcast_S1024_S1x1024_1 (m ((c.tc : Thread nD τ).loc main_arg6) : FVec Ideal S1024 .f32) : FVec Ideal S1x1024 .f32) = _
  rw [ha6]
  funext i
  pointwise
  rfl

include ha7 in
theorem shift : V m c main_v27 = (ex fun _ j => b j : FVec Ideal S1x1024 .f32) := by
  simp only [V, hostOps0, List.flatten_cons, List.flatten_nil, List.append_nil, List.cons_append, List.nil_append]
  after_results_simp
  show (broadcastInDim S1x1024 ![1] bcast_S1024_S1x1024_1 (m ((c.tc : Thread nD τ).loc main_arg7) : FVec Ideal S1024 .f32) : FVec Ideal S1x1024 .f32) = _
  rw [ha7]
  funext i
  pointwise
  rfl

include ha4 in
theorem scale1 : V m c main_v28 = (ex fun _ j => p j : FVec Ideal S1x1024 .f32) := by
  simp only [V, hostOps0, List.flatten_cons, List.flatten_nil, List.append_nil, List.cons_append, List.nil_append]
  after_results_simp
  show (broadcastInDim S1x1024 ![1] bcast_S1024_S1x1024_1 (m ((c.tc : Thread nD τ).loc main_arg4) : FVec Ideal S1024 .f32) : FVec Ideal S1x1024 .f32) = _
  rw [ha4]
  funext i
  pointwise
  rfl

include ha5 in
theorem shift1 : V m c main_v29 = (ex fun _ j => q j : FVec Ideal S1x1024 .f32) := by
  simp only [V, hostOps0, List.flatten_cons, List.flatten_nil, List.append_nil, List.cons_append, List.nil_append]
  after_results_simp
  show (broadcastInDim S1x1024 ![1] bcast_S1024_S1x1024_1 (m ((c.tc : Thread nD τ).loc main_arg5) : FVec Ideal S1024 .f32) : FVec Ideal S1x1024 .f32) = _
  rw [ha5]
  funext i
  pointwise
  rfl

include ha0 in
theorem read0 (t : Fin cfg0.N) : iblk m c 0 t = (ex (below (512 * (t.val / 3)) z) : FVec Ideal S512x1024 .f32) := by
  funext j
  unfold iblk
  rw [View.read_apply]
  show V m c main_arg0 _ = _
  rw [V_main_arg0, ha0]
  exact at_rows z 512 1024 (j 0).val (j 1).val (ix0 t).1 (ix0 t).2

include ha0 ha4 ha5 in
theorem read1 (t : Fin cfg0.N) : iblk m c 1 t = (ex (below (512 * (t.val / 3)) (norm z p q)) : FVec Ideal S512x1024 .bf16) := by
  funext j
  unfold iblk
  rw [View.read_apply]
  show V m c main_v22 _ = _
  rw [input ha0 ha4 ha5]
  exact at_rows (norm z p q) 512 1024 (j 0).val (j 1).val (ix1 t).1 (ix1 t).2

include ha1 in
theorem read2 (t : Fin cfg0.N) : iblk m c 2 t = (ex (right (1024 * (t.val % 3)) w) : FVec Ideal S1024x1024 .bf16) := by
  funext j
  unfold iblk
  rw [View.read_apply]
  show V m c main_v23 _ = _
  rw [gateWeight ha1]
  exact at_cols w 1024 1024 (j 0).val (j 1).val (ix2 t).1 (ix2 t).2

include ha2 in
theorem read3 (t : Fin cfg0.N) : iblk m c 3 t = (ex (right (1024 * (t.val % 3)) v) : FVec Ideal S1024x1024 .bf16) := by
  funext j
  unfold iblk
  rw [View.read_apply]
  show V m c main_v24 _ = _
  rw [upWeight ha2]
  exact at_cols v 1024 1024 (j 0).val (j 1).val (ix3 t).1 (ix3 t).2

include ha3 in
theorem read4 (t : Fin cfg0.N) : iblk m c 4 t = (ex (below (1024 * (t.val % 3)) d) : FVec Ideal S1024x1024 .bf16) := by
  funext j
  unfold iblk
  rw [View.read_apply]
  show V m c main_v25 _ = _
  rw [downWeight ha3]
  exact at_rows d 1024 1024 (j 0).val (j 1).val (ix4 t).1 (ix4 t).2

include ha6 in
theorem read5 (t : Fin cfg0.N) : iblk m c 5 t = (ex fun _ j => g j : FVec Ideal S1x1024 .f32) := by
  funext j
  unfold iblk
  rw [View.read_apply]
  show V m c main_v26 _ = _
  rw [scale ha6]
  exact at_whole (fun _ j => g j) 1 1024 (j 0).val (j 1).val (ix5 t).1 (ix5 t).2

include ha7 in
theorem read6 (t : Fin cfg0.N) : iblk m c 6 t = (ex fun _ j => b j : FVec Ideal S1x1024 .f32) := by
  funext j
  unfold iblk
  rw [View.read_apply]
  show V m c main_v27 _ = _
  rw [shift ha7]
  exact at_whole (fun _ j => b j) 1 1024 (j 0).val (j 1).val (ix6 t).1 (ix6 t).2

include ha4 in
theorem read7 (t : Fin cfg0.N) : iblk m c 7 t = (ex fun _ j => p j : FVec Ideal S1x1024 .f32) := by
  funext j
  unfold iblk
  rw [View.read_apply]
  show V m c main_v28 _ = _
  rw [scale1 ha4]
  exact at_whole (fun _ j => p j) 1 1024 (j 0).val (j 1).val (ix7 t).1 (ix7 t).2

include ha5 in
theorem read8 (t : Fin cfg0.N) : iblk m c 8 t = (ex fun _ j => q j : FVec Ideal S1x1024 .f32) := by
  funext j
  unfold iblk
  rw [View.read_apply]
  show V m c main_v29 _ = _
  rw [shift1 ha5]
  exact at_whole (fun _ j => q j) 1 1024 (j 0).val (j 1).val (ix8 t).1 (ix8 t).2

/-! ## The accumulator between points -/

include ha0 ha1 ha2 ha3 ha4 ha5 ha6 ha7

theorem carry0 (t : Fin cfg0.N) (h : t.val % 3 = 0) : (outsAt0 m c t.val t.isLt).2.2.2.2.2 = (ex (upto (norm z p q) w v d (t.val / 3) 0) : FVec Ideal S512x1024 .f32) := by
  rw [outsAt0_A m c t h (by omega)]
  dsimp only
  rw [read0 ha0, read1 ha0 ha4 ha5, read2 ha1, read3 ha2, read4 ha3, read5 ha6, read6 ha7, read7 ha4, read8 ha5, scratchA, h]
  rfl

theorem carry1 (t : Fin cfg0.N) (h : t.val % 3 = 1) : (outsAt0 m c t.val t.isLt).2.2.2.2.2 = (ex (upto (norm z p q) w v d (t.val / 3) 1) : FVec Ideal S512x1024 .f32) := by
  have hN : cfg0.N = 24 := N_0
  have ht := t.isLt
  have e := carry0 ha0 ha1 ha2 ha3 ha4 ha5 ha6 ha7 ⟨t.val - 1, by omega⟩ (by show (t.val - 1) % 3 = 0; omega)
  rw [outsAt0_B m c t (by omega) (by omega)]
  dsimp only
  rw [read0 ha0, read1 ha0 ha4 ha5, read2 ha1, read3 ha2, read4 ha3, read5 ha6, read6 ha7, read7 ha4, read8 ha5]
  erw [e]
  rw [scratchB, h, show (t.val - 1) / 3 = t.val / 3 by omega]
  rfl

/-- What the last two points of a block of rows find in the accumulator. -/
theorem found2 (t : Fin cfg0.N) (h : t.val % 3 = 2) (k : t.val - 1 < cfg0.N) : (outsAt0 m c (t.val - 1) k).2.2.2.2.2 = (ex (upto (norm z p q) w v d (t.val / 3) 1) : FVec Ideal S512x1024 .f32) := by
  have e := carry1 ha0 ha1 ha2 ha3 ha4 ha5 ha6 ha7 ⟨t.val - 1, k⟩ (by show (t.val - 1) % 3 = 1; omega)
  rw [show t.val / 3 = (t.val - 1) / 3 by omega]
  exact e

theorem flushed9 (t : Fin cfg0.N) (hf : (cfg0.win 9).flush t = true) :
    (dats m 0 c).flushed 9 t = ((cfg0.win 9).blk t).view.read (Elt Ideal) (ex (resid (norm z p q) (product (norm z p q) w v d)) : FVec Ideal S4096x1024 .f32) := by
  have h : t.val % 3 = 2 := (flush0_9 t).mp hf
  show (cfg0.win 9).cut (grid0.coords t) ((dats m 0 c).after 9 t) = _
  rw [after0_9, outsAt0_C m c t (by omega) h]
  dsimp only
  rw [read0 ha0, read1 ha0 ha4 ha5, read2 ha1, read3 ha2, read4 ha3, read5 ha6, read6 ha7, read7 ha4, read8 ha5, found2 ha0 ha1 ha2 ha3 ha4 ha5 ha6 ha7 t h, sum]
  funext j
  rw [View.read_apply]
  rw [show plus (upto (norm z p q) w v d (t.val / 3) 1) (mul 1024 (act (mul 1024 (below (512 * (t.val / 3)) (norm z p q)) (right (1024 * (t.val % 3)) w)) (mul 1024 (below (512 * (t.val / 3)) (norm z p q)) (right (1024 * (t.val % 3)) v))) (below (1024 * (t.val % 3)) d)) = below (512 * (t.val / 3)) (product (norm z p q) w v d) by rw [h]; exact last_eq (norm z p q) w v d (t.val / 3)]
  exact (at_rows (resid (norm z p q) (product (norm z p q) w v d)) 512 1024 (j 0).val (j 1).val (ix9 t).1 (ix9 t).2).symm

theorem flushed10 (t : Fin cfg0.N) (hf : (cfg0.win 10).flush t = true) :
    (dats m 0 c).flushed 10 t = ((cfg0.win 10).blk t).view.read (Elt Ideal) (ex (norm (resid (norm z p q) (product (norm z p q) w v d)) g b) : FVec Ideal S4096x1024 .f32) := by
  have h : t.val % 3 = 2 := (flush0_10 t).mp hf
  show (cfg0.win 10).cut (grid0.coords t) ((dats m 0 c).after 10 t) = _
  rw [after0_10, outsAt0_C m c t (by omega) h]
  dsimp only
  rw [read0 ha0, read1 ha0 ha4 ha5, read2 ha1, read3 ha2, read4 ha3, read5 ha6, read6 ha7, read7 ha4, read8 ha5, found2 ha0 ha1 ha2 ha3 ha4 ha5 ha6 ha7 t h, normed]
  funext j
  rw [View.read_apply]
  rw [show plus (upto (norm z p q) w v d (t.val / 3) 1) (mul 1024 (act (mul 1024 (below (512 * (t.val / 3)) (norm z p q)) (right (1024 * (t.val % 3)) w)) (mul 1024 (below (512 * (t.val / 3)) (norm z p q)) (right (1024 * (t.val % 3)) v))) (below (1024 * (t.val % 3)) d)) = below (512 * (t.val / 3)) (product (norm z p q) w v d) by rw [h]; exact last_eq (norm z p q) w v d (t.val / 3)]
  exact (at_rows (norm (resid (norm z p q) (product (norm z p q) w v d)) g b) 512 1024 (j 0).val (j 1).val (ix10 t).1 (ix10 t).2).symm

theorem flushed11 (t : Fin cfg0.N) (hf : (cfg0.win 11).flush t = true) :
    (dats m 0 c).flushed 11 t = ((cfg0.win 11).blk t).view.read (Elt Ideal) (ex (norm (resid (norm z p q) (product (norm z p q) w v d)) g b) : FVec Ideal S4096x1024 .bf16) := by
  have h : t.val % 3 = 2 := (flush0_11 t).mp hf
  show (cfg0.win 11).cut (grid0.coords t) ((dats m 0 c).after 11 t) = _
  rw [after0_11, outsAt0_C m c t (by omega) h]
  dsimp only
  rw [read0 ha0, read1 ha0 ha4 ha5, read2 ha1, read3 ha2, read4 ha3, read5 ha6, read6 ha7, read7 ha4, read8 ha5, found2 ha0 ha1 ha2 ha3 ha4 ha5 ha6 ha7 t h, rounded]
  funext j
  rw [View.read_apply]
  rw [show plus (upto (norm z p q) w v d (t.val / 3) 1) (mul 1024 (act (mul 1024 (below (512 * (t.val / 3)) (norm z p q)) (right (1024 * (t.val % 3)) w)) (mul 1024 (below (512 * (t.val / 3)) (norm z p q)) (right (1024 * (t.val % 3)) v))) (below (1024 * (t.val % 3)) d)) = below (512 * (t.val / 3)) (product (norm z p q) w v d) by rw [h]; exact last_eq (norm z p q) w v d (t.val / 3)]
  exact (at_rows (norm (resid (norm z p q) (product (norm z p q) w v d)) g b) 512 1024 (j 0).val (j 1).val (ix11 t).1 (ix11 t).2).symm

theorem flushed12 (t : Fin cfg0.N) (_ : (cfg0.win 12).flush t = true) :
    (dats m 0 c).flushed 12 t = ((cfg0.win 12).blk t).view.read (Elt Ideal) (ex (mul 1024 (norm z p q) w) : FVec Ideal S4096x3072 .bf16) := by
  show (cfg0.win 12).cut (grid0.coords t) ((dats m 0 c).after 12 t) = _
  have e : (outsAt0 m c t.val t.isLt).2.2.2.1 = (ex (mul 1024 (below (512 * (t.val / 3)) (norm z p q)) (right (1024 * (t.val % 3)) w)) : FVec Ideal S512x1024 .bf16) := by
    by_cases h0 : t.val % 3 = 0
    · rw [outsAt0_A m c t h0 (by omega)]
      dsimp only
      rw [read0 ha0, read1 ha0 ha4 ha5, read2 ha1, read3 ha2, read4 ha3, read5 ha6, read6 ha7, read7 ha4, read8 ha5, gateA]
    · by_cases h1 : t.val % 3 = 2
      · rw [outsAt0_C m c t h0 h1]
        dsimp only
        rw [read0 ha0, read1 ha0 ha4 ha5, read2 ha1, read3 ha2, read4 ha3, read5 ha6, read6 ha7, read7 ha4, read8 ha5, found2 ha0 ha1 ha2 ha3 ha4 ha5 ha6 ha7 t h1, gateC]
      · have hN : cfg0.N = 24 := N_0
        have ht := t.isLt
        have e := carry0 ha0 ha1 ha2 ha3 ha4 ha5 ha6 ha7 ⟨t.val - 1, by omega⟩ (by show (t.val - 1) % 3 = 0; omega)
        rw [outsAt0_B m c t h0 h1]
        dsimp only
        rw [read0 ha0, read1 ha0 ha4 ha5, read2 ha1, read3 ha2, read4 ha3, read5 ha6, read6 ha7, read7 ha4, read8 ha5]
        erw [e]
        rw [gateB]
  rw [after0_12, e]
  funext j
  rw [View.read_apply]
  exact (at_block (mul 1024 (norm z p q) w) 512 1024 (j 0).val (j 1).val (ix12 t).1 (ix12 t).2).symm

theorem flushed13 (t : Fin cfg0.N) (_ : (cfg0.win 13).flush t = true) :
    (dats m 0 c).flushed 13 t = ((cfg0.win 13).blk t).view.read (Elt Ideal) (ex (mul 1024 (norm z p q) v) : FVec Ideal S4096x3072 .bf16) := by
  show (cfg0.win 13).cut (grid0.coords t) ((dats m 0 c).after 13 t) = _
  have e : (outsAt0 m c t.val t.isLt).2.2.2.2.1 = (ex (mul 1024 (below (512 * (t.val / 3)) (norm z p q)) (right (1024 * (t.val % 3)) v)) : FVec Ideal S512x1024 .bf16) := by
    by_cases h0 : t.val % 3 = 0
    · rw [outsAt0_A m c t h0 (by omega)]
      dsimp only
      rw [read0 ha0, read1 ha0 ha4 ha5, read2 ha1, read3 ha2, read4 ha3, read5 ha6, read6 ha7, read7 ha4, read8 ha5, upA]
    · by_cases h1 : t.val % 3 = 2
      · rw [outsAt0_C m c t h0 h1]
        dsimp only
        rw [read0 ha0, read1 ha0 ha4 ha5, read2 ha1, read3 ha2, read4 ha3, read5 ha6, read6 ha7, read7 ha4, read8 ha5, found2 ha0 ha1 ha2 ha3 ha4 ha5 ha6 ha7 t h1, upC]
      · have hN : cfg0.N = 24 := N_0
        have ht := t.isLt
        have e := carry0 ha0 ha1 ha2 ha3 ha4 ha5 ha6 ha7 ⟨t.val - 1, by omega⟩ (by show (t.val - 1) % 3 = 0; omega)
        rw [outsAt0_B m c t h0 h1]
        dsimp only
        rw [read0 ha0, read1 ha0 ha4 ha5, read2 ha1, read3 ha2, read4 ha3, read5 ha6, read6 ha7, read7 ha4, read8 ha5]
        erw [e]
        rw [upB]
  rw [after0_13, e]
  funext j
  rw [View.read_apply]
  exact (at_block (mul 1024 (norm z p q) v) 512 1024 (j 0).val (j 1).val (ix13 t).1 (ix13 t).2).symm

omit ha0 ha1 ha2 ha3 ha4 ha5 ha6 ha7

/-- The point at which a row's block is finished. -/
theorem last_point (i : S4096x1024.Idx) : ∃ t : Fin cfg0.N, t.val = 3 * ((i 0 : Nat) / 512) + 2 := by
  have h0 : (i 0 : Nat) < 4096 := (i 0).isLt
  have hN : cfg0.N = 24 := N_0
  exact ⟨⟨3 * ((i 0 : Nat) / 512) + 2, by omega⟩, rfl⟩

theorem held (i : S4096x1024.Idx) {t u v : ℕ} (ht : t = 3 * ((i 0 : Nat) / 512) + 2) (hu : u = t / 3) (hv : v = 0) :
    (u * 512 ≤ (i 0 : Nat) ∧ (i 0 : Nat) < u * 512 + 512) ∧ (v * 1024 ≤ (i 1 : Nat) ∧ (i 1 : Nat) < v * 1024 + 1024) := by
  have h1 : (i 1 : Nat) < 1024 := (i 1).isLt
  omega

/-- The point that holds a row and a hidden column. -/
theorem hidden_point (i : S4096x3072.Idx) : ∃ t : Fin cfg0.N, t.val = 3 * ((i 0 : Nat) / 512) + (i 1 : Nat) / 1024 := by
  have h0 : (i 0 : Nat) < 4096 := (i 0).isLt
  have h1 : (i 1 : Nat) < 3072 := (i 1).isLt
  have hN : cfg0.N = 24 := N_0
  exact ⟨⟨3 * ((i 0 : Nat) / 512) + (i 1 : Nat) / 1024, by omega⟩, rfl⟩

theorem hidden_held (i : S4096x3072.Idx) {t u v : ℕ} (ht : t = 3 * ((i 0 : Nat) / 512) + (i 1 : Nat) / 1024) (hu : u = t / 3) (hv : v = t % 3) :
    (u * 512 ≤ (i 0 : Nat) ∧ (i 0 : Nat) < u * 512 + 512) ∧ (v * 1024 ≤ (i 1 : Nat) ∧ (i 1 : Nat) < v * 1024 + 1024) := by
  have h1 : (i 1 : Nat) < 3072 := (i 1).isLt
  omega

include ha0 ha1 ha2 ha3 ha4 ha5 ha6 ha7

theorem final9 : (dats m 0 c).arrAt 9 cfg0.N = (ex (resid (norm z p q) (product (norm z p q) w v d)) : FVec Ideal S4096x1024 .f32) :=
  (dats m 0 c).arrAt_eq_of_cover 9 _ (flushed9 ha0 ha1 ha2 ha3 ha4 ha5 ha6 ha7) fun i => by
    obtain ⟨t, ht⟩ := last_point i
    refine ⟨t, (flush0_9 t).mpr (by omega), ?_⟩
    show i ∈ ((View.whole main_v30_0).slice (win0_9.rect t)).set
    rw [View.set_slice_whole, Rect.mem_set_unit]
    have h := held i ht (ix9 t).1 (ix9 t).2
    exact Fin.forall_fin_two.mpr h

theorem final10 : (dats m 0 c).arrAt 10 cfg0.N = (ex (norm (resid (norm z p q) (product (norm z p q) w v d)) g b) : FVec Ideal S4096x1024 .f32) :=
  (dats m 0 c).arrAt_eq_of_cover 10 _ (flushed10 ha0 ha1 ha2 ha3 ha4 ha5 ha6 ha7) fun i => by
    obtain ⟨t, ht⟩ := last_point i
    refine ⟨t, (flush0_10 t).mpr (by omega), ?_⟩
    show i ∈ ((View.whole main_v30_1).slice (win0_10.rect t)).set
    rw [View.set_slice_whole, Rect.mem_set_unit]
    have h := held i ht (ix10 t).1 (ix10 t).2
    exact Fin.forall_fin_two.mpr h

theorem final11 : (dats m 0 c).arrAt 11 cfg0.N = (ex (norm (resid (norm z p q) (product (norm z p q) w v d)) g b) : FVec Ideal S4096x1024 .bf16) :=
  (dats m 0 c).arrAt_eq_of_cover 11 _ (flushed11 ha0 ha1 ha2 ha3 ha4 ha5 ha6 ha7) fun i => by
    obtain ⟨t, ht⟩ := last_point i
    refine ⟨t, (flush0_11 t).mpr (by omega), ?_⟩
    show i ∈ ((View.whole main_v30_2).slice (win0_11.rect t)).set
    rw [View.set_slice_whole, Rect.mem_set_unit]
    have h := held i ht (ix11 t).1 (ix11 t).2
    exact Fin.forall_fin_two.mpr h

theorem final12 : (dats m 0 c).arrAt 12 cfg0.N = (ex (mul 1024 (norm z p q) w) : FVec Ideal S4096x3072 .bf16) :=
  (dats m 0 c).arrAt_eq_of_cover 12 _ (flushed12 ha0 ha1 ha2 ha3 ha4 ha5 ha6 ha7) fun i => by
    obtain ⟨t, ht⟩ := hidden_point i
    refine ⟨t, flush0_12 t, ?_⟩
    show i ∈ ((View.whole main_v30_3).slice (win0_12.rect t)).set
    rw [View.set_slice_whole, Rect.mem_set_unit]
    have h := hidden_held i ht (ix12 t).1 (ix12 t).2
    exact Fin.forall_fin_two.mpr h

theorem final13 : (dats m 0 c).arrAt 13 cfg0.N = (ex (mul 1024 (norm z p q) v) : FVec Ideal S4096x3072 .bf16) :=
  (dats m 0 c).arrAt_eq_of_cover 13 _ (flushed13 ha0 ha1 ha2 ha3 ha4 ha5 ha6 ha7) fun i => by
    obtain ⟨t, ht⟩ := hidden_point i
    refine ⟨t, flush0_13 t, ?_⟩
    show i ∈ ((View.whole main_v30_4).slice (win0_13.rect t)).set
    rw [View.set_slice_whole, Rect.mem_set_unit]
    have h := hidden_held i ht (ix13 t).1 (ix13 t).2
    exact Fin.forall_fin_two.mpr h
end

end Cert.Kernel8Ideal.Ffn

namespace Cert.Reference8Ideal.Ffn

open Idealize.ShloMosaic Idealize.ShloMosaic.TcCoe Idealize.SL.Sem Cert.Reference8Ideal.Gen Cert.Extended Cert.Kernel8Ideal.Ffn

/-! ## The reference -/

theorem host_norm (z : ℕ → ℕ → EReal) (g b : ℕ → EReal) :
    addf (mulf (mulf (subf (ex z : FVec Ideal S4096x1024 .f32) (broadcastInDim S4096x1024 ![0, 1] bcast_S4096x1_S4096x1024_0_1 (Host.divf (broadcastInDim S4096x1 ![0] bcast_S4096_S4096x1_0 (Host.reduceAdd (ex z : FVec Ideal S4096x1024 .f32) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (ex z : FVec Ideal S4096x1024 .f32) (broadcastInDim S4096x1024 ![0, 1] bcast_S4096x1_S4096x1024_0_1 (Host.divf (broadcastInDim S4096x1 ![0] bcast_S4096_S4096x1_0 (Host.reduceAdd (ex z : FVec Ideal S4096x1024 .f32) (constant S_ .f32 0x00000000#32) reducesTo_S4096x1024_S4096_d1 h_S_)) (broadcastInDim S4096x1 ![] bcast_S_S4096x1 (constant S_ .f32 0x44800000#32))))) (subf (ex z : FVec Ideal S4096x1024 .f32) (broadcastInDim S4096x1024 ![0, 1] bcast_S4096x1_S4096x1024_0_1 (Host.divf (broadcastInDim S4096x1 ![0] bcast_S4096_S4096x1_0 (Host.reduceAdd (ex z : FVec Ideal S4096x1024 .f32) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 (ev g : FVec Ideal S1024 .f32)))) (broadcastInDim S4096x1024 ![0, 1] bcast_S1x1024_S4096x1024_0_1 (broadcastInDim S1x1024 ![1] bcast_S1024_S1x1024_1 (ev b : FVec Ideal S1024 .f32)))
      = (ex (norm z g b) : FVec Ideal S4096x1024 .f32) := by
  funext i
  pointwise
  rfl

theorem host_up (x w : ℕ → ℕ → EReal) :
    Host.dotGeneral dot_S4096x1024_S1024x3072_S4096x3072_1_0_0_1_n_n none (ex x : FVec Ideal S4096x1024 .f32) (ex w : FVec Ideal S1024x3072 .f32) = (ex (mul 1024 x w) : FVec Ideal S4096x3072 .f32) := by
  funext i
  pointwise
  rfl

/-- A pre-activation as the reference computes it. -/
theorem host_pre {x : FVec Ideal S4096x1024 .f32} {s t : FVec Ideal S1024 .f32} {y : FVec Ideal S1024x3072 .f32} {z w : ℕ → ℕ → EReal} {g b : ℕ → EReal}
    (hx : x = ex z) (hs : s = ev g) (ht : t = ev b) (hy : y = ex w) :
    truncf .bf16 (Host.dotGeneral dot_S4096x1024_S1024x3072_S4096x3072_1_0_0_1_n_n none (addf (mulf (mulf (subf x (broadcastInDim S4096x1024 ![0, 1] bcast_S4096x1_S4096x1024_0_1 (Host.divf (broadcastInDim S4096x1 ![0] bcast_S4096_S4096x1_0 (Host.reduceAdd x (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf x (broadcastInDim S4096x1024 ![0, 1] bcast_S4096x1_S4096x1024_0_1 (Host.divf (broadcastInDim S4096x1 ![0] bcast_S4096_S4096x1_0 (Host.reduceAdd x (constant S_ .f32 0x00000000#32) reducesTo_S4096x1024_S4096_d1 h_S_)) (broadcastInDim S4096x1 ![] bcast_S_S4096x1 (constant S_ .f32 0x44800000#32))))) (subf x (broadcastInDim S4096x1024 ![0, 1] bcast_S4096x1_S4096x1024_0_1 (Host.divf (broadcastInDim S4096x1 ![0] bcast_S4096_S4096x1_0 (Host.reduceAdd x (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 s))) (broadcastInDim S4096x1024 ![0, 1] bcast_S1x1024_S4096x1024_0_1 (broadcastInDim S1x1024 ![1] bcast_S1024_S1x1024_1 t))) y) bitsLt_bf16_f32
      = (ex (mul 1024 (norm z g b) w) : FVec Ideal S4096x3072 .bf16) := by
  rw [hx, hs, ht, hy, host_norm, host_up]
  rfl

theorem host_act (a u : ℕ → ℕ → EReal) :
    mulf (mulf (ex a : FVec Ideal S4096x3072 .f32) (Host.divf (broadcastInDim S4096x3072 ![] bcast_S_S4096x3072 (constant (F := Ideal) S_ .f32 0x3F800000#32)) (addf (broadcastInDim S4096x3072 ![] bcast_S_S4096x3072 (constant (F := Ideal) S_ .f32 0x3F800000#32)) (Host.exp (Host.negf (ex a : FVec Ideal S4096x3072 .f32)))))) (ex u : FVec Ideal S4096x3072 .f32)
      = (ex (act a u) : FVec Ideal S4096x3072 .f32) := by
  funext i
  pointwise
  rfl

theorem host_sum (x h d : ℕ → ℕ → EReal) :
    addf (mulf (broadcastInDim S4096x1024 ![] bcast_S_S4096x1024 (constant (F := Ideal) S_ .f32 0x3FD744FD#32)) (ex x : FVec Ideal S4096x1024 .f32))
        (Host.dotGeneral dot_S4096x3072_S3072x1024_S4096x1024_1_0_0_1_n_n none (ex h : FVec Ideal S4096x3072 .f32) (ex d : FVec Ideal S3072x1024 .f32))
      = (ex (resid x (mul 3072 h d)) : FVec Ideal S4096x1024 .f32) := by
  funext i
  pointwise
  rfl

section
variable {m : (ℓ : Loc nD τ sig) → Buf (Elt Ideal) ℓ} {c : Dev nD} {z w v d : ℕ → ℕ → EReal} {g b p q : ℕ → EReal}
  (ha0 : m ((c.tc : Thread nD τ).loc main_arg0) = (ex z : FVec Ideal S4096x1024 .f32))
  (ha1 : m ((c.tc : Thread nD τ).loc main_arg1) = (ex w : FVec Ideal S1024x3072 .f32))
  (ha2 : m ((c.tc : Thread nD τ).loc main_arg2) = (ex v : FVec Ideal S1024x3072 .f32))
  (ha3 : m ((c.tc : Thread nD τ).loc main_arg3) = (ex d : FVec Ideal S3072x1024 .f32))
  (ha4 : m ((c.tc : Thread nD τ).loc main_arg4) = (ev p : FVec Ideal S1024 .f32))
  (ha5 : m ((c.tc : Thread nD τ).loc main_arg5) = (ev q : FVec Ideal S1024 .f32))
  (ha6 : m ((c.tc : Thread nD τ).loc main_arg6) = (ev g : FVec Ideal S1024 .f32))
  (ha7 : m ((c.tc : Thread nD τ).loc main_arg7) = (ev b : FVec Ideal S1024 .f32))

include ha0 ha1 ha2 ha3 ha4 ha5

theorem result0 : Value.res_main_v29 (F := Ideal) m c = (ex (resid (norm z p q) (product (norm z p q) w v d)) : FVec Ideal S4096x1024 .f32) := by
  unfold Value.res_main_v29
  rw [ha0, ha1, ha2, ha3, ha4, ha5]
  erw [host_norm]
  erw [host_up, host_up, host_act]
  exact host_sum _ _ _

include ha6 ha7

theorem result1 : Value.res_main_v51 (F := Ideal) m c = (ex (norm (resid (norm z p q) (product (norm z p q) w v d)) g b) : FVec Ideal S4096x1024 .f32) := by
  have e := result0 ha0 ha1 ha2 ha3 ha4 ha5
  unfold Value.res_main_v29 at e
  unfold Value.res_main_v51
  rw [e, ha6, ha7]
  exact host_norm _ _ _

theorem result2 : Value.res_main_v52 (F := Ideal) m c = (ex (norm (resid (norm z p q) (product (norm z p q) w v d)) g b) : FVec Ideal S4096x1024 .bf16) := by
  have e := result1 ha0 ha1 ha2 ha3 ha4 ha5 ha6 ha7
  unfold Value.res_main_v51 at e
  unfold Value.res_main_v52
  rw [e]
  rfl
end

end Cert.Reference8Ideal.Ffn

namespace Cert.Kernel8Ideal.Ffn

open Idealize.ShloMosaic Idealize.ShloMosaic.TcCoe Idealize.SL.Sem Cert.Kernel8Ideal.Gen Cert.Extended Cert.Reference8Ideal.Ffn

/-- The kernel and the reference end holding the same arrays. -/
theorem values : Cert.algebraic_Kernel8Ideal_Reference8Ideal := by
  intro m s m' s' _ hagree
  choose z hz using fun c : Dev nD => exists_ex (m ((c.tc : Thread nD τ).loc main_arg0) : FVec Ideal S4096x1024 .f32)
  choose w hw using fun c : Dev nD => exists_ex (m ((c.tc : Thread nD τ).loc main_arg1) : FVec Ideal S1024x3072 .f32)
  choose v hv using fun c : Dev nD => exists_ex (m ((c.tc : Thread nD τ).loc main_arg2) : FVec Ideal S1024x3072 .f32)
  choose d hd using fun c : Dev nD => exists_ex (m ((c.tc : Thread nD τ).loc main_arg3) : FVec Ideal S3072x1024 .f32)
  choose p hp using fun c : Dev nD => exists_ev (m ((c.tc : Thread nD τ).loc main_arg4) : FVec Ideal S1024 .f32)
  choose q hq using fun c : Dev nD => exists_ev (m ((c.tc : Thread nD τ).loc main_arg5) : FVec Ideal S1024 .f32)
  choose g hg using fun c : Dev nD => exists_ev (m ((c.tc : Thread nD τ).loc main_arg6) : FVec Ideal S1024 .f32)
  choose b hb using fun c : Dev nD => exists_ev (m ((c.tc : Thread nD τ).loc main_arg7) : FVec Ideal S1024 .f32)
  refine ⟨fun c => (ex (resid (norm (z c) (p c) (q c)) (product (norm (z c) (p c) (q c)) (w c) (v c) (d c))) : FVec Ideal S4096x1024 .f32),
    fun c => (ex (norm (resid (norm (z c) (p c) (q c)) (product (norm (z c) (p c) (q c)) (w c) (v c) (d c))) (g c) (b c)) : FVec Ideal S4096x1024 .f32),
    fun c => (ex (norm (resid (norm (z c) (p c) (q c)) (product (norm (z c) (p c) (q c)) (w c) (v c) (d c))) (g c) (b c)) : FVec Ideal S4096x1024 .bf16),
    fun c => (ex (mul 1024 (norm (z c) (p c) (q c)) (w c)) : FVec Ideal S4096x3072 .bf16), fun c => (ex (mul 1024 (norm (z c) (p c) (q c)) (v c)) : FVec Ideal S4096x3072 .bf16), ?_, ?_⟩
  · exact (θ_run defs _ _).mono (fun _ h c =>
      ⟨((h.1 c).1 9).trans (final9 (hz c) (hw c) (hv c) (hd c) (hp c) (hq c) (hg c) (hb c)), ((h.1 c).1 10).trans (final10 (hz c) (hw c) (hv c) (hd c) (hp c) (hq c) (hg c) (hb c)), ((h.1 c).1 11).trans (final11 (hz c) (hw c) (hv c) (hd c) (hp c) (hq c) (hg c) (hb c)),
        ((h.1 c).1 12).trans (final12 (hz c) (hw c) (hv c) (hd c) (hp c) (hq c) (hg c) (hb c)), ((h.1 c).1 13).trans (final13 (hz c) (hw c) (hv c) (hd c) (hp c) (hq c) (hg c) (hb c)), h.2.1 c⟩) (θ_run_and (run_main m s) (frame m s))
  · refine (θ_run Cert.Reference8Ideal.defs _ _).mono (fun _ h c => ?_) (Cert.Reference8Ideal.Value.run (F := Ideal) m' s')
    obtain ⟨e0, e1, e2, e3, e4, e5, e6, e7⟩ := hagree c
    refine ⟨(h c).1.trans (result0 (e0.trans (hz c)) (e1.trans (hw c)) (e2.trans (hv c)) (e3.trans (hd c)) (e4.trans (hp c)) (e5.trans (hq c))), (h c).2.1.trans (result1 (e0.trans (hz c)) (e1.trans (hw c)) (e2.trans (hv c)) (e3.trans (hd c)) (e4.trans (hp c)) (e5.trans (hq c)) (e6.trans (hg c)) (e7.trans (hb c))), (h c).2.2.1.trans (result2 (e0.trans (hz c)) (e1.trans (hw c)) (e2.trans (hv c)) (e3.trans (hd c)) (e4.trans (hp c)) (e5.trans (hq c)) (e6.trans (hg c)) (e7.trans (hb c))),
      (h c).2.2.2.1.trans ?_, (h c).2.2.2.2.1.trans ?_, (h c).2.2.2.2.2⟩
    · exact host_pre (e0.trans (hz c)) (e4.trans (hp c)) (e5.trans (hq c)) (e1.trans (hw c))
    · exact host_pre (e0.trans (hz c)) (e4.trans (hp c)) (e5.trans (hq c)) (e2.trans (hv c))

theorem frame_kernel : Cert.quiescent_Kernel8 := by
  have h := fun m ρ (_ : True) => frame (F := Bits) m ρ
  exact cast (by sl_kernel_rfl) h
theorem frame_ideal : Cert.quiescent_Kernel8Ideal := fun m ρ _ => frame (F := Ideal) m ρ
theorem frame_reference : Cert.quiescent_Reference8Ideal := fun m ρ _ =>
  (θ_run Cert.Reference8Ideal.defs _ _).mono (fun r h => ⟨fun c => (h c).2.2.2.2.2, sem_eq_zero_of_no_sems (by decide) r.2⟩)
    (Cert.Reference8Ideal.Value.run (F := Ideal) m ρ)

end Cert.Kernel8Ideal.Ffn

end
-- ==== Proof.Sums.lean ====
module

public import proofs.«01_k».proof.Proof.Extended

@[expose] public section

set_option maxRecDepth 16384

noncomputable section

namespace Cert.Sums

open Idealize.ShloMosaic Cert.Extended

/-! ## The sum over eight devices, stored in the first layer of a stack

The parts that arrive and the stack are written as functions of their three coordinates; no element need be finite. -/

/-- The array of a function of three coordinates. -/
def cube {φ : FTy} {d : Fin 3 → ℕ} (a : ℕ → ℕ → ℕ → EReal) : FVec Ideal ⟨3, d⟩ φ := fun i => a (i 0).val (i 1).val (i 2).val

/-- Every array of three coordinates is one. -/
theorem exists_cube {φ : FTy} {d : Fin 3 → ℕ} (x : FVec Ideal ⟨3, d⟩ φ) : ∃ a : ℕ → ℕ → ℕ → EReal, x = cube a := by
  classical
  refine ⟨fun i j l => if h : ∃ k : Shape.Idx ⟨3, d⟩, (k 0).val = i ∧ (k 1).val = j ∧ (k 2).val = l then x h.choose else 0, ?_⟩
  funext k
  have hk : ∃ k' : Shape.Idx ⟨3, d⟩, (k' 0).val = (k 0).val ∧ (k' 1).val = (k 1).val ∧ (k' 2).val = (k 2).val := ⟨k, rfl, rfl, rfl⟩
  have e : hk.choose = k := by
    funext a
    apply Fin.ext
    match a with
    | ⟨0, _⟩ => exact hk.choose_spec.1
    | ⟨1, _⟩ => exact hk.choose_spec.2.1
    | ⟨2, _⟩ => exact hk.choose_spec.2.2
  unfold cube
  dsimp only
  rw [dif_pos hk, e]

/-- The sum of the eight devices' parts. -/
def total (x : ℕ → ℕ → ℕ → EReal) : ℕ → ℕ → EReal := fun i j =>
  x 0 i j + x 1 i j + x 2 i j + x 3 i j + x 4 i j + x 5 i j + x 6 i j + x 7 i j

/-- A stack with its first layer replaced. -/
def stored (f : ℕ → ℕ → EReal) (s : ℕ → ℕ → ℕ → EReal) : ℕ → ℕ → ℕ → EReal := fun l i j => if l = 0 then f i j else s l i j

/-- The corner at which every whole-buffer access starts. -/
theorem corner3 : (![0, 0, 0] : Fin 3 → ℕ) = fun _ => 0 := by
  funext a
  match a with
  | ⟨0, _⟩ => rfl
  | ⟨1, _⟩ => rfl
  | ⟨2, _⟩ => rfl

/-- One device's part, read off the block of all of them. -/
theorem ld_part {e : EltTy} {r c : ℕ} (n k : ℕ) (x : ℕ → ℕ → ℕ → Elt Ideal e)
    (inb : ∀ a, (![k, 0, 0] : Fin 3 → ℕ) a + (![1, r, c] : Fin 3 → ℕ) a ≤ (![n, r, c] : Fin 3 → ℕ) a) :
    View.ld (Val := Elt Ideal) (e' := e) (fun i : Shape.Idx ⟨3, ![n, r, c]⟩ => x (i 0).val (i 1).val (i 2).val) (Rect.unit (s := ⟨3, ![n, r, c]⟩) ![k, 0, 0] ![1, r, c] inb)
      = fun j => x k (j 1).val (j 2).val := by
  funext j
  have h0 : (j 0).val < 1 := (j 0).isLt
  show x (k + 1 * (j 0).val) (0 + 1 * (j 1).val) (0 + 1 * (j 2).val) = x k (j 1).val (j 2).val
  rw [Nat.zero_add, Nat.zero_add, Nat.one_mul, Nat.one_mul, Nat.one_mul, Nat.lt_one_iff.mp h0, Nat.add_zero]

theorem ld_part16 {r c : ℕ} (n k : ℕ) (x : ℕ → ℕ → ℕ → EReal)
    (inb : ∀ a, (![k, 0, 0] : Fin 3 → ℕ) a + (![1, r, c] : Fin 3 → ℕ) a ≤ (![n, r, c] : Fin 3 → ℕ) a) :
    View.ld (Val := Elt Ideal) (e' := .bf16) (cube x : FVec Ideal ⟨3, ![n, r, c]⟩ .bf16) (Rect.unit (s := ⟨3, ![n, r, c]⟩) ![k, 0, 0] ![1, r, c] inb)
      = (cube (fun _ => x k) : FVec Ideal ⟨3, ![1, r, c]⟩ .bf16) := ld_part (e := .bf16) n k x inb
theorem ld_part32 {r c : ℕ} (n k : ℕ) (x : ℕ → ℕ → ℕ → EReal)
    (inb : ∀ a, (![k, 0, 0] : Fin 3 → ℕ) a + (![1, r, c] : Fin 3 → ℕ) a ≤ (![n, r, c] : Fin 3 → ℕ) a) :
    View.ld (Val := Elt Ideal) (e' := .f32) (cube x : FVec Ideal ⟨3, ![n, r, c]⟩ .f32) (Rect.unit (s := ⟨3, ![n, r, c]⟩) ![k, 0, 0] ![1, r, c] inb)
      = (cube (fun _ => x k) : FVec Ideal ⟨3, ![1, r, c]⟩ .f32) := ld_part (e := .f32) n k x inb

/-- A block of whole rows of the first layer lies where it should. -/
theorem stored_rows (f : ℕ → ℕ → EReal) (s : ℕ → ℕ → ℕ → EReal) {u v w t : ℕ} (R C l i j : ℕ) (hl : l < 1) (hu : u = 0) (hv : v = t) (hw : w = 0) :
    stored f s (u * 1 + 1 * l) (v * R + 1 * i) (w * C + 1 * j) = f (R * t + i) j := by
  rw [hu, hv, hw, Nat.lt_one_iff.mp hl]
  simp only [stored, Nat.mul_comm t, Nat.one_mul, Nat.zero_mul, Nat.zero_add, if_true]

/-- A block of whole columns of the first layer lies where it should. -/
theorem stored_cols (f : ℕ → ℕ → EReal) (s : ℕ → ℕ → ℕ → EReal) {u v w t : ℕ} (R C l i j : ℕ) (hl : l < 1) (hu : u = 0) (hv : v = 0) (hw : w = t) :
    stored f s (u * 1 + 1 * l) (v * R + 1 * i) (w * C + 1 * j) = f i (C * t + j) := by
  rw [hu, hv, hw, Nat.lt_one_iff.mp hl]
  simp only [stored, Nat.mul_comm t, Nat.one_mul, Nat.zero_mul, Nat.zero_add, if_true]

/-- A block of every device's rows, read off the array of the parts. -/
theorem part_rows (x : ℕ → ℕ → ℕ → EReal) {u v w t : ℕ} (n R C d i j : ℕ) (hu : u = 0) (hv : v = t) (hw : w = 0) :
    x (u * n + 1 * d) (v * R + 1 * i) (w * C + 1 * j) = x d (R * t + i) j := by
  rw [hu, hv, hw]
  simp only [Nat.mul_comm t, Nat.one_mul, Nat.zero_mul, Nat.zero_add]

/-- A block of the stack that starts in the first layer and is one layer deep holds no other. -/
theorem first_layer {i u : ℕ} (h : u * 1 ≤ i ∧ i < u * 1 + 1) (hu : u = 0) : i = 0 := by omega

/-- The three bounds that place an index within a block, from the block's index. -/
theorem within {d ix : Fin 3 → ℕ} {i : Fin 3 → ℕ} {u v w : ℕ} (hix : ix 0 = u ∧ ix 1 = v ∧ ix 2 = w)
    (h0 : u * d 0 ≤ i 0 ∧ i 0 < u * d 0 + d 0) (h1 : v * d 1 ≤ i 1 ∧ i 1 < v * d 1 + d 1) (h2 : w * d 2 ≤ i 2 ∧ i 2 < w * d 2 + d 2) (a : Fin 3) :
    ix a * d a ≤ i a ∧ i a < ix a * d a + d a := by
  match a with
  | ⟨0, _⟩ => exact hix.1 ▸ h0
  | ⟨1, _⟩ => exact hix.2.1 ▸ h1
  | ⟨2, _⟩ => exact hix.2.2 ▸ h2

/-! ## The reference -/

variable {R C : ℕ}

/-- The sum along the devices. -/
theorem host_total {S : Shape} (x : ℕ → ℕ → ℕ → EReal) (h : Shape.ReducesTo ⟨3, ![8, R, C]⟩ [0] ⟨2, ![R, C]⟩) (hz : 0 < S.numel) :
    Host.reduceAdd (cube x : FVec Ideal ⟨3, ![8, R, C]⟩ .f32) (constant S .f32 0x00000000#32) h hz = (ex (total x) : FVec Ideal ⟨2, ![R, C]⟩ .f32) := by
  funext i
  pointwise
  rw [Fin.sum_univ_eight]
  rfl

/-- The leading rows of every device's part. -/
theorem host_rows {φ : FTy} {n r c : ℕ} (x : ℕ → ℕ → ℕ → EReal) (h : Shape.Slices ⟨3, ![n, r, c]⟩ ![0, 0, 0] ⟨3, ![n, R, c]⟩) :
    extractStridedSlice ⟨3, ![n, R, c]⟩ ![0, 0, 0] (cube x : FVec Ideal ⟨3, ![n, r, c]⟩ φ) h = (cube x : FVec Ideal ⟨3, ![n, R, c]⟩ φ) := by
  funext i
  pointwise
  show x (0 + (i 0).val) (0 + (i 1).val) (0 + (i 2).val) = x (i 0).val (i 1).val (i 2).val
  rw [Nat.zero_add, Nat.zero_add, Nat.zero_add]

/-- The leading columns of every device's part. -/
theorem host_cols {φ : FTy} {n r c : ℕ} (x : ℕ → ℕ → ℕ → EReal) (h : Shape.Slices ⟨3, ![n, r, c]⟩ ![0, 0, 0] ⟨3, ![n, r, C]⟩) :
    extractStridedSlice ⟨3, ![n, r, C]⟩ ![0, 0, 0] (cube x : FVec Ideal ⟨3, ![n, r, c]⟩ φ) h = (cube x : FVec Ideal ⟨3, ![n, r, C]⟩ φ) := by
  funext i
  pointwise
  show x (0 + (i 0).val) (0 + (i 1).val) (0 + (i 2).val) = x (i 0).val (i 1).val (i 2).val
  rw [Nat.zero_add, Nat.zero_add, Nat.zero_add]

/-- The transposed sum. -/
theorem host_transposed (f : ℕ → ℕ → EReal) (h : Shape.Transposes ⟨2, ![R, C]⟩ [1, 0] ⟨2, ![C, R]⟩) :
    transpose ⟨2, ![C, R]⟩ [1, 0] (ex f : FVec Ideal ⟨2, ![R, C]⟩ .f32) h = (ex (fun i j => f j i) : FVec Ideal ⟨2, ![C, R]⟩ .f32) := by
  funext i
  pointwise
  rfl

/-- The stack with its first layer replaced, as the reference joins it. -/
theorem host_stored (hR : R ≠ 1) (hC : C ≠ 1) (f : ℕ → ℕ → EReal) (s : ℕ → ℕ → ℕ → EReal)
    (hb : Shape.BroadcastsInDim ⟨2, ![R, C]⟩ ⟨3, ![1, R, C]⟩ ![1, 2]) (hs : Shape.Slices ⟨3, ![4, R, C]⟩ ![1, 0, 0] ⟨3, ![3, R, C]⟩)
    (hc : Shape.Concatenates [⟨3, ![1, R, C]⟩, ⟨3, ![3, R, C]⟩] ⟨3, ![4, R, C]⟩ 0) :
    concatenate ⟨3, ![4, R, C]⟩ 0 [⟨⟨3, ![1, R, C]⟩, broadcastInDim ⟨3, ![1, R, C]⟩ ![1, 2] hb (ex f : FVec Ideal ⟨2, ![R, C]⟩ .f32)⟩,
      ⟨⟨3, ![3, R, C]⟩, extractStridedSlice ⟨3, ![3, R, C]⟩ ![1, 0, 0] (cube s : FVec Ideal ⟨3, ![4, R, C]⟩ .f32) hs⟩] hc
      = (cube (stored f s) : FVec Ideal ⟨3, ![4, R, C]⟩ .f32) := by
  funext i
  pointwise
  show _ = stored f s (i 0).val (i 1).val (i 2).val
  split_ifs with h
  · have e : stored f s (i 0).val (i 1).val (i 2).val = f (i 1).val (i 2).val := if_pos (Nat.lt_one_iff.mp h)
    refine Eq.trans ?_ e.symm
    show f _ _ = f _ _
    refine congrArg₂ f ?_ ?_
    · show (if h : ![R, C] 0 = 1 then (⟨0, _⟩ : Fin R) else ⟨(i 1).val, _⟩).val = _
      rw [dif_neg (show ¬ ![R, C] 0 = 1 from hR)]
    · show (if h : ![R, C] 1 = 1 then (⟨0, _⟩ : Fin C) else ⟨(i 2).val, _⟩).val = _
      rw [dif_neg (show ¬ ![R, C] 1 = 1 from hC)]
  · have e : stored f s (i 0).val (i 1).val (i 2).val = s (i 0).val (i 1).val (i 2).val := if_neg (by omega)
    refine Eq.trans ?_ e.symm
    show s (1 + ((i 0).val - 1)) (0 + (i 1).val) (0 + (i 2).val) = _
    rw [Nat.zero_add, Nat.zero_add, Nat.add_sub_cancel' (by omega : 1 ≤ (i 0).val)]

end Cert.Sums

end
-- ==== Proof.SumShared.lean ====
module

public import proofs.«01_k».proof.Defs
public import proofs.«01_k».proof.Proof.Sums
public import proofs.«01_k».proof.Proof.Gen.Kernel27
public import proofs.«01_k».proof.Proof.Gen.Kernel27Ideal.Value
public import proofs.«01_k».proof.Proof.Gen.Reference27Ideal.Run

@[expose] public section

set_option maxRecDepth 16384

noncomputable section

namespace Cert.Kernel27Ideal.Sum

open Idealize.ShloMosaic Idealize.ShloMosaic.TcCoe Idealize.SL.Sem Cert.Kernel27Ideal.Gen Cert.Extended Cert.Sums

/-! ## The sum over the devices of the packed gradients of the weights every device holds, in one block -/

/-- What one device sent, of a block. -/
abbrev part (x : ℕ → ℕ → ℕ → EReal) (k : ℕ) : FVec Ideal S1x824x128 .f32 := cube fun _ => x k

theorem pay_eq (x : ℕ → ℕ → ℕ → EReal) :
    k0_pay1 (part x 0) (part x 1) (part x 2) (part x 3) (part x 4) (part x 5) (part x 6) (part x 7) = (cube (fun _ => total x) : FVec Ideal S1x824x128 .f32) := by
  funext i
  unfold k0_pay1
  pointwise
  rfl

theorem left (c : Dev nD) (i : grid0.Coords) (a1 : Memref sig .tc .vmem S8x824x128 .f32) (h1 : a1.IsWhole) (a3 : Memref sig .tc .vmem S1x824x128 .f32) (h3 : a3.IsWhole)
    (x : ℕ → ℕ → ℕ → EReal) :
    out0_A_1 (F := Ideal) c i a1 h1 a3 h3 (cube x : FVec Ideal S8x824x128 .f32) = (cube (fun _ => total x) : FVec Ideal S1x824x128 .f32) := by
  unfold out0_A_1
  rw [View.read_writes_eq_canon _ _ _ (cover0_A_1 (F := Ideal) c i a1 h1 a3 h3 _)]
  unfold kernelRun0_A
  dsimp only
  sl_unfold_words
  rw [View.canon_unit_zero corner3]
  simp only [View.readAt_eq_ld, h1.read_unread]
  erw [ld_part32 8 0, ld_part32 8 1, ld_part32 8 2, ld_part32 8 3, ld_part32 8 4, ld_part32 8 5, ld_part32 8 6, ld_part32 8 7]
  exact pay_eq x

theorem ix0 : ∀ t : Fin cfg0.N, win0_0.index t 0 = 0 ∧ win0_0.index t 1 = t.val ∧ win0_0.index t 2 = 0 := by decide +kernel
theorem ix1 : ∀ t : Fin cfg0.N, win0_1.index t 0 = 0 ∧ win0_1.index t 1 = t.val ∧ win0_1.index t 2 = 0 := by decide +kernel

/-- The block fills the first layer, -/
theorem covered (i : S4x824x128.Idx) (h : (i 0 : ℕ) = 0) : ∃ t : Fin cfg0.N, i ∈ (win0_1.rect t).set := by
  have h1 : (i 1 : ℕ) < 824 := (i 1).isLt
  have h2 : (i 2 : ℕ) < 128 := (i 2).isLt
  have ht : (i 1 : ℕ) / 824 < cfg0.N := by rw [show cfg0.N = 1 from N_0]; omega
  refine ⟨⟨(i 1 : ℕ) / 824, ht⟩, Rect.mem_set_unit.mpr fun a => ?_⟩
  exact within (d := ![1, 824, 128]) (i := fun a => (i a).val) (ix1 _) (by dsimp; omega) (by dsimp; omega) (by dsimp; omega) a

/-- and nothing else. -/
theorem apart (i : S4x824x128.Idx) (h : (i 0 : ℕ) ≠ 0) (t : Fin cfg0.N) : i ∉ (win0_1.rect t).set := fun hm =>
  h (first_layer (Rect.mem_set_unit.mp hm 0) (ix1 t).1)

section
variable {m : (ℓ : Loc nD τ sig) → Buf (Elt Ideal) ℓ} {c : Dev nD} {x s : ℕ → ℕ → ℕ → EReal}

/-- The result's buffer starts as the stack of layers. -/
theorem entry : V m c main_v0 = m ((c.tc : Thread nD τ).loc main_arg1) := by
  simp only [V, hostOps0]
  after_results_simp
  rfl

variable (ha0 : m ((c.tc : Thread nD τ).loc main_arg0) = (cube x : FVec Ideal S8x824x128 .f32))
  (ha1 : m ((c.tc : Thread nD τ).loc main_arg1) = (cube s : FVec Ideal S4x824x128 .f32))
include ha0

theorem read0 (t : Fin cfg0.N) : iblk m c 0 t = (cube fun d i j => x d (824 * t.val + i) j : FVec Ideal S8x824x128 .f32) := by
  funext j
  unfold iblk
  rw [View.read_apply]
  show V m c main_arg0 _ = _
  rw [V_main_arg0, ha0]
  exact part_rows x 8 824 128 (j 0).val (j 1).val (j 2).val (ix0 t).1 (ix0 t).2.1 (ix0 t).2.2

theorem flushed (t : Fin cfg0.N) (_ : (cfg0.win 1).flush t = true) :
    (dats m 0 c).flushed 1 t = ((cfg0.win 1).blk t).view.read (Elt Ideal) (cube (stored (total x) s) : FVec Ideal S4x824x128 .f32) := by
  show (cfg0.win 1).cut (grid0.coords t) ((dats m 0 c).after 1 t) = _
  rw [after0_1]
  unfold outsAt0
  rw [read0 ha0, left]
  funext j
  rw [View.read_apply]
  exact (stored_rows (total x) s 824 128 (j 0).val (j 1).val (j 2).val (j 0).isLt (ix1 t).1 (ix1 t).2.1 (ix1 t).2.2).symm

include ha1

/-- The first layer is the sum, the others are as launched. -/
theorem final : (dats m 0 c).arrAt 1 cfg0.N = (cube (stored (total x) s) : FVec Ideal S4x824x128 .f32) := by
  funext i
  by_cases h : (i (0 : Fin 3) : ℕ) = 0
  · obtain ⟨t, ht⟩ := covered i h
    refine (dats m 0 c).arrAt_apply_of_mem 1 _ (flushed ha0) _ t i t.isLt (flush0_1 t) ?_
    rwa [show ((cfg0.win 1).blk t).view.set = (win0_1.rect t).set from View.set_slice_whole main_v0 _]
  · rw [(dats m 0 c).arrAt_apply_of_forall_not_mem 1 _ i, A_eq]
    · show V m c main_v0 i = _
      rw [entry, ha1]
      exact (if_neg h).symm
    · intro t _ _
      rw [show ((cfg0.win 1).blk t).view.set = (win0_1.rect t).set from View.set_slice_whole main_v0 _]
      exact apart i h t
end

/-- The kernel and the reference end holding the same stack. -/
theorem values : Cert.algebraic_Kernel27Ideal_Reference27Ideal := by
  intro m g m' g' _ hagree
  choose x hx using fun c : Dev nD => exists_cube (φ := .f32) (m ((c.tc : Thread nD τ).loc main_arg0) : FVec Ideal S8x824x128 .f32)
  choose s hs using fun c : Dev nD => exists_cube (φ := .f32) (m ((c.tc : Thread nD τ).loc main_arg1) : FVec Ideal S4x824x128 .f32)
  refine ⟨fun c => (cube (stored (total (x c)) (s c)) : FVec Ideal S4x824x128 .f32), ?_, ?_⟩
  · exact (θ_run defs _ _).mono (fun _ h c => ⟨((h.1 c).1 1).trans (final (hx c) (hs c)), h.2.1 c⟩) (θ_run_and (run_main m g) (frame m g))
  · refine (θ_run Cert.Reference27Ideal.defs _ _).mono (fun _ h c => ⟨(h c).1.trans ?_, (h c).2⟩) (Cert.Reference27Ideal.Value.run (F := Ideal) m' g')
    rw [(hagree c).1, (hagree c).2, hx c, hs c]
    erw [host_total]
    exact host_stored (by decide) (by decide) _ _ _ _ _

theorem frame_kernel : Cert.quiescent_Kernel27 := by
  have h := fun m ρ (_ : True) => frame (F := Bits) m ρ
  exact cast (by sl_kernel_rfl) h
theorem frame_ideal : Cert.quiescent_Kernel27Ideal := fun m ρ _ => frame (F := Ideal) m ρ
theorem frame_reference : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

end Cert.Kernel27Ideal.Sum

end
-- ==== Proof.SumGates.lean ====
module

public import proofs.«01_k».proof.Defs
public import proofs.«01_k».proof.Proof.Sums
public import proofs.«01_k».proof.Proof.Gen.Kernel26
public import proofs.«01_k».proof.Proof.Gen.Kernel26Ideal.Value
public import proofs.«01_k».proof.Proof.Gen.Reference26Ideal.Run

@[expose] public section

set_option maxRecDepth 16384

noncomputable section

namespace Cert.Kernel26Ideal.Sum

open Idealize.ShloMosaic Idealize.ShloMosaic.TcCoe Idealize.SL.Sem Cert.Kernel26Ideal.Gen Cert.Extended Cert.Sums

/-! ## The sum over the devices of the packed gradients of the recurrent mixer's gates and convolution, in one block -/

/-- What one device sent, of a block. -/
abbrev part (x : ℕ → ℕ → ℕ → EReal) (k : ℕ) : FVec Ideal S1x16x128 .f32 := cube fun _ => x k

theorem pay_eq (x : ℕ → ℕ → ℕ → EReal) :
    k0_pay1 (part x 0) (part x 1) (part x 2) (part x 3) (part x 4) (part x 5) (part x 6) (part x 7) = (cube (fun _ => total x) : FVec Ideal S1x16x128 .f32) := by
  funext i
  unfold k0_pay1
  pointwise
  rfl

theorem left (c : Dev nD) (i : grid0.Coords) (a1 : Memref sig .tc .vmem S8x16x128 .f32) (h1 : a1.IsWhole) (a3 : Memref sig .tc .vmem S1x16x128 .f32) (h3 : a3.IsWhole)
    (x : ℕ → ℕ → ℕ → EReal) :
    out0_A_1 (F := Ideal) c i a1 h1 a3 h3 (cube x : FVec Ideal S8x16x128 .f32) = (cube (fun _ => total x) : FVec Ideal S1x16x128 .f32) := by
  unfold out0_A_1
  rw [View.read_writes_eq_canon _ _ _ (cover0_A_1 (F := Ideal) c i a1 h1 a3 h3 _)]
  unfold kernelRun0_A
  dsimp only
  sl_unfold_words
  rw [View.canon_unit_zero corner3]
  simp only [View.readAt_eq_ld, h1.read_unread]
  erw [ld_part32 8 0, ld_part32 8 1, ld_part32 8 2, ld_part32 8 3, ld_part32 8 4, ld_part32 8 5, ld_part32 8 6, ld_part32 8 7]
  exact pay_eq x

theorem ix0 : ∀ t : Fin cfg0.N, win0_0.index t 0 = 0 ∧ win0_0.index t 1 = t.val ∧ win0_0.index t 2 = 0 := by decide +kernel
theorem ix1 : ∀ t : Fin cfg0.N, win0_1.index t 0 = 0 ∧ win0_1.index t 1 = t.val ∧ win0_1.index t 2 = 0 := by decide +kernel

/-- The block fills the first layer, -/
theorem covered (i : S4x16x128.Idx) (h : (i 0 : ℕ) = 0) : ∃ t : Fin cfg0.N, i ∈ (win0_1.rect t).set := by
  have h1 : (i 1 : ℕ) < 16 := (i 1).isLt
  have h2 : (i 2 : ℕ) < 128 := (i 2).isLt
  have ht : (i 1 : ℕ) / 16 < cfg0.N := by rw [show cfg0.N = 1 from N_0]; omega
  refine ⟨⟨(i 1 : ℕ) / 16, ht⟩, Rect.mem_set_unit.mpr fun a => ?_⟩
  exact within (d := ![1, 16, 128]) (i := fun a => (i a).val) (ix1 _) (by dsimp; omega) (by dsimp; omega) (by dsimp; omega) a

/-- and nothing else. -/
theorem apart (i : S4x16x128.Idx) (h : (i 0 : ℕ) ≠ 0) (t : Fin cfg0.N) : i ∉ (win0_1.rect t).set := fun hm =>
  h (first_layer (Rect.mem_set_unit.mp hm 0) (ix1 t).1)

section
variable {m : (ℓ : Loc nD τ sig) → Buf (Elt Ideal) ℓ} {c : Dev nD} {x s : ℕ → ℕ → ℕ → EReal}

/-- The result's buffer starts as the stack of layers. -/
theorem entry : V m c main_v0 = m ((c.tc : Thread nD τ).loc main_arg1) := by
  simp only [V, hostOps0]
  after_results_simp
  rfl

variable (ha0 : m ((c.tc : Thread nD τ).loc main_arg0) = (cube x : FVec Ideal S8x16x128 .f32))
  (ha1 : m ((c.tc : Thread nD τ).loc main_arg1) = (cube s : FVec Ideal S4x16x128 .f32))
include ha0

theorem read0 (t : Fin cfg0.N) : iblk m c 0 t = (cube fun d i j => x d (16 * t.val + i) j : FVec Ideal S8x16x128 .f32) := by
  funext j
  unfold iblk
  rw [View.read_apply]
  show V m c main_arg0 _ = _
  rw [V_main_arg0, ha0]
  exact part_rows x 8 16 128 (j 0).val (j 1).val (j 2).val (ix0 t).1 (ix0 t).2.1 (ix0 t).2.2

theorem flushed (t : Fin cfg0.N) (_ : (cfg0.win 1).flush t = true) :
    (dats m 0 c).flushed 1 t = ((cfg0.win 1).blk t).view.read (Elt Ideal) (cube (stored (total x) s) : FVec Ideal S4x16x128 .f32) := by
  show (cfg0.win 1).cut (grid0.coords t) ((dats m 0 c).after 1 t) = _
  rw [after0_1]
  unfold outsAt0
  rw [read0 ha0, left]
  funext j
  rw [View.read_apply]
  exact (stored_rows (total x) s 16 128 (j 0).val (j 1).val (j 2).val (j 0).isLt (ix1 t).1 (ix1 t).2.1 (ix1 t).2.2).symm

include ha1

/-- The first layer is the sum, the others are as launched. -/
theorem final : (dats m 0 c).arrAt 1 cfg0.N = (cube (stored (total x) s) : FVec Ideal S4x16x128 .f32) := by
  funext i
  by_cases h : (i (0 : Fin 3) : ℕ) = 0
  · obtain ⟨t, ht⟩ := covered i h
    refine (dats m 0 c).arrAt_apply_of_mem 1 _ (flushed ha0) _ t i t.isLt (flush0_1 t) ?_
    rwa [show ((cfg0.win 1).blk t).view.set = (win0_1.rect t).set from View.set_slice_whole main_v0 _]
  · rw [(dats m 0 c).arrAt_apply_of_forall_not_mem 1 _ i, A_eq]
    · show V m c main_v0 i = _
      rw [entry, ha1]
      exact (if_neg h).symm
    · intro t _ _
      rw [show ((cfg0.win 1).blk t).view.set = (win0_1.rect t).set from View.set_slice_whole main_v0 _]
      exact apart i h t
end

/-- The kernel and the reference end holding the same stack. -/
theorem values : Cert.algebraic_Kernel26Ideal_Reference26Ideal := by
  intro m g m' g' _ hagree
  choose x hx using fun c : Dev nD => exists_cube (φ := .f32) (m ((c.tc : Thread nD τ).loc main_arg0) : FVec Ideal S8x16x128 .f32)
  choose s hs using fun c : Dev nD => exists_cube (φ := .f32) (m ((c.tc : Thread nD τ).loc main_arg1) : FVec Ideal S4x16x128 .f32)
  refine ⟨fun c => (cube (stored (total (x c)) (s c)) : FVec Ideal S4x16x128 .f32), ?_, ?_⟩
  · exact (θ_run defs _ _).mono (fun _ h c => ⟨((h.1 c).1 1).trans (final (hx c) (hs c)), h.2.1 c⟩) (θ_run_and (run_main m g) (frame m g))
  · refine (θ_run Cert.Reference26Ideal.defs _ _).mono (fun _ h c => ⟨(h c).1.trans ?_, (h c).2⟩) (Cert.Reference26Ideal.Value.run (F := Ideal) m' g')
    rw [(hagree c).1, (hagree c).2, hx c, hs c]
    erw [host_total]
    exact host_stored (by decide) (by decide) _ _ _ _ _

theorem frame_kernel : Cert.quiescent_Kernel26 := by
  have h := fun m ρ (_ : True) => frame (F := Bits) m ρ
  exact cast (by sl_kernel_rfl) h
theorem frame_ideal : Cert.quiescent_Kernel26Ideal := fun m ρ _ => frame (F := Ideal) m ρ
theorem frame_reference : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

end Cert.Kernel26Ideal.Sum

end
-- ==== Proof.SumOut.lean ====
module

public import proofs.«01_k».proof.Defs
public import proofs.«01_k».proof.Proof.Sums
public import proofs.«01_k».proof.Proof.Gen.Kernel25
public import proofs.«01_k».proof.Proof.Gen.Kernel25Ideal.Value
public import proofs.«01_k».proof.Proof.Gen.Reference25Ideal.Run

@[expose] public section

set_option maxRecDepth 16384

noncomputable section

namespace Cert.Kernel25Ideal.Sum

open Idealize.ShloMosaic Idealize.ShloMosaic.TcCoe Idealize.SL.Sem Cert.Kernel25Ideal.Gen Cert.Extended Cert.Sums

/-! ## The sum over the devices of the output projection's gradient, in one block -/

/-- What one device sent, of a block. -/
abbrev part (x : ℕ → ℕ → ℕ → EReal) (k : ℕ) : FVec Ideal S1x128x1024 .bf16 := cube fun _ => x k

theorem pay_eq (x : ℕ → ℕ → ℕ → EReal) :
    k0_pay1 (k0_pay2 (part x 0) (part x 1) (part x 2) (part x 3) (part x 4) (part x 5) (part x 6) (part x 7)) = (cube (fun _ => total x) : FVec Ideal S1x128x1024 .f32) := by
  funext i
  unfold k0_pay1 k0_pay2
  pointwise
  rfl

theorem left (c : Dev nD) (i : grid0.Coords) (a1 : Memref sig .tc .vmem S8x128x1024 .bf16) (h1 : a1.IsWhole) (a3 : Memref sig .tc .vmem S1x128x1024 .f32) (h3 : a3.IsWhole)
    (x : ℕ → ℕ → ℕ → EReal) :
    out0_A_1 (F := Ideal) c i a1 h1 a3 h3 (cube x : FVec Ideal S8x128x1024 .bf16) = (cube (fun _ => total x) : FVec Ideal S1x128x1024 .f32) := by
  unfold out0_A_1
  rw [View.read_writes_eq_canon _ _ _ (cover0_A_1 (F := Ideal) c i a1 h1 a3 h3 _)]
  unfold kernelRun0_A
  dsimp only
  sl_unfold_words
  rw [View.canon_unit_zero corner3]
  simp only [View.readAt_eq_ld, h1.read_unread]
  erw [ld_part16 8 0, ld_part16 8 1, ld_part16 8 2, ld_part16 8 3, ld_part16 8 4, ld_part16 8 5, ld_part16 8 6, ld_part16 8 7]
  exact pay_eq x

theorem ix0 : ∀ t : Fin cfg0.N, win0_0.index t 0 = 0 ∧ win0_0.index t 1 = t.val ∧ win0_0.index t 2 = 0 := by decide +kernel
theorem ix1 : ∀ t : Fin cfg0.N, win0_1.index t 0 = 0 ∧ win0_1.index t 1 = t.val ∧ win0_1.index t 2 = 0 := by decide +kernel

/-- The block fills the first layer, -/
theorem covered (i : S4x128x1024.Idx) (h : (i 0 : ℕ) = 0) : ∃ t : Fin cfg0.N, i ∈ (win0_1.rect t).set := by
  have h1 : (i 1 : ℕ) < 128 := (i 1).isLt
  have h2 : (i 2 : ℕ) < 1024 := (i 2).isLt
  have ht : (i 1 : ℕ) / 128 < cfg0.N := by rw [show cfg0.N = 1 from N_0]; omega
  refine ⟨⟨(i 1 : ℕ) / 128, ht⟩, Rect.mem_set_unit.mpr fun a => ?_⟩
  exact within (d := ![1, 128, 1024]) (i := fun a => (i a).val) (ix1 _) (by dsimp; omega) (by dsimp; omega) (by dsimp; omega) a

/-- and nothing else. -/
theorem apart (i : S4x128x1024.Idx) (h : (i 0 : ℕ) ≠ 0) (t : Fin cfg0.N) : i ∉ (win0_1.rect t).set := fun hm =>
  h (first_layer (Rect.mem_set_unit.mp hm 0) (ix1 t).1)

section
variable {m : (ℓ : Loc nD τ sig) → Buf (Elt Ideal) ℓ} {c : Dev nD} {x s : ℕ → ℕ → ℕ → EReal}

/-- The result's buffer starts as the stack of layers. -/
theorem entry : V m c main_v0 = m ((c.tc : Thread nD τ).loc main_arg1) := by
  simp only [V, hostOps0]
  after_results_simp
  rfl

variable (ha0 : m ((c.tc : Thread nD τ).loc main_arg0) = (cube x : FVec Ideal S8x128x1024 .bf16))
  (ha1 : m ((c.tc : Thread nD τ).loc main_arg1) = (cube s : FVec Ideal S4x128x1024 .f32))
include ha0

theorem read0 (t : Fin cfg0.N) : iblk m c 0 t = (cube fun d i j => x d (128 * t.val + i) j : FVec Ideal S8x128x1024 .bf16) := by
  funext j
  unfold iblk
  rw [View.read_apply]
  show V m c main_arg0 _ = _
  rw [V_main_arg0, ha0]
  exact part_rows x 8 128 1024 (j 0).val (j 1).val (j 2).val (ix0 t).1 (ix0 t).2.1 (ix0 t).2.2

theorem flushed (t : Fin cfg0.N) (_ : (cfg0.win 1).flush t = true) :
    (dats m 0 c).flushed 1 t = ((cfg0.win 1).blk t).view.read (Elt Ideal) (cube (stored (total x) s) : FVec Ideal S4x128x1024 .f32) := by
  show (cfg0.win 1).cut (grid0.coords t) ((dats m 0 c).after 1 t) = _
  rw [after0_1]
  unfold outsAt0
  rw [read0 ha0, left]
  funext j
  rw [View.read_apply]
  exact (stored_rows (total x) s 128 1024 (j 0).val (j 1).val (j 2).val (j 0).isLt (ix1 t).1 (ix1 t).2.1 (ix1 t).2.2).symm

include ha1

/-- The first layer is the sum, the others are as launched. -/
theorem final : (dats m 0 c).arrAt 1 cfg0.N = (cube (stored (total x) s) : FVec Ideal S4x128x1024 .f32) := by
  funext i
  by_cases h : (i (0 : Fin 3) : ℕ) = 0
  · obtain ⟨t, ht⟩ := covered i h
    refine (dats m 0 c).arrAt_apply_of_mem 1 _ (flushed ha0) _ t i t.isLt (flush0_1 t) ?_
    rwa [show ((cfg0.win 1).blk t).view.set = (win0_1.rect t).set from View.set_slice_whole main_v0 _]
  · rw [(dats m 0 c).arrAt_apply_of_forall_not_mem 1 _ i, A_eq]
    · show V m c main_v0 i = _
      rw [entry, ha1]
      exact (if_neg h).symm
    · intro t _ _
      rw [show ((cfg0.win 1).blk t).view.set = (win0_1.rect t).set from View.set_slice_whole main_v0 _]
      exact apart i h t
end

/-- The kernel and the reference end holding the same stack. -/
theorem values : Cert.algebraic_Kernel25Ideal_Reference25Ideal := by
  intro m g m' g' _ hagree
  choose x hx using fun c : Dev nD => exists_cube (φ := .bf16) (m ((c.tc : Thread nD τ).loc main_arg0) : FVec Ideal S8x128x1024 .bf16)
  choose s hs using fun c : Dev nD => exists_cube (φ := .f32) (m ((c.tc : Thread nD τ).loc main_arg1) : FVec Ideal S4x128x1024 .f32)
  refine ⟨fun c => (cube (stored (total (x c)) (s c)) : FVec Ideal S4x128x1024 .f32), ?_, ?_⟩
  · exact (θ_run defs _ _).mono (fun _ h c => ⟨((h.1 c).1 1).trans (final (hx c) (hs c)), h.2.1 c⟩) (θ_run_and (run_main m g) (frame m g))
  · refine (θ_run Cert.Reference25Ideal.defs _ _).mono (fun _ h c => ⟨(h c).1.trans ?_, (h c).2⟩) (Cert.Reference25Ideal.Value.run (F := Ideal) m' g')
    rw [(hagree c).1, (hagree c).2, hx c, hs c]
    erw [host_total]
    exact host_stored (by decide) (by decide) _ _ _ _ _

theorem frame_kernel : Cert.quiescent_Kernel25 := by
  have h := fun m ρ (_ : True) => frame (F := Bits) m ρ
  exact cast (by sl_kernel_rfl) h
theorem frame_ideal : Cert.quiescent_Kernel25Ideal := fun m ρ _ => frame (F := Ideal) m ρ
theorem frame_reference : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

end Cert.Kernel25Ideal.Sum

end
-- ==== Proof.SumDown.lean ====
module

public import proofs.«01_k».proof.Defs
public import proofs.«01_k».proof.Proof.Sums
public import proofs.«01_k».proof.Proof.Gen.Kernel24
public import proofs.«01_k».proof.Proof.Gen.Kernel24Ideal.Value
public import proofs.«01_k».proof.Proof.Gen.Reference24Ideal.Run

@[expose] public section

set_option maxRecDepth 16384

noncomputable section

namespace Cert.Kernel24Ideal.Sum

open Idealize.ShloMosaic Idealize.ShloMosaic.TcCoe Idealize.SL.Sem Cert.Kernel24Ideal.Gen Cert.Extended Cert.Sums

/-! ## The sum over the devices of the down projection's gradient, in one block -/

/-- What one device sent, of a block. -/
abbrev part (x : ℕ → ℕ → ℕ → EReal) (k : ℕ) : FVec Ideal S1x352x1024 .bf16 := cube fun _ => x k

theorem pay_eq (x : ℕ → ℕ → ℕ → EReal) :
    k0_pay1 (k0_pay2 (part x 0) (part x 1) (part x 2) (part x 3) (part x 4) (part x 5) (part x 6) (part x 7)) = (cube (fun _ => total x) : FVec Ideal S1x352x1024 .f32) := by
  funext i
  unfold k0_pay1 k0_pay2
  pointwise
  rfl

theorem left (c : Dev nD) (i : grid0.Coords) (a1 : Memref sig .tc .vmem S8x352x1024 .bf16) (h1 : a1.IsWhole) (a3 : Memref sig .tc .vmem S1x352x1024 .f32) (h3 : a3.IsWhole)
    (x : ℕ → ℕ → ℕ → EReal) :
    out0_A_1 (F := Ideal) c i a1 h1 a3 h3 (cube x : FVec Ideal S8x352x1024 .bf16) = (cube (fun _ => total x) : FVec Ideal S1x352x1024 .f32) := by
  unfold out0_A_1
  rw [View.read_writes_eq_canon _ _ _ (cover0_A_1 (F := Ideal) c i a1 h1 a3 h3 _)]
  unfold kernelRun0_A
  dsimp only
  sl_unfold_words
  rw [View.canon_unit_zero corner3]
  simp only [View.readAt_eq_ld, h1.read_unread]
  erw [ld_part16 8 0, ld_part16 8 1, ld_part16 8 2, ld_part16 8 3, ld_part16 8 4, ld_part16 8 5, ld_part16 8 6, ld_part16 8 7]
  exact pay_eq x

theorem ix0 : ∀ t : Fin cfg0.N, win0_0.index t 0 = 0 ∧ win0_0.index t 1 = t.val ∧ win0_0.index t 2 = 0 := by decide +kernel
theorem ix1 : ∀ t : Fin cfg0.N, win0_1.index t 0 = 0 ∧ win0_1.index t 1 = t.val ∧ win0_1.index t 2 = 0 := by decide +kernel

/-- The block fills the first layer, -/
theorem covered (i : S4x352x1024.Idx) (h : (i 0 : ℕ) = 0) : ∃ t : Fin cfg0.N, i ∈ (win0_1.rect t).set := by
  have h1 : (i 1 : ℕ) < 352 := (i 1).isLt
  have h2 : (i 2 : ℕ) < 1024 := (i 2).isLt
  have ht : (i 1 : ℕ) / 352 < cfg0.N := by rw [show cfg0.N = 1 from N_0]; omega
  refine ⟨⟨(i 1 : ℕ) / 352, ht⟩, Rect.mem_set_unit.mpr fun a => ?_⟩
  exact within (d := ![1, 352, 1024]) (i := fun a => (i a).val) (ix1 _) (by dsimp; omega) (by dsimp; omega) (by dsimp; omega) a

/-- and nothing else. -/
theorem apart (i : S4x352x1024.Idx) (h : (i 0 : ℕ) ≠ 0) (t : Fin cfg0.N) : i ∉ (win0_1.rect t).set := fun hm =>
  h (first_layer (Rect.mem_set_unit.mp hm 0) (ix1 t).1)

section
variable {m : (ℓ : Loc nD τ sig) → Buf (Elt Ideal) ℓ} {c : Dev nD} {x s : ℕ → ℕ → ℕ → EReal}

/-- The result's buffer starts as the stack of layers. -/
theorem entry : V m c main_v0 = m ((c.tc : Thread nD τ).loc main_arg1) := by
  simp only [V, hostOps0]
  after_results_simp
  rfl

variable (ha0 : m ((c.tc : Thread nD τ).loc main_arg0) = (cube x : FVec Ideal S8x384x1024 .bf16))
  (ha1 : m ((c.tc : Thread nD τ).loc main_arg1) = (cube s : FVec Ideal S4x352x1024 .f32))
include ha0

theorem read0 (t : Fin cfg0.N) : X0_0 m c t = (cube fun d i j => x d (352 * t.val + i) j : FVec Ideal S8x352x1024 .bf16) := by
  funext j
  unfold X0_0 Pipeline.Window.fill
  rw [dif_pos (moved0_0 t j)]
  unfold iblk
  rw [View.read_apply]
  show V m c main_arg0 _ = _
  rw [V_main_arg0, ha0]
  exact part_rows x 8 352 1024 (j 0).val (j 1).val (j 2).val (ix0 t).1 (ix0 t).2.1 (ix0 t).2.2

theorem flushed (t : Fin cfg0.N) (_ : (cfg0.win 1).flush t = true) :
    (dats m 0 c).flushed 1 t = ((cfg0.win 1).blk t).view.read (Elt Ideal) (cube (stored (total x) s) : FVec Ideal S4x352x1024 .f32) := by
  show (cfg0.win 1).cut (grid0.coords t) ((dats m 0 c).after 1 t) = _
  rw [after0_1]
  unfold outsAt0
  rw [read0 ha0, left]
  funext j
  rw [View.read_apply]
  exact (stored_rows (total x) s 352 1024 (j 0).val (j 1).val (j 2).val (j 0).isLt (ix1 t).1 (ix1 t).2.1 (ix1 t).2.2).symm

include ha1

/-- The first layer is the sum, the others are as launched. -/
theorem final : (dats m 0 c).arrAt 1 cfg0.N = (cube (stored (total x) s) : FVec Ideal S4x352x1024 .f32) := by
  funext i
  by_cases h : (i (0 : Fin 3) : ℕ) = 0
  · obtain ⟨t, ht⟩ := covered i h
    refine (dats m 0 c).arrAt_apply_of_mem 1 _ (flushed ha0) _ t i t.isLt (flush0_1 t) ?_
    rwa [show ((cfg0.win 1).blk t).view.set = (win0_1.rect t).set from View.set_slice_whole main_v0 _]
  · rw [(dats m 0 c).arrAt_apply_of_forall_not_mem 1 _ i, A_eq]
    · show V m c main_v0 i = _
      rw [entry, ha1]
      exact (if_neg h).symm
    · intro t _ _
      rw [show ((cfg0.win 1).blk t).view.set = (win0_1.rect t).set from View.set_slice_whole main_v0 _]
      exact apart i h t
end

/-- The kernel and the reference end holding the same stack. -/
theorem values : Cert.algebraic_Kernel24Ideal_Reference24Ideal := by
  intro m g m' g' _ hagree
  choose x hx using fun c : Dev nD => exists_cube (φ := .bf16) (m ((c.tc : Thread nD τ).loc main_arg0) : FVec Ideal S8x384x1024 .bf16)
  choose s hs using fun c : Dev nD => exists_cube (φ := .f32) (m ((c.tc : Thread nD τ).loc main_arg1) : FVec Ideal S4x352x1024 .f32)
  refine ⟨fun c => (cube (stored (total (x c)) (s c)) : FVec Ideal S4x352x1024 .f32), ?_, ?_⟩
  · exact (θ_run defs _ _).mono (fun _ h c => ⟨((h.1 c).1 1).trans (final (hx c) (hs c)), h.2.1 c⟩) (θ_run_and (run_main m g) (frame m g))
  · refine (θ_run Cert.Reference24Ideal.defs _ _).mono (fun _ h c => ⟨(h c).1.trans ?_, (h c).2⟩) (Cert.Reference24Ideal.Value.run (F := Ideal) m' g')
    rw [(hagree c).1, (hagree c).2, hx c, hs c]
    erw [host_rows, host_total]
    exact host_stored (by decide) (by decide) _ _ _ _ _

theorem frame_kernel : Cert.quiescent_Kernel24 := by
  have h := fun m ρ (_ : True) => frame (F := Bits) m ρ
  exact cast (by sl_kernel_rfl) h
theorem frame_ideal : Cert.quiescent_Kernel24Ideal := fun m ρ _ => frame (F := Ideal) m ρ
theorem frame_reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

end Cert.Kernel24Ideal.Sum

end
-- ==== Proof.SumFf.lean ====
module

public import proofs.«01_k».proof.Defs
public import proofs.«01_k».proof.Proof.Sums
public import proofs.«01_k».proof.Proof.Gen.Kernel23
public import proofs.«01_k».proof.Proof.Gen.Kernel23Ideal.Value
public import proofs.«01_k».proof.Proof.Gen.Reference23Ideal.Run

@[expose] public section

set_option maxRecDepth 16384

noncomputable section

namespace Cert.Kernel23Ideal.Sum

open Idealize.ShloMosaic Idealize.ShloMosaic.TcCoe Idealize.SL.Sem Cert.Kernel23Ideal.Gen Cert.Extended Cert.Sums

/-! ## The sum over the devices of the gate and up projections' gradients, transposed, a block of columns per grid point -/

/-- What one device sent, of a block. -/
abbrev part (x : ℕ → ℕ → ℕ → EReal) (k : ℕ) : FVec Ideal S1x512x384 .bf16 := cube fun _ => x k

/-- The sum of the parts, transposed. -/
abbrev turned (x : ℕ → ℕ → ℕ → EReal) : ℕ → ℕ → EReal := fun i j => total x j i

theorem pay_eq (x : ℕ → ℕ → ℕ → EReal) :
    k0_pay1 (k0_pay2 (part x 0) (part x 1) (part x 2) (part x 3) (part x 4) (part x 5) (part x 6) (part x 7)) = (cube (fun _ => turned x) : FVec Ideal S1x352x512 .f32) := by
  funext i
  unfold k0_pay1 k0_pay2
  pointwise
  rfl

theorem left (c : Dev nD) (i : grid0.Coords) (a1 : Memref sig .tc .vmem S8x512x384 .bf16) (h1 : a1.IsWhole) (a3 : Memref sig .tc .vmem S1x352x512 .f32) (h3 : a3.IsWhole)
    (x : ℕ → ℕ → ℕ → EReal) :
    out0_A_1 (F := Ideal) c i a1 h1 a3 h3 (cube x : FVec Ideal S8x512x384 .bf16) = (cube (fun _ => turned x) : FVec Ideal S1x352x512 .f32) := by
  unfold out0_A_1
  rw [View.read_writes_eq_canon _ _ _ (cover0_A_1 (F := Ideal) c i a1 h1 a3 h3 _)]
  unfold kernelRun0_A
  dsimp only
  sl_unfold_words
  rw [View.canon_unit_zero corner3]
  simp only [View.readAt_eq_ld, h1.read_unread]
  erw [ld_part16 8 0, ld_part16 8 1, ld_part16 8 2, ld_part16 8 3, ld_part16 8 4, ld_part16 8 5, ld_part16 8 6, ld_part16 8 7]
  exact pay_eq x

theorem ix0 : ∀ t : Fin cfg0.N, win0_0.index t 0 = 0 ∧ win0_0.index t 1 = t.val ∧ win0_0.index t 2 = 0 := by decide +kernel
theorem ix1 : ∀ t : Fin cfg0.N, win0_1.index t 0 = 0 ∧ win0_1.index t 1 = 0 ∧ win0_1.index t 2 = t.val := by decide +kernel

/-- The blocks fill the first layer, -/
theorem covered (i : S4x352x1024.Idx) (h : (i 0 : ℕ) = 0) : ∃ t : Fin cfg0.N, i ∈ (win0_1.rect t).set := by
  have h1 : (i 1 : ℕ) < 352 := (i 1).isLt
  have h2 : (i 2 : ℕ) < 1024 := (i 2).isLt
  have ht : (i 2 : ℕ) / 512 < cfg0.N := by rw [show cfg0.N = 2 from N_0]; omega
  refine ⟨⟨(i 2 : ℕ) / 512, ht⟩, Rect.mem_set_unit.mpr fun a => ?_⟩
  exact within (d := ![1, 352, 512]) (i := fun a => (i a).val) (ix1 _) (by dsimp; omega) (by dsimp; omega) (by dsimp; omega) a

/-- and nothing else. -/
theorem apart (i : S4x352x1024.Idx) (h : (i 0 : ℕ) ≠ 0) (t : Fin cfg0.N) : i ∉ (win0_1.rect t).set := fun hm =>
  h (first_layer (Rect.mem_set_unit.mp hm 0) (ix1 t).1)

section
variable {m : (ℓ : Loc nD τ sig) → Buf (Elt Ideal) ℓ} {c : Dev nD} {x s : ℕ → ℕ → ℕ → EReal}

/-- The result's buffer starts as the stack of layers. -/
theorem entry : V m c main_v0 = m ((c.tc : Thread nD τ).loc main_arg1) := by
  simp only [V, hostOps0]
  after_results_simp
  rfl

variable (ha0 : m ((c.tc : Thread nD τ).loc main_arg0) = (cube x : FVec Ideal S8x1024x384 .bf16))
  (ha1 : m ((c.tc : Thread nD τ).loc main_arg1) = (cube s : FVec Ideal S4x352x1024 .f32))
include ha0

theorem read0 (t : Fin cfg0.N) : iblk m c 0 t = (cube fun d i j => x d (512 * t.val + i) j : FVec Ideal S8x512x384 .bf16) := by
  funext j
  unfold iblk
  rw [View.read_apply]
  show V m c main_arg0 _ = _
  rw [V_main_arg0, ha0]
  exact part_rows x 8 512 384 (j 0).val (j 1).val (j 2).val (ix0 t).1 (ix0 t).2.1 (ix0 t).2.2

theorem flushed (t : Fin cfg0.N) (_ : (cfg0.win 1).flush t = true) :
    (dats m 0 c).flushed 1 t = ((cfg0.win 1).blk t).view.read (Elt Ideal) (cube (stored (turned x) s) : FVec Ideal S4x352x1024 .f32) := by
  show (cfg0.win 1).cut (grid0.coords t) ((dats m 0 c).after 1 t) = _
  rw [after0_1]
  unfold outsAt0
  rw [read0 ha0, left]
  funext j
  rw [View.read_apply]
  exact (stored_cols (turned x) s 352 512 (j 0).val (j 1).val (j 2).val (j 0).isLt (ix1 t).1 (ix1 t).2.1 (ix1 t).2.2).symm

include ha1

/-- The first layer is the sum, the others are as launched. -/
theorem final : (dats m 0 c).arrAt 1 cfg0.N = (cube (stored (turned x) s) : FVec Ideal S4x352x1024 .f32) := by
  funext i
  by_cases h : (i (0 : Fin 3) : ℕ) = 0
  · obtain ⟨t, ht⟩ := covered i h
    refine (dats m 0 c).arrAt_apply_of_mem 1 _ (flushed ha0) _ t i t.isLt (flush0_1 t) ?_
    rwa [show ((cfg0.win 1).blk t).view.set = (win0_1.rect t).set from View.set_slice_whole main_v0 _]
  · rw [(dats m 0 c).arrAt_apply_of_forall_not_mem 1 _ i, A_eq]
    · show V m c main_v0 i = _
      rw [entry, ha1]
      exact (if_neg h).symm
    · intro t _ _
      rw [show ((cfg0.win 1).blk t).view.set = (win0_1.rect t).set from View.set_slice_whole main_v0 _]
      exact apart i h t
end

/-- The kernel and the reference end holding the same stack. -/
theorem values : Cert.algebraic_Kernel23Ideal_Reference23Ideal := by
  intro m g m' g' _ hagree
  choose x hx using fun c : Dev nD => exists_cube (φ := .bf16) (m ((c.tc : Thread nD τ).loc main_arg0) : FVec Ideal S8x1024x384 .bf16)
  choose s hs using fun c : Dev nD => exists_cube (φ := .f32) (m ((c.tc : Thread nD τ).loc main_arg1) : FVec Ideal S4x352x1024 .f32)
  refine ⟨fun c => (cube (stored (turned (x c)) (s c)) : FVec Ideal S4x352x1024 .f32), ?_, ?_⟩
  · exact (θ_run defs _ _).mono (fun _ h c => ⟨((h.1 c).1 1).trans (final (hx c) (hs c)), h.2.1 c⟩) (θ_run_and (run_main m g) (frame m g))
  · refine (θ_run Cert.Reference23Ideal.defs _ _).mono (fun _ h c => ⟨(h c).1.trans ?_, (h c).2⟩) (Cert.Reference23Ideal.Value.run (F := Ideal) m' g')
    rw [(hagree c).1, (hagree c).2, hx c, hs c]
    erw [host_cols, host_total, host_transposed]
    exact host_stored (by decide) (by decide) _ _ _ _ _

theorem frame_kernel : Cert.quiescent_Kernel23 := by
  have h := fun m ρ (_ : True) => frame (F := Bits) m ρ
  exact cast (by sl_kernel_rfl) h
theorem frame_ideal : Cert.quiescent_Kernel23Ideal := fun m ρ _ => frame (F := Ideal) m ρ
theorem frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

end Cert.Kernel23Ideal.Sum

end
-- ==== Proof.SumIn.lean ====
module

public import proofs.«01_k».proof.Defs
public import proofs.«01_k».proof.Proof.Sums
public import proofs.«01_k».proof.Proof.Gen.Kernel22
public import proofs.«01_k».proof.Proof.Gen.Kernel22Ideal.Value
public import proofs.«01_k».proof.Proof.Gen.Reference22Ideal.Run

@[expose] public section

set_option maxRecDepth 16384

noncomputable section

namespace Cert.Kernel22Ideal.Sum

open Idealize.ShloMosaic Idealize.ShloMosaic.TcCoe Idealize.SL.Sem Cert.Kernel22Ideal.Gen Cert.Extended Cert.Sums

/-! ## The sum over the devices of the input projection's gradient, a block of rows per grid point -/

/-- What one device sent, of a block. -/
abbrev part (x : ℕ → ℕ → ℕ → EReal) (k : ℕ) : FVec Ideal S1x512x384 .bf16 := cube fun _ => x k

theorem pay_eq (x : ℕ → ℕ → ℕ → EReal) :
    k0_pay1 (k0_pay2 (part x 0) (part x 1) (part x 2) (part x 3) (part x 4) (part x 5) (part x 6) (part x 7)) = (cube (fun _ => total x) : FVec Ideal S1x512x384 .f32) := by
  funext i
  unfold k0_pay1 k0_pay2
  pointwise
  rfl

theorem left (c : Dev nD) (i : grid0.Coords) (a1 : Memref sig .tc .vmem S8x512x384 .bf16) (h1 : a1.IsWhole) (a3 : Memref sig .tc .vmem S1x512x384 .f32) (h3 : a3.IsWhole)
    (x : ℕ → ℕ → ℕ → EReal) :
    out0_A_1 (F := Ideal) c i a1 h1 a3 h3 (cube x : FVec Ideal S8x512x384 .bf16) = (cube (fun _ => total x) : FVec Ideal S1x512x384 .f32) := by
  unfold out0_A_1
  rw [View.read_writes_eq_canon _ _ _ (cover0_A_1 (F := Ideal) c i a1 h1 a3 h3 _)]
  unfold kernelRun0_A
  dsimp only
  sl_unfold_words
  rw [View.canon_unit_zero corner3]
  simp only [View.readAt_eq_ld, h1.read_unread]
  erw [ld_part16 8 0, ld_part16 8 1, ld_part16 8 2, ld_part16 8 3, ld_part16 8 4, ld_part16 8 5, ld_part16 8 6, ld_part16 8 7]
  exact pay_eq x

theorem ix0 : ∀ t : Fin cfg0.N, win0_0.index t 0 = 0 ∧ win0_0.index t 1 = t.val ∧ win0_0.index t 2 = 0 := by decide +kernel
theorem ix1 : ∀ t : Fin cfg0.N, win0_1.index t 0 = 0 ∧ win0_1.index t 1 = t.val ∧ win0_1.index t 2 = 0 := by decide +kernel

/-- The blocks fill the first layer, -/
theorem covered (i : S4x1024x384.Idx) (h : (i 0 : ℕ) = 0) : ∃ t : Fin cfg0.N, i ∈ (win0_1.rect t).set := by
  have h1 : (i 1 : ℕ) < 1024 := (i 1).isLt
  have h2 : (i 2 : ℕ) < 384 := (i 2).isLt
  have ht : (i 1 : ℕ) / 512 < cfg0.N := by rw [show cfg0.N = 2 from N_0]; omega
  refine ⟨⟨(i 1 : ℕ) / 512, ht⟩, Rect.mem_set_unit.mpr fun a => ?_⟩
  exact within (d := ![1, 512, 384]) (i := fun a => (i a).val) (ix1 _) (by dsimp; omega) (by dsimp; omega) (by dsimp; omega) a

/-- and nothing else. -/
theorem apart (i : S4x1024x384.Idx) (h : (i 0 : ℕ) ≠ 0) (t : Fin cfg0.N) : i ∉ (win0_1.rect t).set := fun hm =>
  h (first_layer (Rect.mem_set_unit.mp hm 0) (ix1 t).1)

section
variable {m : (ℓ : Loc nD τ sig) → Buf (Elt Ideal) ℓ} {c : Dev nD} {x s : ℕ → ℕ → ℕ → EReal}

/-- The result's buffer starts as the stack of layers. -/
theorem entry : V m c main_v0 = m ((c.tc : Thread nD τ).loc main_arg1) := by
  simp only [V, hostOps0]
  after_results_simp
  rfl

variable (ha0 : m ((c.tc : Thread nD τ).loc main_arg0) = (cube x : FVec Ideal S8x1024x384 .bf16))
  (ha1 : m ((c.tc : Thread nD τ).loc main_arg1) = (cube s : FVec Ideal S4x1024x384 .f32))
include ha0

theorem read0 (t : Fin cfg0.N) : iblk m c 0 t = (cube fun d i j => x d (512 * t.val + i) j : FVec Ideal S8x512x384 .bf16) := by
  funext j
  unfold iblk
  rw [View.read_apply]
  show V m c main_arg0 _ = _
  rw [V_main_arg0, ha0]
  exact part_rows x 8 512 384 (j 0).val (j 1).val (j 2).val (ix0 t).1 (ix0 t).2.1 (ix0 t).2.2

theorem flushed (t : Fin cfg0.N) (_ : (cfg0.win 1).flush t = true) :
    (dats m 0 c).flushed 1 t = ((cfg0.win 1).blk t).view.read (Elt Ideal) (cube (stored (total x) s) : FVec Ideal S4x1024x384 .f32) := by
  show (cfg0.win 1).cut (grid0.coords t) ((dats m 0 c).after 1 t) = _
  rw [after0_1]
  unfold outsAt0
  rw [read0 ha0, left]
  funext j
  rw [View.read_apply]
  exact (stored_rows (total x) s 512 384 (j 0).val (j 1).val (j 2).val (j 0).isLt (ix1 t).1 (ix1 t).2.1 (ix1 t).2.2).symm

include ha1

/-- The first layer is the sum, the others are as launched. -/
theorem final : (dats m 0 c).arrAt 1 cfg0.N = (cube (stored (total x) s) : FVec Ideal S4x1024x384 .f32) := by
  funext i
  by_cases h : (i (0 : Fin 3) : ℕ) = 0
  · obtain ⟨t, ht⟩ := covered i h
    refine (dats m 0 c).arrAt_apply_of_mem 1 _ (flushed ha0) _ t i t.isLt (flush0_1 t) ?_
    rwa [show ((cfg0.win 1).blk t).view.set = (win0_1.rect t).set from View.set_slice_whole main_v0 _]
  · rw [(dats m 0 c).arrAt_apply_of_forall_not_mem 1 _ i, A_eq]
    · show V m c main_v0 i = _
      rw [entry, ha1]
      exact (if_neg h).symm
    · intro t _ _
      rw [show ((cfg0.win 1).blk t).view.set = (win0_1.rect t).set from View.set_slice_whole main_v0 _]
      exact apart i h t
end

/-- The kernel and the reference end holding the same stack. -/
theorem values : Cert.algebraic_Kernel22Ideal_Reference22Ideal := by
  intro m g m' g' _ hagree
  choose x hx using fun c : Dev nD => exists_cube (φ := .bf16) (m ((c.tc : Thread nD τ).loc main_arg0) : FVec Ideal S8x1024x384 .bf16)
  choose s hs using fun c : Dev nD => exists_cube (φ := .f32) (m ((c.tc : Thread nD τ).loc main_arg1) : FVec Ideal S4x1024x384 .f32)
  refine ⟨fun c => (cube (stored (total (x c)) (s c)) : FVec Ideal S4x1024x384 .f32), ?_, ?_⟩
  · exact (θ_run defs _ _).mono (fun _ h c => ⟨((h.1 c).1 1).trans (final (hx c) (hs c)), h.2.1 c⟩) (θ_run_and (run_main m g) (frame m g))
  · refine (θ_run Cert.Reference22Ideal.defs _ _).mono (fun _ h c => ⟨(h c).1.trans ?_, (h c).2⟩) (Cert.Reference22Ideal.Value.run (F := Ideal) m' g')
    rw [(hagree c).1, (hagree c).2, hx c, hs c]
    erw [host_total]
    exact host_stored (by decide) (by decide) _ _ _ _ _

theorem frame_kernel : Cert.quiescent_Kernel22 := by
  have h := fun m ρ (_ : True) => frame (F := Bits) m ρ
  exact cast (by sl_kernel_rfl) h
theorem frame_ideal : Cert.quiescent_Kernel22Ideal := fun m ρ _ => frame (F := Ideal) m ρ
theorem frame_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

end Cert.Kernel22Ideal.Sum

end
-- ==== Proof.Moments.lean ====
module

public import Idealize.ShloMosaic.Lib.Pointwise
public import Idealize.ShloMosaic.Lib.IdealHost
public import Idealize.ShloMosaic.PureOps.Ideal.Laws

@[expose] public section

noncomputable section

namespace Cert.Moments

open Idealize.ShloMosaic

/-! ## One step of the optimiser, element by element, for arrays of any shape

`w` the weight, `g` its gradient, `m` and `v` the running moments. -/

variable {s : Shape}

/-- A constant of the step. -/
abbrev lit (b : BitVec 32) : Ideal .f32 := Scalar.ofBits .f32 b

/-- The new first moment. -/
def first (g m : FVec Ideal s .f32) : FVec Ideal s .f32 := fun i =>
  Scalar.addf (Scalar.mulf (lit 0x3F666666#32) (m i)) (Scalar.mulf (lit 0x3DCCCCCD#32) (g i))

/-- The new second moment. -/
def second (g v : FVec Ideal s .f32) : FVec Ideal s .f32 := fun i =>
  Scalar.addf (Scalar.mulf (lit 0x3F7FBE77#32) (v i)) (Scalar.mulf (lit 0x3A83126F#32) (Scalar.mulf (g i) (g i)))

/-- The change of the weight: the corrected moments' quotient and the decay, scaled by the rate. -/
def change (w g m v : FVec Ideal s .f32) : FVec Ideal s .f32 := fun i =>
  Scalar.mulf (lit 0xBA83126F#32)
    (Scalar.addf
      (Scalar.divf (Scalar.divf (first g m i) (lit 0x3F26BD02#32))
        (Scalar.addf (Scalar.sqrt (Scalar.divf (second g v i) (lit 0x3C231ACC#32))) (lit 0x322BCC77#32)))
      (Scalar.mulf (lit 0x3C23D70A#32) (w i)))

/-- Blocks of `b` rows, each as wide as the array, one per grid point, reach every element. -/
theorem rows_cover {d b : Fin 2 → ℕ} {N : ℕ} (ix : Fin N → Fin 2 → ℕ) (hix : ∀ t, ix t 0 = t.val ∧ ix t 1 = 0)
    (hb : 0 < b 0) (hd : d 0 ≤ N * b 0) (hw : d 1 ≤ b 1) (i : Shape.Idx ⟨2, d⟩) :
    ∃ t, ∀ a : Fin 2, ix t a * b a ≤ (i a).val ∧ (i a).val < ix t a * b a + b a := by
  have h0 : (i 0).val < d 0 := (i 0).isLt
  have h1 : (i 1).val < d 1 := (i 1).isLt
  refine ⟨⟨(i 0).val / b 0, Nat.div_lt_of_lt_mul (by rw [Nat.mul_comm]; omega)⟩, fun a => ?_⟩
  match a with
  | ⟨0, _⟩ =>
    show ix _ 0 * b 0 ≤ (i 0).val ∧ (i 0).val < ix _ 0 * b 0 + b 0
    rw [(hix _).1]
    exact ⟨Nat.div_mul_le_self _ _, Nat.lt_div_mul_add hb⟩
  | ⟨1, _⟩ =>
    show ix _ 1 * b 1 ≤ (i 1).val ∧ (i 1).val < ix _ 1 * b 1 + b 1
    rw [(hix _).2, Nat.zero_mul, Nat.zero_add]
    exact ⟨Nat.zero_le _, lt_of_lt_of_le h1 hw⟩

end Cert.Moments

end
-- ==== Proof.AdamIn.lean ====
module

public import proofs.«01_k».proof.Defs
public import proofs.«01_k».proof.Proof.Extended
public import proofs.«01_k».proof.Proof.Moments
public import proofs.«01_k».proof.Proof.Gen.Kernel12
public import proofs.«01_k».proof.Proof.Gen.Kernel12Ideal.Frame
public import proofs.«01_k».proof.Proof.Gen.Reference12Ideal.Run

@[expose] public section

set_option maxRecDepth 16384

noncomputable section

namespace Cert.Kernel12Ideal.Adam

open Idealize.ShloMosaic Idealize.ShloMosaic.TcCoe Idealize.SL.Sem Cert.Kernel12Ideal.Gen Cert.Extended Cert.Moments

/-! ## The optimiser's step on a 4096 × 384 weight, a block of rows per grid point -/

theorem pay1_eq (g m : FVec Ideal S512x384 .f32) : k0_pay1 g m = first g m := rfl
theorem pay2_eq (g v : FVec Ideal S512x384 .f32) : k0_pay2 g v = second g v := rfl
theorem pay3_eq (w g m v : FVec Ideal S512x384 .f32) : k0_pay3 g m v w = change w g m v := rfl

variable (x0 x1 x2 x3 : FVec Ideal S512x384 .f32)

theorem left4 : out0_4 (F := Ideal) x0 x1 x2 x3 = change x0 x1 x2 x3 := by
  unfold out0_4
  rw [View.canon_unit_zero corner, View.ld_unit_zero corner, View.ld_unit_zero corner, View.ld_unit_zero corner, View.ld_unit_zero corner, pay3_eq]
theorem left5 : out0_5 (F := Ideal) x0 x1 x2 x3 = first x1 x2 := by
  unfold out0_5
  rw [View.canon_unit_zero corner, View.ld_unit_zero corner, View.ld_unit_zero corner, pay1_eq]
theorem left6 : out0_6 (F := Ideal) x0 x1 x2 x3 = second x1 x3 := by
  unfold out0_6
  rw [View.canon_unit_zero corner, View.ld_unit_zero corner, View.ld_unit_zero corner, pay2_eq]

theorem ix4 : ∀ t : Fin cfg0.N, win0_4.index t 0 = t.val ∧ win0_4.index t 1 = 0 := by decide +kernel

/-- The blocks cover the array. -/
theorem covered (i : S4096x384.Idx) : ∃ t : Fin cfg0.N, i ∈ (win0_4.rect t).set := by
  obtain ⟨t, ht⟩ := rows_cover (b := ![512, 384]) win0_4.index ix4 (by decide) (by decide) (by decide) i
  exact ⟨t, Rect.mem_set_unit.mpr ht⟩

variable (m : (ℓ : Loc nD τ sig) → Buf (Elt Ideal) ℓ) (c : Dev nD)

/-- An argument as launched. -/
abbrev at0 : FVec Ideal S4096x384 .f32 := m ((c.tc : Thread nD τ).loc main_arg0)
abbrev at1 : FVec Ideal S4096x384 .f32 := m ((c.tc : Thread nD τ).loc main_arg1)
abbrev at2 : FVec Ideal S4096x384 .f32 := m ((c.tc : Thread nD τ).loc main_arg2)
abbrev at3 : FVec Ideal S4096x384 .f32 := m ((c.tc : Thread nD τ).loc main_arg3)

theorem final4 : (dats m 0 c).arrAt 4 cfg0.N = change (at0 m c) (at1 m c) (at2 m c) (at3 m c) :=
  (dats m 0 c).arrAt_eq_of_cover 4 _ (fun t _ => by
    show (cfg0.win 4).cut (grid0.coords t) ((dats m 0 c).after 4 t) = _
    rw [after0_4, left4]; rfl) fun i => by
    obtain ⟨t, ht⟩ := covered i
    refine ⟨t, flush0_4 t, ?_⟩
    show i ∈ ((View.whole main_v0_0).slice (win0_4.rect t)).set
    rwa [View.set_slice_whole]

theorem final5 : (dats m 0 c).arrAt 5 cfg0.N = first (at1 m c) (at2 m c) :=
  (dats m 0 c).arrAt_eq_of_cover 5 _ (fun t _ => by
    show (cfg0.win 5).cut (grid0.coords t) ((dats m 0 c).after 5 t) = _
    rw [after0_5, left5]; rfl) fun i => by
    obtain ⟨t, ht⟩ := covered i
    refine ⟨t, flush0_5 t, ?_⟩
    show i ∈ ((View.whole main_v0_1).slice (win0_5.rect t)).set
    rwa [View.set_slice_whole]

theorem final6 : (dats m 0 c).arrAt 6 cfg0.N = second (at1 m c) (at3 m c) :=
  (dats m 0 c).arrAt_eq_of_cover 6 _ (fun t _ => by
    show (cfg0.win 6).cut (grid0.coords t) ((dats m 0 c).after 6 t) = _
    rw [after0_6, left6]; rfl) fun i => by
    obtain ⟨t, ht⟩ := covered i
    refine ⟨t, flush0_6 t, ?_⟩
    show i ∈ ((View.whole main_v0_2).slice (win0_6.rect t)).set
    rwa [View.set_slice_whole]

/-- The kernel and the reference end holding the same change and moments. -/
theorem values : Cert.algebraic_Kernel12Ideal_Reference12Ideal := by
  intro m g m' g' _ hagree
  refine ⟨fun c => change (at0 m c) (at1 m c) (at2 m c) (at3 m c), fun c => first (at1 m c) (at2 m c), fun c => second (at1 m c) (at3 m c), ?_, ?_⟩
  · exact (θ_run defs _ _).mono (fun r h c => ⟨((h.1 c).1 4).trans (final4 m c), ((h.1 c).1 5).trans (final5 m c), ((h.1 c).1 6).trans (final6 m c), h.2.1 c⟩) (θ_run_and (run_main m g) (frame m g))
  · refine (θ_run Cert.Reference12Ideal.defs _ _).mono (fun r h c => ⟨(h c).1.trans ?_, (h c).2.1.trans ?_, (h c).2.2.1.trans ?_, (h c).2.2.2⟩) (Cert.Reference12Ideal.Value.run (F := Ideal) m' g')
    · rw [(hagree c).1, (hagree c).2.1, (hagree c).2.2.1, (hagree c).2.2.2]; rfl
    · rw [(hagree c).2.1, (hagree c).2.2.1]; rfl
    · rw [(hagree c).2.1, (hagree c).2.2.2]; rfl

theorem frame_kernel : Cert.quiescent_Kernel12 := by
  have h := fun m ρ (_ : True) => frame (F := Bits) m ρ
  exact cast (by sl_kernel_rfl) h
theorem frame_ideal : Cert.quiescent_Kernel12Ideal := fun m ρ _ => frame (F := Ideal) m ρ
theorem frame_reference : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

end Cert.Kernel12Ideal.Adam

end
-- ==== Proof.AdamFf.lean ====
module

public import proofs.«01_k».proof.Defs
public import proofs.«01_k».proof.Proof.Extended
public import proofs.«01_k».proof.Proof.Moments
public import proofs.«01_k».proof.Proof.Gen.Kernel13
public import proofs.«01_k».proof.Proof.Gen.Kernel13Ideal.Frame
public import proofs.«01_k».proof.Proof.Gen.Reference13Ideal.Run

@[expose] public section

set_option maxRecDepth 16384

noncomputable section

namespace Cert.Kernel13Ideal.Adam

open Idealize.ShloMosaic Idealize.ShloMosaic.TcCoe Idealize.SL.Sem Cert.Kernel13Ideal.Gen Cert.Extended Cert.Moments

/-! ## The optimiser's step on a 1408 × 1024 weight, a block of rows per grid point -/

theorem pay1_eq (g m : FVec Ideal S352x1024 .f32) : k0_pay1 g m = first g m := rfl
theorem pay2_eq (g v : FVec Ideal S352x1024 .f32) : k0_pay2 g v = second g v := rfl
theorem pay3_eq (w g m v : FVec Ideal S352x1024 .f32) : k0_pay3 g m v w = change w g m v := rfl

variable (x0 x1 x2 x3 : FVec Ideal S352x1024 .f32)

theorem left4 : out0_4 (F := Ideal) x0 x1 x2 x3 = change x0 x1 x2 x3 := by
  unfold out0_4
  rw [View.canon_unit_zero corner, View.ld_unit_zero corner, View.ld_unit_zero corner, View.ld_unit_zero corner, View.ld_unit_zero corner, pay3_eq]
theorem left5 : out0_5 (F := Ideal) x0 x1 x2 x3 = first x1 x2 := by
  unfold out0_5
  rw [View.canon_unit_zero corner, View.ld_unit_zero corner, View.ld_unit_zero corner, pay1_eq]
theorem left6 : out0_6 (F := Ideal) x0 x1 x2 x3 = second x1 x3 := by
  unfold out0_6
  rw [View.canon_unit_zero corner, View.ld_unit_zero corner, View.ld_unit_zero corner, pay2_eq]

theorem ix4 : ∀ t : Fin cfg0.N, win0_4.index t 0 = t.val ∧ win0_4.index t 1 = 0 := by decide +kernel

/-- The blocks cover the array. -/
theorem covered (i : S1408x1024.Idx) : ∃ t : Fin cfg0.N, i ∈ (win0_4.rect t).set := by
  obtain ⟨t, ht⟩ := rows_cover (b := ![352, 1024]) win0_4.index ix4 (by decide) (by decide) (by decide) i
  exact ⟨t, Rect.mem_set_unit.mpr ht⟩

variable (m : (ℓ : Loc nD τ sig) → Buf (Elt Ideal) ℓ) (c : Dev nD)

/-- An argument as launched. -/
abbrev at0 : FVec Ideal S1408x1024 .f32 := m ((c.tc : Thread nD τ).loc main_arg0)
abbrev at1 : FVec Ideal S1408x1024 .f32 := m ((c.tc : Thread nD τ).loc main_arg1)
abbrev at2 : FVec Ideal S1408x1024 .f32 := m ((c.tc : Thread nD τ).loc main_arg2)
abbrev at3 : FVec Ideal S1408x1024 .f32 := m ((c.tc : Thread nD τ).loc main_arg3)

theorem final4 : (dats m 0 c).arrAt 4 cfg0.N = change (at0 m c) (at1 m c) (at2 m c) (at3 m c) :=
  (dats m 0 c).arrAt_eq_of_cover 4 _ (fun t _ => by
    show (cfg0.win 4).cut (grid0.coords t) ((dats m 0 c).after 4 t) = _
    rw [after0_4, left4]; rfl) fun i => by
    obtain ⟨t, ht⟩ := covered i
    refine ⟨t, flush0_4 t, ?_⟩
    show i ∈ ((View.whole main_v0_0).slice (win0_4.rect t)).set
    rwa [View.set_slice_whole]

theorem final5 : (dats m 0 c).arrAt 5 cfg0.N = first (at1 m c) (at2 m c) :=
  (dats m 0 c).arrAt_eq_of_cover 5 _ (fun t _ => by
    show (cfg0.win 5).cut (grid0.coords t) ((dats m 0 c).after 5 t) = _
    rw [after0_5, left5]; rfl) fun i => by
    obtain ⟨t, ht⟩ := covered i
    refine ⟨t, flush0_5 t, ?_⟩
    show i ∈ ((View.whole main_v0_1).slice (win0_5.rect t)).set
    rwa [View.set_slice_whole]

theorem final6 : (dats m 0 c).arrAt 6 cfg0.N = second (at1 m c) (at3 m c) :=
  (dats m 0 c).arrAt_eq_of_cover 6 _ (fun t _ => by
    show (cfg0.win 6).cut (grid0.coords t) ((dats m 0 c).after 6 t) = _
    rw [after0_6, left6]; rfl) fun i => by
    obtain ⟨t, ht⟩ := covered i
    refine ⟨t, flush0_6 t, ?_⟩
    show i ∈ ((View.whole main_v0_2).slice (win0_6.rect t)).set
    rwa [View.set_slice_whole]

/-- The kernel and the reference end holding the same change and moments. -/
theorem values : Cert.algebraic_Kernel13Ideal_Reference13Ideal := by
  intro m g m' g' _ hagree
  refine ⟨fun c => change (at0 m c) (at1 m c) (at2 m c) (at3 m c), fun c => first (at1 m c) (at2 m c), fun c => second (at1 m c) (at3 m c), ?_, ?_⟩
  · exact (θ_run defs _ _).mono (fun r h c => ⟨((h.1 c).1 4).trans (final4 m c), ((h.1 c).1 5).trans (final5 m c), ((h.1 c).1 6).trans (final6 m c), h.2.1 c⟩) (θ_run_and (run_main m g) (frame m g))
  · refine (θ_run Cert.Reference13Ideal.defs _ _).mono (fun r h c => ⟨(h c).1.trans ?_, (h c).2.1.trans ?_, (h c).2.2.1.trans ?_, (h c).2.2.2⟩) (Cert.Reference13Ideal.Value.run (F := Ideal) m' g')
    · rw [(hagree c).1, (hagree c).2.1, (hagree c).2.2.1, (hagree c).2.2.2]; rfl
    · rw [(hagree c).2.1, (hagree c).2.2.1]; rfl
    · rw [(hagree c).2.1, (hagree c).2.2.2]; rfl

theorem frame_kernel : Cert.quiescent_Kernel13 := by
  have h := fun m ρ (_ : True) => frame (F := Bits) m ρ
  exact cast (by sl_kernel_rfl) h
theorem frame_ideal : Cert.quiescent_Kernel13Ideal := fun m ρ _ => frame (F := Ideal) m ρ
theorem frame_reference : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

end Cert.Kernel13Ideal.Adam

end
-- ==== Proof.AdamOut.lean ====
module

public import proofs.«01_k».proof.Defs
public import proofs.«01_k».proof.Proof.Extended
public import proofs.«01_k».proof.Proof.Moments
public import proofs.«01_k».proof.Proof.Gen.Kernel14
public import proofs.«01_k».proof.Proof.Gen.Kernel14Ideal.Frame
public import proofs.«01_k».proof.Proof.Gen.Reference14Ideal.Run

@[expose] public section

set_option maxRecDepth 16384

noncomputable section

namespace Cert.Kernel14Ideal.Adam

open Idealize.ShloMosaic Idealize.ShloMosaic.TcCoe Idealize.SL.Sem Cert.Kernel14Ideal.Gen Cert.Extended Cert.Moments

/-! ## The optimiser's step on a 512 × 1024 weight, a block of rows per grid point -/

theorem pay1_eq (g m : FVec Ideal S128x1024 .f32) : k0_pay1 g m = first g m := rfl
theorem pay2_eq (g v : FVec Ideal S128x1024 .f32) : k0_pay2 g v = second g v := rfl
theorem pay3_eq (w g m v : FVec Ideal S128x1024 .f32) : k0_pay3 g m v w = change w g m v := rfl

variable (x0 x1 x2 x3 : FVec Ideal S128x1024 .f32)

theorem left4 : out0_4 (F := Ideal) x0 x1 x2 x3 = change x0 x1 x2 x3 := by
  unfold out0_4
  rw [View.canon_unit_zero corner, View.ld_unit_zero corner, View.ld_unit_zero corner, View.ld_unit_zero corner, View.ld_unit_zero corner, pay3_eq]
theorem left5 : out0_5 (F := Ideal) x0 x1 x2 x3 = first x1 x2 := by
  unfold out0_5
  rw [View.canon_unit_zero corner, View.ld_unit_zero corner, View.ld_unit_zero corner, pay1_eq]
theorem left6 : out0_6 (F := Ideal) x0 x1 x2 x3 = second x1 x3 := by
  unfold out0_6
  rw [View.canon_unit_zero corner, View.ld_unit_zero corner, View.ld_unit_zero corner, pay2_eq]

theorem ix4 : ∀ t : Fin cfg0.N, win0_4.index t 0 = t.val ∧ win0_4.index t 1 = 0 := by decide +kernel

/-- The blocks cover the array. -/
theorem covered (i : S512x1024.Idx) : ∃ t : Fin cfg0.N, i ∈ (win0_4.rect t).set := by
  obtain ⟨t, ht⟩ := rows_cover (b := ![128, 1024]) win0_4.index ix4 (by decide) (by decide) (by decide) i
  exact ⟨t, Rect.mem_set_unit.mpr ht⟩

variable (m : (ℓ : Loc nD τ sig) → Buf (Elt Ideal) ℓ) (c : Dev nD)

/-- An argument as launched. -/
abbrev at0 : FVec Ideal S512x1024 .f32 := m ((c.tc : Thread nD τ).loc main_arg0)
abbrev at1 : FVec Ideal S512x1024 .f32 := m ((c.tc : Thread nD τ).loc main_arg1)
abbrev at2 : FVec Ideal S512x1024 .f32 := m ((c.tc : Thread nD τ).loc main_arg2)
abbrev at3 : FVec Ideal S512x1024 .f32 := m ((c.tc : Thread nD τ).loc main_arg3)

theorem final4 : (dats m 0 c).arrAt 4 cfg0.N = change (at0 m c) (at1 m c) (at2 m c) (at3 m c) :=
  (dats m 0 c).arrAt_eq_of_cover 4 _ (fun t _ => by
    show (cfg0.win 4).cut (grid0.coords t) ((dats m 0 c).after 4 t) = _
    rw [after0_4, left4]; rfl) fun i => by
    obtain ⟨t, ht⟩ := covered i
    refine ⟨t, flush0_4 t, ?_⟩
    show i ∈ ((View.whole main_v0_0).slice (win0_4.rect t)).set
    rwa [View.set_slice_whole]

theorem final5 : (dats m 0 c).arrAt 5 cfg0.N = first (at1 m c) (at2 m c) :=
  (dats m 0 c).arrAt_eq_of_cover 5 _ (fun t _ => by
    show (cfg0.win 5).cut (grid0.coords t) ((dats m 0 c).after 5 t) = _
    rw [after0_5, left5]; rfl) fun i => by
    obtain ⟨t, ht⟩ := covered i
    refine ⟨t, flush0_5 t, ?_⟩
    show i ∈ ((View.whole main_v0_1).slice (win0_5.rect t)).set
    rwa [View.set_slice_whole]

theorem final6 : (dats m 0 c).arrAt 6 cfg0.N = second (at1 m c) (at3 m c) :=
  (dats m 0 c).arrAt_eq_of_cover 6 _ (fun t _ => by
    show (cfg0.win 6).cut (grid0.coords t) ((dats m 0 c).after 6 t) = _
    rw [after0_6, left6]; rfl) fun i => by
    obtain ⟨t, ht⟩ := covered i
    refine ⟨t, flush0_6 t, ?_⟩
    show i ∈ ((View.whole main_v0_2).slice (win0_6.rect t)).set
    rwa [View.set_slice_whole]

/-- The kernel and the reference end holding the same change and moments. -/
theorem values : Cert.algebraic_Kernel14Ideal_Reference14Ideal := by
  intro m g m' g' _ hagree
  refine ⟨fun c => change (at0 m c) (at1 m c) (at2 m c) (at3 m c), fun c => first (at1 m c) (at2 m c), fun c => second (at1 m c) (at3 m c), ?_, ?_⟩
  · exact (θ_run defs _ _).mono (fun r h c => ⟨((h.1 c).1 4).trans (final4 m c), ((h.1 c).1 5).trans (final5 m c), ((h.1 c).1 6).trans (final6 m c), h.2.1 c⟩) (θ_run_and (run_main m g) (frame m g))
  · refine (θ_run Cert.Reference14Ideal.defs _ _).mono (fun r h c => ⟨(h c).1.trans ?_, (h c).2.1.trans ?_, (h c).2.2.1.trans ?_, (h c).2.2.2⟩) (Cert.Reference14Ideal.Value.run (F := Ideal) m' g')
    · rw [(hagree c).1, (hagree c).2.1, (hagree c).2.2.1, (hagree c).2.2.2]; rfl
    · rw [(hagree c).2.1, (hagree c).2.2.1]; rfl
    · rw [(hagree c).2.1, (hagree c).2.2.2]; rfl

theorem frame_kernel : Cert.quiescent_Kernel14 := by
  have h := fun m ρ (_ : True) => frame (F := Bits) m ρ
  exact cast (by sl_kernel_rfl) h
theorem frame_ideal : Cert.quiescent_Kernel14Ideal := fun m ρ _ => frame (F := Ideal) m ρ
theorem frame_reference : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

end Cert.Kernel14Ideal.Adam

end
-- ==== Proof.AdamConv.lean ====
module

public import proofs.«01_k».proof.Defs
public import proofs.«01_k».proof.Proof.Extended
public import proofs.«01_k».proof.Proof.Moments
public import proofs.«01_k».proof.Proof.Gen.Kernel15
public import proofs.«01_k».proof.Proof.Gen.Kernel15Ideal.Frame
public import proofs.«01_k».proof.Proof.Gen.Reference15Ideal.Run

@[expose] public section

set_option maxRecDepth 16384

noncomputable section

namespace Cert.Kernel15Ideal.Adam

open Idealize.ShloMosaic Idealize.ShloMosaic.TcCoe Idealize.SL.Sem Cert.Kernel15Ideal.Gen Cert.Extended Cert.Moments

/-! ## The optimiser's step on a 16 × 48 weight -/

theorem pay1_eq (g m : FVec Ideal S16x48 .f32) : k0_pay1 g m = first g m := rfl
theorem pay2_eq (g v : FVec Ideal S16x48 .f32) : k0_pay2 g v = second g v := rfl
theorem pay3_eq (w g m v : FVec Ideal S16x48 .f32) : k0_pay3 g m v w = change w g m v := rfl

variable (x0 x1 x2 x3 : FVec Ideal S16x48 .f32)

theorem left4 : out0_4 (F := Ideal) x0 x1 x2 x3 = change x0 x1 x2 x3 := by
  unfold out0_4
  rw [View.canon_unit_zero corner, View.ld_unit_zero corner, View.ld_unit_zero corner, View.ld_unit_zero corner, View.ld_unit_zero corner, pay3_eq]
theorem left5 : out0_5 (F := Ideal) x0 x1 x2 x3 = first x1 x2 := by
  unfold out0_5
  rw [View.canon_unit_zero corner, View.ld_unit_zero corner, View.ld_unit_zero corner, pay1_eq]
theorem left6 : out0_6 (F := Ideal) x0 x1 x2 x3 = second x1 x3 := by
  unfold out0_6
  rw [View.canon_unit_zero corner, View.ld_unit_zero corner, View.ld_unit_zero corner, pay2_eq]

theorem ix4 : ∀ t : Fin cfg0.N, win0_4.index t 0 = t.val ∧ win0_4.index t 1 = 0 := by decide +kernel

/-- The blocks cover the array. -/
theorem covered (i : S16x48.Idx) : ∃ t : Fin cfg0.N, i ∈ (win0_4.rect t).set := by
  obtain ⟨t, ht⟩ := rows_cover (b := ![16, 48]) win0_4.index ix4 (by decide) (by decide) (by decide) i
  exact ⟨t, Rect.mem_set_unit.mpr ht⟩

variable (m : (ℓ : Loc nD τ sig) → Buf (Elt Ideal) ℓ) (c : Dev nD)

/-- An argument as launched. -/
abbrev at0 : FVec Ideal S16x48 .f32 := m ((c.tc : Thread nD τ).loc main_arg0)
abbrev at1 : FVec Ideal S16x48 .f32 := m ((c.tc : Thread nD τ).loc main_arg1)
abbrev at2 : FVec Ideal S16x48 .f32 := m ((c.tc : Thread nD τ).loc main_arg2)
abbrev at3 : FVec Ideal S16x48 .f32 := m ((c.tc : Thread nD τ).loc main_arg3)

theorem final4 : (dats m 0 c).arrAt 4 cfg0.N = change (at0 m c) (at1 m c) (at2 m c) (at3 m c) :=
  (dats m 0 c).arrAt_eq_of_cover 4 _ (fun t _ => by
    show (cfg0.win 4).cut (grid0.coords t) ((dats m 0 c).after 4 t) = _
    rw [after0_4, left4]; rfl) fun i => by
    obtain ⟨t, ht⟩ := covered i
    refine ⟨t, flush0_4 t, ?_⟩
    show i ∈ ((View.whole main_v0_0).slice (win0_4.rect t)).set
    rwa [View.set_slice_whole]

theorem final5 : (dats m 0 c).arrAt 5 cfg0.N = first (at1 m c) (at2 m c) :=
  (dats m 0 c).arrAt_eq_of_cover 5 _ (fun t _ => by
    show (cfg0.win 5).cut (grid0.coords t) ((dats m 0 c).after 5 t) = _
    rw [after0_5, left5]; rfl) fun i => by
    obtain ⟨t, ht⟩ := covered i
    refine ⟨t, flush0_5 t, ?_⟩
    show i ∈ ((View.whole main_v0_1).slice (win0_5.rect t)).set
    rwa [View.set_slice_whole]

theorem final6 : (dats m 0 c).arrAt 6 cfg0.N = second (at1 m c) (at3 m c) :=
  (dats m 0 c).arrAt_eq_of_cover 6 _ (fun t _ => by
    show (cfg0.win 6).cut (grid0.coords t) ((dats m 0 c).after 6 t) = _
    rw [after0_6, left6]; rfl) fun i => by
    obtain ⟨t, ht⟩ := covered i
    refine ⟨t, flush0_6 t, ?_⟩
    show i ∈ ((View.whole main_v0_2).slice (win0_6.rect t)).set
    rwa [View.set_slice_whole]

/-- The kernel and the reference end holding the same change and moments. -/
theorem values : Cert.algebraic_Kernel15Ideal_Reference15Ideal := by
  intro m g m' g' _ hagree
  refine ⟨fun c => change (at0 m c) (at1 m c) (at2 m c) (at3 m c), fun c => first (at1 m c) (at2 m c), fun c => second (at1 m c) (at3 m c), ?_, ?_⟩
  · exact (θ_run defs _ _).mono (fun r h c => ⟨((h.1 c).1 4).trans (final4 m c), ((h.1 c).1 5).trans (final5 m c), ((h.1 c).1 6).trans (final6 m c), h.2.1 c⟩) (θ_run_and (run_main m g) (frame m g))
  · refine (θ_run Cert.Reference15Ideal.defs _ _).mono (fun r h c => ⟨(h c).1.trans ?_, (h c).2.1.trans ?_, (h c).2.2.1.trans ?_, (h c).2.2.2⟩) (Cert.Reference15Ideal.Value.run (F := Ideal) m' g')
    · rw [(hagree c).1, (hagree c).2.1, (hagree c).2.2.1, (hagree c).2.2.2]; rfl
    · rw [(hagree c).2.1, (hagree c).2.2.1]; rfl
    · rw [(hagree c).2.1, (hagree c).2.2.2]; rfl

theorem frame_kernel : Cert.quiescent_Kernel15 := by
  have h := fun m ρ (_ : True) => frame (F := Bits) m ρ
  exact cast (by sl_kernel_rfl) h
theorem frame_ideal : Cert.quiescent_Kernel15Ideal := fun m ρ _ => frame (F := Ideal) m ρ
theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

end Cert.Kernel15Ideal.Adam

end
-- ==== Proof.AdamChannel.lean ====
module

public import proofs.«01_k».proof.Defs
public import proofs.«01_k».proof.Proof.Extended
public import proofs.«01_k».proof.Proof.Moments
public import proofs.«01_k».proof.Proof.Gen.Kernel16
public import proofs.«01_k».proof.Proof.Gen.Kernel16Ideal.Frame
public import proofs.«01_k».proof.Proof.Gen.Reference16Ideal.Run

@[expose] public section

set_option maxRecDepth 16384

noncomputable section

namespace Cert.Kernel16Ideal.Adam

open Idealize.ShloMosaic Idealize.ShloMosaic.TcCoe Idealize.SL.Sem Cert.Kernel16Ideal.Gen Cert.Extended Cert.Moments

/-! ## The optimiser's step on a 4 × 384 weight -/

theorem pay1_eq (g m : FVec Ideal S4x384 .f32) : k0_pay1 g m = first g m := rfl
theorem pay2_eq (g v : FVec Ideal S4x384 .f32) : k0_pay2 g v = second g v := rfl
theorem pay3_eq (w g m v : FVec Ideal S4x384 .f32) : k0_pay3 g m v w = change w g m v := rfl

variable (x0 x1 x2 x3 : FVec Ideal S4x384 .f32)

theorem left4 : out0_4 (F := Ideal) x0 x1 x2 x3 = change x0 x1 x2 x3 := by
  unfold out0_4
  rw [View.canon_unit_zero corner, View.ld_unit_zero corner, View.ld_unit_zero corner, View.ld_unit_zero corner, View.ld_unit_zero corner, pay3_eq]
theorem left5 : out0_5 (F := Ideal) x0 x1 x2 x3 = first x1 x2 := by
  unfold out0_5
  rw [View.canon_unit_zero corner, View.ld_unit_zero corner, View.ld_unit_zero corner, pay1_eq]
theorem left6 : out0_6 (F := Ideal) x0 x1 x2 x3 = second x1 x3 := by
  unfold out0_6
  rw [View.canon_unit_zero corner, View.ld_unit_zero corner, View.ld_unit_zero corner, pay2_eq]

theorem ix4 : ∀ t : Fin cfg0.N, win0_4.index t 0 = t.val ∧ win0_4.index t 1 = 0 := by decide +kernel

/-- The blocks cover the array. -/
theorem covered (i : S4x384.Idx) : ∃ t : Fin cfg0.N, i ∈ (win0_4.rect t).set := by
  obtain ⟨t, ht⟩ := rows_cover (b := ![4, 384]) win0_4.index ix4 (by decide) (by decide) (by decide) i
  exact ⟨t, Rect.mem_set_unit.mpr ht⟩

variable (m : (ℓ : Loc nD τ sig) → Buf (Elt Ideal) ℓ) (c : Dev nD)

/-- An argument as launched. -/
abbrev at0 : FVec Ideal S4x384 .f32 := m ((c.tc : Thread nD τ).loc main_arg0)
abbrev at1 : FVec Ideal S4x384 .f32 := m ((c.tc : Thread nD τ).loc main_arg1)
abbrev at2 : FVec Ideal S4x384 .f32 := m ((c.tc : Thread nD τ).loc main_arg2)
abbrev at3 : FVec Ideal S4x384 .f32 := m ((c.tc : Thread nD τ).loc main_arg3)

theorem final4 : (dats m 0 c).arrAt 4 cfg0.N = change (at0 m c) (at1 m c) (at2 m c) (at3 m c) :=
  (dats m 0 c).arrAt_eq_of_cover 4 _ (fun t _ => by
    show (cfg0.win 4).cut (grid0.coords t) ((dats m 0 c).after 4 t) = _
    rw [after0_4, left4]; rfl) fun i => by
    obtain ⟨t, ht⟩ := covered i
    refine ⟨t, flush0_4 t, ?_⟩
    show i ∈ ((View.whole main_v0_0).slice (win0_4.rect t)).set
    rwa [View.set_slice_whole]

theorem final5 : (dats m 0 c).arrAt 5 cfg0.N = first (at1 m c) (at2 m c) :=
  (dats m 0 c).arrAt_eq_of_cover 5 _ (fun t _ => by
    show (cfg0.win 5).cut (grid0.coords t) ((dats m 0 c).after 5 t) = _
    rw [after0_5, left5]; rfl) fun i => by
    obtain ⟨t, ht⟩ := covered i
    refine ⟨t, flush0_5 t, ?_⟩
    show i ∈ ((View.whole main_v0_1).slice (win0_5.rect t)).set
    rwa [View.set_slice_whole]

theorem final6 : (dats m 0 c).arrAt 6 cfg0.N = second (at1 m c) (at3 m c) :=
  (dats m 0 c).arrAt_eq_of_cover 6 _ (fun t _ => by
    show (cfg0.win 6).cut (grid0.coords t) ((dats m 0 c).after 6 t) = _
    rw [after0_6, left6]; rfl) fun i => by
    obtain ⟨t, ht⟩ := covered i
    refine ⟨t, flush0_6 t, ?_⟩
    show i ∈ ((View.whole main_v0_2).slice (win0_6.rect t)).set
    rwa [View.set_slice_whole]

/-- The kernel and the reference end holding the same change and moments. -/
theorem values : Cert.algebraic_Kernel16Ideal_Reference16Ideal := by
  intro m g m' g' _ hagree
  refine ⟨fun c => change (at0 m c) (at1 m c) (at2 m c) (at3 m c), fun c => first (at1 m c) (at2 m c), fun c => second (at1 m c) (at3 m c), ?_, ?_⟩
  · exact (θ_run defs _ _).mono (fun r h c => ⟨((h.1 c).1 4).trans (final4 m c), ((h.1 c).1 5).trans (final5 m c), ((h.1 c).1 6).trans (final6 m c), h.2.1 c⟩) (θ_run_and (run_main m g) (frame m g))
  · refine (θ_run Cert.Reference16Ideal.defs _ _).mono (fun r h c => ⟨(h c).1.trans ?_, (h c).2.1.trans ?_, (h c).2.2.1.trans ?_, (h c).2.2.2⟩) (Cert.Reference16Ideal.Value.run (F := Ideal) m' g')
    · rw [(hagree c).1, (hagree c).2.1, (hagree c).2.2.1, (hagree c).2.2.2]; rfl
    · rw [(hagree c).2.1, (hagree c).2.2.1]; rfl
    · rw [(hagree c).2.1, (hagree c).2.2.2]; rfl

theorem frame_kernel : Cert.quiescent_Kernel16 := by
  have h := fun m ρ (_ : True) => frame (F := Bits) m ρ
  exact cast (by sl_kernel_rfl) h
theorem frame_ideal : Cert.quiescent_Kernel16Ideal := fun m ρ _ => frame (F := Ideal) m ρ
theorem frame_reference : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

end Cert.Kernel16Ideal.Adam

end
-- ==== Proof.AdamGate.lean ====
module

public import proofs.«01_k».proof.Defs
public import proofs.«01_k».proof.Proof.Extended
public import proofs.«01_k».proof.Proof.Moments
public import proofs.«01_k».proof.Proof.Gen.Kernel17
public import proofs.«01_k».proof.Proof.Gen.Kernel17Ideal.Frame
public import proofs.«01_k».proof.Proof.Gen.Reference17Ideal.Run

@[expose] public section

set_option maxRecDepth 16384

noncomputable section

namespace Cert.Kernel17Ideal.Adam

open Idealize.ShloMosaic Idealize.ShloMosaic.TcCoe Idealize.SL.Sem Cert.Kernel17Ideal.Gen Cert.Extended Cert.Moments

/-! ## The optimiser's step on a 3072 × 64 weight -/

theorem pay1_eq (g m : FVec Ideal S3072x64 .f32) : k0_pay1 g m = first g m := rfl
theorem pay2_eq (g v : FVec Ideal S3072x64 .f32) : k0_pay2 g v = second g v := rfl
theorem pay3_eq (w g m v : FVec Ideal S3072x64 .f32) : k0_pay3 g m v w = change w g m v := rfl

variable (x0 x1 x2 x3 : FVec Ideal S3072x64 .f32)

theorem left4 : out0_4 (F := Ideal) x0 x1 x2 x3 = change x0 x1 x2 x3 := by
  unfold out0_4
  rw [View.canon_unit_zero corner, View.ld_unit_zero corner, View.ld_unit_zero corner, View.ld_unit_zero corner, View.ld_unit_zero corner, pay3_eq]
theorem left5 : out0_5 (F := Ideal) x0 x1 x2 x3 = first x1 x2 := by
  unfold out0_5
  rw [View.canon_unit_zero corner, View.ld_unit_zero corner, View.ld_unit_zero corner, pay1_eq]
theorem left6 : out0_6 (F := Ideal) x0 x1 x2 x3 = second x1 x3 := by
  unfold out0_6
  rw [View.canon_unit_zero corner, View.ld_unit_zero corner, View.ld_unit_zero corner, pay2_eq]

theorem ix4 : ∀ t : Fin cfg0.N, win0_4.index t 0 = t.val ∧ win0_4.index t 1 = 0 := by decide +kernel

/-- The blocks cover the array. -/
theorem covered (i : S3072x64.Idx) : ∃ t : Fin cfg0.N, i ∈ (win0_4.rect t).set := by
  obtain ⟨t, ht⟩ := rows_cover (b := ![3072, 64]) win0_4.index ix4 (by decide) (by decide) (by decide) i
  exact ⟨t, Rect.mem_set_unit.mpr ht⟩

variable (m : (ℓ : Loc nD τ sig) → Buf (Elt Ideal) ℓ) (c : Dev nD)

/-- An argument as launched. -/
abbrev at0 : FVec Ideal S3072x64 .f32 := m ((c.tc : Thread nD τ).loc main_arg0)
abbrev at1 : FVec Ideal S3072x64 .f32 := m ((c.tc : Thread nD τ).loc main_arg1)
abbrev at2 : FVec Ideal S3072x64 .f32 := m ((c.tc : Thread nD τ).loc main_arg2)
abbrev at3 : FVec Ideal S3072x64 .f32 := m ((c.tc : Thread nD τ).loc main_arg3)

theorem final4 : (dats m 0 c).arrAt 4 cfg0.N = change (at0 m c) (at1 m c) (at2 m c) (at3 m c) :=
  (dats m 0 c).arrAt_eq_of_cover 4 _ (fun t _ => by
    show (cfg0.win 4).cut (grid0.coords t) ((dats m 0 c).after 4 t) = _
    rw [after0_4, left4]; rfl) fun i => by
    obtain ⟨t, ht⟩ := covered i
    refine ⟨t, flush0_4 t, ?_⟩
    show i ∈ ((View.whole main_v0_0).slice (win0_4.rect t)).set
    rwa [View.set_slice_whole]

theorem final5 : (dats m 0 c).arrAt 5 cfg0.N = first (at1 m c) (at2 m c) :=
  (dats m 0 c).arrAt_eq_of_cover 5 _ (fun t _ => by
    show (cfg0.win 5).cut (grid0.coords t) ((dats m 0 c).after 5 t) = _
    rw [after0_5, left5]; rfl) fun i => by
    obtain ⟨t, ht⟩ := covered i
    refine ⟨t, flush0_5 t, ?_⟩
    show i ∈ ((View.whole main_v0_1).slice (win0_5.rect t)).set
    rwa [View.set_slice_whole]

theorem final6 : (dats m 0 c).arrAt 6 cfg0.N = second (at1 m c) (at3 m c) :=
  (dats m 0 c).arrAt_eq_of_cover 6 _ (fun t _ => by
    show (cfg0.win 6).cut (grid0.coords t) ((dats m 0 c).after 6 t) = _
    rw [after0_6, left6]; rfl) fun i => by
    obtain ⟨t, ht⟩ := covered i
    refine ⟨t, flush0_6 t, ?_⟩
    show i ∈ ((View.whole main_v0_2).slice (win0_6.rect t)).set
    rwa [View.set_slice_whole]

/-- The kernel and the reference end holding the same change and moments. -/
theorem values : Cert.algebraic_Kernel17Ideal_Reference17Ideal := by
  intro m g m' g' _ hagree
  refine ⟨fun c => change (at0 m c) (at1 m c) (at2 m c) (at3 m c), fun c => first (at1 m c) (at2 m c), fun c => second (at1 m c) (at3 m c), ?_, ?_⟩
  · exact (θ_run defs _ _).mono (fun r h c => ⟨((h.1 c).1 4).trans (final4 m c), ((h.1 c).1 5).trans (final5 m c), ((h.1 c).1 6).trans (final6 m c), h.2.1 c⟩) (θ_run_and (run_main m g) (frame m g))
  · refine (θ_run Cert.Reference17Ideal.defs _ _).mono (fun r h c => ⟨(h c).1.trans ?_, (h c).2.1.trans ?_, (h c).2.2.1.trans ?_, (h c).2.2.2⟩) (Cert.Reference17Ideal.Value.run (F := Ideal) m' g')
    · rw [(hagree c).1, (hagree c).2.1, (hagree c).2.2.1, (hagree c).2.2.2]; rfl
    · rw [(hagree c).2.1, (hagree c).2.2.1]; rfl
    · rw [(hagree c).2.1, (hagree c).2.2.2]; rfl

theorem frame_kernel : Cert.quiescent_Kernel17 := by
  have h := fun m ρ (_ : True) => frame (F := Bits) m ρ
  exact cast (by sl_kernel_rfl) h
theorem frame_ideal : Cert.quiescent_Kernel17Ideal := fun m ρ _ => frame (F := Ideal) m ρ
theorem frame_reference : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

end Cert.Kernel17Ideal.Adam

end
-- ==== Proof.AdamGateBias.lean ====
module

public import proofs.«01_k».proof.Defs
public import proofs.«01_k».proof.Proof.Extended
public import proofs.«01_k».proof.Proof.Moments
public import proofs.«01_k».proof.Proof.Gen.Kernel18
public import proofs.«01_k».proof.Proof.Gen.Kernel18Ideal.Frame
public import proofs.«01_k».proof.Proof.Gen.Reference18Ideal.Run

@[expose] public section

set_option maxRecDepth 16384

noncomputable section

namespace Cert.Kernel18Ideal.Adam

open Idealize.ShloMosaic Idealize.ShloMosaic.TcCoe Idealize.SL.Sem Cert.Kernel18Ideal.Gen Cert.Extended Cert.Moments

/-! ## The optimiser's step on a 8 × 48 weight -/

theorem pay1_eq (g m : FVec Ideal S8x48 .f32) : k0_pay1 g m = first g m := rfl
theorem pay2_eq (g v : FVec Ideal S8x48 .f32) : k0_pay2 g v = second g v := rfl
theorem pay3_eq (w g m v : FVec Ideal S8x48 .f32) : k0_pay3 g m v w = change w g m v := rfl

variable (x0 x1 x2 x3 : FVec Ideal S8x48 .f32)

theorem left4 : out0_4 (F := Ideal) x0 x1 x2 x3 = change x0 x1 x2 x3 := by
  unfold out0_4
  rw [View.canon_unit_zero corner, View.ld_unit_zero corner, View.ld_unit_zero corner, View.ld_unit_zero corner, View.ld_unit_zero corner, pay3_eq]
theorem left5 : out0_5 (F := Ideal) x0 x1 x2 x3 = first x1 x2 := by
  unfold out0_5
  rw [View.canon_unit_zero corner, View.ld_unit_zero corner, View.ld_unit_zero corner, pay1_eq]
theorem left6 : out0_6 (F := Ideal) x0 x1 x2 x3 = second x1 x3 := by
  unfold out0_6
  rw [View.canon_unit_zero corner, View.ld_unit_zero corner, View.ld_unit_zero corner, pay2_eq]

theorem ix4 : ∀ t : Fin cfg0.N, win0_4.index t 0 = t.val ∧ win0_4.index t 1 = 0 := by decide +kernel

/-- The blocks cover the array. -/
theorem covered (i : S8x48.Idx) : ∃ t : Fin cfg0.N, i ∈ (win0_4.rect t).set := by
  obtain ⟨t, ht⟩ := rows_cover (b := ![8, 48]) win0_4.index ix4 (by decide) (by decide) (by decide) i
  exact ⟨t, Rect.mem_set_unit.mpr ht⟩

variable (m : (ℓ : Loc nD τ sig) → Buf (Elt Ideal) ℓ) (c : Dev nD)

/-- An argument as launched. -/
abbrev at0 : FVec Ideal S8x48 .f32 := m ((c.tc : Thread nD τ).loc main_arg0)
abbrev at1 : FVec Ideal S8x48 .f32 := m ((c.tc : Thread nD τ).loc main_arg1)
abbrev at2 : FVec Ideal S8x48 .f32 := m ((c.tc : Thread nD τ).loc main_arg2)
abbrev at3 : FVec Ideal S8x48 .f32 := m ((c.tc : Thread nD τ).loc main_arg3)

theorem final4 : (dats m 0 c).arrAt 4 cfg0.N = change (at0 m c) (at1 m c) (at2 m c) (at3 m c) :=
  (dats m 0 c).arrAt_eq_of_cover 4 _ (fun t _ => by
    show (cfg0.win 4).cut (grid0.coords t) ((dats m 0 c).after 4 t) = _
    rw [after0_4, left4]; rfl) fun i => by
    obtain ⟨t, ht⟩ := covered i
    refine ⟨t, flush0_4 t, ?_⟩
    show i ∈ ((View.whole main_v0_0).slice (win0_4.rect t)).set
    rwa [View.set_slice_whole]

theorem final5 : (dats m 0 c).arrAt 5 cfg0.N = first (at1 m c) (at2 m c) :=
  (dats m 0 c).arrAt_eq_of_cover 5 _ (fun t _ => by
    show (cfg0.win 5).cut (grid0.coords t) ((dats m 0 c).after 5 t) = _
    rw [after0_5, left5]; rfl) fun i => by
    obtain ⟨t, ht⟩ := covered i
    refine ⟨t, flush0_5 t, ?_⟩
    show i ∈ ((View.whole main_v0_1).slice (win0_5.rect t)).set
    rwa [View.set_slice_whole]

theorem final6 : (dats m 0 c).arrAt 6 cfg0.N = second (at1 m c) (at3 m c) :=
  (dats m 0 c).arrAt_eq_of_cover 6 _ (fun t _ => by
    show (cfg0.win 6).cut (grid0.coords t) ((dats m 0 c).after 6 t) = _
    rw [after0_6, left6]; rfl) fun i => by
    obtain ⟨t, ht⟩ := covered i
    refine ⟨t, flush0_6 t, ?_⟩
    show i ∈ ((View.whole main_v0_2).slice (win0_6.rect t)).set
    rwa [View.set_slice_whole]

/-- The kernel and the reference end holding the same change and moments. -/
theorem values : Cert.algebraic_Kernel18Ideal_Reference18Ideal := by
  intro m g m' g' _ hagree
  refine ⟨fun c => change (at0 m c) (at1 m c) (at2 m c) (at3 m c), fun c => first (at1 m c) (at2 m c), fun c => second (at1 m c) (at3 m c), ?_, ?_⟩
  · exact (θ_run defs _ _).mono (fun r h c => ⟨((h.1 c).1 4).trans (final4 m c), ((h.1 c).1 5).trans (final5 m c), ((h.1 c).1 6).trans (final6 m c), h.2.1 c⟩) (θ_run_and (run_main m g) (frame m g))
  · refine (θ_run Cert.Reference18Ideal.defs _ _).mono (fun r h c => ⟨(h c).1.trans ?_, (h c).2.1.trans ?_, (h c).2.2.1.trans ?_, (h c).2.2.2⟩) (Cert.Reference18Ideal.Value.run (F := Ideal) m' g')
    · rw [(hagree c).1, (hagree c).2.1, (hagree c).2.2.1, (hagree c).2.2.2]; rfl
    · rw [(hagree c).2.1, (hagree c).2.2.1]; rfl
    · rw [(hagree c).2.1, (hagree c).2.2.2]; rfl

theorem frame_kernel : Cert.quiescent_Kernel18 := by
  have h := fun m ρ (_ : True) => frame (F := Bits) m ρ
  exact cast (by sl_kernel_rfl) h
theorem frame_ideal : Cert.quiescent_Kernel18Ideal := fun m ρ _ => frame (F := Ideal) m ρ
theorem frame_reference : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

end Cert.Kernel18Ideal.Adam

end
-- ==== Proof.AdamTable.lean ====
module

public import proofs.«01_k».proof.Defs
public import proofs.«01_k».proof.Proof.Extended
public import proofs.«01_k».proof.Proof.Moments
public import proofs.«01_k».proof.Proof.Gen.Kernel19
public import proofs.«01_k».proof.Proof.Gen.Kernel19Ideal.Frame
public import proofs.«01_k».proof.Proof.Gen.Reference19Ideal.Run

@[expose] public section

set_option maxRecDepth 16384

noncomputable section

namespace Cert.Kernel19Ideal.Adam

open Idealize.ShloMosaic Idealize.ShloMosaic.TcCoe Idealize.SL.Sem Cert.Kernel19Ideal.Gen Cert.Extended Cert.Moments

/-! ## The optimiser's step on a 240 × 31 weight -/

theorem pay1_eq (g m : FVec Ideal S240x31 .f32) : k0_pay1 g m = first g m := rfl
theorem pay2_eq (g v : FVec Ideal S240x31 .f32) : k0_pay2 g v = second g v := rfl
theorem pay3_eq (w g m v : FVec Ideal S240x31 .f32) : k0_pay3 g m v w = change w g m v := rfl

variable (x0 x1 x2 x3 : FVec Ideal S240x31 .f32)

theorem left4 : out0_4 (F := Ideal) x0 x1 x2 x3 = change x0 x1 x2 x3 := by
  unfold out0_4
  rw [View.canon_unit_zero corner, View.ld_unit_zero corner, View.ld_unit_zero corner, View.ld_unit_zero corner, View.ld_unit_zero corner, pay3_eq]
theorem left5 : out0_5 (F := Ideal) x0 x1 x2 x3 = first x1 x2 := by
  unfold out0_5
  rw [View.canon_unit_zero corner, View.ld_unit_zero corner, View.ld_unit_zero corner, pay1_eq]
theorem left6 : out0_6 (F := Ideal) x0 x1 x2 x3 = second x1 x3 := by
  unfold out0_6
  rw [View.canon_unit_zero corner, View.ld_unit_zero corner, View.ld_unit_zero corner, pay2_eq]

theorem ix4 : ∀ t : Fin cfg0.N, win0_4.index t 0 = t.val ∧ win0_4.index t 1 = 0 := by decide +kernel

/-- The blocks cover the array. -/
theorem covered (i : S240x31.Idx) : ∃ t : Fin cfg0.N, i ∈ (win0_4.rect t).set := by
  obtain ⟨t, ht⟩ := rows_cover (b := ![240, 31]) win0_4.index ix4 (by decide) (by decide) (by decide) i
  exact ⟨t, Rect.mem_set_unit.mpr ht⟩

variable (m : (ℓ : Loc nD τ sig) → Buf (Elt Ideal) ℓ) (c : Dev nD)

/-- An argument as launched. -/
abbrev at0 : FVec Ideal S240x31 .f32 := m ((c.tc : Thread nD τ).loc main_arg0)
abbrev at1 : FVec Ideal S240x31 .f32 := m ((c.tc : Thread nD τ).loc main_arg1)
abbrev at2 : FVec Ideal S240x31 .f32 := m ((c.tc : Thread nD τ).loc main_arg2)
abbrev at3 : FVec Ideal S240x31 .f32 := m ((c.tc : Thread nD τ).loc main_arg3)

theorem final4 : (dats m 0 c).arrAt 4 cfg0.N = change (at0 m c) (at1 m c) (at2 m c) (at3 m c) :=
  (dats m 0 c).arrAt_eq_of_cover 4 _ (fun t _ => by
    show (cfg0.win 4).cut (grid0.coords t) ((dats m 0 c).after 4 t) = _
    rw [after0_4, left4]; rfl) fun i => by
    obtain ⟨t, ht⟩ := covered i
    refine ⟨t, flush0_4 t, ?_⟩
    show i ∈ ((View.whole main_v0_0).slice (win0_4.rect t)).set
    rwa [View.set_slice_whole]

theorem final5 : (dats m 0 c).arrAt 5 cfg0.N = first (at1 m c) (at2 m c) :=
  (dats m 0 c).arrAt_eq_of_cover 5 _ (fun t _ => by
    show (cfg0.win 5).cut (grid0.coords t) ((dats m 0 c).after 5 t) = _
    rw [after0_5, left5]; rfl) fun i => by
    obtain ⟨t, ht⟩ := covered i
    refine ⟨t, flush0_5 t, ?_⟩
    show i ∈ ((View.whole main_v0_1).slice (win0_5.rect t)).set
    rwa [View.set_slice_whole]

theorem final6 : (dats m 0 c).arrAt 6 cfg0.N = second (at1 m c) (at3 m c) :=
  (dats m 0 c).arrAt_eq_of_cover 6 _ (fun t _ => by
    show (cfg0.win 6).cut (grid0.coords t) ((dats m 0 c).after 6 t) = _
    rw [after0_6, left6]; rfl) fun i => by
    obtain ⟨t, ht⟩ := covered i
    refine ⟨t, flush0_6 t, ?_⟩
    show i ∈ ((View.whole main_v0_2).slice (win0_6.rect t)).set
    rwa [View.set_slice_whole]

/-- The kernel and the reference end holding the same change and moments. -/
theorem values : Cert.algebraic_Kernel19Ideal_Reference19Ideal := by
  intro m g m' g' _ hagree
  refine ⟨fun c => change (at0 m c) (at1 m c) (at2 m c) (at3 m c), fun c => first (at1 m c) (at2 m c), fun c => second (at1 m c) (at3 m c), ?_, ?_⟩
  · exact (θ_run defs _ _).mono (fun r h c => ⟨((h.1 c).1 4).trans (final4 m c), ((h.1 c).1 5).trans (final5 m c), ((h.1 c).1 6).trans (final6 m c), h.2.1 c⟩) (θ_run_and (run_main m g) (frame m g))
  · refine (θ_run Cert.Reference19Ideal.defs _ _).mono (fun r h c => ⟨(h c).1.trans ?_, (h c).2.1.trans ?_, (h c).2.2.1.trans ?_, (h c).2.2.2⟩) (Cert.Reference19Ideal.Value.run (F := Ideal) m' g')
    · rw [(hagree c).1, (hagree c).2.1, (hagree c).2.2.1, (hagree c).2.2.2]; rfl
    · rw [(hagree c).2.1, (hagree c).2.2.1]; rfl
    · rw [(hagree c).2.1, (hagree c).2.2.2]; rfl

theorem frame_kernel : Cert.quiescent_Kernel19 := by
  have h := fun m ρ (_ : True) => frame (F := Bits) m ρ
  exact cast (by sl_kernel_rfl) h
theorem frame_ideal : Cert.quiescent_Kernel19Ideal := fun m ρ _ => frame (F := Ideal) m ρ
theorem frame_reference : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

end Cert.Kernel19Ideal.Adam

end
-- ==== Proof.AdamNorm.lean ====
module

public import proofs.«01_k».proof.Defs
public import proofs.«01_k».proof.Proof.Extended
public import proofs.«01_k».proof.Proof.Moments
public import proofs.«01_k».proof.Proof.Gen.Kernel20
public import proofs.«01_k».proof.Proof.Gen.Kernel20Ideal.Frame
public import proofs.«01_k».proof.Proof.Gen.Reference20Ideal.Run

@[expose] public section

set_option maxRecDepth 16384

noncomputable section

namespace Cert.Kernel20Ideal.Adam

open Idealize.ShloMosaic Idealize.ShloMosaic.TcCoe Idealize.SL.Sem Cert.Kernel20Ideal.Gen Cert.Extended Cert.Moments

/-! ## The optimiser's step on a 4 × 1024 weight -/

theorem pay1_eq (g m : FVec Ideal S4x1024 .f32) : k0_pay1 g m = first g m := rfl
theorem pay2_eq (g v : FVec Ideal S4x1024 .f32) : k0_pay2 g v = second g v := rfl
theorem pay3_eq (w g m v : FVec Ideal S4x1024 .f32) : k0_pay3 g m v w = change w g m v := rfl

variable (x0 x1 x2 x3 : FVec Ideal S4x1024 .f32)

theorem left4 : out0_4 (F := Ideal) x0 x1 x2 x3 = change x0 x1 x2 x3 := by
  unfold out0_4
  rw [View.canon_unit_zero corner, View.ld_unit_zero corner, View.ld_unit_zero corner, View.ld_unit_zero corner, View.ld_unit_zero corner, pay3_eq]
theorem left5 : out0_5 (F := Ideal) x0 x1 x2 x3 = first x1 x2 := by
  unfold out0_5
  rw [View.canon_unit_zero corner, View.ld_unit_zero corner, View.ld_unit_zero corner, pay1_eq]
theorem left6 : out0_6 (F := Ideal) x0 x1 x2 x3 = second x1 x3 := by
  unfold out0_6
  rw [View.canon_unit_zero corner, View.ld_unit_zero corner, View.ld_unit_zero corner, pay2_eq]

theorem ix4 : ∀ t : Fin cfg0.N, win0_4.index t 0 = t.val ∧ win0_4.index t 1 = 0 := by decide +kernel

/-- The blocks cover the array. -/
theorem covered (i : S4x1024.Idx) : ∃ t : Fin cfg0.N, i ∈ (win0_4.rect t).set := by
  obtain ⟨t, ht⟩ := rows_cover (b := ![4, 1024]) win0_4.index ix4 (by decide) (by decide) (by decide) i
  exact ⟨t, Rect.mem_set_unit.mpr ht⟩

variable (m : (ℓ : Loc nD τ sig) → Buf (Elt Ideal) ℓ) (c : Dev nD)

/-- An argument as launched. -/
abbrev at0 : FVec Ideal S4x1024 .f32 := m ((c.tc : Thread nD τ).loc main_arg0)
abbrev at1 : FVec Ideal S4x1024 .f32 := m ((c.tc : Thread nD τ).loc main_arg1)
abbrev at2 : FVec Ideal S4x1024 .f32 := m ((c.tc : Thread nD τ).loc main_arg2)
abbrev at3 : FVec Ideal S4x1024 .f32 := m ((c.tc : Thread nD τ).loc main_arg3)

theorem final4 : (dats m 0 c).arrAt 4 cfg0.N = change (at0 m c) (at1 m c) (at2 m c) (at3 m c) :=
  (dats m 0 c).arrAt_eq_of_cover 4 _ (fun t _ => by
    show (cfg0.win 4).cut (grid0.coords t) ((dats m 0 c).after 4 t) = _
    rw [after0_4, left4]; rfl) fun i => by
    obtain ⟨t, ht⟩ := covered i
    refine ⟨t, flush0_4 t, ?_⟩
    show i ∈ ((View.whole main_v0_0).slice (win0_4.rect t)).set
    rwa [View.set_slice_whole]

theorem final5 : (dats m 0 c).arrAt 5 cfg0.N = first (at1 m c) (at2 m c) :=
  (dats m 0 c).arrAt_eq_of_cover 5 _ (fun t _ => by
    show (cfg0.win 5).cut (grid0.coords t) ((dats m 0 c).after 5 t) = _
    rw [after0_5, left5]; rfl) fun i => by
    obtain ⟨t, ht⟩ := covered i
    refine ⟨t, flush0_5 t, ?_⟩
    show i ∈ ((View.whole main_v0_1).slice (win0_5.rect t)).set
    rwa [View.set_slice_whole]

theorem final6 : (dats m 0 c).arrAt 6 cfg0.N = second (at1 m c) (at3 m c) :=
  (dats m 0 c).arrAt_eq_of_cover 6 _ (fun t _ => by
    show (cfg0.win 6).cut (grid0.coords t) ((dats m 0 c).after 6 t) = _
    rw [after0_6, left6]; rfl) fun i => by
    obtain ⟨t, ht⟩ := covered i
    refine ⟨t, flush0_6 t, ?_⟩
    show i ∈ ((View.whole main_v0_2).slice (win0_6.rect t)).set
    rwa [View.set_slice_whole]

/-- The kernel and the reference end holding the same change and moments. -/
theorem values : Cert.algebraic_Kernel20Ideal_Reference20Ideal := by
  intro m g m' g' _ hagree
  refine ⟨fun c => change (at0 m c) (at1 m c) (at2 m c) (at3 m c), fun c => first (at1 m c) (at2 m c), fun c => second (at1 m c) (at3 m c), ?_, ?_⟩
  · exact (θ_run defs _ _).mono (fun r h c => ⟨((h.1 c).1 4).trans (final4 m c), ((h.1 c).1 5).trans (final5 m c), ((h.1 c).1 6).trans (final6 m c), h.2.1 c⟩) (θ_run_and (run_main m g) (frame m g))
  · refine (θ_run Cert.Reference20Ideal.defs _ _).mono (fun r h c => ⟨(h c).1.trans ?_, (h c).2.1.trans ?_, (h c).2.2.1.trans ?_, (h c).2.2.2⟩) (Cert.Reference20Ideal.Value.run (F := Ideal) m' g')
    · rw [(hagree c).1, (hagree c).2.1, (hagree c).2.2.1, (hagree c).2.2.2]; rfl
    · rw [(hagree c).2.1, (hagree c).2.2.1]; rfl
    · rw [(hagree c).2.1, (hagree c).2.2.2]; rfl

theorem frame_kernel : Cert.quiescent_Kernel20 := by
  have h := fun m ρ (_ : True) => frame (F := Bits) m ρ
  exact cast (by sl_kernel_rfl) h
theorem frame_ideal : Cert.quiescent_Kernel20Ideal := fun m ρ _ => frame (F := Ideal) m ρ
theorem frame_reference : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

end Cert.Kernel20Ideal.Adam

end
-- ==== Proof.Near.lean ====
module

public import proofs.«01_k».proof.Defs
public import proofs.«01_k».proof.Proof.Norm
public import proofs.«01_k».proof.Proof.Gen.Kernel32
public import proofs.«01_k».proof.Proof.Gen.Kernel32Ideal.Frame
public import proofs.«01_k».proof.Proof.Gen.Reference32Ideal.Run

@[expose] public section

set_option maxRecDepth 16384

noncomputable section

namespace Cert.Near

open Idealize.ShloMosaic

/-! ## Attention over the rows near a pair of rows, as functions of the coordinates -/

/-- The scale of the scores. -/
def c8 : EReal := Ideal.ofBits .f32 0x3E000000#32
/-- The first key of a pair of rows, and which of the five bias tables it reads. -/
def first (p : ℕ) : ℕ := min (2 * p - 4) 54 * 64
def kind (p : ℕ) : ℕ := if p < 2 then p else if p < 30 then 2 else p - 27

/-- The largest score of a row. -/
def top (s : ℕ → ℕ → EReal) (i : ℕ) : EReal := (Finset.univ : Finset (Fin 640)).fold max (Ideal.ofBits .f32 0xFF800000#32) fun t => s i t.val
/-- The exponentials, taken off the largest score, and their shares. -/
def expo (s : ℕ → ℕ → EReal) (i t : ℕ) : EReal := Ideal.exp (s i t - top s i)
def share (s : ℕ → ℕ → EReal) (i t : ℕ) : EReal := Ideal.div (expo s i t) (∑ t : Fin 640, expo s i t)

/-- The scores of a head from its queries, its keys and its biases. -/
def score (q k b : ℕ → ℕ → EReal) (i t : ℕ) : EReal := (∑ d : Fin 64, q i d * k t d) * c8 + b i t
/-- A head's output. -/
def head (q k v b : ℕ → ℕ → EReal) (i j : ℕ) : EReal := ∑ t : Fin 640, share (score q k b) i t * v t j

/-- The first half of the lanes, and the second. -/
def low (l : ℕ) : EReal := if l < 64 then 1 else 0
def high (l : ℕ) : EReal := if l < 64 then 0 else 1

/-- The five tiles of biases side by side. -/
def beside (b : ℕ → ℕ → ℕ → EReal) (i t : ℕ) : EReal := b (t / 128) i (t % 128)

theorem sum_low (f : ℕ → EReal) : ∑ l : Fin 128, f l * low l = ∑ d : Fin 64, f d := by
  rw [Fin.sum_univ_add (a := 64) (b := 64) (f := fun l : Fin (64 + 64) => f l * low l)]
  have h : ∑ l : Fin 64, f (Fin.natAdd 64 l) * low (Fin.natAdd 64 l) = 0 :=
    Finset.sum_eq_zero fun l _ => by simp [low]
  rw [h, add_zero]
  exact Finset.sum_congr rfl fun l _ => by simp [low]

theorem sum_high (f : ℕ → EReal) : ∑ l : Fin 128, f l * high l = ∑ d : Fin 64, f (64 + d) := by
  rw [Fin.sum_univ_add (a := 64) (b := 64) (f := fun l : Fin (64 + 64) => f l * high l)]
  have h : ∑ l : Fin 64, f (Fin.castAdd 64 l) * high (Fin.castAdd 64 l) = 0 :=
    Finset.sum_eq_zero fun l _ => by simp [high]
  rw [h, zero_add]
  exact Finset.sum_congr rfl fun l _ => by simp [high, Nat.add_comm]

/-- A head's output depends on its arguments' entries alone. -/
theorem head_congr {q q' k k' v v' b b' : ℕ → ℕ → EReal} {i j j' : ℕ} (hq : ∀ i d, q i d = q' i d) (hk : ∀ t d, k t d = k' t d) (hb : ∀ i t, b i t = b' i t)
    (hv : ∀ t, v t j = v' t j') : head q k v b i j = head q' k' v' b' i j' := by
  obtain rfl : q = q' := funext fun i => funext fun d => hq i d
  obtain rfl : k = k' := funext fun i => funext fun d => hk i d
  obtain rfl : b = b' := funext fun i => funext fun d => hb i d
  unfold head
  exact Finset.sum_congr rfl fun t _ => by rw [hv]

/-- A strip of two heads: 128 lanes of the queries, the keys and the values, and the heads' tables of biases. -/
def strip (Q K V : ℕ → ℕ → EReal) (b : ℕ → ℕ → ℕ → ℕ → ℕ → EReal) (r l : ℕ) : EReal :=
  if l < 64 then head (fun i d => Q (128 * (r / 128) + i) d) (fun t d => K (first (r / 128) + t) d) (fun t d => V (first (r / 128) + t) d) (beside (b 0 (kind (r / 128)))) (r % 128) l
  else head (fun i d => Q (128 * (r / 128) + i) (64 + d)) (fun t d => K (first (r / 128) + t) (64 + d)) (fun t d => V (first (r / 128) + t) d) (beside (b 1 (kind (r / 128)))) (r % 128) l

/-- All four heads, side by side, from the columns of the projection. -/
def attend (P : ℕ → ℕ → EReal) (b : ℕ → ℕ → ℕ → ℕ → ℕ → ℕ → EReal) (r c : ℕ) : EReal :=
  head (fun i d => P (128 * (r / 128) + i) (2304 + 64 * (c / 64) + d)) (fun t d => P (first (r / 128) + t) (2560 + 64 * (c / 64) + d))
    (fun t d => P (first (r / 128) + t) (2816 + 64 * (c / 64) + d)) (beside (b (c / 64 / 2) (c / 64 % 2) (kind (r / 128)))) (r % 128) (c % 64)

theorem strip_eq (P : ℕ → ℕ → EReal) (b : ℕ → ℕ → ℕ → ℕ → ℕ → ℕ → EReal) (t r l : ℕ) (hl : l < 128) :
    strip (fun i j => P i (128 * (18 + t) + j)) (fun i j => P i (128 * (20 + t) + j)) (fun i j => P i (128 * (22 + t) + j)) (b t) r l = attend P b r (128 * t + l) := by
  unfold strip attend
  split_ifs with h
  · rw [show (128 * t + l) / 64 = 2 * t by omega, show (128 * t + l) % 64 = l by omega, show 2 * t / 2 = t by omega, show 2 * t % 2 = 0 by omega]
    refine head_congr (fun i d => ?_) (fun i d => ?_) (fun i d => rfl) (fun i => ?_)
    · exact congrArg (P _) (by omega)
    · exact congrArg (P _) (by omega)
    · exact congrArg (P _) (by omega)
  · rw [show (128 * t + l) / 64 = 2 * t + 1 by omega, show (128 * t + l) % 64 = l - 64 by omega, show (2 * t + 1) / 2 = t by omega, show (2 * t + 1) % 2 = 1 by omega]
    refine head_congr (fun i d => ?_) (fun i d => ?_) (fun i d => rfl) (fun i => ?_)
    · exact congrArg (P _) (by omega)
    · exact congrArg (P _) (by omega)
    · exact congrArg (P _) (by omega)

/-- The table of biases by its coordinates. -/
abbrev tab {d : Fin 6 → ℕ} (b : ℕ → ℕ → ℕ → ℕ → ℕ → ℕ → EReal) : FVec Ideal ⟨6, d⟩ .f32 :=
  fun i => b (i 0).val (i 1).val (i 2).val (i 3).val (i 4).val (i 5).val

theorem exists_tab {d : Fin 6 → ℕ} (x : FVec Ideal ⟨6, d⟩ .f32) : ∃ b, x = tab b := by
  classical
  refine ⟨fun e f g h i j => if H : ∃ k : Shape.Idx ⟨6, d⟩, (k 0).val = e ∧ (k 1).val = f ∧ (k 2).val = g ∧ (k 3).val = h ∧ (k 4).val = i ∧ (k 5).val = j then x H.choose else 0, ?_⟩
  funext k
  have hk : ∃ k' : Shape.Idx ⟨6, d⟩, (k' 0).val = (k 0).val ∧ (k' 1).val = (k 1).val ∧ (k' 2).val = (k 2).val ∧ (k' 3).val = (k 3).val ∧ (k' 4).val = (k 4).val ∧ (k' 5).val = (k 5).val :=
    ⟨k, rfl, rfl, rfl, rfl, rfl, rfl⟩
  have e : hk.choose = k := by
    obtain ⟨h0, h1, h2, h3, h4, h5⟩ := hk.choose_spec
    funext a
    apply Fin.ext
    match a with
    | ⟨0, _⟩ => exact h0
    | ⟨1, _⟩ => exact h1
    | ⟨2, _⟩ => exact h2
    | ⟨3, _⟩ => exact h3
    | ⟨4, _⟩ => exact h4
    | ⟨5, _⟩ => exact h5
  show x k = dite _ _ _
  rw [dif_pos hk, e]

end Cert.Near

namespace Cert.Kernel32Ideal.Near

open Idealize.ShloMosaic Idealize.ShloMosaic.TcCoe Idealize.SL.Sem Cert.Kernel32Ideal.Gen Cert.Extended Cert.Near

/-! ## A block of 128 queries and its 640 keys -/

section
variable {F : FTy → Type} [FloatOps F]

/-- The five tiles of biases as they are loaded. -/
abbrev Tile (F : FTy → Type) := Vec F S1x1x1x1x128x128 .f32

/-- The scores of a head, the lanes of the other head masked out of the queries. -/
def scores (q : Vec F S128x128 .f32) (mk : FVec F S128x128 .f32) (k : Vec F S640x128 .f32) (b0 b1 b2 b3 b4 : Tile F) : FVec F S128x640 .f32 :=
  addf (mulf (matmul dot_S128x128_S640x128_S128x640_1_1_0_0_n_n none (truncf .bf16 (mulf q mk) bitsLt_bf16_f32) (truncf .bf16 k bitsLt_bf16_f32) (constant S128x640 .f32 0x00000000#32))
      (broadcast S128x640 (Scalar.ofBits .f32 0x3E000000#32)))
    (concatenate S128x640 1 [⟨S128x128, shapeCast S128x128 b0 shapeCasts_S1x1x1x1x128x128_S128x128⟩, ⟨S128x128, shapeCast S128x128 b1 shapeCasts_S1x1x1x1x128x128_S128x128⟩,
        ⟨S128x128, shapeCast S128x128 b2 shapeCasts_S1x1x1x1x128x128_S128x128⟩, ⟨S128x128, shapeCast S128x128 b3 shapeCasts_S1x1x1x1x128x128_S128x128⟩,
        ⟨S128x128, shapeCast S128x128 b4 shapeCasts_S1x1x1x1x128x128_S128x128⟩] concatenates_S128x128_S128x128_S128x128_S128x128_S128x128_S128x640_d1)

/-- The exponentials of a row's scores, taken off the largest, and their shares. -/
def expos (s : FVec F S128x640 .f32) : FVec F S128x640 .f32 :=
  exp (subf s (broadcastTo S128x640 (shapeCast S128x1 (multiReduction .maximumf [1] S128 s 0xFF800000#32 reduces_S128x640_S128 (by decide) rfl) shapeCasts_S128_S128x1) broadcasts_S128x1_S128x640))
def shares (e : FVec F S128x640 .f32) : FVec F S128x640 .f32 :=
  divf e (broadcastTo S128x640 (shapeCast S128x1 (multiReduction .add [1] S128 e 0x00000000#32 reduces_S128x640_S128 (by decide) rfl) shapeCasts_S128_S128x1) broadcasts_S128x1_S128x640)

/-- A head's output in its half of the lanes. -/
def half (q : Vec F S128x128 .f32) (mk : FVec F S128x128 .f32) (k v : Vec F S640x128 .f32) (b0 b1 b2 b3 b4 : Tile F) : FVec F S128x128 .f32 :=
  mulf (matmul dot_S128x640_S640x128_S128x128_1_0_0_1_n_n none (truncf .bf16 (shares (expos (scores q mk k b0 b1 b2 b3 b4))) bitsLt_bf16_f32) (truncf .bf16 v bitsLt_bf16_f32) (constant S128x128 .f32 0x00000000#32)) mk
end

theorem mask_bit : ∀ l : Fin 128, FloatOps.sitofp (F := Ideal) .f32 (BitVec.setWidth 32 (IntOp.cmpi .slt (BitVec.ofNat 32 l.val) 64#32)) = low l.val := by
  intro l
  have h : BitVec.setWidth 32 (IntOp.cmpi .slt (BitVec.ofNat 32 l.val) 64#32) = if l.val < 64 then 1#32 else 0#32 := by
    revert l; decide
  rw [h]
  unfold low
  split_ifs
  · show (((1#32 : BitVec 32).toInt : ℝ) : EReal) = 1
    rw [show (1#32 : BitVec 32).toInt = 1 by decide]; simp
  · show (((0#32 : BitVec 32).toInt : ℝ) : EReal) = 0
    rw [show (0#32 : BitVec 32).toInt = 0 by decide]; simp

/-- The masks of the two halves. -/
theorem mask_low : (k0_pay1 : FVec Ideal S128x128 .f32) = (ex fun _ l => low l : FVec Ideal S128x128 .f32) := by
  funext i
  unfold k0_pay1
  pointwise
  exact mask_bit (i 1)

theorem mask_high : (k0_pay2 : FVec Ideal S128x128 .f32) = (ex fun _ l => high l : FVec Ideal S128x128 .f32) := by
  funext i
  unfold k0_pay2
  rw [mask_low]
  pointwise
  show (1 : EReal) - low (i 1).val = high (i 1).val
  unfold low high
  split_ifs
  · rw [← EReal.coe_one, ← EReal.coe_sub, sub_self, EReal.coe_zero]
  · exact sub_zero _

theorem scores_eq (q k : ℕ → ℕ → EReal) (B : Fin 5 → Tile Ideal) (mk : ℕ → EReal) (b : ℕ → ℕ → ℕ → EReal)
    (hb : ∀ n i j, B n (ix6 0 0 0 0 i j) = b n.val i.val j.val) :
    scores (ex q : FVec Ideal S128x128 .f32) (ex fun _ l => mk l : FVec Ideal S128x128 .f32) (ex k : FVec Ideal S640x128 .f32) (B 0) (B 1) (B 2) (B 3) (B 4)
      = (ex fun i t => (∑ l : Fin 128, q i l * mk l * k t l) * c8 + beside b i t : FVec Ideal S128x640 .f32) := by
  funext i
  unfold scores
  pointwise
  have ht : (i 1).val < 640 := (i 1).isLt
  have key : ∀ (n : Fin 5) (t : ℕ) (h : t < 128), (i 1).val = 128 * n.val + t → B n (ix6 0 0 0 0 (i 0) ⟨t, h⟩) = beside b (i 0).val (i 1).val := by
    intro n t h e
    refine (hb n (i 0) ⟨t, h⟩).trans ?_
    unfold beside
    rw [e, Nat.mul_add_div (by decide), Nat.mul_add_mod, Nat.div_eq_of_lt h, Nat.mod_eq_of_lt h, Nat.add_zero]
  refine congrArg₂ (fun x y : EReal => x + y) rfl ?_
  split_ifs
  all_goals
    first
    | exact key 0 _ _ (show (i 1).val = 128 * 0 + (i 1).val by omega)
    | exact key 1 _ _ (show (i 1).val = 128 * 1 + ((i 1).val - 128) by omega)
    | exact key 2 _ _ (show (i 1).val = 128 * 2 + ((i 1).val - 128 - 128) by omega)
    | exact key 3 _ _ (show (i 1).val = 128 * 3 + ((i 1).val - 128 - 128 - 128) by omega)
    | exact key 4 _ _ (show (i 1).val = 128 * 4 + ((i 1).val - 128 - 128 - 128 - 128) by omega)

theorem expos_eq (s : ℕ → ℕ → EReal) : expos (ex s : FVec Ideal S128x640 .f32) = (ex (expo s) : FVec Ideal S128x640 .f32) := by
  funext i
  unfold expos
  pointwise
  rfl

theorem shares_eq (s : ℕ → ℕ → EReal) : shares (ex (expo s) : FVec Ideal S128x640 .f32) = (ex (share s) : FVec Ideal S128x640 .f32) := by
  funext i
  unfold shares
  pointwise
  rfl

/-- The lanes of a head's queries and keys, summed under its mask. -/
theorem half_low (q k v : ℕ → ℕ → EReal) (B : Fin 5 → Tile Ideal) (b : ℕ → ℕ → ℕ → EReal)
    (hb : ∀ n i j, B n (ix6 0 0 0 0 i j) = b n.val i.val j.val) :
    half (ex q : FVec Ideal S128x128 .f32) k0_pay1 (ex k : FVec Ideal S640x128 .f32) (ex v : FVec Ideal S640x128 .f32) (B 0) (B 1) (B 2) (B 3) (B 4)
      = (ex fun i l => head q k v (beside b) i l * low l : FVec Ideal S128x128 .f32) := by
  have hs : (fun i t : ℕ => (∑ l : Fin 128, q i l * low l * k t l) * c8 + beside b i t) = score q k (beside b) := by
    funext i t
    unfold score
    rw [← sum_low fun l => q i l * k t l]
    simp only [mul_right_comm]
  unfold half
  rw [mask_low, scores_eq q k B low b hb, hs, expos_eq, shares_eq]
  funext i
  pointwise
  rfl

theorem half_high (q k v : ℕ → ℕ → EReal) (B : Fin 5 → Tile Ideal) (b : ℕ → ℕ → ℕ → EReal)
    (hb : ∀ n i j, B n (ix6 0 0 0 0 i j) = b n.val i.val j.val) :
    half (ex q : FVec Ideal S128x128 .f32) k0_pay2 (ex k : FVec Ideal S640x128 .f32) (ex v : FVec Ideal S640x128 .f32) (B 0) (B 1) (B 2) (B 3) (B 4)
      = (ex fun i l => head (fun i d => q i (64 + d)) (fun t d => k t (64 + d)) v (beside b) i l * high l : FVec Ideal S128x128 .f32) := by
  have hs : (fun i t : ℕ => (∑ l : Fin 128, q i l * high l * k t l) * c8 + beside b i t) = score (fun i d => q i (64 + d)) (fun t d => k t (64 + d)) (beside b) := by
    funext i t
    unfold score
    rw [← sum_high fun l => q i l * k t l]
    simp only [mul_right_comm]
  unfold half
  rw [mask_high, scores_eq q k B high b hb, hs, expos_eq, shares_eq]
  funext i
  pointwise
  rfl

/-! ## One trip of the loop: eight pairs of rows -/

section
variable {F : FTy → Type} [FloatOps F] (x0 x1 x2 : Vec F S4096x128 .f32) (x3 : Vec F S1x2x5x5x128x128 .f32) (k : Fin k0_t1_loop.trips) (u : Fin 8)

/-- The `n`-th tile of biases of each of the two heads. -/
def tiles0 : Fin 5 → Tile F := ![View.ld x3 (Rect.unit (k0_off3 k (BitVec.ofNat 32 u.val)) S1x1x1x1x128x128.size (k0_off3_inb k u)),
  View.ld x3 (Rect.unit (k0_off4 k (BitVec.ofNat 32 u.val)) S1x1x1x1x128x128.size (k0_off4_inb k u)), View.ld x3 (Rect.unit (k0_off5 k (BitVec.ofNat 32 u.val)) S1x1x1x1x128x128.size (k0_off5_inb k u)),
  View.ld x3 (Rect.unit (k0_off6 k (BitVec.ofNat 32 u.val)) S1x1x1x1x128x128.size (k0_off6_inb k u)), View.ld x3 (Rect.unit (k0_off7 k (BitVec.ofNat 32 u.val)) S1x1x1x1x128x128.size (k0_off7_inb k u))]
def tiles1 : Fin 5 → Tile F := ![View.ld x3 (Rect.unit (k0_off8 k (BitVec.ofNat 32 u.val)) S1x1x1x1x128x128.size (k0_off8_inb k u)),
  View.ld x3 (Rect.unit (k0_off9 k (BitVec.ofNat 32 u.val)) S1x1x1x1x128x128.size (k0_off9_inb k u)), View.ld x3 (Rect.unit (k0_off10 k (BitVec.ofNat 32 u.val)) S1x1x1x1x128x128.size (k0_off10_inb k u)),
  View.ld x3 (Rect.unit (k0_off11 k (BitVec.ofNat 32 u.val)) S1x1x1x1x128x128.size (k0_off11_inb k u)), View.ld x3 (Rect.unit (k0_off12 k (BitVec.ofNat 32 u.val)) S1x1x1x1x128x128.size (k0_off12_inb k u))]

def queries : Vec F S128x128 .f32 := View.ld x0 (Rect.unit (k0_off2 k (BitVec.ofNat 32 u.val)) S128x128.size (k0_off2_inb k u))
def near (x : Vec F S4096x128 .f32) : Vec F S640x128 .f32 := View.ld x (Rect.unit (k0_off1 k (BitVec.ofNat 32 u.val)) S640x128.size (k0_off1_inb k u))

/-- What is stored for a pair of rows. -/
def pair : FVec F S128x128 .bf16 :=
  truncf .bf16 (addf (half (queries x0 k u) k0_pay1 (near k u x1) (near k u x2) (tiles0 x3 k u 0) (tiles0 x3 k u 1) (tiles0 x3 k u 2) (tiles0 x3 k u 3) (tiles0 x3 k u 4))
    (half (queries x0 k u) k0_pay2 (near k u x1) (near k u x2) (tiles1 x3 k u 0) (tiles1 x3 k u 1) (tiles1 x3 k u 2) (tiles1 x3 k u 3) (tiles1 x3 k u 4))) bitsLt_bf16_f32

/-- The store of a pair of rows. -/
def piece : View.Piece (Elt F) S4096x128 .bf16 :=
  ⟨Rect.unit (k0_off2 k (BitVec.ofNat 32 u.val)) S128x128.size (k0_off2_inb k u), pair x0 x1 x2 x3 k u⟩

theorem trip_raw (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S1x2x5x5x128x128 .f32) (harg4 : arg4.IsWhole) (arg5 : Memref sig .tc .vmem S4096x128 .bf16) (harg5 : arg5.IsWhole)
    (f1 : BufTy.Contents (Elt F) arg1.view.ty) (f2 : BufTy.Contents (Elt F) arg2.view.ty) (f3 : BufTy.Contents (Elt F) arg3.view.ty) (f4 : BufTy.Contents (Elt F) arg4.view.ty) :
    tripL_k0_t1 (F := F) 𝒱 c bd i arg1 harg1 arg2 harg2 arg3 harg3 arg4 harg4 arg5 harg5 f1 f2 f3 f4 k
      = [7, 6, 5, 4, 3, 2, 1, 0].map (piece (View.read (Elt F) arg1.view f1) (View.read (Elt F) arg2.view f2) (View.read (Elt F) arg3.view f3) (View.read (Elt F) arg4.view f4) k) := by
  unfold tripL_k0_t1 trip_k0_t1
  rfl
end

/-! ## The loads of a trip, by their coordinates -/

theorem first_eq : ∀ k : Fin k0_t1_loop.trips, ∀ u : Fin 8, k0_off1 k (BitVec.ofNat 32 u.val) = ![first (8 * k.val + u.val), 0] := by decide +kernel
theorem kind_eq : ∀ k : Fin k0_t1_loop.trips, ∀ u : Fin 8, (if 8 * k.val + u.val = 0 then 0 else (if 8 * k.val + u.val = 1 then 1 else (if 8 * k.val + u.val = 30 then 3 else (if 8 * k.val + u.val = 31 then 4 else 2)))) = kind (8 * k.val + u.val) := by
  decide +kernel

section
variable (k : Fin k0_t1_loop.trips) (u : Fin 8) (Q K V : ℕ → ℕ → EReal) (b : ℕ → ℕ → ℕ → ℕ → ℕ → ℕ → EReal)

theorem queries_eq : queries (F := Ideal) (ex Q : FVec Ideal S4096x128 .f32) k u = (ex fun i l => Q (128 * (8 * k.val + u.val) + i) l : FVec Ideal S128x128 .f32) := by
  funext x
  show Q (k0_off2 k (BitVec.ofNat 32 u.val) 0 + 1 * (x 0).val) (k0_off2 k (BitVec.ofNat 32 u.val) 1 + 1 * (x 1).val) = Q (128 * (8 * k.val + u.val) + (x 0).val) (x 1).val
  rw [k0_off2_eq]
  show Q (1024 * k.val + 128 * u.val + 1 * (x 0).val) (0 + 1 * (x 1).val) = _
  congr 1 <;> omega

theorem near_eq : near (F := Ideal) k u (ex K : FVec Ideal S4096x128 .f32) = (ex fun t l => K (first (8 * k.val + u.val) + t) l : FVec Ideal S640x128 .f32) := by
  funext x
  show K (k0_off1 k (BitVec.ofNat 32 u.val) 0 + 1 * (x 0).val) (k0_off1 k (BitVec.ofNat 32 u.val) 1 + 1 * (x 1).val) = K (first (8 * k.val + u.val) + (x 0).val) (x 1).val
  rw [first_eq]
  show K (first (8 * k.val + u.val) + 1 * (x 0).val) (0 + 1 * (x 1).val) = _
  congr 1 <;> omega

theorem tile_at {o : Fin 6 → ℕ} (ho : ∀ a, o a + S1x1x1x1x128x128.size a ≤ S1x2x5x5x128x128.size a) {h κ n : ℕ} (e : o = ![0, h, κ, n, 0, 0]) (i j : Fin 128) :
    View.ld (Val := Elt Ideal) (e' := .f32) (tab b : FVec Ideal S1x2x5x5x128x128 .f32) (Rect.unit o S1x1x1x1x128x128.size ho) (ix6 0 0 0 0 i j) = b 0 h κ n i.val j.val := by
  subst e
  show b (0 + 1 * 0) (h + 1 * 0) (κ + 1 * 0) (n + 1 * 0) (0 + 1 * i.val) (0 + 1 * j.val) = _
  simp only [Nat.mul_zero, Nat.add_zero, Nat.zero_add, Nat.one_mul]

theorem tiles0_eq (n : Fin 5) (i j : Fin 128) : tiles0 (F := Ideal) (tab b : FVec Ideal S1x2x5x5x128x128 .f32) k u n (ix6 0 0 0 0 i j) = b 0 0 (kind (8 * k.val + u.val)) n.val i.val j.val := by
  rw [← kind_eq]
  match n with
  | 0 => exact tile_at b _ (k0_off3_eq k u) i j
  | 1 => exact tile_at b _ (k0_off4_eq k u) i j
  | 2 => exact tile_at b _ (k0_off5_eq k u) i j
  | 3 => exact tile_at b _ (k0_off6_eq k u) i j
  | 4 => exact tile_at b _ (k0_off7_eq k u) i j

theorem tiles1_eq (n : Fin 5) (i j : Fin 128) : tiles1 (F := Ideal) (tab b : FVec Ideal S1x2x5x5x128x128 .f32) k u n (ix6 0 0 0 0 i j) = b 0 1 (kind (8 * k.val + u.val)) n.val i.val j.val := by
  rw [← kind_eq]
  match n with
  | 0 => exact tile_at b _ (k0_off8_eq k u) i j
  | 1 => exact tile_at b _ (k0_off9_eq k u) i j
  | 2 => exact tile_at b _ (k0_off10_eq k u) i j
  | 3 => exact tile_at b _ (k0_off11_eq k u) i j
  | 4 => exact tile_at b _ (k0_off12_eq k u) i j

/-- What is stored for a pair of rows is its rows of the strip. -/
theorem pair_eq : pair (F := Ideal) (ex Q : FVec Ideal S4096x128 .f32) (ex K : FVec Ideal S4096x128 .f32) (ex V : FVec Ideal S4096x128 .f32) (tab b : FVec Ideal S1x2x5x5x128x128 .f32) k u
    = (ex fun i l => strip Q K V (b 0) (128 * (8 * k.val + u.val) + i) l : FVec Ideal S128x128 .bf16) := by
  unfold pair
  rw [queries_eq, near_eq, near_eq, half_low _ _ _ _ _ (tiles0_eq k u b), half_high _ _ _ _ _ (tiles1_eq k u b)]
  funext x
  have h0 : (x 0).val < 128 := (x 0).isLt
  have e1 : (128 * (8 * k.val + u.val) + (x 0).val) / 128 = 8 * k.val + u.val := by omega
  have e2 : (128 * (8 * k.val + u.val) + (x 0).val) % 128 = (x 0).val := by omega
  show _ * low (x 1).val + _ * high (x 1).val = strip Q K V (b 0) (128 * (8 * k.val + u.val) + (x 0).val) (x 1).val
  unfold strip low high
  rw [e1, e2]
  split_ifs
  · rw [mul_one, mul_zero, add_zero]
  · rw [mul_one, mul_zero, zero_add]
end

/-! ## The loop, and what a grid point leaves -/

section
variable (c : Dev nD) (i : grid0.Coords) (arg1 : Memref sig .tc .vmem S4096x128 .f32) (harg1 : arg1.IsWhole) (arg2 : Memref sig .tc .vmem S4096x128 .f32) (harg2 : arg2.IsWhole)
  (arg3 : Memref sig .tc .vmem S4096x128 .f32) (harg3 : arg3.IsWhole) (arg4 : Memref sig .tc .vmem S1x2x5x5x128x128 .f32) (harg4 : arg4.IsWhole) (arg5 : Memref sig .tc .vmem S4096x128 .bf16) (harg5 : arg5.IsWhole)
  (Q K V : ℕ → ℕ → EReal) (b : ℕ → ℕ → ℕ → ℕ → ℕ → ℕ → EReal)

/-- The pieces of the trips so far hold entries of the strip. -/
theorem pieces (n : ℕ) (hn : n ≤ k0_t1_loop.trips) :
    ∀ p ∈ pb_k0_t1 (F := Ideal) Variants.none c none i arg1 harg1 arg2 harg2 arg3 harg3 arg4 harg4 arg5 harg5 (harg1.unread (ex Q : FVec Ideal S4096x128 .f32)) (harg2.unread (ex K : FVec Ideal S4096x128 .f32))
        (harg3.unread (ex V : FVec Ideal S4096x128 .f32)) (harg4.unread (tab b : FVec Ideal S1x2x5x5x128x128 .f32)) n,
      ∀ x, p.2 x = (ex (strip Q K V (b 0)) : FVec Ideal S4096x128 .bf16) (p.1.idx x) := by
  induction n with
  | zero => intro p hp; rw [pb_k0_t1.eq_1] at hp; exact absurd hp (List.not_mem_nil)
  | succ n ih =>
    intro p hp
    rw [pb_k0_t1_succ Variants.none c none i arg1 harg1 arg2 harg2 arg3 harg3 arg4 harg4 arg5 harg5 _ _ _ _ ⟨n, hn⟩, List.mem_append] at hp
    rcases hp with hp | hp
    · rw [trip_raw, harg1.read_unread, harg2.read_unread, harg3.read_unread, harg4.read_unread, List.mem_map] at hp
      obtain ⟨u, -, rfl⟩ := hp
      intro x
      show pair (F := Ideal) _ _ _ _ _ u x = strip Q K V (b 0) (k0_off2 ⟨n, hn⟩ (BitVec.ofNat 32 u.val) 0 + 1 * (x 0).val) (k0_off2 ⟨n, hn⟩ (BitVec.ofNat 32 u.val) 1 + 1 * (x 1).val)
      rw [pair_eq, k0_off2_eq]
      show strip Q K V (b 0) (128 * (8 * n + u.val) + (x 0).val) (x 1).val = strip Q K V (b 0) (1024 * n + 128 * u.val + 1 * (x 0).val) (0 + 1 * (x 1).val)
      congr 1 <;> omega
    · exact ih (Nat.le_of_succ_le hn) p hp

theorem left4 : out0_A_4 (F := Ideal) c i arg1 harg1 arg2 harg2 arg3 harg3 arg4 harg4 arg5 harg5 (ex Q : FVec Ideal S4096x128 .f32) (ex K : FVec Ideal S4096x128 .f32) (ex V : FVec Ideal S4096x128 .f32)
      (tab b : FVec Ideal S1x2x5x5x128x128 .f32) = (ex (strip Q K V (b 0)) : FVec Ideal S4096x128 .bf16) := by
  unfold out0_A_4
  rw [View.read_writes_eq_canon _ _ _ (cover0_A_4 (F := Ideal) c i arg1 harg1 arg2 harg2 arg3 harg3 arg4 harg4 arg5 harg5 _ _ _ _)]
  funext y
  refine View.canon_apply_of_pieces (S := S4096x128) (e := .bf16) (Val := Elt Ideal) (ex (strip Q K V (b 0)) : FVec Ideal S4096x128 .bf16) _ ?_ y
    (cover0_A_4 (F := Ideal) c i arg1 harg1 arg2 harg2 arg3 harg3 arg4 harg4 arg5 harg5 _ _ _ _ y)
  unfold kernelRun0_A
  exact pieces c i arg1 harg1 arg2 harg2 arg3 harg3 arg4 harg4 arg5 harg5 Q K V b k0_t1_loop.trips (Nat.le_refl _)
end

/-! ## The blocks, read off the arrays -/

theorem ix0 : ∀ t : Fin cfg0.N, win0_0.index t 0 = 0 ∧ win0_0.index t 1 = 18 + t.val := by decide +kernel
theorem ix1 : ∀ t : Fin cfg0.N, win0_1.index t 0 = 0 ∧ win0_1.index t 1 = 20 + t.val := by decide +kernel
theorem ix2 : ∀ t : Fin cfg0.N, win0_2.index t 0 = 0 ∧ win0_2.index t 1 = 22 + t.val := by decide +kernel
theorem ix3 : ∀ t : Fin cfg0.N, win0_3.index t 0 = t.val ∧ win0_3.index t 1 = 0 ∧ win0_3.index t 2 = 0 ∧ win0_3.index t 3 = 0 ∧ win0_3.index t 4 = 0 ∧ win0_3.index t 5 = 0 := by decide +kernel
theorem ix4 : ∀ t : Fin cfg0.N, win0_4.index t 0 = 0 ∧ win0_4.index t 1 = t.val := by decide +kernel

/-- A block of whole columns, read off its array. -/
theorem at_columns (a : ℕ → ℕ → EReal) {u v s : ℕ} (R C i j : ℕ) (hu : u = 0) (hv : v = s) : a (u * R + 1 * i) (v * C + 1 * j) = a i (C * s + j) := by
  rw [hu, hv, Nat.mul_comm s C, Nat.one_mul, Nat.one_mul, Nat.zero_mul, Nat.zero_add]

section
variable {m : (ℓ : Loc nD τ sig) → Buf (Elt Ideal) ℓ} {c : Dev nD} {P : ℕ → ℕ → EReal} {b : ℕ → ℕ → ℕ → ℕ → ℕ → ℕ → EReal}
  (ha0 : m ((c.tc : Thread nD τ).loc main_arg0) = (ex P : FVec Ideal S4096x3072 .f32))
  (ha1 : m ((c.tc : Thread nD τ).loc main_arg1) = (tab b : FVec Ideal S2x2x5x5x128x128 .f32))

include ha0 in
theorem read0 (t : Fin cfg0.N) : iblk m c 0 t = (ex fun i j => P i (128 * (18 + t.val) + j) : FVec Ideal S4096x128 .f32) := by
  funext j
  unfold iblk
  rw [View.read_apply]
  show V m c main_arg0 _ = _
  rw [V_main_arg0, ha0]
  exact at_columns P 4096 128 (j 0).val (j 1).val (ix0 t).1 (ix0 t).2

include ha0 in
theorem read1 (t : Fin cfg0.N) : iblk m c 1 t = (ex fun i j => P i (128 * (20 + t.val) + j) : FVec Ideal S4096x128 .f32) := by
  funext j
  unfold iblk
  rw [View.read_apply]
  show V m c main_arg0 _ = _
  rw [V_main_arg0, ha0]
  exact at_columns P 4096 128 (j 0).val (j 1).val (ix1 t).1 (ix1 t).2

include ha0 in
theorem read2 (t : Fin cfg0.N) : iblk m c 2 t = (ex fun i j => P i (128 * (22 + t.val) + j) : FVec Ideal S4096x128 .f32) := by
  funext j
  unfold iblk
  rw [View.read_apply]
  show V m c main_arg0 _ = _
  rw [V_main_arg0, ha0]
  exact at_columns P 4096 128 (j 0).val (j 1).val (ix2 t).1 (ix2 t).2

include ha1 in
theorem read3 (t : Fin cfg0.N) : iblk m c 3 t = (tab (fun e => b (t.val + e)) : FVec Ideal S1x2x5x5x128x128 .f32) := by
  funext j
  unfold iblk
  rw [View.read_apply]
  show V m c main_arg1 _ = _
  rw [V_main_arg1, ha1]
  show b (win0_3.index t 0 * 1 + 1 * (j 0).val) (win0_3.index t 1 * 2 + 1 * (j 1).val) (win0_3.index t 2 * 5 + 1 * (j 2).val) (win0_3.index t 3 * 5 + 1 * (j 3).val) (win0_3.index t 4 * 128 + 1 * (j 4).val)
    (win0_3.index t 5 * 128 + 1 * (j 5).val) = b (t.val + (j 0).val) (j 1).val (j 2).val (j 3).val (j 4).val (j 5).val
  obtain ⟨e0, e1, e2, e3, e4, e5⟩ := ix3 t
  rw [e0, e1, e2, e3, e4, e5]
  simp only [Nat.mul_one, Nat.one_mul, Nat.zero_mul, Nat.zero_add]

include ha0 ha1

theorem flushed4 (t : Fin cfg0.N) (_ : (cfg0.win 4).flush t = true) :
    (dats m 0 c).flushed 4 t = ((cfg0.win 4).blk t).view.read (Elt Ideal) (ex (attend P b) : FVec Ideal S4096x256 .bf16) := by
  show (cfg0.win 4).cut (grid0.coords t) ((dats m 0 c).after 4 t) = _
  rw [after0_4]
  unfold outsAt0
  rw [read0 ha0, read1 ha0, read2 ha0, read3 ha1, left4]
  funext j
  rw [View.read_apply]
  exact (strip_eq P b t.val (j 0).val (j 1).val (j 1).isLt).trans (at_columns (attend P b) 4096 128 (j 0).val (j 1).val (ix4 t).1 (ix4 t).2).symm

theorem final4 : (dats m 0 c).arrAt 4 cfg0.N = (ex (attend P b) : FVec Ideal S4096x256 .bf16) :=
  (dats m 0 c).arrAt_eq_of_cover 4 _ (flushed4 ha0 ha1) fun i => by
    have h0 : (i 0).val < 4096 := (i 0).isLt
    have h1 : (i 1).val < 256 := (i 1).isLt
    have hN : cfg0.N = 2 := N_0
    obtain ⟨t, ht⟩ : ∃ t : Fin cfg0.N, t.val = (i 1).val / 128 := ⟨⟨(i 1).val / 128, by omega⟩, rfl⟩
    refine ⟨t, flush0_4 t, ?_⟩
    show i ∈ ((View.whole main_v0).slice (win0_4.rect t)).set
    rw [View.set_slice_whole, Rect.mem_set_unit]
    have e0 := (ix4 t).1
    have e1 := (ix4 t).2
    have h : (win0_4.index t 0 * 4096 ≤ (i 0).val ∧ (i 0).val < win0_4.index t 0 * 4096 + 4096) ∧ (win0_4.index t 1 * 128 ≤ (i 1).val ∧ (i 1).val < win0_4.index t 1 * 128 + 128) := by omega
    exact Fin.forall_fin_two.mpr h
end

end Cert.Kernel32Ideal.Near
-- ==== Proof.NearRef.lean ====
module

public import proofs.«01_k».proof.Proof.Near

@[expose] public section

set_option maxRecDepth 16384

noncomputable section

namespace Cert.Reference32Ideal.Near

open Idealize.ShloMosaic Idealize.ShloMosaic.TcCoe Idealize.SL.Sem Cert.Reference32Ideal.Gen Cert.Extended Cert.Near

/-! ## The reference's steps -/

section
variable {F : FTy → Type} [FloatOps F]

/-- The keys of each pair of rows, and which table of biases it reads. -/
def keyRows : IVec S32x640 32 :=
  addi (broadcastInDim S32x640 ![0, 1] bcast_S32x1_S32x640_0_1 (muli (broadcastInDim S32x1 ![0] bcast_S32_S32x1_0 (maxsi (minsi (subi (muli (broadcastInDim S32 ![] bcast_S_S32 (constantI S_ 32 2#32)) (iotaInDim S32 32 0))
      (broadcastInDim S32 ![] bcast_S_S32 (constantI S_ 32 4#32))) (broadcastInDim S32 ![] bcast_S_S32 (constantI S_ 32 54#32))) (broadcastInDim S32 ![] bcast_S_S32 (constantI S_ 32 0#32))))
      (broadcastInDim S32x1 ![] bcast_S_S32x1 (constantI S_ 32 64#32))))
    (broadcastInDim S32x640 ![0, 1] bcast_S1x640_S32x640_0_1 (broadcastInDim S1x640 ![1] bcast_S640_S1x640_1 (iotaInDim S640 32 0)))
def kinds : IVec S32 32 :=
  select (cmpi .slt (iotaInDim S32 32 0) (broadcastInDim S32 ![] bcast_S_S32 (constantI S_ 32 2#32))) (iotaInDim S32 32 0)
    (select (cmpi .slt (iotaInDim S32 32 0) (broadcastInDim S32 ![] bcast_S_S32 (constantI S_ 32 30#32))) (broadcastInDim S32 ![] bcast_S_S32 (constantI S_ 32 2#32))
      (subi (iotaInDim S32 32 0) (broadcastInDim S32 ![] bcast_S_S32 (constantI S_ 32 27#32))))

/-- Four heads' columns, the head first. -/
def heads (x : FVec F S4096x256 .f32) : FVec F S4x4096x64 .f32 :=
  transpose S4x4096x64 [1, 0, 2] (shapeCast S4096x4x64 x shapeCasts_S4096x256_S4096x4x64) transposes_S4096x4x64_S4x4096x64_1_0_2
/-- The rows of the keys of each pair. -/
def nearby (x : FVec F S4x4096x64 .f32) : FVec F S4x32x640x64 .f32 :=
  Host.gather gather_S4x4096x64_S32x640x1_S4x32x640x64_03_1_n_n_1_2_4164 x (broadcastInDim S32x640x1 ![0, 1] bcast_S32x640_S32x640x1_0_1 keyRows)
def biases (b : FVec F S2x2x5x5x128x128 .f32) : FVec F S4x32x128x640 .f32 :=
  shapeCast S4x32x128x640 (transpose S4x32x128x5x128 [0, 1, 3, 2, 4] (Host.gather gather_S4x5x5x128x128_S32x1_S4x32x5x128x128_0234_1_n_n_1_1_415128128
    (shapeCast S4x5x5x128x128 b shapeCasts_S2x2x5x5x128x128_S4x5x5x128x128) (broadcastInDim S32x1 ![0] bcast_S32_S32x1_0 kinds)) transposes_S4x32x5x128x128_S4x32x128x5x128_0_1_3_2_4) shapeCasts_S4x32x128x5x128_S4x32x128x640
def scores (q : FVec F S4x32x128x64 .f32) (k : FVec F S4x32x640x64 .f32) (b : FVec F S4x32x128x640 .f32) : FVec F S4x32x128x640 .f32 :=
  addf (mulf (Host.dotGeneral dot_S4x32x128x64_S4x32x640x64_S4x32x128x640_3_3_2_2_01_01 none q k) (broadcastInDim S4x32x128x640 ![] bcast_S_S4x32x128x640 (constant S_ .f32 0x3E000000#32))) b
/-- The largest score of each row. -/
def tops (s : FVec F S4x32x128x640 .f32) : FVec F S4x32x128 .f32 :=
  maximumf (broadcastInDim S4x32x128 ![] bcast_S_S4x32x128 (constant S_ .f32 0xFF800000#32)) (Host.reduce FloatOps.maximumf s (constant S_ .f32 0xFF800000#32) reducesTo_S4x32x128x640_S4x32x128_d3 h_S_)
def expos (s : FVec F S4x32x128x640 .f32) (m : FVec F S4x32x128 .f32) : FVec F S4x32x128x640 .f32 :=
  Host.exp (subf s (broadcastInDim S4x32x128x640 ![0, 1, 2, 3] bcast_S4x32x128x1_S4x32x128x640_0_1_2_3 (broadcastInDim S4x32x128x1 ![0, 1, 2] bcast_S4x32x128_S4x32x128x1_0_1_2 m)))
def shares (e : FVec F S4x32x128x640 .f32) : FVec F S4x32x128x640 .f32 :=
  Host.divf e (broadcastInDim S4x32x128x640 ![0, 1, 2, 3] bcast_S4x32x128x1_S4x32x128x640_0_1_2_3 (broadcastInDim S4x32x128x1 ![0, 1, 2] bcast_S4x32x128_S4x32x128x1_0_1_2
    (Host.reduceAdd e (constant S_ .f32 0x00000000#32) reducesTo_S4x32x128x640_S4x32x128_d3 h_S_)))
/-- The attention of given scores, divided by their sums. -/
def weights (s : FVec F S4x32x128x640 .f32) : FVec F S4x32x128x640 .f32 := shares (expos s (tops s))
def join (a : FVec F S4x32x128x640 .f32) (v : FVec F S4x32x640x64 .f32) : FVec F S4096x256 .bf16 :=
  truncf .bf16 (shapeCast S4096x256 (transpose S4096x4x64 [1, 0, 2] (shapeCast S4x4096x64 (Host.dotGeneral dot_S4x32x128x640_S4x32x640x64_S4x32x128x64_3_2_2_3_01_01 none a v) shapeCasts_S4x32x128x64_S4x4096x64)
    transposes_S4x4096x64_S4096x4x64_1_0_2) shapeCasts_S4096x4x64_S4096x256) bitsLt_bf16_f32

theorem result (m : (ℓ : Loc nD τ sig) → Buf (Elt F) ℓ) (c : Dev nD) (x : FVec F S4096x3072 .f32) (b : FVec F S2x2x5x5x128x128 .f32)
    (hx : m ((c.tc : Thread nD τ).loc main_arg0) = x) (hb : m ((c.tc : Thread nD τ).loc main_arg1) = b) :
    Value.res_main_v64 m c = join (weights (scores (shapeCast S4x32x128x64 (heads (extractStridedSlice S4096x256 ![0, 2304] x slices_S4096x3072_S4096x256_0_2304)) shapeCasts_S4x4096x64_S4x32x128x64)
        (nearby (heads (extractStridedSlice S4096x256 ![0, 2560] x slices_S4096x3072_S4096x256_0_2560))) (biases b)))
      (nearby (heads (extractStridedSlice S4096x256 ![0, 2816] x slices_S4096x3072_S4096x256_0_2816))) := by
  subst hx hb
  rfl
end

/-! ## Their entries -/

/-- Arrays of rank three and four by their coordinates. -/
abbrev e3 {φ : FTy} {d : Fin 3 → ℕ} (f : ℕ → ℕ → ℕ → EReal) : FVec Ideal ⟨3, d⟩ φ := fun i => f (i 0).val (i 1).val (i 2).val
abbrev e4 {φ : FTy} {d : Fin 4 → ℕ} (f : ℕ → ℕ → ℕ → ℕ → EReal) : FVec Ideal ⟨4, d⟩ φ := fun i => f (i 0).val (i 1).val (i 2).val (i 3).val

theorem starts_eq : ∀ p : Fin 32, IntOp.muli (IntOp.maxsi (IntOp.minsi (IntOp.subi (IntOp.muli 2#32 (BitVec.ofNat 32 p.val)) 4#32) 54#32) 0#32) 64#32 = BitVec.ofNat 32 (first p.val) := by
  decide +kernel
theorem picks_eq : ∀ p : Fin 32, Scalar.select (IntOp.cmpi CmpIPredicate.slt (BitVec.ofNat 32 p.val) 2#32) (BitVec.ofNat 32 p.val)
    (Scalar.select (IntOp.cmpi CmpIPredicate.slt (BitVec.ofNat 32 p.val) 30#32) 2#32 (IntOp.subi (BitVec.ofNat 32 p.val) 27#32)) = BitVec.ofNat 32 (kind p.val) := by
  decide +kernel

theorem keyRows_eq (i : S32x640.Idx) : keyRows i = BitVec.ofNat 32 (first (i 0).val + (i 1).val) := by
  unfold keyRows
  pointwise
  exact (congrArg (IntOp.addi · _) (starts_eq (i 0))).trans (BitVec.ofNat_add _ _).symm

theorem kinds_eq (i : S32.Idx) : kinds i = BitVec.ofNat 32 (kind (i 0).val) := by
  unfold kinds
  pointwise
  exact picks_eq (i 0)

theorem first_le (p : ℕ) : first p ≤ 3456 := by
  unfold first
  omega
theorem kind_le {p : ℕ} (hp : p < 32) : kind p ≤ 4 := by
  unfold kind
  split_ifs <;> omega
theorem toNat_small {n : ℕ} (hn : n < 4096) : (BitVec.ofNat 32 n).toInt.toNat = n := by
  have h : (BitVec.ofNat 32 n).toNat = n := by
    rw [BitVec.toNat_ofNat]
    exact Nat.mod_eq_of_lt (by omega)
  rw [BitVec.toInt_eq_toNat_of_lt (by rw [h]; omega), h]
  rfl

theorem slice_q (P : ℕ → ℕ → EReal) : (extractStridedSlice S4096x256 ![0, 2304] (ex P : FVec Ideal S4096x3072 .f32) slices_S4096x3072_S4096x256_0_2304) = (ex fun r c => P r (2304 + c) : FVec Ideal S4096x256 .f32) := by
  funext i
  pointwise
  exact congrArg₂ P (by simp) (by simp)
theorem slice_k (P : ℕ → ℕ → EReal) : (extractStridedSlice S4096x256 ![0, 2560] (ex P : FVec Ideal S4096x3072 .f32) slices_S4096x3072_S4096x256_0_2560) = (ex fun r c => P r (2560 + c) : FVec Ideal S4096x256 .f32) := by
  funext i
  pointwise
  exact congrArg₂ P (by simp) (by simp)
theorem slice_v (P : ℕ → ℕ → EReal) : (extractStridedSlice S4096x256 ![0, 2816] (ex P : FVec Ideal S4096x3072 .f32) slices_S4096x3072_S4096x256_0_2816) = (ex fun r c => P r (2816 + c) : FVec Ideal S4096x256 .f32) := by
  funext i
  pointwise
  exact congrArg₂ P (by simp) (by simp)

theorem heads_eq (x : ℕ → ℕ → EReal) : heads (F := Ideal) (ex x : FVec Ideal S4096x256 .f32) = (e3 fun h r d => x r (64 * h + d) : FVec Ideal S4x4096x64 .f32) := by
  funext i
  unfold heads
  pointwise
  exact congrArg (x _) (congrArg (· + (i 2).val) (Nat.mul_comm _ _))

theorem split_eq (x : ℕ → ℕ → ℕ → EReal) :
    shapeCast S4x32x128x64 (e3 x : FVec Ideal S4x4096x64 .f32) shapeCasts_S4x4096x64_S4x32x128x64 = (e4 fun h p i d => x h (128 * p + i) d : FVec Ideal S4x32x128x64 .f32) := by
  funext i
  pointwise
  exact congrArg (x _ · _) (congrArg (· + (i 2).val) (Nat.mul_comm _ _))

theorem scores_eq (q k b : ℕ → ℕ → ℕ → ℕ → EReal) :
    scores (F := Ideal) (e4 q : FVec Ideal S4x32x128x64 .f32) (e4 k : FVec Ideal S4x32x640x64 .f32) (e4 b : FVec Ideal S4x32x128x640 .f32) = (e4 fun h p => score (q h p) (k h p) (b h p) : FVec Ideal S4x32x128x640 .f32) := by
  funext i
  unfold scores
  pointwise
  rfl

theorem last_axis : S4x32x128x640.Reduces [3] S4x32x128 := by decide

theorem reduce_at (x : FVec Ideal S4x32x128x640 .f32) (z : FVec Ideal S_ .f32) (j : S4x32x128.Idx) :
    Host.reduce (FloatOps.maximumf (F := Ideal)) x z reducesTo_S4x32x128x640_S4x32x128_d3 h_S_ j
      = (Finset.univ : Finset (Fin 640)).fold (FloatOps.maximumf (F := Ideal) (φ := .f32)) (z (Shape.Idx.first h_S_)) (x ∘ last_axis.lift j) :=
  Host.reduce_eq_fold_single _ x z reducesTo_S4x32x128x640_S4x32x128_d3 last_axis h_S_ j

theorem fold_eq (f : Fin 640 → EReal) (z : EReal) : (Finset.univ : Finset (Fin 640)).fold (FloatOps.maximumf (F := Ideal) (φ := .f32)) z f = (Finset.univ : Finset (Fin 640)).fold max z f := rfl

theorem largest_at (x : FVec Ideal S4x32x128x640 .f32) (z : FVec Ideal S_ .f32) (j : S4x32x128.Idx) :
    Host.reduce (FloatOps.maximumf (F := Ideal)) x z reducesTo_S4x32x128x640_S4x32x128_d3 h_S_ j = (Finset.univ : Finset (Fin 640)).fold max (z (Shape.Idx.first h_S_)) (x ∘ last_axis.lift j) :=
  (reduce_at x z j).trans (fold_eq (x ∘ last_axis.lift j) (z (Shape.Idx.first h_S_)))

theorem row_at (s : ℕ → ℕ → ℕ → ℕ → EReal) (j : S4x32x128.Idx) :
    Host.reduce (FloatOps.maximumf (F := Ideal)) (e4 s : FVec Ideal S4x32x128x640 .f32) (constant (F := Ideal) S_ .f32 0xFF800000#32) reducesTo_S4x32x128x640_S4x32x128_d3 h_S_ j
      = top (s (j 0).val (j 1).val) (j 2).val :=
  largest_at (e4 s) (constant (F := Ideal) S_ .f32 0xFF800000#32) j

theorem top_eq (s : ℕ → ℕ → EReal) (i : ℕ) : max (Ideal.ofBits .f32 0xFF800000#32) (top s i) = top s i :=
  max_eq_right ((Finset.le_fold_max _).mpr (Or.inl le_rfl))

theorem bound_at (y : FVec Ideal S4x32x128 .f32) (j : S4x32x128.Idx) :
    maximumf (F := Ideal) (broadcastInDim S4x32x128 ![] bcast_S_S4x32x128 (constant (F := Ideal) S_ .f32 0xFF800000#32)) y j = max (Ideal.ofBits .f32 0xFF800000#32) (y j) := rfl

theorem tops_eq (s : ℕ → ℕ → ℕ → ℕ → EReal) : tops (F := Ideal) (e4 s : FVec Ideal S4x32x128x640 .f32) = (e3 fun h p => top (s h p) : FVec Ideal S4x32x128 .f32) := by
  funext j
  unfold tops
  exact (bound_at _ j).trans ((congrArg (max (Ideal.ofBits .f32 0xFF800000#32)) (row_at s j)).trans (top_eq _ _))

theorem expos_eq (s : ℕ → ℕ → ℕ → ℕ → EReal) :
    expos (F := Ideal) (e4 s : FVec Ideal S4x32x128x640 .f32) (e3 fun h p => top (s h p) : FVec Ideal S4x32x128 .f32) = (e4 fun h p => expo (s h p) : FVec Ideal S4x32x128x640 .f32) := by
  funext i
  unfold expos
  pointwise
  rfl

theorem shares_eq (s : ℕ → ℕ → ℕ → ℕ → EReal) : shares (F := Ideal) (e4 fun h p => expo (s h p) : FVec Ideal S4x32x128x640 .f32) = (e4 fun h p => share (s h p) : FVec Ideal S4x32x128x640 .f32) := by
  funext i
  unfold shares
  pointwise
  rfl

theorem weights_eq (s : ℕ → ℕ → ℕ → ℕ → EReal) : weights (F := Ideal) (e4 s : FVec Ideal S4x32x128x640 .f32) = (e4 fun h p => share (s h p) : FVec Ideal S4x32x128x640 .f32) := by
  unfold weights
  rw [tops_eq, expos_eq, shares_eq]

theorem join_eq (a v : ℕ → ℕ → ℕ → ℕ → EReal) : join (F := Ideal) (e4 a : FVec Ideal S4x32x128x640 .f32) (e4 v : FVec Ideal S4x32x640x64 .f32)
    = (ex fun r c => ∑ t : Fin 640, a (c / 64) (r / 128) (r % 128) t * v (c / 64) (r / 128) t (c % 64) : FVec Ideal S4096x256 .bf16) := by
  funext i
  unfold join
  pointwise
  rfl

/-! ## What the tables are read at -/

theorem start_unmapped {s si t : Shape} (d : GatherDims s si t) {w : ℕ} (j : t.Idx) (idx : IVec si w) (a : Fin s.rank) (h : a ∉ d.startIndexMap) : d.start j idx a = 0 := by
  unfold GatherDims.start
  exact dif_neg h

theorem start_val {s si t : Shape} (d : GatherDims s si t) (j : t.Idx) (idx : IVec si 32) (a : Fin s.rank) (h : a ∈ d.startIndexMap) (k : si.Idx) (n : ℕ)
    (hk : d.siIdx j ⟨d.startIndexMap.idxOf a, List.idxOf_lt_length_iff.2 h⟩ = k) (hi : idx k = BitVec.ofNat 32 n) (hn : n < 4096) (hs : n ≤ s.size a - d.sliceSizes a) : d.start j idx a = n := by
  unfold GatherDims.start
  rw [dif_pos h, hk, hi, toNat_small hn]
  exact min_eq_left hs

theorem rows_at (x : FVec Ideal S4x4096x64 .f32) (j : S4x32x640x64.Idx) :
    nearby x j = x (ix3 (j 0) ⟨first (j 1).val + (j 2).val, by have := first_le (j 1).val; have : (j 2).val < 640 := (j 2).isLt; omega⟩ (j 3)) := by
  unfold nearby Host.gather
  refine congrArg x (funext fun a => Fin.ext ?_)
  show GatherDims.start _ j _ a + GatherDims.batchCoord _ j a + GatherDims.offCoord _ j a = _
  rw [GatherDims.batchCoord_eq_zero _ _ _ (show a ∉ ([] : List (Fin 3)) from List.not_mem_nil), Nat.add_zero]
  match a with
  | 0 =>
    exact (congrArg (· + _) (start_unmapped _ j _ _ (show (0 : Fin 3) ∉ ([1] : List (Fin 3)) by decide))).trans ((Nat.zero_add _).trans rfl)
  | 1 =>
    rw [GatherDims.offCoord_eq_zero _ _ _ (fun h => ((GatherDims.mem_sKept _ _).mp h).1 (List.mem_singleton.mpr rfl)), Nat.add_zero]
    have h : ∀ h', (gather_S4x4096x64_S32x640x1_S4x32x640x64_03_1_n_n_1_2_4164.siIdx j ⟨gather_S4x4096x64_S32x640x1_S4x32x640x64_03_1_n_n_1_2_4164.startIndexMap.idxOf 1, h'⟩ : S32x640x1.Idx) = ix3 (j 1) (j 2) 0 := fun h' => by
      funext b
      match b with
      | 0 => rfl
      | 1 => rfl
      | 2 => rfl
    have hk : broadcastInDim S32x640x1 ![0, 1] bcast_S32x640_S32x640x1_0_1 keyRows (ix3 (j 1) (j 2) 0) = BitVec.ofNat 32 (first (j 1).val + (j 2).val) := by
      pointwise
      exact keyRows_eq _
    have l : first (j 1).val + (j 2).val < 4096 := by have := first_le (j 1).val; have : (j 2).val < 640 := (j 2).isLt; omega
    refine Eq.trans (b := first (j 1).val + (j 2).val) ?_ rfl
    exact start_val _ j _ _ (show (1 : Fin 3) ∈ ([1] : List (Fin 3)) by decide) (ix3 (j 1) (j 2) 0) _ (h _) hk l (show _ ≤ 4095 by omega)
  | 2 =>
    exact (congrArg (· + _) (start_unmapped _ j _ _ (show (2 : Fin 3) ∉ ([1] : List (Fin 3)) by decide))).trans ((Nat.zero_add _).trans rfl)

theorem tiles_at (x : FVec Ideal S4x5x5x128x128 .f32) (j : S4x32x5x128x128.Idx) :
    Host.gather gather_S4x5x5x128x128_S32x1_S4x32x5x128x128_0234_1_n_n_1_1_415128128 x (broadcastInDim S32x1 ![0] bcast_S32_S32x1_0 kinds) j
      = x (ix5 (j 0) ⟨kind (j 1).val, Nat.lt_succ_of_le (kind_le (j 1).isLt)⟩ (j 2) (j 3) (j 4)) := by
  unfold Host.gather
  refine congrArg x (funext fun a => Fin.ext ?_)
  show GatherDims.start _ j _ a + GatherDims.batchCoord _ j a + GatherDims.offCoord _ j a = _
  rw [GatherDims.batchCoord_eq_zero _ _ _ (show a ∉ ([] : List (Fin 5)) from List.not_mem_nil), Nat.add_zero]
  match a with
  | 0 =>
    exact (congrArg (· + _) (start_unmapped _ j _ _ (show (0 : Fin 5) ∉ ([1] : List (Fin 5)) by decide))).trans ((Nat.zero_add _).trans rfl)
  | 1 =>
    rw [GatherDims.offCoord_eq_zero _ _ _ (fun h => ((GatherDims.mem_sKept _ _).mp h).1 (List.mem_singleton.mpr rfl)), Nat.add_zero]
    have h : ∀ h', (gather_S4x5x5x128x128_S32x1_S4x32x5x128x128_0234_1_n_n_1_1_415128128.siIdx j ⟨gather_S4x5x5x128x128_S32x1_S4x32x5x128x128_0234_1_n_n_1_1_415128128.startIndexMap.idxOf 1, h'⟩ : S32x1.Idx) = ix2 (j 1) 0 := fun h' => by
      funext b
      match b with
      | 0 => rfl
      | 1 => rfl
    have hk : broadcastInDim S32x1 ![0] bcast_S32_S32x1_0 kinds (ix2 (j 1) 0) = BitVec.ofNat 32 (kind (j 1).val) := by
      pointwise
      exact kinds_eq _
    have l : kind (j 1).val ≤ 4 := kind_le (j 1).isLt
    refine Eq.trans (b := kind (j 1).val) ?_ rfl
    exact start_val _ j _ _ (show (1 : Fin 5) ∈ ([1] : List (Fin 5)) by decide) (ix2 (j 1) 0) _ (h _) hk (by omega) (show _ ≤ 4 from l)
  | 2 =>
    exact (congrArg (· + _) (start_unmapped _ j _ _ (show (2 : Fin 5) ∉ ([1] : List (Fin 5)) by decide))).trans ((Nat.zero_add _).trans rfl)
  | 3 =>
    exact (congrArg (· + _) (start_unmapped _ j _ _ (show (3 : Fin 5) ∉ ([1] : List (Fin 5)) by decide))).trans ((Nat.zero_add _).trans rfl)
  | 4 =>
    exact (congrArg (· + _) (start_unmapped _ j _ _ (show (4 : Fin 5) ∉ ([1] : List (Fin 5)) by decide))).trans ((Nat.zero_add _).trans rfl)

theorem nearby_eq (x : ℕ → ℕ → ℕ → EReal) : nearby (F := Ideal) (e3 x : FVec Ideal S4x4096x64 .f32) = (e4 fun h p t d => x h (first p + t) d : FVec Ideal S4x32x640x64 .f32) :=
  funext fun j => rows_at _ j

theorem tables_at (b : ℕ → ℕ → ℕ → ℕ → ℕ → ℕ → EReal) (j : S4x5x5x128x128.Idx) :
    shapeCast S4x5x5x128x128 (tab b : FVec Ideal S2x2x5x5x128x128 .f32) shapeCasts_S2x2x5x5x128x128_S4x5x5x128x128 j = b ((j 0).val / 2) ((j 0).val % 2) (j 1).val (j 2).val (j 3).val (j 4).val := by
  pointwise
  rfl

theorem biases_eq (b : ℕ → ℕ → ℕ → ℕ → ℕ → ℕ → EReal) : biases (F := Ideal) (tab b : FVec Ideal S2x2x5x5x128x128 .f32)
    = (e4 fun h p i t => beside (b (h / 2) (h % 2) (kind p)) i t : FVec Ideal S4x32x128x640 .f32) := by
  funext j
  unfold biases
  pointwise
  exact (tiles_at _ _).trans (tables_at b _)

/-- The columns of a head, by the rows of a pair and by the rows of its keys. -/
theorem queries_eq (P : ℕ → ℕ → EReal) : shapeCast S4x32x128x64 (heads (F := Ideal) (extractStridedSlice S4096x256 ![0, 2304] (ex P : FVec Ideal S4096x3072 .f32) slices_S4096x3072_S4096x256_0_2304)) shapeCasts_S4x4096x64_S4x32x128x64
    = (e4 fun h p i d => P (128 * p + i) (2304 + 64 * h + d) : FVec Ideal S4x32x128x64 .f32) := by
  simp only [Nat.add_assoc]
  rw [slice_q, heads_eq, split_eq]
theorem keys_eq (P : ℕ → ℕ → EReal) : nearby (heads (F := Ideal) (extractStridedSlice S4096x256 ![0, 2560] (ex P : FVec Ideal S4096x3072 .f32) slices_S4096x3072_S4096x256_0_2560))
    = (e4 fun h p t d => P (first p + t) (2560 + 64 * h + d) : FVec Ideal S4x32x640x64 .f32) := by
  simp only [Nat.add_assoc]
  rw [slice_k, heads_eq, nearby_eq]
theorem vals_eq (P : ℕ → ℕ → EReal) : nearby (heads (F := Ideal) (extractStridedSlice S4096x256 ![0, 2816] (ex P : FVec Ideal S4096x3072 .f32) slices_S4096x3072_S4096x256_0_2816))
    = (e4 fun h p t d => P (first p + t) (2816 + 64 * h + d) : FVec Ideal S4x32x640x64 .f32) := by
  simp only [Nat.add_assoc]
  rw [slice_v, heads_eq, nearby_eq]

theorem host (m : (ℓ : Loc nD τ sig) → Buf (Elt Ideal) ℓ) (c : Dev nD) (P : ℕ → ℕ → EReal) (b : ℕ → ℕ → ℕ → ℕ → ℕ → ℕ → EReal)
    (ha0 : m ((c.tc : Thread nD τ).loc main_arg0) = (ex P : FVec Ideal S4096x3072 .f32)) (ha1 : m ((c.tc : Thread nD τ).loc main_arg1) = (tab b : FVec Ideal S2x2x5x5x128x128 .f32)) :
    Value.res_main_v64 (F := Ideal) m c = (ex (attend P b) : FVec Ideal S4096x256 .bf16) := by
  refine (result m c _ _ ha0 ha1).trans ?_
  rw [queries_eq, keys_eq, vals_eq, biases_eq, scores_eq, weights_eq, join_eq]
  rfl

end Cert.Reference32Ideal.Near

namespace Cert.Kernel32Ideal.Near

open Idealize.ShloMosaic Idealize.ShloMosaic.TcCoe Idealize.SL.Sem Cert.Kernel32Ideal.Gen Cert.Extended Cert.Near

/-- Both programs end with every pair of rows attending to its ten rows of keys. -/
theorem values : Cert.algebraic_Kernel32Ideal_Reference32Ideal := by
  intro m s m' s' _ hagree
  choose P hP using fun c : Dev nD => exists_ex (m ((c.tc : Thread nD τ).loc main_arg0) : FVec Ideal S4096x3072 .f32)
  choose b hb using fun c : Dev nD => exists_tab (m ((c.tc : Thread nD τ).loc main_arg1) : FVec Ideal S2x2x5x5x128x128 .f32)
  refine ⟨fun c => (ex (attend (P c) (b c)) : FVec Ideal S4096x256 .bf16), ?_, ?_⟩
  · exact (θ_run defs _ _).mono (fun _ h c => ⟨((h.1 c).1 4).trans (final4 (hP c) (hb c)), h.2.1 c⟩) (θ_run_and (run_main m s) (frame m s))
  · refine (θ_run Cert.Reference32Ideal.defs _ _).mono (fun _ h c => ?_) (Cert.Reference32Ideal.Value.run (F := Ideal) m' s')
    obtain ⟨e0, e1⟩ := hagree c
    exact ⟨(h c).1.trans (Cert.Reference32Ideal.Near.host m' c _ _ (e0.trans (hP c)) (e1.trans (hb c))), (h c).2⟩

theorem frame_kernel : Cert.quiescent_Kernel32 := by
  have h := fun m ρ (_ : True) => frame (F := Bits) m ρ
  exact cast (by sl_kernel_rfl) h

theorem frame_ideal : Cert.quiescent_Kernel32Ideal := fun m ρ _ => frame (F := Ideal) m ρ

theorem frame_reference : Cert.quiescent_Reference32Ideal := fun m ρ _ =>
  (θ_run Cert.Reference32Ideal.defs _ _).mono (fun r h => ⟨fun c => (h c).2, sem_eq_zero_of_no_sems (by decide) r.2⟩) (Cert.Reference32Ideal.Value.run (F := Ideal) m ρ)

end Cert.Kernel32Ideal.Near
-- ==== Proof.lean ====
module

public import proofs.«01_k».proof.Defs
public import proofs.«01_k».proof.Proof.Frames
public import proofs.«01_k».proof.Proof.RefValue
public import proofs.«01_k».proof.Proof.KValue
public import proofs.«01_k».proof.Proof.Finite
public import proofs.«01_k».proof.Proof.Down
public import proofs.«01_k».proof.Proof.GateUp
public import proofs.«01_k».proof.Proof.Loss
public import proofs.«01_k».proof.Proof.OutWeight
public import proofs.«01_k».proof.Proof.InWeight
public import proofs.«01_k».proof.Proof.InGrad
public import proofs.«01_k».proof.Proof.InProj
public import proofs.«01_k».proof.Proof.OutProj
public import proofs.«01_k».proof.Proof.OutGradRef
public import proofs.«01_k».proof.Proof.Forward
public import proofs.«01_k».proof.Proof.SumShared
public import proofs.«01_k».proof.Proof.SumGates
public import proofs.«01_k».proof.Proof.SumOut
public import proofs.«01_k».proof.Proof.SumDown
public import proofs.«01_k».proof.Proof.SumFf
public import proofs.«01_k».proof.Proof.SumIn
public import proofs.«01_k».proof.Proof.AdamIn
public import proofs.«01_k».proof.Proof.AdamFf
public import proofs.«01_k».proof.Proof.AdamOut
public import proofs.«01_k».proof.Proof.AdamConv
public import proofs.«01_k».proof.Proof.AdamChannel
public import proofs.«01_k».proof.Proof.AdamGate
public import proofs.«01_k».proof.Proof.AdamGateBias
public import proofs.«01_k».proof.Proof.AdamTable
public import proofs.«01_k».proof.Proof.AdamNorm
public import proofs.«01_k».proof.Proof.Near
public import proofs.«01_k».proof.Proof.NearRef

@[expose] public section

noncomputable section

namespace Cert.Proof

open Idealize.ShloMosaic Idealize.SL.Sem Cert.Reals

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Kernel2.Facts := Cert.Kernel2.Gen.facts
local instance : Cert.Kernel2Ideal.Facts := Cert.Kernel2Ideal.Gen.facts
local instance : Cert.Reference2Ideal.Facts := Cert.Reference2Ideal.Gen.facts
local instance : Cert.Kernel3.Facts := Cert.Kernel3.Gen.facts
local instance : Cert.Kernel3Ideal.Facts := Cert.Kernel3Ideal.Gen.facts
local instance : Cert.Reference3Ideal.Facts := Cert.Reference3Ideal.Gen.facts
local instance : Cert.Kernel4.Facts := Cert.Kernel4.Gen.facts
local instance : Cert.Kernel4Ideal.Facts := Cert.Kernel4Ideal.Gen.facts
local instance : Cert.Reference4Ideal.Facts := Cert.Reference4Ideal.Gen.facts
local instance : Cert.Kernel5.Facts := Cert.Kernel5.Gen.facts
local instance : Cert.Kernel5Ideal.Facts := Cert.Kernel5Ideal.Gen.facts
local instance : Cert.Reference5Ideal.Facts := Cert.Reference5Ideal.Gen.facts
local instance : Cert.Kernel6.Facts := Cert.Kernel6.Gen.facts
local instance : Cert.Kernel6Ideal.Facts := Cert.Kernel6Ideal.Gen.facts
local instance : Cert.Reference6Ideal.Facts := Cert.Reference6Ideal.Gen.facts
local instance : Cert.Kernel7.Facts := Cert.Kernel7.Gen.facts
local instance : Cert.Kernel7Ideal.Facts := Cert.Kernel7Ideal.Gen.facts
local instance : Cert.Reference7Ideal.Facts := Cert.Reference7Ideal.Gen.facts
local instance : Cert.Kernel8.Facts := Cert.Kernel8.Gen.facts
local instance : Cert.Kernel8Ideal.Facts := Cert.Kernel8Ideal.Gen.facts
local instance : Cert.Reference8Ideal.Facts := Cert.Reference8Ideal.Gen.facts
local instance : Cert.Kernel9.Facts := Cert.Kernel9.Gen.facts
local instance : Cert.Kernel9Ideal.Facts := Cert.Kernel9Ideal.Gen.facts
local instance : Cert.Reference9Ideal.Facts := Cert.Reference9Ideal.Gen.facts
local instance : Cert.Kernel10.Facts := Cert.Kernel10.Gen.facts
local instance : Cert.Kernel10Ideal.Facts := Cert.Kernel10Ideal.Gen.facts
local instance : Cert.Reference10Ideal.Facts := Cert.Reference10Ideal.Gen.facts
local instance : Cert.Kernel11.Facts := Cert.Kernel11.Gen.facts
local instance : Cert.Kernel11Ideal.Facts := Cert.Kernel11Ideal.Gen.facts
local instance : Cert.Reference11Ideal.Facts := Cert.Reference11Ideal.Gen.facts
local instance : Cert.Kernel12.Facts := Cert.Kernel12.Gen.facts
local instance : Cert.Kernel12Ideal.Facts := Cert.Kernel12Ideal.Gen.facts
local instance : Cert.Reference12Ideal.Facts := Cert.Reference12Ideal.Gen.facts
local instance : Cert.Kernel13.Facts := Cert.Kernel13.Gen.facts
local instance : Cert.Kernel13Ideal.Facts := Cert.Kernel13Ideal.Gen.facts
local instance : Cert.Reference13Ideal.Facts := Cert.Reference13Ideal.Gen.facts
local instance : Cert.Kernel14.Facts := Cert.Kernel14.Gen.facts
local instance : Cert.Kernel14Ideal.Facts := Cert.Kernel14Ideal.Gen.facts
local instance : Cert.Reference14Ideal.Facts := Cert.Reference14Ideal.Gen.facts
local instance : Cert.Kernel15.Facts := Cert.Kernel15.Gen.facts
local instance : Cert.Kernel15Ideal.Facts := Cert.Kernel15Ideal.Gen.facts
local instance : Cert.Reference15Ideal.Facts := Cert.Reference15Ideal.Gen.facts
local instance : Cert.Kernel16.Facts := Cert.Kernel16.Gen.facts
local instance : Cert.Kernel16Ideal.Facts := Cert.Kernel16Ideal.Gen.facts
local instance : Cert.Reference16Ideal.Facts := Cert.Reference16Ideal.Gen.facts
local instance : Cert.Kernel17.Facts := Cert.Kernel17.Gen.facts
local instance : Cert.Kernel17Ideal.Facts := Cert.Kernel17Ideal.Gen.facts
local instance : Cert.Reference17Ideal.Facts := Cert.Reference17Ideal.Gen.facts
local instance : Cert.Kernel18.Facts := Cert.Kernel18.Gen.facts
local instance : Cert.Kernel18Ideal.Facts := Cert.Kernel18Ideal.Gen.facts
local instance : Cert.Reference18Ideal.Facts := Cert.Reference18Ideal.Gen.facts
local instance : Cert.Kernel19.Facts := Cert.Kernel19.Gen.facts
local instance : Cert.Kernel19Ideal.Facts := Cert.Kernel19Ideal.Gen.facts
local instance : Cert.Reference19Ideal.Facts := Cert.Reference19Ideal.Gen.facts
local instance : Cert.Kernel20.Facts := Cert.Kernel20.Gen.facts
local instance : Cert.Kernel20Ideal.Facts := Cert.Kernel20Ideal.Gen.facts
local instance : Cert.Reference20Ideal.Facts := Cert.Reference20Ideal.Gen.facts
local instance : Cert.Kernel22.Facts := Cert.Kernel22.Gen.facts
local instance : Cert.Kernel22Ideal.Facts := Cert.Kernel22Ideal.Gen.facts
local instance : Cert.Reference22Ideal.Facts := Cert.Reference22Ideal.Gen.facts
local instance : Cert.Kernel23.Facts := Cert.Kernel23.Gen.facts
local instance : Cert.Kernel23Ideal.Facts := Cert.Kernel23Ideal.Gen.facts
local instance : Cert.Reference23Ideal.Facts := Cert.Reference23Ideal.Gen.facts
local instance : Cert.Kernel24.Facts := Cert.Kernel24.Gen.facts
local instance : Cert.Kernel24Ideal.Facts := Cert.Kernel24Ideal.Gen.facts
local instance : Cert.Reference24Ideal.Facts := Cert.Reference24Ideal.Gen.facts
local instance : Cert.Kernel25.Facts := Cert.Kernel25.Gen.facts
local instance : Cert.Kernel25Ideal.Facts := Cert.Kernel25Ideal.Gen.facts
local instance : Cert.Reference25Ideal.Facts := Cert.Reference25Ideal.Gen.facts
local instance : Cert.Kernel26.Facts := Cert.Kernel26.Gen.facts
local instance : Cert.Kernel26Ideal.Facts := Cert.Kernel26Ideal.Gen.facts
local instance : Cert.Reference26Ideal.Facts := Cert.Reference26Ideal.Gen.facts
local instance : Cert.Kernel27.Facts := Cert.Kernel27.Gen.facts
local instance : Cert.Kernel27Ideal.Facts := Cert.Kernel27Ideal.Gen.facts
local instance : Cert.Reference27Ideal.Facts := Cert.Reference27Ideal.Gen.facts
local instance : Cert.Kernel32.Facts := Cert.Kernel32.Gen.facts
local instance : Cert.Kernel32Ideal.Facts := Cert.Kernel32Ideal.Gen.facts
local instance : Cert.Reference32Ideal.Facts := Cert.Reference32Ideal.Gen.facts
local instance : Cert.Pre_all_finite.Facts := Cert.Pre_all_finite.facts
local instance : Cert.Pre_all_finite4.Facts := Cert.Pre_all_finite4.facts

/-- Finite arguments are real matrices. -/
theorem args_of_pre (m : (ℓ : Loc Cert.KernelIdeal.nD Cert.KernelIdeal.τ Cert.KernelIdeal.sig) → Buf (Elt Ideal) ℓ)
    (h : Cert.Pre_KernelIdeal_all_finite m) (c : Dev Cert.KernelIdeal.nD) : ∃ A : Args, Cert.KernelIdeal.Ffn.Holds m c A := by
  obtain ⟨⟨x, h0⟩, ⟨wg, h1⟩, ⟨wu, h2⟩, ⟨wd, h3⟩, ⟨g, h4⟩, ⟨dy, h5⟩⟩ := Cert.Pre_all_finite.reals _ _ _ _ _ _ (h c)
  exact ⟨⟨x, wg, wu, wd, g, dy⟩, h0, h1, h2, h3, h4, h5⟩

/-- Both programs end holding the real matrices of the specification. -/
theorem values : Cert.algebraic_KernelIdeal_ReferenceIdeal_pre_all_finite := by
  intro m g m' g' hpre hagree
  choose A H using args_of_pre m hpre
  have H' : ∀ c, Cert.ReferenceIdeal.Value.Holds (Idealize.ShloMosaic.StableHlo.launchContents m' c) (A c) := fun c => by
    obtain ⟨e0, e1, e2, e3, e4, e5⟩ := hagree c
    exact ⟨e0.trans (H c).a0, e1.trans (H c).a1, e2.trans (H c).a2, e3.trans (H c).a3, e4.trans (H c).a4, e5.trans (H c).a5⟩
  exact ⟨_, _, _, _, _, _, Cert.KernelIdeal.Ffn.run_values m g A H, Cert.ReferenceIdeal.Value.run_values m' g' A H'⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts, Cert.Kernel14.Gen.facts,
    Cert.Kernel14Ideal.Gen.facts, Cert.Reference14Ideal.Gen.facts, Cert.Kernel15.Gen.facts, Cert.Kernel15Ideal.Gen.facts,
    Cert.Reference15Ideal.Gen.facts, Cert.Kernel16.Gen.facts, Cert.Kernel16Ideal.Gen.facts, Cert.Reference16Ideal.Gen.facts,
    Cert.Kernel17.Gen.facts, Cert.Kernel17Ideal.Gen.facts, Cert.Reference17Ideal.Gen.facts, Cert.Kernel18.Gen.facts,
    Cert.Kernel18Ideal.Gen.facts, Cert.Reference18Ideal.Gen.facts, Cert.Kernel19.Gen.facts, Cert.Kernel19Ideal.Gen.facts,
    Cert.Reference19Ideal.Gen.facts, Cert.Kernel20.Gen.facts, Cert.Kernel20Ideal.Gen.facts, Cert.Reference20Ideal.Gen.facts,
    Cert.Kernel22.Gen.facts, Cert.Kernel22Ideal.Gen.facts, Cert.Reference22Ideal.Gen.facts, Cert.Kernel23.Gen.facts,
    Cert.Kernel23Ideal.Gen.facts, Cert.Reference23Ideal.Gen.facts, Cert.Kernel24.Gen.facts, Cert.Kernel24Ideal.Gen.facts,
    Cert.Reference24Ideal.Gen.facts, Cert.Kernel25.Gen.facts, Cert.Kernel25Ideal.Gen.facts, Cert.Reference25Ideal.Gen.facts,
    Cert.Kernel26.Gen.facts, Cert.Kernel26Ideal.Gen.facts, Cert.Reference26Ideal.Gen.facts, Cert.Kernel27.Gen.facts,
    Cert.Kernel27Ideal.Gen.facts, Cert.Reference27Ideal.Gen.facts, Cert.Kernel32.Gen.facts, Cert.Kernel32Ideal.Gen.facts,
    Cert.Reference32Ideal.Gen.facts, Cert.Pre_all_finite.facts, Cert.Pre_all_finite4.facts,
    Cert.Frames.kernel, Cert.Frames.kernelIdeal, fun m ρ _ => Cert.Frames.kernelIdeal m ρ trivial, Cert.Frames.referenceIdeal,
    fun m ρ _ => Cert.Frames.referenceIdeal m ρ trivial, Cert.Kernel2Ideal.GateUp.frame_kernel,
    Cert.Kernel2Ideal.GateUp.frame_ideal, Cert.Kernel2Ideal.GateUp.frame_reference, Cert.Kernel3Ideal.Down.frame_kernel,
    Cert.Kernel3Ideal.Down.frame_ideal, Cert.Kernel3Ideal.Down.frame_reference, Cert.Kernel4Ideal.OutGrad.frame_kernel,
    Cert.Kernel4Ideal.OutGrad.frame_ideal, fun m ρ _ => Cert.Kernel4Ideal.OutGrad.frame_ideal m ρ trivial,
    Cert.Kernel4Ideal.OutGrad.frame_reference, fun m ρ _ => Cert.Kernel4Ideal.OutGrad.frame_reference m ρ trivial,
    Cert.Kernel5Ideal.OutWeight.frame_kernel, Cert.Kernel5Ideal.OutWeight.frame_ideal, Cert.Kernel5Ideal.OutWeight.frame_reference,
    Cert.Kernel6Ideal.InWeight.frame_kernel, Cert.Kernel6Ideal.InWeight.frame_ideal, Cert.Kernel6Ideal.InWeight.frame_reference,
    Cert.Kernel7Ideal.InGrad.frame_kernel, Cert.Kernel7Ideal.InGrad.frame_ideal, Cert.Kernel7Ideal.InGrad.frame_reference,
    Cert.Kernel8Ideal.Ffn.frame_kernel, Cert.Kernel8Ideal.Ffn.frame_ideal, Cert.Kernel8Ideal.Ffn.frame_reference,
    Cert.Kernel9Ideal.InProj.frame_kernel, Cert.Kernel9Ideal.InProj.frame_ideal, Cert.Kernel9Ideal.InProj.frame_reference,
    Cert.Kernel10Ideal.OutProj.frame_kernel, Cert.Kernel10Ideal.OutProj.frame_ideal, Cert.Kernel10Ideal.OutProj.frame_reference,
    Cert.Kernel11Ideal.Loss.frame_kernel, Cert.Kernel11Ideal.Loss.frame_ideal, Cert.Kernel11Ideal.Loss.frame_reference,
    Cert.Kernel12Ideal.Adam.frame_kernel, Cert.Kernel12Ideal.Adam.frame_ideal, Cert.Kernel12Ideal.Adam.frame_reference,
    Cert.Kernel13Ideal.Adam.frame_kernel, Cert.Kernel13Ideal.Adam.frame_ideal, Cert.Kernel13Ideal.Adam.frame_reference,
    Cert.Kernel14Ideal.Adam.frame_kernel, Cert.Kernel14Ideal.Adam.frame_ideal, Cert.Kernel14Ideal.Adam.frame_reference,
    Cert.Kernel15Ideal.Adam.frame_kernel, Cert.Kernel15Ideal.Adam.frame_ideal, Cert.Kernel15Ideal.Adam.frame_reference,
    Cert.Kernel16Ideal.Adam.frame_kernel, Cert.Kernel16Ideal.Adam.frame_ideal, Cert.Kernel16Ideal.Adam.frame_reference,
    Cert.Kernel17Ideal.Adam.frame_kernel, Cert.Kernel17Ideal.Adam.frame_ideal, Cert.Kernel17Ideal.Adam.frame_reference,
    Cert.Kernel18Ideal.Adam.frame_kernel, Cert.Kernel18Ideal.Adam.frame_ideal, Cert.Kernel18Ideal.Adam.frame_reference,
    Cert.Kernel19Ideal.Adam.frame_kernel, Cert.Kernel19Ideal.Adam.frame_ideal, Cert.Kernel19Ideal.Adam.frame_reference,
    Cert.Kernel20Ideal.Adam.frame_kernel, Cert.Kernel20Ideal.Adam.frame_ideal, Cert.Kernel20Ideal.Adam.frame_reference,
    Cert.Kernel22Ideal.Sum.frame_kernel, Cert.Kernel22Ideal.Sum.frame_ideal, Cert.Kernel22Ideal.Sum.frame_reference,
    Cert.Kernel23Ideal.Sum.frame_kernel, Cert.Kernel23Ideal.Sum.frame_ideal, Cert.Kernel23Ideal.Sum.frame_reference,
    Cert.Kernel24Ideal.Sum.frame_kernel, Cert.Kernel24Ideal.Sum.frame_ideal, Cert.Kernel24Ideal.Sum.frame_reference,
    Cert.Kernel25Ideal.Sum.frame_kernel, Cert.Kernel25Ideal.Sum.frame_ideal, Cert.Kernel25Ideal.Sum.frame_reference,
    Cert.Kernel26Ideal.Sum.frame_kernel, Cert.Kernel26Ideal.Sum.frame_ideal, Cert.Kernel26Ideal.Sum.frame_reference,
    Cert.Kernel27Ideal.Sum.frame_kernel, Cert.Kernel27Ideal.Sum.frame_ideal, Cert.Kernel27Ideal.Sum.frame_reference,
    Cert.Kernel32Ideal.Near.frame_kernel, Cert.Kernel32Ideal.Near.frame_ideal, Cert.Kernel32Ideal.Near.frame_reference, trivial,
    values, trivial, Cert.Kernel2Ideal.GateUp.values, trivial, Cert.Kernel3Ideal.Down.values, trivial,
    Cert.Kernel4Ideal.OutGrad.values, trivial, Cert.Kernel5Ideal.OutWeight.values, trivial, Cert.Kernel6Ideal.InWeight.values,
    trivial, Cert.Kernel7Ideal.InGrad.values, trivial, Cert.Kernel8Ideal.Ffn.values, trivial, Cert.Kernel9Ideal.InProj.values,
    trivial, Cert.Kernel10Ideal.OutProj.values, trivial, Cert.Kernel11Ideal.Loss.values, trivial, Cert.Kernel12Ideal.Adam.values,
    trivial, Cert.Kernel13Ideal.Adam.values, trivial, Cert.Kernel14Ideal.Adam.values, trivial, Cert.Kernel15Ideal.Adam.values,
    trivial, Cert.Kernel16Ideal.Adam.values, trivial, Cert.Kernel17Ideal.Adam.values, trivial, Cert.Kernel18Ideal.Adam.values,
    trivial, Cert.Kernel19Ideal.Adam.values, trivial, Cert.Kernel20Ideal.Adam.values, trivial, Cert.Kernel22Ideal.Sum.values,
    trivial, Cert.Kernel23Ideal.Sum.values, trivial, Cert.Kernel24Ideal.Sum.values, trivial, Cert.Kernel25Ideal.Sum.values,
    trivial, Cert.Kernel26Ideal.Sum.values, trivial, Cert.Kernel27Ideal.Sum.values, trivial, Cert.Kernel32Ideal.Near.values⟩

end Cert.Proof

end
